-- ==== Defs.lean ====
def Pre_Kernel (m : (ℓ : Loc Cert.Kernel.nD Cert.Kernel.τ Cert.Kernel.sig) → Buf (Elt Bits) ℓ) : Prop :=
  True

def Pre_Kernel4 (m : (ℓ : Loc Cert.Kernel4.nD Cert.Kernel4.τ Cert.Kernel4.sig) → Buf (Elt Bits) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v49) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_v36) = v1 c
          ∧ r.2.mem ((c.tc : Thread Cert.Reference3Ideal.nD Cert.Reference3Ideal.τ).loc Cert.Reference3Ideal.main_v50) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernel4 : Cert.Kernel4.Facts) (hKernel5 : Cert.Kernel5.Facts) (hKernel5Ideal : Cert.Kernel5Ideal.Facts) (hReference5Ideal : Cert.Reference5Ideal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_Kernel4 (hKernel4 := hKernel4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel5_Kernel5Ideal
    ∧ algebraic_Kernel5Ideal_Reference5Ideal (hKernel5Ideal := hKernel5Ideal) (hReference5Ideal := hReference5Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S8192x6016 : Shape := ⟨2, ![8192, 6016]⟩
abbrev S8192x256 : Shape := ⟨2, ![8192, 256]⟩
abbrev S8192x64 : Shape := ⟨2, ![8192, 64]⟩
abbrev S384 : Shape := ⟨1, ![384]⟩
abbrev S384x1024 : Shape := ⟨2, ![384, 1024]⟩
abbrev S256x16x64 : Shape := ⟨3, ![256, 16, 64]⟩
abbrev S1280x2048 : Shape := ⟨2, ![1280, 2048]⟩
abbrev S384x2048 : Shape := ⟨2, ![384, 2048]⟩
abbrev S16x256x64 : Shape := ⟨3, ![16, 256, 64]⟩
abbrev S16x64x256 : Shape := ⟨3, ![16, 64, 256]⟩
abbrev S2x4096x256 : Shape := ⟨3, ![2, 4096, 256]⟩
abbrev S2x256x4096 : Shape := ⟨3, ![2, 256, 4096]⟩
abbrev S_ : Shape := ⟨0, ![]⟩
abbrev S2x16x4096 : Shape := ⟨3, ![2, 16, 4096]⟩
abbrev S2x272x4096 : Shape := ⟨3, ![2, 272, 4096]⟩
abbrev S544x4096 : Shape := ⟨2, ![544, 4096]⟩
abbrev S1x384 : Shape := ⟨2, ![1, 384]⟩
abbrev S8192x1024 : Shape := ⟨2, ![8192, 1024]⟩
abbrev S256x384 : Shape := ⟨2, ![256, 384]⟩
abbrev S256x128 : Shape := ⟨2, ![256, 128]⟩
abbrev S256x1024 : Shape := ⟨2, ![256, 1024]⟩
abbrev S4096x64 : Shape := ⟨2, ![4096, 64]⟩
abbrev S4096x256 : Shape := ⟨2, ![4096, 256]⟩
abbrev S272x4096 : Shape := ⟨2, ![272, 4096]⟩
abbrev S128x256 : Shape := ⟨2, ![128, 256]⟩
abbrev S512x4096 : Shape := ⟨2, ![512, 4096]⟩
abbrev S1x4096 : Shape := ⟨2, ![1, 4096]⟩
abbrev S256x4096 : Shape := ⟨2, ![256, 4096]⟩
abbrev S8x64x512 : Shape := ⟨3, ![8, 64, 512]⟩
abbrev S16x256 : Shape := ⟨2, ![16, 256]⟩
abbrev S1024x256 : Shape := ⟨2, ![1024, 256]⟩
abbrev S256 : Shape := ⟨1, ![256]⟩
abbrev S256x1 : Shape := ⟨2, ![256, 1]⟩
abbrev S256x2048 : Shape := ⟨2, ![256, 2048]⟩
abbrev S2048x256 : Shape := ⟨2, ![2048, 256]⟩
abbrev S64x256 : Shape := ⟨2, ![64, 256]⟩
abbrev S1x256x64 : Shape := ⟨3, ![1, 256, 64]⟩
abbrev S256x64 : Shape := ⟨2, ![256, 64]⟩
abbrev S256x256 : Shape := ⟨2, ![256, 256]⟩
abbrev S64x512 : Shape := ⟨2, ![64, 512]⟩
abbrev S1x64x512 : Shape := ⟨3, ![1, 64, 512]⟩
abbrev S1x256 : Shape := ⟨2, ![1, 256]⟩
abbrev S512x256 : Shape := ⟨2, ![512, 256]⟩
abbrev S512x64 : Shape := ⟨2, ![512, 64]⟩
abbrev S512x512 : Shape := ⟨2, ![512, 512]⟩
abbrev S256x512 : Shape := ⟨2, ![256, 512]⟩
abbrev S8x256 : Shape := ⟨2, ![8, 256]⟩
abbrev S1x1x256 : Shape := ⟨3, ![1, 1, 256]⟩
abbrev S1 : Shape := ⟨1, ![1]⟩
abbrev S1x1x1 : Shape := ⟨3, ![1, 1, 1]⟩
abbrev S512x128 : Shape := ⟨2, ![512, 128]⟩
abbrev S272x512 : Shape := ⟨2, ![272, 512]⟩
abbrev S272x256 : Shape := ⟨2, ![272, 256]⟩
abbrev S1x64x256 : Shape := ⟨3, ![1, 64, 256]⟩

abbrev nBuf : Space → Nat
  | .hbm => 23
  | .vmem => 26
  | .smem => 0
  | _ => 0

abbrev bufTy : (tb : Table) → Fin (tcTables nBuf tb) → BufTy
  | .hbm, ⟨0, _⟩ => ⟨S8192x6016, .f32⟩
  | .hbm, ⟨1, _⟩ => ⟨S8192x256, .bf16⟩
  | .hbm, ⟨2, _⟩ => ⟨S8192x64, .bf16⟩
  | .hbm, ⟨3, _⟩ => ⟨S384, .f32⟩
  | .hbm, ⟨4, _⟩ => ⟨S384x1024, .f32⟩
  | .hbm, ⟨5, _⟩ => ⟨S256x16x64, .f32⟩
  | .hbm, ⟨6, _⟩ => ⟨S256x16x64, .f32⟩
  | .hbm, ⟨7, _⟩ => ⟨S384x1024, .f32⟩
  | .hbm, ⟨8, _⟩ => ⟨S1280x2048, .f32⟩
  | .hbm, ⟨9, _⟩ => ⟨S384x2048, .f32⟩
  | .hbm, ⟨10, _⟩ => ⟨S384x2048, .bf16⟩
  | .hbm, ⟨11, _⟩ => ⟨S16x256x64, .f32⟩
  | .hbm, ⟨12, _⟩ => ⟨S16x256x64, .bf16⟩
  | .hbm, ⟨13, _⟩ => ⟨S16x64x256, .f32⟩
  | .hbm, ⟨14, _⟩ => ⟨S16x64x256, .bf16⟩
  | .hbm, ⟨15, _⟩ => ⟨S2x4096x256, .bf16⟩
  | .hbm, ⟨16, _⟩ => ⟨S2x256x4096, .bf16⟩
  | .hbm, ⟨17, _⟩ => ⟨S_, .bf16⟩
  | .hbm, ⟨18, _⟩ => ⟨S2x16x4096, .bf16⟩
  | .hbm, ⟨19, _⟩ => ⟨S2x272x4096, .bf16⟩
  | .hbm, ⟨20, _⟩ => ⟨S544x4096, .bf16⟩
  | .hbm, ⟨21, _⟩ => ⟨S1x384, .f32⟩
  | .hbm, ⟨22, _⟩ => ⟨S8192x1024, .bf16⟩
  | .local _ .vmem, ⟨0, _⟩ => ⟨S256x384, .f32⟩
  | .local _ .vmem, ⟨1, _⟩ => ⟨S256x384, .f32⟩
  | .local _ .vmem, ⟨2, _⟩ => ⟨S256x128, .f32⟩
  | .local _ .vmem, ⟨3, _⟩ => ⟨S256x128, .f32⟩
  | .local _ .vmem, ⟨4, _⟩ => ⟨S256x1024, .f32⟩
  | .local _ .vmem, ⟨5, _⟩ => ⟨S256x1024, .f32⟩
  | .local _ .vmem, ⟨6, _⟩ => ⟨S4096x64, .bf16⟩
  | .local _ .vmem, ⟨7, _⟩ => ⟨S4096x256, .bf16⟩
  | .local _ .vmem, ⟨8, _⟩ => ⟨S272x4096, .bf16⟩
  | .local _ .vmem, ⟨9, _⟩ => ⟨S1x384, .f32⟩
  | .local _ .vmem, ⟨10, _⟩ => ⟨S384x2048, .bf16⟩
  | .local _ .vmem, ⟨11, _⟩ => ⟨S16x256x64, .bf16⟩
  | .local _ .vmem, ⟨12, _⟩ => ⟨S16x64x256, .bf16⟩
  | .local _ .vmem, ⟨13, _⟩ => ⟨S1280x2048, .f32⟩
  | .local _ .vmem, ⟨14, _⟩ => ⟨S256x1024, .bf16⟩
  | .local _ .vmem, ⟨15, _⟩ => ⟨S256x1024, .bf16⟩
  | .local _ .vmem, ⟨16, _⟩ => ⟨S4096x256, .f32⟩
  | .local _ .vmem, ⟨17, _⟩ => ⟨S4096x256, .i32⟩
  | .local _ .vmem, ⟨18, _⟩ => ⟨S128x256, .i32⟩
  | .local _ .vmem, ⟨19, _⟩ => ⟨S512x4096, .f32⟩
  | .local _ .vmem, ⟨20, _⟩ => ⟨S272x4096, .f32⟩
  | .local _ .vmem, ⟨21, _⟩ => ⟨S1x4096, .f32⟩
  | .local _ .vmem, ⟨22, _⟩ => ⟨S256x4096, .bf16⟩
  | .local _ .vmem, ⟨23, _⟩ => ⟨S8x64x512, .bf16⟩
  | .local _ .vmem, ⟨24, _⟩ => ⟨S16x256, .f32⟩
  | .local _ .vmem, ⟨25, _⟩ => ⟨S1024x256, .f32⟩
  | _, _ => ⟨S8192x6016, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [BitOps F]

abbrev grid0 : Pipeline.Grid := ⟨2, ![2, 16], ![false, false]⟩

@[reducible] def k0_t1_loop (i : grid0.Coords) : Scf.Loop 32 :=
  let c0_i32_123 : BitVec 32 := 0#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let v278 : BitVec 32 := Scalar.subi v275 c0_i32_123
  let c1_i32_124 : BitVec 32 := 1#32
  let v280 : BitVec 32 := Scalar.divsi v278 c1_i32_124
  let v281 : BitVec 32 := Scalar.muli v280 c1_i32_124
  let v282 : BitVec 32 := Scalar.addi c0_i32_123 v281
  let c1_i32_125 : BitVec 32 := 1#32
  ⟨c0_i32_123, v282, c1_i32_125⟩
def k0_mult1 (i : grid0.Coords) (k0_t1 : Fin (k0_t1_loop i).trips) : BitVec 32 :=
  let c0_i32_123 : BitVec 32 := 0#32
  let c1_i32_125 : BitVec 32 := 1#32
  let arg24 : BitVec 32 := Scf.iv c0_i32_123 c1_i32_125 k0_t1
  let c512_i32 : BitVec 32 := 512#32
  let v513 : BitVec 32 := Scalar.muli arg24 c512_i32
  v513
def k0_off1 (i : grid0.Coords) (k0_t1 : Fin (k0_t1_loop i).trips) : Fin 2 → Nat :=
  let c0_i32_123 : BitVec 32 := 0#32
  let c1_i32_125 : BitVec 32 := 1#32
  let arg24 : BitVec 32 := Scf.iv c0_i32_123 c1_i32_125 k0_t1
  let c512_i32 : BitVec 32 := 512#32
  let v513 : BitVec 32 := Scalar.muli arg24 c512_i32
  let v514 : BitVec 32 := v513
  let v515 : Index := Scalar.indexCast v514
  let c0_264 : Index := 0#32
  ![v515.toNat, 0]
def k0_off2 (i : grid0.Coords) (k0_t1 : Fin (k0_t1_loop i).trips) : Fin 2 → Nat :=
  let c0_i32_123 : BitVec 32 := 0#32
  let c1_i32_125 : BitVec 32 := 1#32
  let arg24 : BitVec 32 := Scf.iv c0_i32_123 c1_i32_125 k0_t1
  let c512_i32 : BitVec 32 := 512#32
  let v513 : BitVec 32 := Scalar.muli arg24 c512_i32
  let v514 : BitVec 32 := v513
  let v660 : Index := Scalar.indexCast v514
  let c0_347 : Index := 0#32
  ![v660.toNat, 0]
@[reducible] def k0_t2_loop (i : grid0.Coords) : Scf.Loop 32 :=
  let c0_i32_123 : BitVec 32 := 0#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let v278 : BitVec 32 := Scalar.subi v275 c0_i32_123
  let c1_i32_124 : BitVec 32 := 1#32
  let v280 : BitVec 32 := Scalar.divsi v278 c1_i32_124
  let v281 : BitVec 32 := Scalar.muli v280 c1_i32_124
  let v282 : BitVec 32 := Scalar.addi c0_i32_123 v281
  let v279 : BitVec 32 := Scalar.addi c0_i32_123 v278
  let c1_i32_126 : BitVec 32 := 1#32
  ⟨v282, v279, c1_i32_126⟩
def k0_mult2 (i : grid0.Coords) (k0_t2 : Fin (k0_t2_loop i).trips) : BitVec 32 :=
  let c0_i32_123 : BitVec 32 := 0#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let v278 : BitVec 32 := Scalar.subi v275 c0_i32_123
  let c1_i32_124 : BitVec 32 := 1#32
  let v280 : BitVec 32 := Scalar.divsi v278 c1_i32_124
  let v281 : BitVec 32 := Scalar.muli v280 c1_i32_124
  let v282 : BitVec 32 := Scalar.addi c0_i32_123 v281
  let c1_i32_126 : BitVec 32 := 1#32
  let arg24 : BitVec 32 := Scf.iv v282 c1_i32_126 k0_t2
  let c512_i32 : BitVec 32 := 512#32
  let v513 : BitVec 32 := Scalar.muli arg24 c512_i32
  v513
def k0_off3 (i : grid0.Coords) (k0_t2 : Fin (k0_t2_loop i).trips) : Fin 2 → Nat :=
  let c0_i32_123 : BitVec 32 := 0#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let v278 : BitVec 32 := Scalar.subi v275 c0_i32_123
  let c1_i32_124 : BitVec 32 := 1#32
  let v280 : BitVec 32 := Scalar.divsi v278 c1_i32_124
  let v281 : BitVec 32 := Scalar.muli v280 c1_i32_124
  let v282 : BitVec 32 := Scalar.addi c0_i32_123 v281
  let c1_i32_126 : BitVec 32 := 1#32
  let arg24 : BitVec 32 := Scf.iv v282 c1_i32_126 k0_t2
  let c512_i32 : BitVec 32 := 512#32
  let v513 : BitVec 32 := Scalar.muli arg24 c512_i32
  let v514 : BitVec 32 := v513
  let v515 : Index := Scalar.indexCast v514
  let c0_264 : Index := 0#32
  ![v515.toNat, 0]
def k0_off4 (i : grid0.Coords) (k0_t2 : Fin (k0_t2_loop i).trips) : Fin 2 → Nat :=
  let c0_i32_123 : BitVec 32 := 0#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let v278 : BitVec 32 := Scalar.subi v275 c0_i32_123
  let c1_i32_124 : BitVec 32 := 1#32
  let v280 : BitVec 32 := Scalar.divsi v278 c1_i32_124
  let v281 : BitVec 32 := Scalar.muli v280 c1_i32_124
  let v282 : BitVec 32 := Scalar.addi c0_i32_123 v281
  let c1_i32_126 : BitVec 32 := 1#32
  let arg24 : BitVec 32 := Scf.iv v282 c1_i32_126 k0_t2
  let c512_i32 : BitVec 32 := 512#32
  let v513 : BitVec 32 := Scalar.muli arg24 c512_i32
  let v514 : BitVec 32 := v513
  let v660 : Index := Scalar.indexCast v514
  let c0_347 : Index := 0#32
  ![v660.toNat, 0]
def k0_cond1 (i : grid0.Coords) : BitVec 1 :=
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c767_i32 : BitVec 32 := 767#32
  let v1 : BitVec 32 := Scalar.addi v0 c767_i32
  let c9_i32 : BitVec 32 := 9#32
  let v2 : BitVec 32 := Scalar.shrsi v1 c9_i32
  let v283 : BitVec 1 := Scalar.cmpi .slt v275 v2
  let v284 : BitVec 32 := Scalar.extui v283
  let c0_i32_127 : BitVec 32 := 0#32
  let v285 : BitVec 1 := Scalar.cmpi .ne v284 c0_i32_127
  v285

def k0_mult3 (i : grid0.Coords) : BitVec 32 :=
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32 : BitVec 32 := 512#32
  let v513 : BitVec 32 := Scalar.muli v275 c512_i32
  v513
def k0_off5 (i : grid0.Coords) : Fin 2 → Nat :=
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32 : BitVec 32 := 512#32
  let v513 : BitVec 32 := Scalar.muli v275 c512_i32
  let v514 : BitVec 32 := v513
  let v515 : Index := Scalar.indexCast v514
  let c0_264 : Index := 0#32
  ![v515.toNat, 0]
def k0_off6 (i : grid0.Coords) : Fin 2 → Nat :=
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32 : BitVec 32 := 512#32
  let v513 : BitVec 32 := Scalar.muli v275 c512_i32
  let v514 : BitVec 32 := v513
  let v660 : Index := Scalar.indexCast v514
  let c0_347 : Index := 0#32
  ![v660.toNat, 0]
@[reducible] def k0_t3_loop (i : grid0.Coords) : Scf.Loop 32 :=
  let c0_i32_136 : BitVec 32 := 0#32
  let arg1 : BitVec 32 := BitVec.ofNat 32 (i 1).val
  let c256_i32 : BitVec 32 := 256#32
  let v0 : BitVec 32 := Scalar.muli arg1 c256_i32
  let c256_i32_128 : BitVec 32 := 256#32
  let v286 : BitVec 32 := Scalar.addi v0 c256_i32_128
  let c8_i32_129 : BitVec 32 := 8#32
  let v287 : BitVec 32 := Scalar.shrsi v286 c8_i32_129
  let v295 : BitVec 32 := Scalar.subi v287 c0_i32_136
  let c1_i32_137 : BitVec 32 := 1#32
  let v297 : BitVec 32 := Scalar.divsi v295 c1_i32_137
  let v298 : BitVec 32 := Scalar.muli v297 c1_i32_137
  let v299 : BitVec 32 := Scalar.addi c0_i32_136 v298
  let c1_i32_138 : BitVec 32 := 1#32
  ⟨c0_i32_136, v299, c1_i32_138⟩
def k0_mult4 (i : grid0.Coords) (k0_t3 : Fin (k0_t3_loop i).trips) : BitVec 32 :=
  let c0_i32_136 : BitVec 32 := 0#32
  let c1_i32_138 : BitVec 32 := 1#32
  let arg24 : BitVec 32 := Scf.iv c0_i32_136 c1_i32_138 k0_t3
  let c256_i32_264 : BitVec 32 := 256#32
  let v513 : BitVec 32 := Scalar.muli arg24 c256_i32_264
  v513
def k0_off7 (i : grid0.Coords) (k0_t3 : Fin (k0_t3_loop i).trips) (c0_i32_265 : BitVec 32) : Fin 2 → Nat :=
  let c0_i32_136 : BitVec 32 := 0#32
  let c1_i32_138 : BitVec 32 := 1#32
  let arg24 : BitVec 32 := Scf.iv c0_i32_136 c1_i32_138 k0_t3
  let c256_i32_264 : BitVec 32 := 256#32
  let v513 : BitVec 32 := Scalar.muli arg24 c256_i32_264
  let v514 : BitVec 32 := v513
  let v515 : BitVec 32 := Scalar.addi v514 c0_i32_265
  let v516 : Index := Scalar.indexCast v515
  let c0_266 : Index := 0#32
  ![v516.toNat, 0]
def k0_mult5 (i : grid0.Coords) (k0_t3 : Fin (k0_t3_loop i).trips) : BitVec 32 :=
  let c0_i32_136 : BitVec 32 := 0#32
  let c1_i32_138 : BitVec 32 := 1#32
  let arg24 : BitVec 32 := Scf.iv c0_i32_136 c1_i32_138 k0_t3
  let c8_i32_694 : BitVec 32 := 8#32
  let v1716 : BitVec 32 := Scalar.muli arg24 c8_i32_694
  v1716
def k0_off8 (i : grid0.Coords) (k0_t3 : Fin (k0_t3_loop i).trips) : Fin 2 → Nat :=
  let c0_i32_136 : BitVec 32 := 0#32
  let c1_i32_138 : BitVec 32 := 1#32
  let arg24 : BitVec 32 := Scf.iv c0_i32_136 c1_i32_138 k0_t3
  let c8_i32_694 : BitVec 32 := 8#32
  let v1716 : BitVec 32 := Scalar.muli arg24 c8_i32_694
  let v1717 : BitVec 32 := v1716
  let v1718 : Index := Scalar.indexCast v1717
  let c0_695 : Index := 0#32
  ![v1718.toNat, 0]
@[reducible] def k0_t4_loop (i : grid0.Coords) : Scf.Loop 32 :=
  let c0_i32_136 : BitVec 32 := 0#32
  let arg1 : BitVec 32 := BitVec.ofNat 32 (i 1).val
  let c256_i32 : BitVec 32 := 256#32
  let v0 : BitVec 32 := Scalar.muli arg1 c256_i32
  let c256_i32_128 : BitVec 32 := 256#32
  let v286 : BitVec 32 := Scalar.addi v0 c256_i32_128
  let c8_i32_129 : BitVec 32 := 8#32
  let v287 : BitVec 32 := Scalar.shrsi v286 c8_i32_129
  let v295 : BitVec 32 := Scalar.subi v287 c0_i32_136
  let c1_i32_137 : BitVec 32 := 1#32
  let v297 : BitVec 32 := Scalar.divsi v295 c1_i32_137
  let v298 : BitVec 32 := Scalar.muli v297 c1_i32_137
  let v299 : BitVec 32 := Scalar.addi c0_i32_136 v298
  let v296 : BitVec 32 := Scalar.addi c0_i32_136 v295
  let c1_i32_139 : BitVec 32 := 1#32
  ⟨v299, v296, c1_i32_139⟩
def k0_mult6 (i : grid0.Coords) (k0_t4 : Fin (k0_t4_loop i).trips) : BitVec 32 :=
  let c0_i32_136 : BitVec 32 := 0#32
  let arg1 : BitVec 32 := BitVec.ofNat 32 (i 1).val
  let c256_i32 : BitVec 32 := 256#32
  let v0 : BitVec 32 := Scalar.muli arg1 c256_i32
  let c256_i32_128 : BitVec 32 := 256#32
  let v286 : BitVec 32 := Scalar.addi v0 c256_i32_128
  let c8_i32_129 : BitVec 32 := 8#32
  let v287 : BitVec 32 := Scalar.shrsi v286 c8_i32_129
  let v295 : BitVec 32 := Scalar.subi v287 c0_i32_136
  let c1_i32_137 : BitVec 32 := 1#32
  let v297 : BitVec 32 := Scalar.divsi v295 c1_i32_137
  let v298 : BitVec 32 := Scalar.muli v297 c1_i32_137
  let v299 : BitVec 32 := Scalar.addi c0_i32_136 v298
  let c1_i32_139 : BitVec 32 := 1#32
  let arg24 : BitVec 32 := Scf.iv v299 c1_i32_139 k0_t4
  let c256_i32_264 : BitVec 32 := 256#32
  let v513 : BitVec 32 := Scalar.muli arg24 c256_i32_264
  v513
def k0_off9 (i : grid0.Coords) (k0_t4 : Fin (k0_t4_loop i).trips) (c0_i32_265 : BitVec 32) : Fin 2 → Nat :=
  let c0_i32_136 : BitVec 32 := 0#32
  let arg1 : BitVec 32 := BitVec.ofNat 32 (i 1).val
  let c256_i32 : BitVec 32 := 256#32
  let v0 : BitVec 32 := Scalar.muli arg1 c256_i32
  let c256_i32_128 : BitVec 32 := 256#32
  let v286 : BitVec 32 := Scalar.addi v0 c256_i32_128
  let c8_i32_129 : BitVec 32 := 8#32
  let v287 : BitVec 32 := Scalar.shrsi v286 c8_i32_129
  let v295 : BitVec 32 := Scalar.subi v287 c0_i32_136
  let c1_i32_137 : BitVec 32 := 1#32
  let v297 : BitVec 32 := Scalar.divsi v295 c1_i32_137
  let v298 : BitVec 32 := Scalar.muli v297 c1_i32_137
  let v299 : BitVec 32 := Scalar.addi c0_i32_136 v298
  let c1_i32_139 : BitVec 32 := 1#32
  let arg24 : BitVec 32 := Scf.iv v299 c1_i32_139 k0_t4
  let c256_i32_264 : BitVec 32 := 256#32
  let v513 : BitVec 32 := Scalar.muli arg24 c256_i32_264
  let v514 : BitVec 32 := v513
  let v515 : BitVec 32 := Scalar.addi v514 c0_i32_265
  let v516 : Index := Scalar.indexCast v515
  let c0_266 : Index := 0#32
  ![v516.toNat, 0]
def k0_mult7 (i : grid0.Coords) (k0_t4 : Fin (k0_t4_loop i).trips) : BitVec 32 :=
  let c0_i32_136 : BitVec 32 := 0#32
  let arg1 : BitVec 32 := BitVec.ofNat 32 (i 1).val
  let c256_i32 : BitVec 32 := 256#32
  let v0 : BitVec 32 := Scalar.muli arg1 c256_i32
  let c256_i32_128 : BitVec 32 := 256#32
  let v286 : BitVec 32 := Scalar.addi v0 c256_i32_128
  let c8_i32_129 : BitVec 32 := 8#32
  let v287 : BitVec 32 := Scalar.shrsi v286 c8_i32_129
  let v295 : BitVec 32 := Scalar.subi v287 c0_i32_136
  let c1_i32_137 : BitVec 32 := 1#32
  let v297 : BitVec 32 := Scalar.divsi v295 c1_i32_137
  let v298 : BitVec 32 := Scalar.muli v297 c1_i32_137
  let v299 : BitVec 32 := Scalar.addi c0_i32_136 v298
  let c1_i32_139 : BitVec 32 := 1#32
  let arg24 : BitVec 32 := Scf.iv v299 c1_i32_139 k0_t4
  let c8_i32_694 : BitVec 32 := 8#32
  let v1716 : BitVec 32 := Scalar.muli arg24 c8_i32_694
  v1716
def k0_off10 (i : grid0.Coords) (k0_t4 : Fin (k0_t4_loop i).trips) : Fin 2 → Nat :=
  let c0_i32_136 : BitVec 32 := 0#32
  let arg1 : BitVec 32 := BitVec.ofNat 32 (i 1).val
  let c256_i32 : BitVec 32 := 256#32
  let v0 : BitVec 32 := Scalar.muli arg1 c256_i32
  let c256_i32_128 : BitVec 32 := 256#32
  let v286 : BitVec 32 := Scalar.addi v0 c256_i32_128
  let c8_i32_129 : BitVec 32 := 8#32
  let v287 : BitVec 32 := Scalar.shrsi v286 c8_i32_129
  let v295 : BitVec 32 := Scalar.subi v287 c0_i32_136
  let c1_i32_137 : BitVec 32 := 1#32
  let v297 : BitVec 32 := Scalar.divsi v295 c1_i32_137
  let v298 : BitVec 32 := Scalar.muli v297 c1_i32_137
  let v299 : BitVec 32 := Scalar.addi c0_i32_136 v298
  let c1_i32_139 : BitVec 32 := 1#32
  let arg24 : BitVec 32 := Scf.iv v299 c1_i32_139 k0_t4
  let c8_i32_694 : BitVec 32 := 8#32
  let v1716 : BitVec 32 := Scalar.muli arg24 c8_i32_694
  let v1717 : BitVec 32 := v1716
  let v1718 : Index := Scalar.indexCast v1717
  let c0_695 : Index := 0#32
  ![v1718.toNat, 0]
def k0_cond3 (i : grid0.Coords) : BitVec 1 :=
  let arg1 : BitVec 32 := BitVec.ofNat 32 (i 1).val
  let c256_i32 : BitVec 32 := 256#32
  let v0 : BitVec 32 := Scalar.muli arg1 c256_i32
  let c256_i32_128 : BitVec 32 := 256#32
  let v286 : BitVec 32 := Scalar.addi v0 c256_i32_128
  let c8_i32_129 : BitVec 32 := 8#32
  let v287 : BitVec 32 := Scalar.shrsi v286 c8_i32_129
  let c8_i32_140 : BitVec 32 := 8#32
  let v300 : BitVec 1 := Scalar.cmpi .sle v287 c8_i32_140
  let v301 : BitVec 32 := Scalar.extui v300
  let c0_i32_141 : BitVec 32 := 0#32
  let v302 : BitVec 1 := Scalar.cmpi .ne v301 c0_i32_141
  v302

@[reducible] def k0_t5_loop : Scf.Loop 32 :=
  let c0_i32_266 : BitVec 32 := 0#32
  let c32_i32 : BitVec 32 := 32#32
  let v515 : BitVec 32 := Scalar.addi c0_i32_266 c32_i32
  let c1_i32_267 : BitVec 32 := 1#32
  ⟨c0_i32_266, v515, c1_i32_267⟩
def k0_mult8 (k0_t5 : Fin k0_t5_loop.trips) : BitVec 32 :=
  let c0_i32_266 : BitVec 32 := 0#32
  let c1_i32_267 : BitVec 32 := 1#32
  let arg24 : BitVec 32 := Scf.iv c0_i32_266 c1_i32_267 k0_t5
  let c8_i32_269 : BitVec 32 := 8#32
  let v517 : BitVec 32 := Scalar.muli arg24 c8_i32_269
  v517
def k0_off11 (k0_t5 : Fin k0_t5_loop.trips) (c0_i32_271 : BitVec 32) : Fin 2 → Nat :=
  let c0_i32_266 : BitVec 32 := 0#32
  let c1_i32_267 : BitVec 32 := 1#32
  let arg24 : BitVec 32 := Scf.iv c0_i32_266 c1_i32_267 k0_t5
  let c8_i32_269 : BitVec 32 := 8#32
  let v517 : BitVec 32 := Scalar.muli arg24 c8_i32_269
  let v518 : BitVec 32 := v517
  let v520 : BitVec 32 := Scalar.addi c0_i32_271 v518
  let v521 : Index := Scalar.indexCast v520
  let c0_272 : Index := 0#32
  ![v521.toNat, 0]
@[reducible] def k0_t6_loop : Scf.Loop 32 :=
  let c0_i32_266 : BitVec 32 := 0#32
  let c32_i32 : BitVec 32 := 32#32
  let v515 : BitVec 32 := Scalar.addi c0_i32_266 c32_i32
  let c1_i32_267 : BitVec 32 := 1#32
  ⟨c0_i32_266, v515, c1_i32_267⟩
def k0_mult9 (k0_t6 : Fin k0_t6_loop.trips) : BitVec 32 :=
  let c0_i32_266 : BitVec 32 := 0#32
  let c1_i32_267 : BitVec 32 := 1#32
  let arg24 : BitVec 32 := Scf.iv c0_i32_266 c1_i32_267 k0_t6
  let c8_i32_269 : BitVec 32 := 8#32
  let v517 : BitVec 32 := Scalar.muli arg24 c8_i32_269
  v517
def k0_off12 (k0_t6 : Fin k0_t6_loop.trips) (c0_i32_271 : BitVec 32) : Fin 2 → Nat :=
  let c0_i32_266 : BitVec 32 := 0#32
  let c1_i32_267 : BitVec 32 := 1#32
  let arg24 : BitVec 32 := Scf.iv c0_i32_266 c1_i32_267 k0_t6
  let c8_i32_269 : BitVec 32 := 8#32
  let v517 : BitVec 32 := Scalar.muli arg24 c8_i32_269
  let v518 : BitVec 32 := v517
  let v520 : BitVec 32 := Scalar.addi c0_i32_271 v518
  let v521 : Index := Scalar.indexCast v520
  let c0_272 : Index := 0#32
  ![v521.toNat, 0]
@[reducible] def k0_t7_loop (i : grid0.Coords) : Scf.Loop 32 :=
  let c0_i32_144 : BitVec 32 := 0#32
  let arg1 : BitVec 32 := BitVec.ofNat 32 (i 1).val
  let c256_i32 : BitVec 32 := 256#32
  let v0 : BitVec 32 := Scalar.muli arg1 c256_i32
  let c256_i32_122 : BitVec 32 := 256#32
  let v276 : BitVec 32 := Scalar.addi v0 c256_i32_122
  let c8_i32 : BitVec 32 := 8#32
  let v277 : BitVec 32 := Scalar.shrsi v276 c8_i32
  let v315 : BitVec 32 := Scalar.subi v277 c0_i32_144
  let c1_i32_145 : BitVec 32 := 1#32
  let v317 : BitVec 32 := Scalar.divsi v315 c1_i32_145
  let v318 : BitVec 32 := Scalar.muli v317 c1_i32_145
  let v319 : BitVec 32 := Scalar.addi c0_i32_144 v318
  let c1_i32_146 : BitVec 32 := 1#32
  ⟨c0_i32_144, v319, c1_i32_146⟩
def k0_mult10 (i : grid0.Coords) (k0_t7 : Fin (k0_t7_loop i).trips) : BitVec 32 :=
  let c0_i32_144 : BitVec 32 := 0#32
  let c1_i32_146 : BitVec 32 := 1#32
  let arg24 : BitVec 32 := Scf.iv c0_i32_144 c1_i32_146 k0_t7
  let c256_i32_264 : BitVec 32 := 256#32
  let v513 : BitVec 32 := Scalar.muli arg24 c256_i32_264
  v513
def k0_off13 (i : grid0.Coords) (k0_t7 : Fin (k0_t7_loop i).trips) : Fin 2 → Nat :=
  let c0_i32_144 : BitVec 32 := 0#32
  let c1_i32_146 : BitVec 32 := 1#32
  let arg24 : BitVec 32 := Scf.iv c0_i32_144 c1_i32_146 k0_t7
  let c256_i32_264 : BitVec 32 := 256#32
  let v513 : BitVec 32 := Scalar.muli arg24 c256_i32_264
  let v514 : BitVec 32 := v513
  let v515 : Index := Scalar.indexCast v514
  let c0_265 : Index := 0#32
  ![v515.toNat, 0]
@[reducible] def k0_t8_loop (i : grid0.Coords) : Scf.Loop 32 :=
  let c0_i32_144 : BitVec 32 := 0#32
  let arg1 : BitVec 32 := BitVec.ofNat 32 (i 1).val
  let c256_i32 : BitVec 32 := 256#32
  let v0 : BitVec 32 := Scalar.muli arg1 c256_i32
  let c256_i32_122 : BitVec 32 := 256#32
  let v276 : BitVec 32 := Scalar.addi v0 c256_i32_122
  let c8_i32 : BitVec 32 := 8#32
  let v277 : BitVec 32 := Scalar.shrsi v276 c8_i32
  let v315 : BitVec 32 := Scalar.subi v277 c0_i32_144
  let c1_i32_145 : BitVec 32 := 1#32
  let v317 : BitVec 32 := Scalar.divsi v315 c1_i32_145
  let v318 : BitVec 32 := Scalar.muli v317 c1_i32_145
  let v319 : BitVec 32 := Scalar.addi c0_i32_144 v318
  let v316 : BitVec 32 := Scalar.addi c0_i32_144 v315
  let c1_i32_147 : BitVec 32 := 1#32
  ⟨v319, v316, c1_i32_147⟩
def k0_mult11 (i : grid0.Coords) (k0_t8 : Fin (k0_t8_loop i).trips) : BitVec 32 :=
  let c0_i32_144 : BitVec 32 := 0#32
  let arg1 : BitVec 32 := BitVec.ofNat 32 (i 1).val
  let c256_i32 : BitVec 32 := 256#32
  let v0 : BitVec 32 := Scalar.muli arg1 c256_i32
  let c256_i32_122 : BitVec 32 := 256#32
  let v276 : BitVec 32 := Scalar.addi v0 c256_i32_122
  let c8_i32 : BitVec 32 := 8#32
  let v277 : BitVec 32 := Scalar.shrsi v276 c8_i32
  let v315 : BitVec 32 := Scalar.subi v277 c0_i32_144
  let c1_i32_145 : BitVec 32 := 1#32
  let v317 : BitVec 32 := Scalar.divsi v315 c1_i32_145
  let v318 : BitVec 32 := Scalar.muli v317 c1_i32_145
  let v319 : BitVec 32 := Scalar.addi c0_i32_144 v318
  let c1_i32_147 : BitVec 32 := 1#32
  let arg24 : BitVec 32 := Scf.iv v319 c1_i32_147 k0_t8
  let c256_i32_264 : BitVec 32 := 256#32
  let v513 : BitVec 32 := Scalar.muli arg24 c256_i32_264
  v513
def k0_off14 (i : grid0.Coords) (k0_t8 : Fin (k0_t8_loop i).trips) : Fin 2 → Nat :=
  let c0_i32_144 : BitVec 32 := 0#32
  let arg1 : BitVec 32 := BitVec.ofNat 32 (i 1).val
  let c256_i32 : BitVec 32 := 256#32
  let v0 : BitVec 32 := Scalar.muli arg1 c256_i32
  let c256_i32_122 : BitVec 32 := 256#32
  let v276 : BitVec 32 := Scalar.addi v0 c256_i32_122
  let c8_i32 : BitVec 32 := 8#32
  let v277 : BitVec 32 := Scalar.shrsi v276 c8_i32
  let v315 : BitVec 32 := Scalar.subi v277 c0_i32_144
  let c1_i32_145 : BitVec 32 := 1#32
  let v317 : BitVec 32 := Scalar.divsi v315 c1_i32_145
  let v318 : BitVec 32 := Scalar.muli v317 c1_i32_145
  let v319 : BitVec 32 := Scalar.addi c0_i32_144 v318
  let c1_i32_147 : BitVec 32 := 1#32
  let arg24 : BitVec 32 := Scf.iv v319 c1_i32_147 k0_t8
  let c256_i32_264 : BitVec 32 := 256#32
  let v513 : BitVec 32 := Scalar.muli arg24 c256_i32_264
  let v514 : BitVec 32 := v513
  let v515 : Index := Scalar.indexCast v514
  let c0_265 : Index := 0#32
  ![v515.toNat, 0]
@[reducible] def k0_t9_loop : Scf.Loop 32 :=
  let c0_i32_265 : BitVec 32 := 0#32
  let c23_i32_266 : BitVec 32 := 23#32
  let v515 : BitVec 32 := Scalar.addi c0_i32_265 c23_i32_266
  let c1_i32_267 : BitVec 32 := 1#32
  ⟨c0_i32_265, v515, c1_i32_267⟩
@[reducible] def k0_t10_loop (i : grid0.Coords) : Scf.Loop 32 :=
  let c0_i32_278 : BitVec 32 := 0#32
  let arg1 : BitVec 32 := BitVec.ofNat 32 (i 1).val
  let c256_i32 : BitVec 32 := 256#32
  let v0 : BitVec 32 := Scalar.muli arg1 c256_i32
  let c256_i32_122 : BitVec 32 := 256#32
  let v276 : BitVec 32 := Scalar.addi v0 c256_i32_122
  let c8_i32 : BitVec 32 := 8#32
  let v277 : BitVec 32 := Scalar.shrsi v276 c8_i32
  let v540 : BitVec 32 := Scalar.subi v277 c0_i32_278
  let c1_i32_279 : BitVec 32 := 1#32
  let v542 : BitVec 32 := Scalar.divsi v540 c1_i32_279
  let v543 : BitVec 32 := Scalar.muli v542 c1_i32_279
  let v544 : BitVec 32 := Scalar.addi c0_i32_278 v543
  let c1_i32_280 : BitVec 32 := 1#32
  ⟨c0_i32_278, v544, c1_i32_280⟩
def k0_mult12 (i : grid0.Coords) (k0_t10 : Fin (k0_t10_loop i).trips) : BitVec 32 :=
  let c0_i32_278 : BitVec 32 := 0#32
  let c1_i32_280 : BitVec 32 := 1#32
  let arg27 : BitVec 32 := Scf.iv c0_i32_278 c1_i32_280 k0_t10
  let c256_i32_284 : BitVec 32 := 256#32
  let v553 : BitVec 32 := Scalar.muli arg27 c256_i32_284
  v553
def k0_off15 (i : grid0.Coords) (k0_t10 : Fin (k0_t10_loop i).trips) : Fin 2 → Nat :=
  let c0_i32_278 : BitVec 32 := 0#32
  let c1_i32_280 : BitVec 32 := 1#32
  let arg27 : BitVec 32 := Scf.iv c0_i32_278 c1_i32_280 k0_t10
  let c256_i32_284 : BitVec 32 := 256#32
  let v553 : BitVec 32 := Scalar.muli arg27 c256_i32_284
  let v554 : BitVec 32 := v553
  let v555 : Index := Scalar.indexCast v554
  let c0_285 : Index := 0#32
  ![v555.toNat, 0]
@[reducible] def k0_t11_loop (i : grid0.Coords) : Scf.Loop 32 :=
  let c0_i32_278 : BitVec 32 := 0#32
  let arg1 : BitVec 32 := BitVec.ofNat 32 (i 1).val
  let c256_i32 : BitVec 32 := 256#32
  let v0 : BitVec 32 := Scalar.muli arg1 c256_i32
  let c256_i32_122 : BitVec 32 := 256#32
  let v276 : BitVec 32 := Scalar.addi v0 c256_i32_122
  let c8_i32 : BitVec 32 := 8#32
  let v277 : BitVec 32 := Scalar.shrsi v276 c8_i32
  let v540 : BitVec 32 := Scalar.subi v277 c0_i32_278
  let c1_i32_279 : BitVec 32 := 1#32
  let v542 : BitVec 32 := Scalar.divsi v540 c1_i32_279
  let v543 : BitVec 32 := Scalar.muli v542 c1_i32_279
  let v544 : BitVec 32 := Scalar.addi c0_i32_278 v543
  let v541 : BitVec 32 := Scalar.addi c0_i32_278 v540
  let c1_i32_281 : BitVec 32 := 1#32
  ⟨v544, v541, c1_i32_281⟩
def k0_mult13 (i : grid0.Coords) (k0_t11 : Fin (k0_t11_loop i).trips) : BitVec 32 :=
  let c0_i32_278 : BitVec 32 := 0#32
  let arg1 : BitVec 32 := BitVec.ofNat 32 (i 1).val
  let c256_i32 : BitVec 32 := 256#32
  let v0 : BitVec 32 := Scalar.muli arg1 c256_i32
  let c256_i32_122 : BitVec 32 := 256#32
  let v276 : BitVec 32 := Scalar.addi v0 c256_i32_122
  let c8_i32 : BitVec 32 := 8#32
  let v277 : BitVec 32 := Scalar.shrsi v276 c8_i32
  let v540 : BitVec 32 := Scalar.subi v277 c0_i32_278
  let c1_i32_279 : BitVec 32 := 1#32
  let v542 : BitVec 32 := Scalar.divsi v540 c1_i32_279
  let v543 : BitVec 32 := Scalar.muli v542 c1_i32_279
  let v544 : BitVec 32 := Scalar.addi c0_i32_278 v543
  let c1_i32_281 : BitVec 32 := 1#32
  let arg27 : BitVec 32 := Scf.iv v544 c1_i32_281 k0_t11
  let c256_i32_284 : BitVec 32 := 256#32
  let v553 : BitVec 32 := Scalar.muli arg27 c256_i32_284
  v553
def k0_off16 (i : grid0.Coords) (k0_t11 : Fin (k0_t11_loop i).trips) : Fin 2 → Nat :=
  let c0_i32_278 : BitVec 32 := 0#32
  let arg1 : BitVec 32 := BitVec.ofNat 32 (i 1).val
  let c256_i32 : BitVec 32 := 256#32
  let v0 : BitVec 32 := Scalar.muli arg1 c256_i32
  let c256_i32_122 : BitVec 32 := 256#32
  let v276 : BitVec 32 := Scalar.addi v0 c256_i32_122
  let c8_i32 : BitVec 32 := 8#32
  let v277 : BitVec 32 := Scalar.shrsi v276 c8_i32
  let v540 : BitVec 32 := Scalar.subi v277 c0_i32_278
  let c1_i32_279 : BitVec 32 := 1#32
  let v542 : BitVec 32 := Scalar.divsi v540 c1_i32_279
  let v543 : BitVec 32 := Scalar.muli v542 c1_i32_279
  let v544 : BitVec 32 := Scalar.addi c0_i32_278 v543
  let c1_i32_281 : BitVec 32 := 1#32
  let arg27 : BitVec 32 := Scf.iv v544 c1_i32_281 k0_t11
  let c256_i32_284 : BitVec 32 := 256#32
  let v553 : BitVec 32 := Scalar.muli arg27 c256_i32_284
  let v554 : BitVec 32 := v553
  let v555 : Index := Scalar.indexCast v554
  let c0_285 : Index := 0#32
  ![v555.toNat, 0]
@[reducible] def k0_t12_loop (arg24 : BitVec 32) : Scf.Loop 32 :=
  let c3_i32 : BitVec 32 := 3#32
  let v513 : BitVec 32 := Scalar.addi arg24 c3_i32
  let v514 : BitVec 32 := Scalar.subi v513 arg24
  let c1_i32_264 : BitVec 32 := 1#32
  let v516 : BitVec 32 := Scalar.divsi v514 c1_i32_264
  let v517 : BitVec 32 := Scalar.muli v516 c1_i32_264
  let v518 : BitVec 32 := Scalar.addi arg24 v517
  let c1_i32_265 : BitVec 32 := 1#32
  ⟨arg24, v518, c1_i32_265⟩

@[reducible] def k0_t13_loop (i : grid0.Coords) : Scf.Loop 32 :=
  let c0_i32_277 : BitVec 32 := 0#32
  let arg1 : BitVec 32 := BitVec.ofNat 32 (i 1).val
  let c256_i32 : BitVec 32 := 256#32
  let v0 : BitVec 32 := Scalar.muli arg1 c256_i32
  let c256_i32_122 : BitVec 32 := 256#32
  let v276 : BitVec 32 := Scalar.addi v0 c256_i32_122
  let c8_i32 : BitVec 32 := 8#32
  let v277 : BitVec 32 := Scalar.shrsi v276 c8_i32
  let v545 : BitVec 32 := Scalar.subi v277 c0_i32_277
  let c1_i32_278 : BitVec 32 := 1#32
  let v547 : BitVec 32 := Scalar.divsi v545 c1_i32_278
  let v548 : BitVec 32 := Scalar.muli v547 c1_i32_278
  let v549 : BitVec 32 := Scalar.addi c0_i32_277 v548
  let c1_i32_279 : BitVec 32 := 1#32
  ⟨c0_i32_277, v549, c1_i32_279⟩
def k0_mult14 (i : grid0.Coords) (k0_t13 : Fin (k0_t13_loop i).trips) : BitVec 32 :=
  let c0_i32_277 : BitVec 32 := 0#32
  let c1_i32_279 : BitVec 32 := 1#32
  let arg31 : BitVec 32 := Scf.iv c0_i32_277 c1_i32_279 k0_t13
  let c256_i32_283 : BitVec 32 := 256#32
  let v558 : BitVec 32 := Scalar.muli arg31 c256_i32_283
  v558
def k0_off17 (i : grid0.Coords) (k0_t13 : Fin (k0_t13_loop i).trips) : Fin 2 → Nat :=
  let c0_i32_277 : BitVec 32 := 0#32
  let c1_i32_279 : BitVec 32 := 1#32
  let arg31 : BitVec 32 := Scf.iv c0_i32_277 c1_i32_279 k0_t13
  let c256_i32_283 : BitVec 32 := 256#32
  let v558 : BitVec 32 := Scalar.muli arg31 c256_i32_283
  let v559 : BitVec 32 := v558
  let v560 : Index := Scalar.indexCast v559
  let c0_284 : Index := 0#32
  ![v560.toNat, 0]
@[reducible] def k0_t14_loop (i : grid0.Coords) : Scf.Loop 32 :=
  let c0_i32_277 : BitVec 32 := 0#32
  let arg1 : BitVec 32 := BitVec.ofNat 32 (i 1).val
  let c256_i32 : BitVec 32 := 256#32
  let v0 : BitVec 32 := Scalar.muli arg1 c256_i32
  let c256_i32_122 : BitVec 32 := 256#32
  let v276 : BitVec 32 := Scalar.addi v0 c256_i32_122
  let c8_i32 : BitVec 32 := 8#32
  let v277 : BitVec 32 := Scalar.shrsi v276 c8_i32
  let v545 : BitVec 32 := Scalar.subi v277 c0_i32_277
  let c1_i32_278 : BitVec 32 := 1#32
  let v547 : BitVec 32 := Scalar.divsi v545 c1_i32_278
  let v548 : BitVec 32 := Scalar.muli v547 c1_i32_278
  let v549 : BitVec 32 := Scalar.addi c0_i32_277 v548
  let v546 : BitVec 32 := Scalar.addi c0_i32_277 v545
  let c1_i32_280 : BitVec 32 := 1#32
  ⟨v549, v546, c1_i32_280⟩
def k0_mult15 (i : grid0.Coords) (k0_t14 : Fin (k0_t14_loop i).trips) : BitVec 32 :=
  let c0_i32_277 : BitVec 32 := 0#32
  let arg1 : BitVec 32 := BitVec.ofNat 32 (i 1).val
  let c256_i32 : BitVec 32 := 256#32
  let v0 : BitVec 32 := Scalar.muli arg1 c256_i32
  let c256_i32_122 : BitVec 32 := 256#32
  let v276 : BitVec 32 := Scalar.addi v0 c256_i32_122
  let c8_i32 : BitVec 32 := 8#32
  let v277 : BitVec 32 := Scalar.shrsi v276 c8_i32
  let v545 : BitVec 32 := Scalar.subi v277 c0_i32_277
  let c1_i32_278 : BitVec 32 := 1#32
  let v547 : BitVec 32 := Scalar.divsi v545 c1_i32_278
  let v548 : BitVec 32 := Scalar.muli v547 c1_i32_278
  let v549 : BitVec 32 := Scalar.addi c0_i32_277 v548
  let c1_i32_280 : BitVec 32 := 1#32
  let arg31 : BitVec 32 := Scf.iv v549 c1_i32_280 k0_t14
  let c256_i32_283 : BitVec 32 := 256#32
  let v558 : BitVec 32 := Scalar.muli arg31 c256_i32_283
  v558
def k0_off18 (i : grid0.Coords) (k0_t14 : Fin (k0_t14_loop i).trips) : Fin 2 → Nat :=
  let c0_i32_277 : BitVec 32 := 0#32
  let arg1 : BitVec 32 := BitVec.ofNat 32 (i 1).val
  let c256_i32 : BitVec 32 := 256#32
  let v0 : BitVec 32 := Scalar.muli arg1 c256_i32
  let c256_i32_122 : BitVec 32 := 256#32
  let v276 : BitVec 32 := Scalar.addi v0 c256_i32_122
  let c8_i32 : BitVec 32 := 8#32
  let v277 : BitVec 32 := Scalar.shrsi v276 c8_i32
  let v545 : BitVec 32 := Scalar.subi v277 c0_i32_277
  let c1_i32_278 : BitVec 32 := 1#32
  let v547 : BitVec 32 := Scalar.divsi v545 c1_i32_278
  let v548 : BitVec 32 := Scalar.muli v547 c1_i32_278
  let v549 : BitVec 32 := Scalar.addi c0_i32_277 v548
  let c1_i32_280 : BitVec 32 := 1#32
  let arg31 : BitVec 32 := Scf.iv v549 c1_i32_280 k0_t14
  let c256_i32_283 : BitVec 32 := 256#32
  let v558 : BitVec 32 := Scalar.muli arg31 c256_i32_283
  let v559 : BitVec 32 := v558
  let v560 : Index := Scalar.indexCast v559
  let c0_284 : Index := 0#32
  ![v560.toNat, 0]
@[reducible] def k0_t15_loop (arg24 : BitVec 32) : Scf.Loop 32 :=
  let c3_i32 : BitVec 32 := 3#32
  let v513 : BitVec 32 := Scalar.addi arg24 c3_i32
  let v514 : BitVec 32 := Scalar.subi v513 arg24
  let c1_i32_264 : BitVec 32 := 1#32
  let v516 : BitVec 32 := Scalar.divsi v514 c1_i32_264
  let v517 : BitVec 32 := Scalar.muli v516 c1_i32_264
  let v518 : BitVec 32 := Scalar.addi arg24 v517
  let v515 : BitVec 32 := Scalar.addi arg24 v514
  let c1_i32_266 : BitVec 32 := 1#32
  ⟨v518, v515, c1_i32_266⟩

def k0_chk1 (arg24 : BitVec 32) : Prop :=
  ((k0_t12_loop arg24).OK) ∧
  ((k0_t15_loop arg24).OK)
theorem k0_t12_ok : ∀ (arg24 : BitVec 32) (k0_hw1 : k0_chk1 arg24), (k0_t12_loop arg24).OK := fun arg24 k0_hw1 => k0_hw1.1
theorem k0_t15_ok : ∀ (arg24 : BitVec 32) (k0_hw1 : k0_chk1 arg24), (k0_t15_loop arg24).OK := fun arg24 k0_hw1 => k0_hw1.2

@[reducible] def k0_t16_loop (i : grid0.Coords) : Scf.Loop 32 :=
  let c0_i32_277 : BitVec 32 := 0#32
  let arg1 : BitVec 32 := BitVec.ofNat 32 (i 1).val
  let c256_i32 : BitVec 32 := 256#32
  let v0 : BitVec 32 := Scalar.muli arg1 c256_i32
  let c256_i32_122 : BitVec 32 := 256#32
  let v276 : BitVec 32 := Scalar.addi v0 c256_i32_122
  let c8_i32 : BitVec 32 := 8#32
  let v277 : BitVec 32 := Scalar.shrsi v276 c8_i32
  let v545 : BitVec 32 := Scalar.subi v277 c0_i32_277
  let c1_i32_278 : BitVec 32 := 1#32
  let v547 : BitVec 32 := Scalar.divsi v545 c1_i32_278
  let v548 : BitVec 32 := Scalar.muli v547 c1_i32_278
  let v549 : BitVec 32 := Scalar.addi c0_i32_277 v548
  let c1_i32_279 : BitVec 32 := 1#32
  ⟨c0_i32_277, v549, c1_i32_279⟩
def k0_mult16 (i : grid0.Coords) (k0_t16 : Fin (k0_t16_loop i).trips) : BitVec 32 :=
  let c0_i32_277 : BitVec 32 := 0#32
  let c1_i32_279 : BitVec 32 := 1#32
  let arg31 : BitVec 32 := Scf.iv c0_i32_277 c1_i32_279 k0_t16
  let c256_i32_283 : BitVec 32 := 256#32
  let v558 : BitVec 32 := Scalar.muli arg31 c256_i32_283
  v558
def k0_off19 (i : grid0.Coords) (k0_t16 : Fin (k0_t16_loop i).trips) : Fin 2 → Nat :=
  let c0_i32_277 : BitVec 32 := 0#32
  let c1_i32_279 : BitVec 32 := 1#32
  let arg31 : BitVec 32 := Scf.iv c0_i32_277 c1_i32_279 k0_t16
  let c256_i32_283 : BitVec 32 := 256#32
  let v558 : BitVec 32 := Scalar.muli arg31 c256_i32_283
  let v559 : BitVec 32 := v558
  let v560 : Index := Scalar.indexCast v559
  let c0_284 : Index := 0#32
  ![v560.toNat, 0]
@[reducible] def k0_t17_loop (i : grid0.Coords) : Scf.Loop 32 :=
  let c0_i32_277 : BitVec 32 := 0#32
  let arg1 : BitVec 32 := BitVec.ofNat 32 (i 1).val
  let c256_i32 : BitVec 32 := 256#32
  let v0 : BitVec 32 := Scalar.muli arg1 c256_i32
  let c256_i32_122 : BitVec 32 := 256#32
  let v276 : BitVec 32 := Scalar.addi v0 c256_i32_122
  let c8_i32 : BitVec 32 := 8#32
  let v277 : BitVec 32 := Scalar.shrsi v276 c8_i32
  let v545 : BitVec 32 := Scalar.subi v277 c0_i32_277
  let c1_i32_278 : BitVec 32 := 1#32
  let v547 : BitVec 32 := Scalar.divsi v545 c1_i32_278
  let v548 : BitVec 32 := Scalar.muli v547 c1_i32_278
  let v549 : BitVec 32 := Scalar.addi c0_i32_277 v548
  let v546 : BitVec 32 := Scalar.addi c0_i32_277 v545
  let c1_i32_280 : BitVec 32 := 1#32
  ⟨v549, v546, c1_i32_280⟩
def k0_mult17 (i : grid0.Coords) (k0_t17 : Fin (k0_t17_loop i).trips) : BitVec 32 :=
  let c0_i32_277 : BitVec 32 := 0#32
  let arg1 : BitVec 32 := BitVec.ofNat 32 (i 1).val
  let c256_i32 : BitVec 32 := 256#32
  let v0 : BitVec 32 := Scalar.muli arg1 c256_i32
  let c256_i32_122 : BitVec 32 := 256#32
  let v276 : BitVec 32 := Scalar.addi v0 c256_i32_122
  let c8_i32 : BitVec 32 := 8#32
  let v277 : BitVec 32 := Scalar.shrsi v276 c8_i32
  let v545 : BitVec 32 := Scalar.subi v277 c0_i32_277
  let c1_i32_278 : BitVec 32 := 1#32
  let v547 : BitVec 32 := Scalar.divsi v545 c1_i32_278
  let v548 : BitVec 32 := Scalar.muli v547 c1_i32_278
  let v549 : BitVec 32 := Scalar.addi c0_i32_277 v548
  let c1_i32_280 : BitVec 32 := 1#32
  let arg31 : BitVec 32 := Scf.iv v549 c1_i32_280 k0_t17
  let c256_i32_283 : BitVec 32 := 256#32
  let v558 : BitVec 32 := Scalar.muli arg31 c256_i32_283
  v558
def k0_off20 (i : grid0.Coords) (k0_t17 : Fin (k0_t17_loop i).trips) : Fin 2 → Nat :=
  let c0_i32_277 : BitVec 32 := 0#32
  let arg1 : BitVec 32 := BitVec.ofNat 32 (i 1).val
  let c256_i32 : BitVec 32 := 256#32
  let v0 : BitVec 32 := Scalar.muli arg1 c256_i32
  let c256_i32_122 : BitVec 32 := 256#32
  let v276 : BitVec 32 := Scalar.addi v0 c256_i32_122
  let c8_i32 : BitVec 32 := 8#32
  let v277 : BitVec 32 := Scalar.shrsi v276 c8_i32
  let v545 : BitVec 32 := Scalar.subi v277 c0_i32_277
  let c1_i32_278 : BitVec 32 := 1#32
  let v547 : BitVec 32 := Scalar.divsi v545 c1_i32_278
  let v548 : BitVec 32 := Scalar.muli v547 c1_i32_278
  let v549 : BitVec 32 := Scalar.addi c0_i32_277 v548
  let c1_i32_280 : BitVec 32 := 1#32
  let arg31 : BitVec 32 := Scf.iv v549 c1_i32_280 k0_t17
  let c256_i32_283 : BitVec 32 := 256#32
  let v558 : BitVec 32 := Scalar.muli arg31 c256_i32_283
  let v559 : BitVec 32 := v558
  let v560 : Index := Scalar.indexCast v559
  let c0_284 : Index := 0#32
  ![v560.toNat, 0]
@[reducible] def k0_t18_loop (i : grid0.Coords) : Scf.Loop 32 :=
  let c0_i32_265 : BitVec 32 := 0#32
  let arg1 : BitVec 32 := BitVec.ofNat 32 (i 1).val
  let c256_i32 : BitVec 32 := 256#32
  let v0 : BitVec 32 := Scalar.muli arg1 c256_i32
  let c256_i32_122 : BitVec 32 := 256#32
  let v276 : BitVec 32 := Scalar.addi v0 c256_i32_122
  let c8_i32 : BitVec 32 := 8#32
  let v277 : BitVec 32 := Scalar.shrsi v276 c8_i32
  let v514 : BitVec 32 := Scalar.subi v277 c0_i32_265
  let c1_i32_266 : BitVec 32 := 1#32
  let v516 : BitVec 32 := Scalar.divsi v514 c1_i32_266
  let v517 : BitVec 32 := Scalar.muli v516 c1_i32_266
  let v518 : BitVec 32 := Scalar.addi c0_i32_265 v517
  let c1_i32_267 : BitVec 32 := 1#32
  ⟨c0_i32_265, v518, c1_i32_267⟩
def k0_mult18 (i : grid0.Coords) (k0_t18 : Fin (k0_t18_loop i).trips) : BitVec 32 :=
  let c0_i32_265 : BitVec 32 := 0#32
  let c1_i32_267 : BitVec 32 := 1#32
  let arg24 : BitVec 32 := Scf.iv c0_i32_265 c1_i32_267 k0_t18
  let c256_i32_282 : BitVec 32 := 256#32
  let v548 : BitVec 32 := Scalar.muli arg24 c256_i32_282
  v548
def k0_off21 (i : grid0.Coords) (k0_t18 : Fin (k0_t18_loop i).trips) : Fin 2 → Nat :=
  let c0_i32_265 : BitVec 32 := 0#32
  let c1_i32_267 : BitVec 32 := 1#32
  let arg24 : BitVec 32 := Scf.iv c0_i32_265 c1_i32_267 k0_t18
  let c256_i32_282 : BitVec 32 := 256#32
  let v548 : BitVec 32 := Scalar.muli arg24 c256_i32_282
  let v549 : BitVec 32 := v548
  let v550 : Index := Scalar.indexCast v549
  let c0_283 : Index := 0#32
  ![v550.toNat, 0]
@[reducible] def k0_t19_loop (i : grid0.Coords) : Scf.Loop 32 :=
  let c0_i32_265 : BitVec 32 := 0#32
  let arg1 : BitVec 32 := BitVec.ofNat 32 (i 1).val
  let c256_i32 : BitVec 32 := 256#32
  let v0 : BitVec 32 := Scalar.muli arg1 c256_i32
  let c256_i32_122 : BitVec 32 := 256#32
  let v276 : BitVec 32 := Scalar.addi v0 c256_i32_122
  let c8_i32 : BitVec 32 := 8#32
  let v277 : BitVec 32 := Scalar.shrsi v276 c8_i32
  let v514 : BitVec 32 := Scalar.subi v277 c0_i32_265
  let c1_i32_266 : BitVec 32 := 1#32
  let v516 : BitVec 32 := Scalar.divsi v514 c1_i32_266
  let v517 : BitVec 32 := Scalar.muli v516 c1_i32_266
  let v518 : BitVec 32 := Scalar.addi c0_i32_265 v517
  let v515 : BitVec 32 := Scalar.addi c0_i32_265 v514
  let c1_i32_268 : BitVec 32 := 1#32
  ⟨v518, v515, c1_i32_268⟩
def k0_mult19 (i : grid0.Coords) (k0_t19 : Fin (k0_t19_loop i).trips) : BitVec 32 :=
  let c0_i32_265 : BitVec 32 := 0#32
  let arg1 : BitVec 32 := BitVec.ofNat 32 (i 1).val
  let c256_i32 : BitVec 32 := 256#32
  let v0 : BitVec 32 := Scalar.muli arg1 c256_i32
  let c256_i32_122 : BitVec 32 := 256#32
  let v276 : BitVec 32 := Scalar.addi v0 c256_i32_122
  let c8_i32 : BitVec 32 := 8#32
  let v277 : BitVec 32 := Scalar.shrsi v276 c8_i32
  let v514 : BitVec 32 := Scalar.subi v277 c0_i32_265
  let c1_i32_266 : BitVec 32 := 1#32
  let v516 : BitVec 32 := Scalar.divsi v514 c1_i32_266
  let v517 : BitVec 32 := Scalar.muli v516 c1_i32_266
  let v518 : BitVec 32 := Scalar.addi c0_i32_265 v517
  let c1_i32_268 : BitVec 32 := 1#32
  let arg24 : BitVec 32 := Scf.iv v518 c1_i32_268 k0_t19
  let c256_i32_282 : BitVec 32 := 256#32
  let v548 : BitVec 32 := Scalar.muli arg24 c256_i32_282
  v548
def k0_off22 (i : grid0.Coords) (k0_t19 : Fin (k0_t19_loop i).trips) : Fin 2 → Nat :=
  let c0_i32_265 : BitVec 32 := 0#32
  let arg1 : BitVec 32 := BitVec.ofNat 32 (i 1).val
  let c256_i32 : BitVec 32 := 256#32
  let v0 : BitVec 32 := Scalar.muli arg1 c256_i32
  let c256_i32_122 : BitVec 32 := 256#32
  let v276 : BitVec 32 := Scalar.addi v0 c256_i32_122
  let c8_i32 : BitVec 32 := 8#32
  let v277 : BitVec 32 := Scalar.shrsi v276 c8_i32
  let v514 : BitVec 32 := Scalar.subi v277 c0_i32_265
  let c1_i32_266 : BitVec 32 := 1#32
  let v516 : BitVec 32 := Scalar.divsi v514 c1_i32_266
  let v517 : BitVec 32 := Scalar.muli v516 c1_i32_266
  let v518 : BitVec 32 := Scalar.addi c0_i32_265 v517
  let c1_i32_268 : BitVec 32 := 1#32
  let arg24 : BitVec 32 := Scf.iv v518 c1_i32_268 k0_t19
  let c256_i32_282 : BitVec 32 := 256#32
  let v548 : BitVec 32 := Scalar.muli arg24 c256_i32_282
  let v549 : BitVec 32 := v548
  let v550 : Index := Scalar.indexCast v549
  let c0_283 : Index := 0#32
  ![v550.toNat, 0]
@[reducible] def k0_t20_loop (i : grid0.Coords) : Scf.Loop 32 :=
  let c0_i32_271 : BitVec 32 := 0#32
  let arg1 : BitVec 32 := BitVec.ofNat 32 (i 1).val
  let c256_i32 : BitVec 32 := 256#32
  let v0 : BitVec 32 := Scalar.muli arg1 c256_i32
  let c256_i32_122 : BitVec 32 := 256#32
  let v276 : BitVec 32 := Scalar.addi v0 c256_i32_122
  let c8_i32 : BitVec 32 := 8#32
  let v277 : BitVec 32 := Scalar.shrsi v276 c8_i32
  let v524 : BitVec 32 := Scalar.subi v277 c0_i32_271
  let c1_i32_272 : BitVec 32 := 1#32
  let v526 : BitVec 32 := Scalar.divsi v524 c1_i32_272
  let v527 : BitVec 32 := Scalar.muli v526 c1_i32_272
  let v528 : BitVec 32 := Scalar.addi c0_i32_271 v527
  let c1_i32_273 : BitVec 32 := 1#32
  ⟨c0_i32_271, v528, c1_i32_273⟩
def k0_mult20 (i : grid0.Coords) (k0_t20 : Fin (k0_t20_loop i).trips) : BitVec 32 :=
  let c0_i32_271 : BitVec 32 := 0#32
  let c1_i32_273 : BitVec 32 := 1#32
  let arg24 : BitVec 32 := Scf.iv c0_i32_271 c1_i32_273 k0_t20
  let c256_i32_282 : BitVec 32 := 256#32
  let v548 : BitVec 32 := Scalar.muli arg24 c256_i32_282
  v548
def k0_off23 (i : grid0.Coords) (k0_t20 : Fin (k0_t20_loop i).trips) : Fin 2 → Nat :=
  let c0_i32_271 : BitVec 32 := 0#32
  let c1_i32_273 : BitVec 32 := 1#32
  let arg24 : BitVec 32 := Scf.iv c0_i32_271 c1_i32_273 k0_t20
  let c256_i32_282 : BitVec 32 := 256#32
  let v548 : BitVec 32 := Scalar.muli arg24 c256_i32_282
  let v549 : BitVec 32 := v548
  let v550 : Index := Scalar.indexCast v549
  let c0_283 : Index := 0#32
  ![v550.toNat, 0]
@[reducible] def k0_t21_loop (i : grid0.Coords) : Scf.Loop 32 :=
  let c0_i32_271 : BitVec 32 := 0#32
  let arg1 : BitVec 32 := BitVec.ofNat 32 (i 1).val
  let c256_i32 : BitVec 32 := 256#32
  let v0 : BitVec 32 := Scalar.muli arg1 c256_i32
  let c256_i32_122 : BitVec 32 := 256#32
  let v276 : BitVec 32 := Scalar.addi v0 c256_i32_122
  let c8_i32 : BitVec 32 := 8#32
  let v277 : BitVec 32 := Scalar.shrsi v276 c8_i32
  let v524 : BitVec 32 := Scalar.subi v277 c0_i32_271
  let c1_i32_272 : BitVec 32 := 1#32
  let v526 : BitVec 32 := Scalar.divsi v524 c1_i32_272
  let v527 : BitVec 32 := Scalar.muli v526 c1_i32_272
  let v528 : BitVec 32 := Scalar.addi c0_i32_271 v527
  let v525 : BitVec 32 := Scalar.addi c0_i32_271 v524
  let c1_i32_274 : BitVec 32 := 1#32
  ⟨v528, v525, c1_i32_274⟩
def k0_mult21 (i : grid0.Coords) (k0_t21 : Fin (k0_t21_loop i).trips) : BitVec 32 :=
  let c0_i32_271 : BitVec 32 := 0#32
  let arg1 : BitVec 32 := BitVec.ofNat 32 (i 1).val
  let c256_i32 : BitVec 32 := 256#32
  let v0 : BitVec 32 := Scalar.muli arg1 c256_i32
  let c256_i32_122 : BitVec 32 := 256#32
  let v276 : BitVec 32 := Scalar.addi v0 c256_i32_122
  let c8_i32 : BitVec 32 := 8#32
  let v277 : BitVec 32 := Scalar.shrsi v276 c8_i32
  let v524 : BitVec 32 := Scalar.subi v277 c0_i32_271
  let c1_i32_272 : BitVec 32 := 1#32
  let v526 : BitVec 32 := Scalar.divsi v524 c1_i32_272
  let v527 : BitVec 32 := Scalar.muli v526 c1_i32_272
  let v528 : BitVec 32 := Scalar.addi c0_i32_271 v527
  let c1_i32_274 : BitVec 32 := 1#32
  let arg24 : BitVec 32 := Scf.iv v528 c1_i32_274 k0_t21
  let c256_i32_282 : BitVec 32 := 256#32
  let v548 : BitVec 32 := Scalar.muli arg24 c256_i32_282
  v548
def k0_off24 (i : grid0.Coords) (k0_t21 : Fin (k0_t21_loop i).trips) : Fin 2 → Nat :=
  let c0_i32_271 : BitVec 32 := 0#32
  let arg1 : BitVec 32 := BitVec.ofNat 32 (i 1).val
  let c256_i32 : BitVec 32 := 256#32
  let v0 : BitVec 32 := Scalar.muli arg1 c256_i32
  let c256_i32_122 : BitVec 32 := 256#32
  let v276 : BitVec 32 := Scalar.addi v0 c256_i32_122
  let c8_i32 : BitVec 32 := 8#32
  let v277 : BitVec 32 := Scalar.shrsi v276 c8_i32
  let v524 : BitVec 32 := Scalar.subi v277 c0_i32_271
  let c1_i32_272 : BitVec 32 := 1#32
  let v526 : BitVec 32 := Scalar.divsi v524 c1_i32_272
  let v527 : BitVec 32 := Scalar.muli v526 c1_i32_272
  let v528 : BitVec 32 := Scalar.addi c0_i32_271 v527
  let c1_i32_274 : BitVec 32 := 1#32
  let arg24 : BitVec 32 := Scf.iv v528 c1_i32_274 k0_t21
  let c256_i32_282 : BitVec 32 := 256#32
  let v548 : BitVec 32 := Scalar.muli arg24 c256_i32_282
  let v549 : BitVec 32 := v548
  let v550 : Index := Scalar.indexCast v549
  let c0_283 : Index := 0#32
  ![v550.toNat, 0]
@[reducible] def k0_t22_loop : Scf.Loop 32 :=
  let c0_i32_283 : BitVec 32 := 0#32
  let c12_i32 : BitVec 32 := 12#32
  let v549 : BitVec 32 := Scalar.addi c0_i32_283 c12_i32
  let c1_i32_284 : BitVec 32 := 1#32
  ⟨c0_i32_283, v549, c1_i32_284⟩
@[reducible] def k0_t23_loop (i : grid0.Coords) : Scf.Loop 32 :=
  let c0_i32_288 : BitVec 32 := 0#32
  let arg1 : BitVec 32 := BitVec.ofNat 32 (i 1).val
  let c256_i32 : BitVec 32 := 256#32
  let v0 : BitVec 32 := Scalar.muli arg1 c256_i32
  let c256_i32_122 : BitVec 32 := 256#32
  let v276 : BitVec 32 := Scalar.addi v0 c256_i32_122
  let c8_i32 : BitVec 32 := 8#32
  let v277 : BitVec 32 := Scalar.shrsi v276 c8_i32
  let v556 : BitVec 32 := Scalar.subi v277 c0_i32_288
  let c1_i32_289 : BitVec 32 := 1#32
  let v558 : BitVec 32 := Scalar.divsi v556 c1_i32_289
  let v559 : BitVec 32 := Scalar.muli v558 c1_i32_289
  let v560 : BitVec 32 := Scalar.addi c0_i32_288 v559
  let c1_i32_290 : BitVec 32 := 1#32
  ⟨c0_i32_288, v560, c1_i32_290⟩
def k0_mult22 (i : grid0.Coords) (k0_t23 : Fin (k0_t23_loop i).trips) : BitVec 32 :=
  let c0_i32_288 : BitVec 32 := 0#32
  let c1_i32_290 : BitVec 32 := 1#32
  let arg26 : BitVec 32 := Scf.iv c0_i32_288 c1_i32_290 k0_t23
  let c256_i32_294 : BitVec 32 := 256#32
  let v569 : BitVec 32 := Scalar.muli arg26 c256_i32_294
  v569
def k0_off25 (i : grid0.Coords) (k0_t23 : Fin (k0_t23_loop i).trips) : Fin 2 → Nat :=
  let c0_i32_288 : BitVec 32 := 0#32
  let c1_i32_290 : BitVec 32 := 1#32
  let arg26 : BitVec 32 := Scf.iv c0_i32_288 c1_i32_290 k0_t23
  let c256_i32_294 : BitVec 32 := 256#32
  let v569 : BitVec 32 := Scalar.muli arg26 c256_i32_294
  let v570 : BitVec 32 := v569
  let v571 : Index := Scalar.indexCast v570
  let c0_295 : Index := 0#32
  ![v571.toNat, 0]
@[reducible] def k0_t24_loop (i : grid0.Coords) : Scf.Loop 32 :=
  let c0_i32_288 : BitVec 32 := 0#32
  let arg1 : BitVec 32 := BitVec.ofNat 32 (i 1).val
  let c256_i32 : BitVec 32 := 256#32
  let v0 : BitVec 32 := Scalar.muli arg1 c256_i32
  let c256_i32_122 : BitVec 32 := 256#32
  let v276 : BitVec 32 := Scalar.addi v0 c256_i32_122
  let c8_i32 : BitVec 32 := 8#32
  let v277 : BitVec 32 := Scalar.shrsi v276 c8_i32
  let v556 : BitVec 32 := Scalar.subi v277 c0_i32_288
  let c1_i32_289 : BitVec 32 := 1#32
  let v558 : BitVec 32 := Scalar.divsi v556 c1_i32_289
  let v559 : BitVec 32 := Scalar.muli v558 c1_i32_289
  let v560 : BitVec 32 := Scalar.addi c0_i32_288 v559
  let v557 : BitVec 32 := Scalar.addi c0_i32_288 v556
  let c1_i32_291 : BitVec 32 := 1#32
  ⟨v560, v557, c1_i32_291⟩
def k0_mult23 (i : grid0.Coords) (k0_t24 : Fin (k0_t24_loop i).trips) : BitVec 32 :=
  let c0_i32_288 : BitVec 32 := 0#32
  let arg1 : BitVec 32 := BitVec.ofNat 32 (i 1).val
  let c256_i32 : BitVec 32 := 256#32
  let v0 : BitVec 32 := Scalar.muli arg1 c256_i32
  let c256_i32_122 : BitVec 32 := 256#32
  let v276 : BitVec 32 := Scalar.addi v0 c256_i32_122
  let c8_i32 : BitVec 32 := 8#32
  let v277 : BitVec 32 := Scalar.shrsi v276 c8_i32
  let v556 : BitVec 32 := Scalar.subi v277 c0_i32_288
  let c1_i32_289 : BitVec 32 := 1#32
  let v558 : BitVec 32 := Scalar.divsi v556 c1_i32_289
  let v559 : BitVec 32 := Scalar.muli v558 c1_i32_289
  let v560 : BitVec 32 := Scalar.addi c0_i32_288 v559
  let c1_i32_291 : BitVec 32 := 1#32
  let arg26 : BitVec 32 := Scf.iv v560 c1_i32_291 k0_t24
  let c256_i32_294 : BitVec 32 := 256#32
  let v569 : BitVec 32 := Scalar.muli arg26 c256_i32_294
  v569
def k0_off26 (i : grid0.Coords) (k0_t24 : Fin (k0_t24_loop i).trips) : Fin 2 → Nat :=
  let c0_i32_288 : BitVec 32 := 0#32
  let arg1 : BitVec 32 := BitVec.ofNat 32 (i 1).val
  let c256_i32 : BitVec 32 := 256#32
  let v0 : BitVec 32 := Scalar.muli arg1 c256_i32
  let c256_i32_122 : BitVec 32 := 256#32
  let v276 : BitVec 32 := Scalar.addi v0 c256_i32_122
  let c8_i32 : BitVec 32 := 8#32
  let v277 : BitVec 32 := Scalar.shrsi v276 c8_i32
  let v556 : BitVec 32 := Scalar.subi v277 c0_i32_288
  let c1_i32_289 : BitVec 32 := 1#32
  let v558 : BitVec 32 := Scalar.divsi v556 c1_i32_289
  let v559 : BitVec 32 := Scalar.muli v558 c1_i32_289
  let v560 : BitVec 32 := Scalar.addi c0_i32_288 v559
  let c1_i32_291 : BitVec 32 := 1#32
  let arg26 : BitVec 32 := Scf.iv v560 c1_i32_291 k0_t24
  let c256_i32_294 : BitVec 32 := 256#32
  let v569 : BitVec 32 := Scalar.muli arg26 c256_i32_294
  let v570 : BitVec 32 := v569
  let v571 : Index := Scalar.indexCast v570
  let c0_295 : Index := 0#32
  ![v571.toNat, 0]
def k0_cond7 (i : grid0.Coords) : BitVec 1 :=
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_162 : BitVec 32 := 1#32
  let v359 : BitVec 1 := Scalar.cmpi .sge v275 c1_i32_162
  let v360 : BitVec 32 := Scalar.extui v359
  let c0_i32_163 : BitVec 32 := 0#32
  let v361 : BitVec 1 := Scalar.cmpi .ne v360 c0_i32_163
  v361

def k0_mult24 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c0_i32_275 : BitVec 32 := 0#32
  let v534 : BitVec 32 := Scalar.subi v513 c0_i32_275
  let c0_i32_276 : BitVec 32 := 0#32
  let v535 : BitVec 32 := Scalar.maxsi v534 c0_i32_276
  v535
def k0_off27 (i : grid0.Coords) (c0_i32_275 : BitVec 32) : Fin 2 → Nat :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let v534 : BitVec 32 := Scalar.subi v513 c0_i32_275
  let c0_i32_276 : BitVec 32 := 0#32
  let v535 : BitVec 32 := Scalar.maxsi v534 c0_i32_276
  let v536 : BitVec 32 := v535
  let v537 : Index := Scalar.indexCast v536
  let c0_277 : Index := 0#32
  ![v537.toNat, 0]
def k0_mult25 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c128_i32_278 : BitVec 32 := 128#32
  let v539 : BitVec 32 := Scalar.subi v513 c128_i32_278
  let c0_i32_279 : BitVec 32 := 0#32
  let v540 : BitVec 32 := Scalar.maxsi v539 c0_i32_279
  v540
def k0_mult26 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c0_i32_284 : BitVec 32 := 0#32
  let v680 : BitVec 32 := Scalar.subi v513 c0_i32_284
  let c0_i32_285 : BitVec 32 := 0#32
  let v681 : BitVec 32 := Scalar.maxsi v680 c0_i32_285
  v681
def k0_off28 (i : grid0.Coords) (c0_i32_284 : BitVec 32) : Fin 2 → Nat :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let v680 : BitVec 32 := Scalar.subi v513 c0_i32_284
  let c0_i32_285 : BitVec 32 := 0#32
  let v681 : BitVec 32 := Scalar.maxsi v680 c0_i32_285
  let v682 : BitVec 32 := v681
  let v683 : Index := Scalar.indexCast v682
  let c128_286 : Index := 128#32
  ![v683.toNat, 128]
def k0_mult27 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c128_i32_287 : BitVec 32 := 128#32
  let v685 : BitVec 32 := Scalar.subi v513 c128_i32_287
  let c0_i32_288 : BitVec 32 := 0#32
  let v686 : BitVec 32 := Scalar.maxsi v685 c0_i32_288
  v686
def k0_mult28 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c0_i32_293 : BitVec 32 := 0#32
  let v826 : BitVec 32 := Scalar.subi v513 c0_i32_293
  let c0_i32_294 : BitVec 32 := 0#32
  let v827 : BitVec 32 := Scalar.maxsi v826 c0_i32_294
  v827
def k0_off29 (i : grid0.Coords) (c0_i32_293 : BitVec 32) : Fin 2 → Nat :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let v826 : BitVec 32 := Scalar.subi v513 c0_i32_293
  let c0_i32_294 : BitVec 32 := 0#32
  let v827 : BitVec 32 := Scalar.maxsi v826 c0_i32_294
  let v828 : BitVec 32 := v827
  let v829 : Index := Scalar.indexCast v828
  let c256_295 : Index := 256#32
  ![v829.toNat, 256]
def k0_mult29 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c128_i32_296 : BitVec 32 := 128#32
  let v831 : BitVec 32 := Scalar.subi v513 c128_i32_296
  let c0_i32_297 : BitVec 32 := 0#32
  let v832 : BitVec 32 := Scalar.maxsi v831 c0_i32_297
  v832
def k0_mult30 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c0_i32_302 : BitVec 32 := 0#32
  let v972 : BitVec 32 := Scalar.subi v513 c0_i32_302
  let c0_i32_303 : BitVec 32 := 0#32
  let v973 : BitVec 32 := Scalar.maxsi v972 c0_i32_303
  v973
def k0_off30 (i : grid0.Coords) (c0_i32_302 : BitVec 32) : Fin 2 → Nat :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let v972 : BitVec 32 := Scalar.subi v513 c0_i32_302
  let c0_i32_303 : BitVec 32 := 0#32
  let v973 : BitVec 32 := Scalar.maxsi v972 c0_i32_303
  let v974 : BitVec 32 := v973
  let v975 : Index := Scalar.indexCast v974
  let c384_304 : Index := 384#32
  ![v975.toNat, 384]
def k0_mult31 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c128_i32_305 : BitVec 32 := 128#32
  let v977 : BitVec 32 := Scalar.subi v513 c128_i32_305
  let c0_i32_306 : BitVec 32 := 0#32
  let v978 : BitVec 32 := Scalar.maxsi v977 c0_i32_306
  v978
def k0_mult32 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c0_i32_311 : BitVec 32 := 0#32
  let v1118 : BitVec 32 := Scalar.subi v513 c0_i32_311
  let c0_i32_312 : BitVec 32 := 0#32
  let v1119 : BitVec 32 := Scalar.maxsi v1118 c0_i32_312
  v1119
def k0_off31 (i : grid0.Coords) (c0_i32_311 : BitVec 32) : Fin 2 → Nat :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let v1118 : BitVec 32 := Scalar.subi v513 c0_i32_311
  let c0_i32_312 : BitVec 32 := 0#32
  let v1119 : BitVec 32 := Scalar.maxsi v1118 c0_i32_312
  let v1120 : BitVec 32 := v1119
  let v1121 : Index := Scalar.indexCast v1120
  let c512_313 : Index := 512#32
  ![v1121.toNat, 512]
def k0_mult33 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c128_i32_314 : BitVec 32 := 128#32
  let v1123 : BitVec 32 := Scalar.subi v513 c128_i32_314
  let c0_i32_315 : BitVec 32 := 0#32
  let v1124 : BitVec 32 := Scalar.maxsi v1123 c0_i32_315
  v1124
def k0_mult34 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c0_i32_320 : BitVec 32 := 0#32
  let v1264 : BitVec 32 := Scalar.subi v513 c0_i32_320
  let c0_i32_321 : BitVec 32 := 0#32
  let v1265 : BitVec 32 := Scalar.maxsi v1264 c0_i32_321
  v1265
def k0_off32 (i : grid0.Coords) (c0_i32_320 : BitVec 32) : Fin 2 → Nat :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let v1264 : BitVec 32 := Scalar.subi v513 c0_i32_320
  let c0_i32_321 : BitVec 32 := 0#32
  let v1265 : BitVec 32 := Scalar.maxsi v1264 c0_i32_321
  let v1266 : BitVec 32 := v1265
  let v1267 : Index := Scalar.indexCast v1266
  let c640_322 : Index := 640#32
  ![v1267.toNat, 640]
def k0_mult35 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c128_i32_323 : BitVec 32 := 128#32
  let v1269 : BitVec 32 := Scalar.subi v513 c128_i32_323
  let c0_i32_324 : BitVec 32 := 0#32
  let v1270 : BitVec 32 := Scalar.maxsi v1269 c0_i32_324
  v1270
def k0_mult36 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c0_i32_329 : BitVec 32 := 0#32
  let v1410 : BitVec 32 := Scalar.subi v513 c0_i32_329
  let c0_i32_330 : BitVec 32 := 0#32
  let v1411 : BitVec 32 := Scalar.maxsi v1410 c0_i32_330
  v1411
def k0_off33 (i : grid0.Coords) (c0_i32_329 : BitVec 32) : Fin 2 → Nat :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let v1410 : BitVec 32 := Scalar.subi v513 c0_i32_329
  let c0_i32_330 : BitVec 32 := 0#32
  let v1411 : BitVec 32 := Scalar.maxsi v1410 c0_i32_330
  let v1412 : BitVec 32 := v1411
  let v1413 : Index := Scalar.indexCast v1412
  let c768_331 : Index := 768#32
  ![v1413.toNat, 768]
def k0_mult37 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c128_i32_332 : BitVec 32 := 128#32
  let v1415 : BitVec 32 := Scalar.subi v513 c128_i32_332
  let c0_i32_333 : BitVec 32 := 0#32
  let v1416 : BitVec 32 := Scalar.maxsi v1415 c0_i32_333
  v1416
def k0_mult38 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c0_i32_338 : BitVec 32 := 0#32
  let v1556 : BitVec 32 := Scalar.subi v513 c0_i32_338
  let c0_i32_339 : BitVec 32 := 0#32
  let v1557 : BitVec 32 := Scalar.maxsi v1556 c0_i32_339
  v1557
def k0_off34 (i : grid0.Coords) (c0_i32_338 : BitVec 32) : Fin 2 → Nat :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let v1556 : BitVec 32 := Scalar.subi v513 c0_i32_338
  let c0_i32_339 : BitVec 32 := 0#32
  let v1557 : BitVec 32 := Scalar.maxsi v1556 c0_i32_339
  let v1558 : BitVec 32 := v1557
  let v1559 : Index := Scalar.indexCast v1558
  let c896_340 : Index := 896#32
  ![v1559.toNat, 896]
def k0_mult39 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c128_i32_341 : BitVec 32 := 128#32
  let v1561 : BitVec 32 := Scalar.subi v513 c128_i32_341
  let c0_i32_342 : BitVec 32 := 0#32
  let v1562 : BitVec 32 := Scalar.maxsi v1561 c0_i32_342
  v1562
def k0_mult40 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c0_i32_347 : BitVec 32 := 0#32
  let v1702 : BitVec 32 := Scalar.subi v513 c0_i32_347
  let c0_i32_348 : BitVec 32 := 0#32
  let v1703 : BitVec 32 := Scalar.maxsi v1702 c0_i32_348
  v1703
def k0_off35 (i : grid0.Coords) (c0_i32_347 : BitVec 32) : Fin 2 → Nat :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let v1702 : BitVec 32 := Scalar.subi v513 c0_i32_347
  let c0_i32_348 : BitVec 32 := 0#32
  let v1703 : BitVec 32 := Scalar.maxsi v1702 c0_i32_348
  let v1704 : BitVec 32 := v1703
  let v1705 : Index := Scalar.indexCast v1704
  let c1024_349 : Index := 1024#32
  ![v1705.toNat, 1024]
def k0_mult41 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c128_i32_350 : BitVec 32 := 128#32
  let v1707 : BitVec 32 := Scalar.subi v513 c128_i32_350
  let c0_i32_351 : BitVec 32 := 0#32
  let v1708 : BitVec 32 := Scalar.maxsi v1707 c0_i32_351
  v1708
def k0_mult42 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c0_i32_356 : BitVec 32 := 0#32
  let v1848 : BitVec 32 := Scalar.subi v513 c0_i32_356
  let c0_i32_357 : BitVec 32 := 0#32
  let v1849 : BitVec 32 := Scalar.maxsi v1848 c0_i32_357
  v1849
def k0_off36 (i : grid0.Coords) (c0_i32_356 : BitVec 32) : Fin 2 → Nat :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let v1848 : BitVec 32 := Scalar.subi v513 c0_i32_356
  let c0_i32_357 : BitVec 32 := 0#32
  let v1849 : BitVec 32 := Scalar.maxsi v1848 c0_i32_357
  let v1850 : BitVec 32 := v1849
  let v1851 : Index := Scalar.indexCast v1850
  let c1152 : Index := 1152#32
  ![v1851.toNat, 1152]
def k0_mult43 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c128_i32_358 : BitVec 32 := 128#32
  let v1853 : BitVec 32 := Scalar.subi v513 c128_i32_358
  let c0_i32_359 : BitVec 32 := 0#32
  let v1854 : BitVec 32 := Scalar.maxsi v1853 c0_i32_359
  v1854
def k0_mult44 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c0_i32_364 : BitVec 32 := 0#32
  let v1994 : BitVec 32 := Scalar.subi v513 c0_i32_364
  let c0_i32_365 : BitVec 32 := 0#32
  let v1995 : BitVec 32 := Scalar.maxsi v1994 c0_i32_365
  v1995
def k0_off37 (i : grid0.Coords) (c0_i32_364 : BitVec 32) : Fin 2 → Nat :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let v1994 : BitVec 32 := Scalar.subi v513 c0_i32_364
  let c0_i32_365 : BitVec 32 := 0#32
  let v1995 : BitVec 32 := Scalar.maxsi v1994 c0_i32_365
  let v1996 : BitVec 32 := v1995
  let v1997 : Index := Scalar.indexCast v1996
  let c1280_366 : Index := 1280#32
  ![v1997.toNat, 1280]
def k0_mult45 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c128_i32_367 : BitVec 32 := 128#32
  let v1999 : BitVec 32 := Scalar.subi v513 c128_i32_367
  let c0_i32_368 : BitVec 32 := 0#32
  let v2000 : BitVec 32 := Scalar.maxsi v1999 c0_i32_368
  v2000
def k0_mult46 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c0_i32_373 : BitVec 32 := 0#32
  let v2140 : BitVec 32 := Scalar.subi v513 c0_i32_373
  let c0_i32_374 : BitVec 32 := 0#32
  let v2141 : BitVec 32 := Scalar.maxsi v2140 c0_i32_374
  v2141
def k0_off38 (i : grid0.Coords) (c0_i32_373 : BitVec 32) : Fin 2 → Nat :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let v2140 : BitVec 32 := Scalar.subi v513 c0_i32_373
  let c0_i32_374 : BitVec 32 := 0#32
  let v2141 : BitVec 32 := Scalar.maxsi v2140 c0_i32_374
  let v2142 : BitVec 32 := v2141
  let v2143 : Index := Scalar.indexCast v2142
  let c1408 : Index := 1408#32
  ![v2143.toNat, 1408]
def k0_mult47 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c128_i32_375 : BitVec 32 := 128#32
  let v2145 : BitVec 32 := Scalar.subi v513 c128_i32_375
  let c0_i32_376 : BitVec 32 := 0#32
  let v2146 : BitVec 32 := Scalar.maxsi v2145 c0_i32_376
  v2146
def k0_mult48 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c0_i32_381 : BitVec 32 := 0#32
  let v2286 : BitVec 32 := Scalar.subi v513 c0_i32_381
  let c0_i32_382 : BitVec 32 := 0#32
  let v2287 : BitVec 32 := Scalar.maxsi v2286 c0_i32_382
  v2287
def k0_off39 (i : grid0.Coords) (c0_i32_381 : BitVec 32) : Fin 2 → Nat :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let v2286 : BitVec 32 := Scalar.subi v513 c0_i32_381
  let c0_i32_382 : BitVec 32 := 0#32
  let v2287 : BitVec 32 := Scalar.maxsi v2286 c0_i32_382
  let v2288 : BitVec 32 := v2287
  let v2289 : Index := Scalar.indexCast v2288
  let c1536_383 : Index := 1536#32
  ![v2289.toNat, 1536]
def k0_mult49 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c128_i32_384 : BitVec 32 := 128#32
  let v2291 : BitVec 32 := Scalar.subi v513 c128_i32_384
  let c0_i32_385 : BitVec 32 := 0#32
  let v2292 : BitVec 32 := Scalar.maxsi v2291 c0_i32_385
  v2292
def k0_mult50 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c0_i32_390 : BitVec 32 := 0#32
  let v2432 : BitVec 32 := Scalar.subi v513 c0_i32_390
  let c0_i32_391 : BitVec 32 := 0#32
  let v2433 : BitVec 32 := Scalar.maxsi v2432 c0_i32_391
  v2433
def k0_off40 (i : grid0.Coords) (c0_i32_390 : BitVec 32) : Fin 2 → Nat :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let v2432 : BitVec 32 := Scalar.subi v513 c0_i32_390
  let c0_i32_391 : BitVec 32 := 0#32
  let v2433 : BitVec 32 := Scalar.maxsi v2432 c0_i32_391
  let v2434 : BitVec 32 := v2433
  let v2435 : Index := Scalar.indexCast v2434
  let c1664 : Index := 1664#32
  ![v2435.toNat, 1664]
def k0_mult51 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c128_i32_392 : BitVec 32 := 128#32
  let v2437 : BitVec 32 := Scalar.subi v513 c128_i32_392
  let c0_i32_393 : BitVec 32 := 0#32
  let v2438 : BitVec 32 := Scalar.maxsi v2437 c0_i32_393
  v2438
def k0_mult52 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c0_i32_398 : BitVec 32 := 0#32
  let v2578 : BitVec 32 := Scalar.subi v513 c0_i32_398
  let c0_i32_399 : BitVec 32 := 0#32
  let v2579 : BitVec 32 := Scalar.maxsi v2578 c0_i32_399
  v2579
def k0_off41 (i : grid0.Coords) (c0_i32_398 : BitVec 32) : Fin 2 → Nat :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let v2578 : BitVec 32 := Scalar.subi v513 c0_i32_398
  let c0_i32_399 : BitVec 32 := 0#32
  let v2579 : BitVec 32 := Scalar.maxsi v2578 c0_i32_399
  let v2580 : BitVec 32 := v2579
  let v2581 : Index := Scalar.indexCast v2580
  let c1792_400 : Index := 1792#32
  ![v2581.toNat, 1792]
def k0_mult53 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c128_i32_401 : BitVec 32 := 128#32
  let v2583 : BitVec 32 := Scalar.subi v513 c128_i32_401
  let c0_i32_402 : BitVec 32 := 0#32
  let v2584 : BitVec 32 := Scalar.maxsi v2583 c0_i32_402
  v2584
def k0_mult54 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c0_i32_407 : BitVec 32 := 0#32
  let v2724 : BitVec 32 := Scalar.subi v513 c0_i32_407
  let c0_i32_408 : BitVec 32 := 0#32
  let v2725 : BitVec 32 := Scalar.maxsi v2724 c0_i32_408
  v2725
def k0_off42 (i : grid0.Coords) (c0_i32_407 : BitVec 32) : Fin 2 → Nat :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let v2724 : BitVec 32 := Scalar.subi v513 c0_i32_407
  let c0_i32_408 : BitVec 32 := 0#32
  let v2725 : BitVec 32 := Scalar.maxsi v2724 c0_i32_408
  let v2726 : BitVec 32 := v2725
  let v2727 : Index := Scalar.indexCast v2726
  let c1920 : Index := 1920#32
  ![v2727.toNat, 1920]
def k0_mult55 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c128_i32_409 : BitVec 32 := 128#32
  let v2729 : BitVec 32 := Scalar.subi v513 c128_i32_409
  let c0_i32_410 : BitVec 32 := 0#32
  let v2730 : BitVec 32 := Scalar.maxsi v2729 c0_i32_410
  v2730
@[reducible] def k0_t25_loop (i : grid0.Coords) : Scf.Loop 32 :=
  let c1_i32_426 : BitVec 32 := 1#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_424 : BitVec 32 := 1#32
  let v2884 : BitVec 32 := Scalar.subi v275 c1_i32_424
  let v2885 : BitVec 32 := Scalar.subi v2884 c1_i32_426
  let c1_i32_427 : BitVec 32 := 1#32
  let v2887 : BitVec 32 := Scalar.divsi v2885 c1_i32_427
  let v2888 : BitVec 32 := Scalar.muli v2887 c1_i32_427
  let v2889 : BitVec 32 := Scalar.addi c1_i32_426 v2888
  let c1_i32_428 : BitVec 32 := 1#32
  ⟨c1_i32_426, v2889, c1_i32_428⟩
def k0_mult56 (i : grid0.Coords) (k0_t25 : Fin (k0_t25_loop i).trips) : BitVec 32 :=
  let c1_i32_426 : BitVec 32 := 1#32
  let c1_i32_428 : BitVec 32 := 1#32
  let arg24 : BitVec 32 := Scf.iv c1_i32_426 c1_i32_428 k0_t25
  let c512_i32_432 : BitVec 32 := 512#32
  let v2896 : BitVec 32 := Scalar.muli arg24 c512_i32_432
  v2896
def k0_off43 (i : grid0.Coords) (k0_t25 : Fin (k0_t25_loop i).trips) : Fin 2 → Nat :=
  let c1_i32_426 : BitVec 32 := 1#32
  let c1_i32_428 : BitVec 32 := 1#32
  let arg24 : BitVec 32 := Scf.iv c1_i32_426 c1_i32_428 k0_t25
  let c512_i32_432 : BitVec 32 := 512#32
  let v2896 : BitVec 32 := Scalar.muli arg24 c512_i32_432
  let v2897 : BitVec 32 := v2896
  let v2898 : Index := Scalar.indexCast v2897
  let c0_433 : Index := 0#32
  ![v2898.toNat, 0]
def k0_off44 (i : grid0.Coords) (k0_t25 : Fin (k0_t25_loop i).trips) : Fin 2 → Nat :=
  let c0_494 : Index := 0#32
  let c1_i32_426 : BitVec 32 := 1#32
  let c1_i32_428 : BitVec 32 := 1#32
  let arg24 : BitVec 32 := Scf.iv c1_i32_426 c1_i32_428 k0_t25
  let c512_i32_432 : BitVec 32 := 512#32
  let v2896 : BitVec 32 := Scalar.muli arg24 c512_i32_432
  let v2897 : BitVec 32 := v2896
  let v5072 : Index := Scalar.indexCast v2897
  ![0, v5072.toNat]
@[reducible] def k0_t26_loop (i : grid0.Coords) : Scf.Loop 32 :=
  let c1_i32_426 : BitVec 32 := 1#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_424 : BitVec 32 := 1#32
  let v2884 : BitVec 32 := Scalar.subi v275 c1_i32_424
  let v2885 : BitVec 32 := Scalar.subi v2884 c1_i32_426
  let c1_i32_427 : BitVec 32 := 1#32
  let v2887 : BitVec 32 := Scalar.divsi v2885 c1_i32_427
  let v2888 : BitVec 32 := Scalar.muli v2887 c1_i32_427
  let v2889 : BitVec 32 := Scalar.addi c1_i32_426 v2888
  let v2886 : BitVec 32 := Scalar.addi c1_i32_426 v2885
  let c1_i32_429 : BitVec 32 := 1#32
  ⟨v2889, v2886, c1_i32_429⟩
def k0_mult57 (i : grid0.Coords) (k0_t26 : Fin (k0_t26_loop i).trips) : BitVec 32 :=
  let c1_i32_426 : BitVec 32 := 1#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_424 : BitVec 32 := 1#32
  let v2884 : BitVec 32 := Scalar.subi v275 c1_i32_424
  let v2885 : BitVec 32 := Scalar.subi v2884 c1_i32_426
  let c1_i32_427 : BitVec 32 := 1#32
  let v2887 : BitVec 32 := Scalar.divsi v2885 c1_i32_427
  let v2888 : BitVec 32 := Scalar.muli v2887 c1_i32_427
  let v2889 : BitVec 32 := Scalar.addi c1_i32_426 v2888
  let c1_i32_429 : BitVec 32 := 1#32
  let arg24 : BitVec 32 := Scf.iv v2889 c1_i32_429 k0_t26
  let c512_i32_432 : BitVec 32 := 512#32
  let v2896 : BitVec 32 := Scalar.muli arg24 c512_i32_432
  v2896
def k0_off45 (i : grid0.Coords) (k0_t26 : Fin (k0_t26_loop i).trips) : Fin 2 → Nat :=
  let c1_i32_426 : BitVec 32 := 1#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_424 : BitVec 32 := 1#32
  let v2884 : BitVec 32 := Scalar.subi v275 c1_i32_424
  let v2885 : BitVec 32 := Scalar.subi v2884 c1_i32_426
  let c1_i32_427 : BitVec 32 := 1#32
  let v2887 : BitVec 32 := Scalar.divsi v2885 c1_i32_427
  let v2888 : BitVec 32 := Scalar.muli v2887 c1_i32_427
  let v2889 : BitVec 32 := Scalar.addi c1_i32_426 v2888
  let c1_i32_429 : BitVec 32 := 1#32
  let arg24 : BitVec 32 := Scf.iv v2889 c1_i32_429 k0_t26
  let c512_i32_432 : BitVec 32 := 512#32
  let v2896 : BitVec 32 := Scalar.muli arg24 c512_i32_432
  let v2897 : BitVec 32 := v2896
  let v2898 : Index := Scalar.indexCast v2897
  let c0_433 : Index := 0#32
  ![v2898.toNat, 0]
def k0_off46 (i : grid0.Coords) (k0_t26 : Fin (k0_t26_loop i).trips) : Fin 2 → Nat :=
  let c0_494 : Index := 0#32
  let c1_i32_426 : BitVec 32 := 1#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_424 : BitVec 32 := 1#32
  let v2884 : BitVec 32 := Scalar.subi v275 c1_i32_424
  let v2885 : BitVec 32 := Scalar.subi v2884 c1_i32_426
  let c1_i32_427 : BitVec 32 := 1#32
  let v2887 : BitVec 32 := Scalar.divsi v2885 c1_i32_427
  let v2888 : BitVec 32 := Scalar.muli v2887 c1_i32_427
  let v2889 : BitVec 32 := Scalar.addi c1_i32_426 v2888
  let c1_i32_429 : BitVec 32 := 1#32
  let arg24 : BitVec 32 := Scf.iv v2889 c1_i32_429 k0_t26
  let c512_i32_432 : BitVec 32 := 512#32
  let v2896 : BitVec 32 := Scalar.muli arg24 c512_i32_432
  let v2897 : BitVec 32 := v2896
  let v5072 : Index := Scalar.indexCast v2897
  ![0, v5072.toNat]
def k0_cond8 (i : grid0.Coords) : BitVec 1 :=
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c2_i32 : BitVec 32 := 2#32
  let v2890 : BitVec 1 := Scalar.cmpi .sge v275 c2_i32
  let v2891 : BitVec 32 := Scalar.extui v2890
  let c0_i32_430 : BitVec 32 := 0#32
  let v2892 : BitVec 1 := Scalar.cmpi .ne v2891 c0_i32_430
  v2892

@[reducible] def k0_t27_loop (i : grid0.Coords) : Scf.Loop 32 :=
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_435 : BitVec 32 := 1#32
  ⟨v2896, v2901, c1_i32_435⟩
def k0_mult58 (i : grid0.Coords) (k0_t27 : Fin (k0_t27_loop i).trips) : BitVec 32 :=
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  v2902
def k0_off47 (i : grid0.Coords) (k0_t27 : Fin (k0_t27_loop i).trips) : Fin 2 → Nat :=
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2906 : Index := Scalar.indexCast v2903
  let c0_439 : Index := 0#32
  ![v2906.toNat, 0]
def k0_mult59 (i : grid0.Coords) (k0_t27 : Fin (k0_t27_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c0_i32_448 : BitVec 32 := 0#32
  let v2928 : BitVec 32 := Scalar.subi v2905 c0_i32_448
  let c0_i32_449 : BitVec 32 := 0#32
  let v2929 : BitVec 32 := Scalar.maxsi v2928 c0_i32_449
  v2929
def k0_off48 (i : grid0.Coords) (k0_t27 : Fin (k0_t27_loop i).trips) (c0_i32_448 : BitVec 32) : Fin 2 → Nat :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let v2928 : BitVec 32 := Scalar.subi v2905 c0_i32_448
  let c0_i32_449 : BitVec 32 := 0#32
  let v2929 : BitVec 32 := Scalar.maxsi v2928 c0_i32_449
  let v2930 : BitVec 32 := v2929
  let v2931 : Index := Scalar.indexCast v2930
  let c0_450 : Index := 0#32
  ![v2931.toNat, 0]
def k0_mult60 (i : grid0.Coords) (k0_t27 : Fin (k0_t27_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c128_i32_451 : BitVec 32 := 128#32
  let v2933 : BitVec 32 := Scalar.subi v2905 c128_i32_451
  let c0_i32_452 : BitVec 32 := 0#32
  let v2934 : BitVec 32 := Scalar.maxsi v2933 c0_i32_452
  v2934
def k0_mult61 (i : grid0.Coords) (k0_t27 : Fin (k0_t27_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c0_i32_457 : BitVec 32 := 0#32
  let v3074 : BitVec 32 := Scalar.subi v2905 c0_i32_457
  let c0_i32_458 : BitVec 32 := 0#32
  let v3075 : BitVec 32 := Scalar.maxsi v3074 c0_i32_458
  v3075
def k0_off49 (i : grid0.Coords) (k0_t27 : Fin (k0_t27_loop i).trips) (c0_i32_457 : BitVec 32) : Fin 2 → Nat :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let v3074 : BitVec 32 := Scalar.subi v2905 c0_i32_457
  let c0_i32_458 : BitVec 32 := 0#32
  let v3075 : BitVec 32 := Scalar.maxsi v3074 c0_i32_458
  let v3076 : BitVec 32 := v3075
  let v3077 : Index := Scalar.indexCast v3076
  let c128_459 : Index := 128#32
  ![v3077.toNat, 128]
def k0_mult62 (i : grid0.Coords) (k0_t27 : Fin (k0_t27_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c128_i32_460 : BitVec 32 := 128#32
  let v3079 : BitVec 32 := Scalar.subi v2905 c128_i32_460
  let c0_i32_461 : BitVec 32 := 0#32
  let v3080 : BitVec 32 := Scalar.maxsi v3079 c0_i32_461
  v3080
def k0_mult63 (i : grid0.Coords) (k0_t27 : Fin (k0_t27_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c0_i32_466 : BitVec 32 := 0#32
  let v3220 : BitVec 32 := Scalar.subi v2905 c0_i32_466
  let c0_i32_467 : BitVec 32 := 0#32
  let v3221 : BitVec 32 := Scalar.maxsi v3220 c0_i32_467
  v3221
def k0_off50 (i : grid0.Coords) (k0_t27 : Fin (k0_t27_loop i).trips) (c0_i32_466 : BitVec 32) : Fin 2 → Nat :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let v3220 : BitVec 32 := Scalar.subi v2905 c0_i32_466
  let c0_i32_467 : BitVec 32 := 0#32
  let v3221 : BitVec 32 := Scalar.maxsi v3220 c0_i32_467
  let v3222 : BitVec 32 := v3221
  let v3223 : Index := Scalar.indexCast v3222
  let c256_468 : Index := 256#32
  ![v3223.toNat, 256]
def k0_mult64 (i : grid0.Coords) (k0_t27 : Fin (k0_t27_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c128_i32_469 : BitVec 32 := 128#32
  let v3225 : BitVec 32 := Scalar.subi v2905 c128_i32_469
  let c0_i32_470 : BitVec 32 := 0#32
  let v3226 : BitVec 32 := Scalar.maxsi v3225 c0_i32_470
  v3226
def k0_mult65 (i : grid0.Coords) (k0_t27 : Fin (k0_t27_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c0_i32_475 : BitVec 32 := 0#32
  let v3366 : BitVec 32 := Scalar.subi v2905 c0_i32_475
  let c0_i32_476 : BitVec 32 := 0#32
  let v3367 : BitVec 32 := Scalar.maxsi v3366 c0_i32_476
  v3367
def k0_off51 (i : grid0.Coords) (k0_t27 : Fin (k0_t27_loop i).trips) (c0_i32_475 : BitVec 32) : Fin 2 → Nat :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let v3366 : BitVec 32 := Scalar.subi v2905 c0_i32_475
  let c0_i32_476 : BitVec 32 := 0#32
  let v3367 : BitVec 32 := Scalar.maxsi v3366 c0_i32_476
  let v3368 : BitVec 32 := v3367
  let v3369 : Index := Scalar.indexCast v3368
  let c384_477 : Index := 384#32
  ![v3369.toNat, 384]
def k0_mult66 (i : grid0.Coords) (k0_t27 : Fin (k0_t27_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c128_i32_478 : BitVec 32 := 128#32
  let v3371 : BitVec 32 := Scalar.subi v2905 c128_i32_478
  let c0_i32_479 : BitVec 32 := 0#32
  let v3372 : BitVec 32 := Scalar.maxsi v3371 c0_i32_479
  v3372
def k0_mult67 (i : grid0.Coords) (k0_t27 : Fin (k0_t27_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c0_i32_484 : BitVec 32 := 0#32
  let v3512 : BitVec 32 := Scalar.subi v2905 c0_i32_484
  let c0_i32_485 : BitVec 32 := 0#32
  let v3513 : BitVec 32 := Scalar.maxsi v3512 c0_i32_485
  v3513
def k0_off52 (i : grid0.Coords) (k0_t27 : Fin (k0_t27_loop i).trips) (c0_i32_484 : BitVec 32) : Fin 2 → Nat :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let v3512 : BitVec 32 := Scalar.subi v2905 c0_i32_484
  let c0_i32_485 : BitVec 32 := 0#32
  let v3513 : BitVec 32 := Scalar.maxsi v3512 c0_i32_485
  let v3514 : BitVec 32 := v3513
  let v3515 : Index := Scalar.indexCast v3514
  let c512_486 : Index := 512#32
  ![v3515.toNat, 512]
def k0_mult68 (i : grid0.Coords) (k0_t27 : Fin (k0_t27_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c128_i32_487 : BitVec 32 := 128#32
  let v3517 : BitVec 32 := Scalar.subi v2905 c128_i32_487
  let c0_i32_488 : BitVec 32 := 0#32
  let v3518 : BitVec 32 := Scalar.maxsi v3517 c0_i32_488
  v3518
def k0_mult69 (i : grid0.Coords) (k0_t27 : Fin (k0_t27_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c0_i32_493 : BitVec 32 := 0#32
  let v3658 : BitVec 32 := Scalar.subi v2905 c0_i32_493
  let c0_i32_494 : BitVec 32 := 0#32
  let v3659 : BitVec 32 := Scalar.maxsi v3658 c0_i32_494
  v3659
def k0_off53 (i : grid0.Coords) (k0_t27 : Fin (k0_t27_loop i).trips) (c0_i32_493 : BitVec 32) : Fin 2 → Nat :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let v3658 : BitVec 32 := Scalar.subi v2905 c0_i32_493
  let c0_i32_494 : BitVec 32 := 0#32
  let v3659 : BitVec 32 := Scalar.maxsi v3658 c0_i32_494
  let v3660 : BitVec 32 := v3659
  let v3661 : Index := Scalar.indexCast v3660
  let c640_495 : Index := 640#32
  ![v3661.toNat, 640]
def k0_mult70 (i : grid0.Coords) (k0_t27 : Fin (k0_t27_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c128_i32_496 : BitVec 32 := 128#32
  let v3663 : BitVec 32 := Scalar.subi v2905 c128_i32_496
  let c0_i32_497 : BitVec 32 := 0#32
  let v3664 : BitVec 32 := Scalar.maxsi v3663 c0_i32_497
  v3664
def k0_mult71 (i : grid0.Coords) (k0_t27 : Fin (k0_t27_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c0_i32_502 : BitVec 32 := 0#32
  let v3804 : BitVec 32 := Scalar.subi v2905 c0_i32_502
  let c0_i32_503 : BitVec 32 := 0#32
  let v3805 : BitVec 32 := Scalar.maxsi v3804 c0_i32_503
  v3805
def k0_off54 (i : grid0.Coords) (k0_t27 : Fin (k0_t27_loop i).trips) (c0_i32_502 : BitVec 32) : Fin 2 → Nat :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let v3804 : BitVec 32 := Scalar.subi v2905 c0_i32_502
  let c0_i32_503 : BitVec 32 := 0#32
  let v3805 : BitVec 32 := Scalar.maxsi v3804 c0_i32_503
  let v3806 : BitVec 32 := v3805
  let v3807 : Index := Scalar.indexCast v3806
  let c768_504 : Index := 768#32
  ![v3807.toNat, 768]
def k0_mult72 (i : grid0.Coords) (k0_t27 : Fin (k0_t27_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c128_i32_505 : BitVec 32 := 128#32
  let v3809 : BitVec 32 := Scalar.subi v2905 c128_i32_505
  let c0_i32_506 : BitVec 32 := 0#32
  let v3810 : BitVec 32 := Scalar.maxsi v3809 c0_i32_506
  v3810
def k0_mult73 (i : grid0.Coords) (k0_t27 : Fin (k0_t27_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c0_i32_511 : BitVec 32 := 0#32
  let v3950 : BitVec 32 := Scalar.subi v2905 c0_i32_511
  let c0_i32_512 : BitVec 32 := 0#32
  let v3951 : BitVec 32 := Scalar.maxsi v3950 c0_i32_512
  v3951
def k0_off55 (i : grid0.Coords) (k0_t27 : Fin (k0_t27_loop i).trips) (c0_i32_511 : BitVec 32) : Fin 2 → Nat :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let v3950 : BitVec 32 := Scalar.subi v2905 c0_i32_511
  let c0_i32_512 : BitVec 32 := 0#32
  let v3951 : BitVec 32 := Scalar.maxsi v3950 c0_i32_512
  let v3952 : BitVec 32 := v3951
  let v3953 : Index := Scalar.indexCast v3952
  let c896_513 : Index := 896#32
  ![v3953.toNat, 896]
def k0_mult74 (i : grid0.Coords) (k0_t27 : Fin (k0_t27_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c128_i32_514 : BitVec 32 := 128#32
  let v3955 : BitVec 32 := Scalar.subi v2905 c128_i32_514
  let c0_i32_515 : BitVec 32 := 0#32
  let v3956 : BitVec 32 := Scalar.maxsi v3955 c0_i32_515
  v3956
def k0_mult75 (i : grid0.Coords) (k0_t27 : Fin (k0_t27_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c0_i32_520 : BitVec 32 := 0#32
  let v4096 : BitVec 32 := Scalar.subi v2905 c0_i32_520
  let c0_i32_521 : BitVec 32 := 0#32
  let v4097 : BitVec 32 := Scalar.maxsi v4096 c0_i32_521
  v4097
def k0_off56 (i : grid0.Coords) (k0_t27 : Fin (k0_t27_loop i).trips) (c0_i32_520 : BitVec 32) : Fin 2 → Nat :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let v4096 : BitVec 32 := Scalar.subi v2905 c0_i32_520
  let c0_i32_521 : BitVec 32 := 0#32
  let v4097 : BitVec 32 := Scalar.maxsi v4096 c0_i32_521
  let v4098 : BitVec 32 := v4097
  let v4099 : Index := Scalar.indexCast v4098
  let c1024_522 : Index := 1024#32
  ![v4099.toNat, 1024]
def k0_mult76 (i : grid0.Coords) (k0_t27 : Fin (k0_t27_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c128_i32_523 : BitVec 32 := 128#32
  let v4101 : BitVec 32 := Scalar.subi v2905 c128_i32_523
  let c0_i32_524 : BitVec 32 := 0#32
  let v4102 : BitVec 32 := Scalar.maxsi v4101 c0_i32_524
  v4102
def k0_mult77 (i : grid0.Coords) (k0_t27 : Fin (k0_t27_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c0_i32_529 : BitVec 32 := 0#32
  let v4242 : BitVec 32 := Scalar.subi v2905 c0_i32_529
  let c0_i32_530 : BitVec 32 := 0#32
  let v4243 : BitVec 32 := Scalar.maxsi v4242 c0_i32_530
  v4243
def k0_off57 (i : grid0.Coords) (k0_t27 : Fin (k0_t27_loop i).trips) (c0_i32_529 : BitVec 32) : Fin 2 → Nat :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let v4242 : BitVec 32 := Scalar.subi v2905 c0_i32_529
  let c0_i32_530 : BitVec 32 := 0#32
  let v4243 : BitVec 32 := Scalar.maxsi v4242 c0_i32_530
  let v4244 : BitVec 32 := v4243
  let v4245 : Index := Scalar.indexCast v4244
  let c1152_531 : Index := 1152#32
  ![v4245.toNat, 1152]
def k0_mult78 (i : grid0.Coords) (k0_t27 : Fin (k0_t27_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c128_i32_532 : BitVec 32 := 128#32
  let v4247 : BitVec 32 := Scalar.subi v2905 c128_i32_532
  let c0_i32_533 : BitVec 32 := 0#32
  let v4248 : BitVec 32 := Scalar.maxsi v4247 c0_i32_533
  v4248
def k0_mult79 (i : grid0.Coords) (k0_t27 : Fin (k0_t27_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c0_i32_538 : BitVec 32 := 0#32
  let v4388 : BitVec 32 := Scalar.subi v2905 c0_i32_538
  let c0_i32_539 : BitVec 32 := 0#32
  let v4389 : BitVec 32 := Scalar.maxsi v4388 c0_i32_539
  v4389
def k0_off58 (i : grid0.Coords) (k0_t27 : Fin (k0_t27_loop i).trips) (c0_i32_538 : BitVec 32) : Fin 2 → Nat :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let v4388 : BitVec 32 := Scalar.subi v2905 c0_i32_538
  let c0_i32_539 : BitVec 32 := 0#32
  let v4389 : BitVec 32 := Scalar.maxsi v4388 c0_i32_539
  let v4390 : BitVec 32 := v4389
  let v4391 : Index := Scalar.indexCast v4390
  let c1280_540 : Index := 1280#32
  ![v4391.toNat, 1280]
def k0_mult80 (i : grid0.Coords) (k0_t27 : Fin (k0_t27_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c128_i32_541 : BitVec 32 := 128#32
  let v4393 : BitVec 32 := Scalar.subi v2905 c128_i32_541
  let c0_i32_542 : BitVec 32 := 0#32
  let v4394 : BitVec 32 := Scalar.maxsi v4393 c0_i32_542
  v4394
def k0_mult81 (i : grid0.Coords) (k0_t27 : Fin (k0_t27_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c0_i32_547 : BitVec 32 := 0#32
  let v4534 : BitVec 32 := Scalar.subi v2905 c0_i32_547
  let c0_i32_548 : BitVec 32 := 0#32
  let v4535 : BitVec 32 := Scalar.maxsi v4534 c0_i32_548
  v4535
def k0_off59 (i : grid0.Coords) (k0_t27 : Fin (k0_t27_loop i).trips) (c0_i32_547 : BitVec 32) : Fin 2 → Nat :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let v4534 : BitVec 32 := Scalar.subi v2905 c0_i32_547
  let c0_i32_548 : BitVec 32 := 0#32
  let v4535 : BitVec 32 := Scalar.maxsi v4534 c0_i32_548
  let v4536 : BitVec 32 := v4535
  let v4537 : Index := Scalar.indexCast v4536
  let c1408_549 : Index := 1408#32
  ![v4537.toNat, 1408]
def k0_mult82 (i : grid0.Coords) (k0_t27 : Fin (k0_t27_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c128_i32_550 : BitVec 32 := 128#32
  let v4539 : BitVec 32 := Scalar.subi v2905 c128_i32_550
  let c0_i32_551 : BitVec 32 := 0#32
  let v4540 : BitVec 32 := Scalar.maxsi v4539 c0_i32_551
  v4540
def k0_mult83 (i : grid0.Coords) (k0_t27 : Fin (k0_t27_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c0_i32_556 : BitVec 32 := 0#32
  let v4680 : BitVec 32 := Scalar.subi v2905 c0_i32_556
  let c0_i32_557 : BitVec 32 := 0#32
  let v4681 : BitVec 32 := Scalar.maxsi v4680 c0_i32_557
  v4681
def k0_off60 (i : grid0.Coords) (k0_t27 : Fin (k0_t27_loop i).trips) (c0_i32_556 : BitVec 32) : Fin 2 → Nat :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let v4680 : BitVec 32 := Scalar.subi v2905 c0_i32_556
  let c0_i32_557 : BitVec 32 := 0#32
  let v4681 : BitVec 32 := Scalar.maxsi v4680 c0_i32_557
  let v4682 : BitVec 32 := v4681
  let v4683 : Index := Scalar.indexCast v4682
  let c1536_558 : Index := 1536#32
  ![v4683.toNat, 1536]
def k0_mult84 (i : grid0.Coords) (k0_t27 : Fin (k0_t27_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c128_i32_559 : BitVec 32 := 128#32
  let v4685 : BitVec 32 := Scalar.subi v2905 c128_i32_559
  let c0_i32_560 : BitVec 32 := 0#32
  let v4686 : BitVec 32 := Scalar.maxsi v4685 c0_i32_560
  v4686
def k0_mult85 (i : grid0.Coords) (k0_t27 : Fin (k0_t27_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c0_i32_565 : BitVec 32 := 0#32
  let v4826 : BitVec 32 := Scalar.subi v2905 c0_i32_565
  let c0_i32_566 : BitVec 32 := 0#32
  let v4827 : BitVec 32 := Scalar.maxsi v4826 c0_i32_566
  v4827
def k0_off61 (i : grid0.Coords) (k0_t27 : Fin (k0_t27_loop i).trips) (c0_i32_565 : BitVec 32) : Fin 2 → Nat :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let v4826 : BitVec 32 := Scalar.subi v2905 c0_i32_565
  let c0_i32_566 : BitVec 32 := 0#32
  let v4827 : BitVec 32 := Scalar.maxsi v4826 c0_i32_566
  let v4828 : BitVec 32 := v4827
  let v4829 : Index := Scalar.indexCast v4828
  let c1664_567 : Index := 1664#32
  ![v4829.toNat, 1664]
def k0_mult86 (i : grid0.Coords) (k0_t27 : Fin (k0_t27_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c128_i32_568 : BitVec 32 := 128#32
  let v4831 : BitVec 32 := Scalar.subi v2905 c128_i32_568
  let c0_i32_569 : BitVec 32 := 0#32
  let v4832 : BitVec 32 := Scalar.maxsi v4831 c0_i32_569
  v4832
def k0_mult87 (i : grid0.Coords) (k0_t27 : Fin (k0_t27_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c0_i32_574 : BitVec 32 := 0#32
  let v4972 : BitVec 32 := Scalar.subi v2905 c0_i32_574
  let c0_i32_575 : BitVec 32 := 0#32
  let v4973 : BitVec 32 := Scalar.maxsi v4972 c0_i32_575
  v4973
def k0_off62 (i : grid0.Coords) (k0_t27 : Fin (k0_t27_loop i).trips) (c0_i32_574 : BitVec 32) : Fin 2 → Nat :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let v4972 : BitVec 32 := Scalar.subi v2905 c0_i32_574
  let c0_i32_575 : BitVec 32 := 0#32
  let v4973 : BitVec 32 := Scalar.maxsi v4972 c0_i32_575
  let v4974 : BitVec 32 := v4973
  let v4975 : Index := Scalar.indexCast v4974
  let c1792_576 : Index := 1792#32
  ![v4975.toNat, 1792]
def k0_mult88 (i : grid0.Coords) (k0_t27 : Fin (k0_t27_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c128_i32_577 : BitVec 32 := 128#32
  let v4977 : BitVec 32 := Scalar.subi v2905 c128_i32_577
  let c0_i32_578 : BitVec 32 := 0#32
  let v4978 : BitVec 32 := Scalar.maxsi v4977 c0_i32_578
  v4978
def k0_mult89 (i : grid0.Coords) (k0_t27 : Fin (k0_t27_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c0_i32_583 : BitVec 32 := 0#32
  let v5118 : BitVec 32 := Scalar.subi v2905 c0_i32_583
  let c0_i32_584 : BitVec 32 := 0#32
  let v5119 : BitVec 32 := Scalar.maxsi v5118 c0_i32_584
  v5119
def k0_off63 (i : grid0.Coords) (k0_t27 : Fin (k0_t27_loop i).trips) (c0_i32_583 : BitVec 32) : Fin 2 → Nat :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let v5118 : BitVec 32 := Scalar.subi v2905 c0_i32_583
  let c0_i32_584 : BitVec 32 := 0#32
  let v5119 : BitVec 32 := Scalar.maxsi v5118 c0_i32_584
  let v5120 : BitVec 32 := v5119
  let v5121 : Index := Scalar.indexCast v5120
  let c1920_585 : Index := 1920#32
  ![v5121.toNat, 1920]
def k0_mult90 (i : grid0.Coords) (k0_t27 : Fin (k0_t27_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c128_i32_586 : BitVec 32 := 128#32
  let v5123 : BitVec 32 := Scalar.subi v2905 c128_i32_586
  let c0_i32_587 : BitVec 32 := 0#32
  let v5124 : BitVec 32 := Scalar.maxsi v5123 c0_i32_587
  v5124
def k0_off64 (i : grid0.Coords) (k0_t27 : Fin (k0_t27_loop i).trips) : Fin 2 → Nat :=
  let c0_596 : Index := 0#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let c1_i32_435 : BitVec 32 := 1#32
  let arg24 : BitVec 32 := Scf.iv v2896 c1_i32_435 k0_t27
  let c512_i32_437 : BitVec 32 := 512#32
  let v2902 : BitVec 32 := Scalar.muli arg24 c512_i32_437
  let v2903 : BitVec 32 := v2902
  let v5272 : Index := Scalar.indexCast v2903
  ![0, v5272.toNat]
@[reducible] def k0_t28_loop (i : grid0.Coords) : Scf.Loop 32 :=
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let v2898 : BitVec 32 := Scalar.addi v2896 v2897
  let c1_i32_436 : BitVec 32 := 1#32
  ⟨v2901, v2898, c1_i32_436⟩
def k0_mult91 (i : grid0.Coords) (k0_t28 : Fin (k0_t28_loop i).trips) : BitVec 32 :=
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  v2902
def k0_off65 (i : grid0.Coords) (k0_t28 : Fin (k0_t28_loop i).trips) : Fin 2 → Nat :=
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2906 : Index := Scalar.indexCast v2903
  let c0_439 : Index := 0#32
  ![v2906.toNat, 0]
def k0_mult92 (i : grid0.Coords) (k0_t28 : Fin (k0_t28_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c0_i32_448 : BitVec 32 := 0#32
  let v2928 : BitVec 32 := Scalar.subi v2905 c0_i32_448
  let c0_i32_449 : BitVec 32 := 0#32
  let v2929 : BitVec 32 := Scalar.maxsi v2928 c0_i32_449
  v2929
def k0_off66 (i : grid0.Coords) (k0_t28 : Fin (k0_t28_loop i).trips) (c0_i32_448 : BitVec 32) : Fin 2 → Nat :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let v2928 : BitVec 32 := Scalar.subi v2905 c0_i32_448
  let c0_i32_449 : BitVec 32 := 0#32
  let v2929 : BitVec 32 := Scalar.maxsi v2928 c0_i32_449
  let v2930 : BitVec 32 := v2929
  let v2931 : Index := Scalar.indexCast v2930
  let c0_450 : Index := 0#32
  ![v2931.toNat, 0]
def k0_mult93 (i : grid0.Coords) (k0_t28 : Fin (k0_t28_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c128_i32_451 : BitVec 32 := 128#32
  let v2933 : BitVec 32 := Scalar.subi v2905 c128_i32_451
  let c0_i32_452 : BitVec 32 := 0#32
  let v2934 : BitVec 32 := Scalar.maxsi v2933 c0_i32_452
  v2934
def k0_mult94 (i : grid0.Coords) (k0_t28 : Fin (k0_t28_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c0_i32_457 : BitVec 32 := 0#32
  let v3074 : BitVec 32 := Scalar.subi v2905 c0_i32_457
  let c0_i32_458 : BitVec 32 := 0#32
  let v3075 : BitVec 32 := Scalar.maxsi v3074 c0_i32_458
  v3075
def k0_off67 (i : grid0.Coords) (k0_t28 : Fin (k0_t28_loop i).trips) (c0_i32_457 : BitVec 32) : Fin 2 → Nat :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let v3074 : BitVec 32 := Scalar.subi v2905 c0_i32_457
  let c0_i32_458 : BitVec 32 := 0#32
  let v3075 : BitVec 32 := Scalar.maxsi v3074 c0_i32_458
  let v3076 : BitVec 32 := v3075
  let v3077 : Index := Scalar.indexCast v3076
  let c128_459 : Index := 128#32
  ![v3077.toNat, 128]
def k0_mult95 (i : grid0.Coords) (k0_t28 : Fin (k0_t28_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c128_i32_460 : BitVec 32 := 128#32
  let v3079 : BitVec 32 := Scalar.subi v2905 c128_i32_460
  let c0_i32_461 : BitVec 32 := 0#32
  let v3080 : BitVec 32 := Scalar.maxsi v3079 c0_i32_461
  v3080
def k0_mult96 (i : grid0.Coords) (k0_t28 : Fin (k0_t28_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c0_i32_466 : BitVec 32 := 0#32
  let v3220 : BitVec 32 := Scalar.subi v2905 c0_i32_466
  let c0_i32_467 : BitVec 32 := 0#32
  let v3221 : BitVec 32 := Scalar.maxsi v3220 c0_i32_467
  v3221
def k0_off68 (i : grid0.Coords) (k0_t28 : Fin (k0_t28_loop i).trips) (c0_i32_466 : BitVec 32) : Fin 2 → Nat :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let v3220 : BitVec 32 := Scalar.subi v2905 c0_i32_466
  let c0_i32_467 : BitVec 32 := 0#32
  let v3221 : BitVec 32 := Scalar.maxsi v3220 c0_i32_467
  let v3222 : BitVec 32 := v3221
  let v3223 : Index := Scalar.indexCast v3222
  let c256_468 : Index := 256#32
  ![v3223.toNat, 256]
def k0_mult97 (i : grid0.Coords) (k0_t28 : Fin (k0_t28_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c128_i32_469 : BitVec 32 := 128#32
  let v3225 : BitVec 32 := Scalar.subi v2905 c128_i32_469
  let c0_i32_470 : BitVec 32 := 0#32
  let v3226 : BitVec 32 := Scalar.maxsi v3225 c0_i32_470
  v3226
def k0_mult98 (i : grid0.Coords) (k0_t28 : Fin (k0_t28_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c0_i32_475 : BitVec 32 := 0#32
  let v3366 : BitVec 32 := Scalar.subi v2905 c0_i32_475
  let c0_i32_476 : BitVec 32 := 0#32
  let v3367 : BitVec 32 := Scalar.maxsi v3366 c0_i32_476
  v3367
def k0_off69 (i : grid0.Coords) (k0_t28 : Fin (k0_t28_loop i).trips) (c0_i32_475 : BitVec 32) : Fin 2 → Nat :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let v3366 : BitVec 32 := Scalar.subi v2905 c0_i32_475
  let c0_i32_476 : BitVec 32 := 0#32
  let v3367 : BitVec 32 := Scalar.maxsi v3366 c0_i32_476
  let v3368 : BitVec 32 := v3367
  let v3369 : Index := Scalar.indexCast v3368
  let c384_477 : Index := 384#32
  ![v3369.toNat, 384]
def k0_mult99 (i : grid0.Coords) (k0_t28 : Fin (k0_t28_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c128_i32_478 : BitVec 32 := 128#32
  let v3371 : BitVec 32 := Scalar.subi v2905 c128_i32_478
  let c0_i32_479 : BitVec 32 := 0#32
  let v3372 : BitVec 32 := Scalar.maxsi v3371 c0_i32_479
  v3372
def k0_mult100 (i : grid0.Coords) (k0_t28 : Fin (k0_t28_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c0_i32_484 : BitVec 32 := 0#32
  let v3512 : BitVec 32 := Scalar.subi v2905 c0_i32_484
  let c0_i32_485 : BitVec 32 := 0#32
  let v3513 : BitVec 32 := Scalar.maxsi v3512 c0_i32_485
  v3513
def k0_off70 (i : grid0.Coords) (k0_t28 : Fin (k0_t28_loop i).trips) (c0_i32_484 : BitVec 32) : Fin 2 → Nat :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let v3512 : BitVec 32 := Scalar.subi v2905 c0_i32_484
  let c0_i32_485 : BitVec 32 := 0#32
  let v3513 : BitVec 32 := Scalar.maxsi v3512 c0_i32_485
  let v3514 : BitVec 32 := v3513
  let v3515 : Index := Scalar.indexCast v3514
  let c512_486 : Index := 512#32
  ![v3515.toNat, 512]
def k0_mult101 (i : grid0.Coords) (k0_t28 : Fin (k0_t28_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c128_i32_487 : BitVec 32 := 128#32
  let v3517 : BitVec 32 := Scalar.subi v2905 c128_i32_487
  let c0_i32_488 : BitVec 32 := 0#32
  let v3518 : BitVec 32 := Scalar.maxsi v3517 c0_i32_488
  v3518
def k0_mult102 (i : grid0.Coords) (k0_t28 : Fin (k0_t28_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c0_i32_493 : BitVec 32 := 0#32
  let v3658 : BitVec 32 := Scalar.subi v2905 c0_i32_493
  let c0_i32_494 : BitVec 32 := 0#32
  let v3659 : BitVec 32 := Scalar.maxsi v3658 c0_i32_494
  v3659
def k0_off71 (i : grid0.Coords) (k0_t28 : Fin (k0_t28_loop i).trips) (c0_i32_493 : BitVec 32) : Fin 2 → Nat :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let v3658 : BitVec 32 := Scalar.subi v2905 c0_i32_493
  let c0_i32_494 : BitVec 32 := 0#32
  let v3659 : BitVec 32 := Scalar.maxsi v3658 c0_i32_494
  let v3660 : BitVec 32 := v3659
  let v3661 : Index := Scalar.indexCast v3660
  let c640_495 : Index := 640#32
  ![v3661.toNat, 640]
def k0_mult103 (i : grid0.Coords) (k0_t28 : Fin (k0_t28_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c128_i32_496 : BitVec 32 := 128#32
  let v3663 : BitVec 32 := Scalar.subi v2905 c128_i32_496
  let c0_i32_497 : BitVec 32 := 0#32
  let v3664 : BitVec 32 := Scalar.maxsi v3663 c0_i32_497
  v3664
def k0_mult104 (i : grid0.Coords) (k0_t28 : Fin (k0_t28_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c0_i32_502 : BitVec 32 := 0#32
  let v3804 : BitVec 32 := Scalar.subi v2905 c0_i32_502
  let c0_i32_503 : BitVec 32 := 0#32
  let v3805 : BitVec 32 := Scalar.maxsi v3804 c0_i32_503
  v3805
def k0_off72 (i : grid0.Coords) (k0_t28 : Fin (k0_t28_loop i).trips) (c0_i32_502 : BitVec 32) : Fin 2 → Nat :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let v3804 : BitVec 32 := Scalar.subi v2905 c0_i32_502
  let c0_i32_503 : BitVec 32 := 0#32
  let v3805 : BitVec 32 := Scalar.maxsi v3804 c0_i32_503
  let v3806 : BitVec 32 := v3805
  let v3807 : Index := Scalar.indexCast v3806
  let c768_504 : Index := 768#32
  ![v3807.toNat, 768]
def k0_mult105 (i : grid0.Coords) (k0_t28 : Fin (k0_t28_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c128_i32_505 : BitVec 32 := 128#32
  let v3809 : BitVec 32 := Scalar.subi v2905 c128_i32_505
  let c0_i32_506 : BitVec 32 := 0#32
  let v3810 : BitVec 32 := Scalar.maxsi v3809 c0_i32_506
  v3810
def k0_mult106 (i : grid0.Coords) (k0_t28 : Fin (k0_t28_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c0_i32_511 : BitVec 32 := 0#32
  let v3950 : BitVec 32 := Scalar.subi v2905 c0_i32_511
  let c0_i32_512 : BitVec 32 := 0#32
  let v3951 : BitVec 32 := Scalar.maxsi v3950 c0_i32_512
  v3951
def k0_off73 (i : grid0.Coords) (k0_t28 : Fin (k0_t28_loop i).trips) (c0_i32_511 : BitVec 32) : Fin 2 → Nat :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let v3950 : BitVec 32 := Scalar.subi v2905 c0_i32_511
  let c0_i32_512 : BitVec 32 := 0#32
  let v3951 : BitVec 32 := Scalar.maxsi v3950 c0_i32_512
  let v3952 : BitVec 32 := v3951
  let v3953 : Index := Scalar.indexCast v3952
  let c896_513 : Index := 896#32
  ![v3953.toNat, 896]
def k0_mult107 (i : grid0.Coords) (k0_t28 : Fin (k0_t28_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c128_i32_514 : BitVec 32 := 128#32
  let v3955 : BitVec 32 := Scalar.subi v2905 c128_i32_514
  let c0_i32_515 : BitVec 32 := 0#32
  let v3956 : BitVec 32 := Scalar.maxsi v3955 c0_i32_515
  v3956
def k0_mult108 (i : grid0.Coords) (k0_t28 : Fin (k0_t28_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c0_i32_520 : BitVec 32 := 0#32
  let v4096 : BitVec 32 := Scalar.subi v2905 c0_i32_520
  let c0_i32_521 : BitVec 32 := 0#32
  let v4097 : BitVec 32 := Scalar.maxsi v4096 c0_i32_521
  v4097
def k0_off74 (i : grid0.Coords) (k0_t28 : Fin (k0_t28_loop i).trips) (c0_i32_520 : BitVec 32) : Fin 2 → Nat :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let v4096 : BitVec 32 := Scalar.subi v2905 c0_i32_520
  let c0_i32_521 : BitVec 32 := 0#32
  let v4097 : BitVec 32 := Scalar.maxsi v4096 c0_i32_521
  let v4098 : BitVec 32 := v4097
  let v4099 : Index := Scalar.indexCast v4098
  let c1024_522 : Index := 1024#32
  ![v4099.toNat, 1024]
def k0_mult109 (i : grid0.Coords) (k0_t28 : Fin (k0_t28_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c128_i32_523 : BitVec 32 := 128#32
  let v4101 : BitVec 32 := Scalar.subi v2905 c128_i32_523
  let c0_i32_524 : BitVec 32 := 0#32
  let v4102 : BitVec 32 := Scalar.maxsi v4101 c0_i32_524
  v4102
def k0_mult110 (i : grid0.Coords) (k0_t28 : Fin (k0_t28_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c0_i32_529 : BitVec 32 := 0#32
  let v4242 : BitVec 32 := Scalar.subi v2905 c0_i32_529
  let c0_i32_530 : BitVec 32 := 0#32
  let v4243 : BitVec 32 := Scalar.maxsi v4242 c0_i32_530
  v4243
def k0_off75 (i : grid0.Coords) (k0_t28 : Fin (k0_t28_loop i).trips) (c0_i32_529 : BitVec 32) : Fin 2 → Nat :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let v4242 : BitVec 32 := Scalar.subi v2905 c0_i32_529
  let c0_i32_530 : BitVec 32 := 0#32
  let v4243 : BitVec 32 := Scalar.maxsi v4242 c0_i32_530
  let v4244 : BitVec 32 := v4243
  let v4245 : Index := Scalar.indexCast v4244
  let c1152_531 : Index := 1152#32
  ![v4245.toNat, 1152]
def k0_mult111 (i : grid0.Coords) (k0_t28 : Fin (k0_t28_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c128_i32_532 : BitVec 32 := 128#32
  let v4247 : BitVec 32 := Scalar.subi v2905 c128_i32_532
  let c0_i32_533 : BitVec 32 := 0#32
  let v4248 : BitVec 32 := Scalar.maxsi v4247 c0_i32_533
  v4248
def k0_mult112 (i : grid0.Coords) (k0_t28 : Fin (k0_t28_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c0_i32_538 : BitVec 32 := 0#32
  let v4388 : BitVec 32 := Scalar.subi v2905 c0_i32_538
  let c0_i32_539 : BitVec 32 := 0#32
  let v4389 : BitVec 32 := Scalar.maxsi v4388 c0_i32_539
  v4389
def k0_off76 (i : grid0.Coords) (k0_t28 : Fin (k0_t28_loop i).trips) (c0_i32_538 : BitVec 32) : Fin 2 → Nat :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let v4388 : BitVec 32 := Scalar.subi v2905 c0_i32_538
  let c0_i32_539 : BitVec 32 := 0#32
  let v4389 : BitVec 32 := Scalar.maxsi v4388 c0_i32_539
  let v4390 : BitVec 32 := v4389
  let v4391 : Index := Scalar.indexCast v4390
  let c1280_540 : Index := 1280#32
  ![v4391.toNat, 1280]
def k0_mult113 (i : grid0.Coords) (k0_t28 : Fin (k0_t28_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c128_i32_541 : BitVec 32 := 128#32
  let v4393 : BitVec 32 := Scalar.subi v2905 c128_i32_541
  let c0_i32_542 : BitVec 32 := 0#32
  let v4394 : BitVec 32 := Scalar.maxsi v4393 c0_i32_542
  v4394
def k0_mult114 (i : grid0.Coords) (k0_t28 : Fin (k0_t28_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c0_i32_547 : BitVec 32 := 0#32
  let v4534 : BitVec 32 := Scalar.subi v2905 c0_i32_547
  let c0_i32_548 : BitVec 32 := 0#32
  let v4535 : BitVec 32 := Scalar.maxsi v4534 c0_i32_548
  v4535
def k0_off77 (i : grid0.Coords) (k0_t28 : Fin (k0_t28_loop i).trips) (c0_i32_547 : BitVec 32) : Fin 2 → Nat :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let v4534 : BitVec 32 := Scalar.subi v2905 c0_i32_547
  let c0_i32_548 : BitVec 32 := 0#32
  let v4535 : BitVec 32 := Scalar.maxsi v4534 c0_i32_548
  let v4536 : BitVec 32 := v4535
  let v4537 : Index := Scalar.indexCast v4536
  let c1408_549 : Index := 1408#32
  ![v4537.toNat, 1408]
def k0_mult115 (i : grid0.Coords) (k0_t28 : Fin (k0_t28_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c128_i32_550 : BitVec 32 := 128#32
  let v4539 : BitVec 32 := Scalar.subi v2905 c128_i32_550
  let c0_i32_551 : BitVec 32 := 0#32
  let v4540 : BitVec 32 := Scalar.maxsi v4539 c0_i32_551
  v4540
def k0_mult116 (i : grid0.Coords) (k0_t28 : Fin (k0_t28_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c0_i32_556 : BitVec 32 := 0#32
  let v4680 : BitVec 32 := Scalar.subi v2905 c0_i32_556
  let c0_i32_557 : BitVec 32 := 0#32
  let v4681 : BitVec 32 := Scalar.maxsi v4680 c0_i32_557
  v4681
def k0_off78 (i : grid0.Coords) (k0_t28 : Fin (k0_t28_loop i).trips) (c0_i32_556 : BitVec 32) : Fin 2 → Nat :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let v4680 : BitVec 32 := Scalar.subi v2905 c0_i32_556
  let c0_i32_557 : BitVec 32 := 0#32
  let v4681 : BitVec 32 := Scalar.maxsi v4680 c0_i32_557
  let v4682 : BitVec 32 := v4681
  let v4683 : Index := Scalar.indexCast v4682
  let c1536_558 : Index := 1536#32
  ![v4683.toNat, 1536]
def k0_mult117 (i : grid0.Coords) (k0_t28 : Fin (k0_t28_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c128_i32_559 : BitVec 32 := 128#32
  let v4685 : BitVec 32 := Scalar.subi v2905 c128_i32_559
  let c0_i32_560 : BitVec 32 := 0#32
  let v4686 : BitVec 32 := Scalar.maxsi v4685 c0_i32_560
  v4686
def k0_mult118 (i : grid0.Coords) (k0_t28 : Fin (k0_t28_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c0_i32_565 : BitVec 32 := 0#32
  let v4826 : BitVec 32 := Scalar.subi v2905 c0_i32_565
  let c0_i32_566 : BitVec 32 := 0#32
  let v4827 : BitVec 32 := Scalar.maxsi v4826 c0_i32_566
  v4827
def k0_off79 (i : grid0.Coords) (k0_t28 : Fin (k0_t28_loop i).trips) (c0_i32_565 : BitVec 32) : Fin 2 → Nat :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let v4826 : BitVec 32 := Scalar.subi v2905 c0_i32_565
  let c0_i32_566 : BitVec 32 := 0#32
  let v4827 : BitVec 32 := Scalar.maxsi v4826 c0_i32_566
  let v4828 : BitVec 32 := v4827
  let v4829 : Index := Scalar.indexCast v4828
  let c1664_567 : Index := 1664#32
  ![v4829.toNat, 1664]
def k0_mult119 (i : grid0.Coords) (k0_t28 : Fin (k0_t28_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c128_i32_568 : BitVec 32 := 128#32
  let v4831 : BitVec 32 := Scalar.subi v2905 c128_i32_568
  let c0_i32_569 : BitVec 32 := 0#32
  let v4832 : BitVec 32 := Scalar.maxsi v4831 c0_i32_569
  v4832
def k0_mult120 (i : grid0.Coords) (k0_t28 : Fin (k0_t28_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c0_i32_574 : BitVec 32 := 0#32
  let v4972 : BitVec 32 := Scalar.subi v2905 c0_i32_574
  let c0_i32_575 : BitVec 32 := 0#32
  let v4973 : BitVec 32 := Scalar.maxsi v4972 c0_i32_575
  v4973
def k0_off80 (i : grid0.Coords) (k0_t28 : Fin (k0_t28_loop i).trips) (c0_i32_574 : BitVec 32) : Fin 2 → Nat :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let v4972 : BitVec 32 := Scalar.subi v2905 c0_i32_574
  let c0_i32_575 : BitVec 32 := 0#32
  let v4973 : BitVec 32 := Scalar.maxsi v4972 c0_i32_575
  let v4974 : BitVec 32 := v4973
  let v4975 : Index := Scalar.indexCast v4974
  let c1792_576 : Index := 1792#32
  ![v4975.toNat, 1792]
def k0_mult121 (i : grid0.Coords) (k0_t28 : Fin (k0_t28_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c128_i32_577 : BitVec 32 := 128#32
  let v4977 : BitVec 32 := Scalar.subi v2905 c128_i32_577
  let c0_i32_578 : BitVec 32 := 0#32
  let v4978 : BitVec 32 := Scalar.maxsi v4977 c0_i32_578
  v4978
def k0_mult122 (i : grid0.Coords) (k0_t28 : Fin (k0_t28_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c0_i32_583 : BitVec 32 := 0#32
  let v5118 : BitVec 32 := Scalar.subi v2905 c0_i32_583
  let c0_i32_584 : BitVec 32 := 0#32
  let v5119 : BitVec 32 := Scalar.maxsi v5118 c0_i32_584
  v5119
def k0_off81 (i : grid0.Coords) (k0_t28 : Fin (k0_t28_loop i).trips) (c0_i32_583 : BitVec 32) : Fin 2 → Nat :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let v5118 : BitVec 32 := Scalar.subi v2905 c0_i32_583
  let c0_i32_584 : BitVec 32 := 0#32
  let v5119 : BitVec 32 := Scalar.maxsi v5118 c0_i32_584
  let v5120 : BitVec 32 := v5119
  let v5121 : Index := Scalar.indexCast v5120
  let c1920_585 : Index := 1920#32
  ![v5121.toNat, 1920]
def k0_mult123 (i : grid0.Coords) (k0_t28 : Fin (k0_t28_loop i).trips) : BitVec 32 :=
  let c512_i32_438 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v2904 : BitVec 32 := Scalar.addi c512_i32_438 v2903
  let c128_i32 : BitVec 32 := 128#32
  let v358 : BitVec 32 := Scalar.subi v0 c128_i32
  let v2905 : BitVec 32 := Scalar.subi v2904 v358
  let c128_i32_586 : BitVec 32 := 128#32
  let v5123 : BitVec 32 := Scalar.subi v2905 c128_i32_586
  let c0_i32_587 : BitVec 32 := 0#32
  let v5124 : BitVec 32 := Scalar.maxsi v5123 c0_i32_587
  v5124
def k0_off82 (i : grid0.Coords) (k0_t28 : Fin (k0_t28_loop i).trips) : Fin 2 → Nat :=
  let c0_596 : Index := 0#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c1_i32_432 : BitVec 32 := 1#32
  let v2896 : BitVec 32 := Scalar.subi v275 c1_i32_432
  let v2897 : BitVec 32 := Scalar.subi v275 v2896
  let c1_i32_434 : BitVec 32 := 1#32
  let v2899 : BitVec 32 := Scalar.divsi v2897 c1_i32_434
  let v2900 : BitVec 32 := Scalar.muli v2899 c1_i32_434
  let v2901 : BitVec 32 := Scalar.addi v2896 v2900
  let c1_i32_436 : BitVec 32 := 1#32
  let arg24 : BitVec 32 := Scf.iv v2901 c1_i32_436 k0_t28
  let c512_i32_437 : BitVec 32 := 512#32
  let v2902 : BitVec 32 := Scalar.muli arg24 c512_i32_437
  let v2903 : BitVec 32 := v2902
  let v5272 : Index := Scalar.indexCast v2903
  ![0, v5272.toNat]
def k0_cond9 (i : grid0.Coords) : BitVec 1 :=
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c767_i32 : BitVec 32 := 767#32
  let v1 : BitVec 32 := Scalar.addi v0 c767_i32
  let c9_i32 : BitVec 32 := 9#32
  let v2 : BitVec 32 := Scalar.shrsi v1 c9_i32
  let v2893 : BitVec 1 := Scalar.cmpi .slt v275 v2
  let v2894 : BitVec 32 := Scalar.extui v2893
  let c0_i32_431 : BitVec 32 := 0#32
  let v2895 : BitVec 1 := Scalar.cmpi .ne v2894 c0_i32_431
  v2895

def k0_mult124 (i : grid0.Coords) : BitVec 32 :=
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  v2896
def k0_off83 (i : grid0.Coords) : Fin 2 → Nat :=
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2900 : Index := Scalar.indexCast v2897
  let c0_434 : Index := 0#32
  ![v2900.toNat, 0]
def k0_mult125 (i : grid0.Coords) : BitVec 32 :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let c0_i32_443 : BitVec 32 := 0#32
  let v2922 : BitVec 32 := Scalar.subi v2899 c0_i32_443
  let c0_i32_444 : BitVec 32 := 0#32
  let v2923 : BitVec 32 := Scalar.maxsi v2922 c0_i32_444
  v2923
def k0_off84 (i : grid0.Coords) (c0_i32_443 : BitVec 32) : Fin 2 → Nat :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let v2922 : BitVec 32 := Scalar.subi v2899 c0_i32_443
  let c0_i32_444 : BitVec 32 := 0#32
  let v2923 : BitVec 32 := Scalar.maxsi v2922 c0_i32_444
  let v2924 : BitVec 32 := v2923
  let v2925 : Index := Scalar.indexCast v2924
  let c0_445 : Index := 0#32
  ![v2925.toNat, 0]
def k0_mult126 (i : grid0.Coords) : BitVec 32 :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let c128_i32_446 : BitVec 32 := 128#32
  let v2927 : BitVec 32 := Scalar.subi v2899 c128_i32_446
  let c0_i32_447 : BitVec 32 := 0#32
  let v2928 : BitVec 32 := Scalar.maxsi v2927 c0_i32_447
  v2928
def k0_mult127 (i : grid0.Coords) : BitVec 32 :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let c0_i32_452 : BitVec 32 := 0#32
  let v3004 : BitVec 32 := Scalar.subi v2899 c0_i32_452
  let c0_i32_453 : BitVec 32 := 0#32
  let v3005 : BitVec 32 := Scalar.maxsi v3004 c0_i32_453
  v3005
def k0_off85 (i : grid0.Coords) (c0_i32_452 : BitVec 32) : Fin 2 → Nat :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let v3004 : BitVec 32 := Scalar.subi v2899 c0_i32_452
  let c0_i32_453 : BitVec 32 := 0#32
  let v3005 : BitVec 32 := Scalar.maxsi v3004 c0_i32_453
  let v3006 : BitVec 32 := v3005
  let v3007 : Index := Scalar.indexCast v3006
  let c128_454 : Index := 128#32
  ![v3007.toNat, 128]
def k0_mult128 (i : grid0.Coords) : BitVec 32 :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let c128_i32_455 : BitVec 32 := 128#32
  let v3009 : BitVec 32 := Scalar.subi v2899 c128_i32_455
  let c0_i32_456 : BitVec 32 := 0#32
  let v3010 : BitVec 32 := Scalar.maxsi v3009 c0_i32_456
  v3010
def k0_mult129 (i : grid0.Coords) : BitVec 32 :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let c0_i32_461 : BitVec 32 := 0#32
  let v3086 : BitVec 32 := Scalar.subi v2899 c0_i32_461
  let c0_i32_462 : BitVec 32 := 0#32
  let v3087 : BitVec 32 := Scalar.maxsi v3086 c0_i32_462
  v3087
def k0_off86 (i : grid0.Coords) (c0_i32_461 : BitVec 32) : Fin 2 → Nat :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let v3086 : BitVec 32 := Scalar.subi v2899 c0_i32_461
  let c0_i32_462 : BitVec 32 := 0#32
  let v3087 : BitVec 32 := Scalar.maxsi v3086 c0_i32_462
  let v3088 : BitVec 32 := v3087
  let v3089 : Index := Scalar.indexCast v3088
  let c256_463 : Index := 256#32
  ![v3089.toNat, 256]
def k0_mult130 (i : grid0.Coords) : BitVec 32 :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let c128_i32_464 : BitVec 32 := 128#32
  let v3091 : BitVec 32 := Scalar.subi v2899 c128_i32_464
  let c0_i32_465 : BitVec 32 := 0#32
  let v3092 : BitVec 32 := Scalar.maxsi v3091 c0_i32_465
  v3092
def k0_mult131 (i : grid0.Coords) : BitVec 32 :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let c0_i32_470 : BitVec 32 := 0#32
  let v3168 : BitVec 32 := Scalar.subi v2899 c0_i32_470
  let c0_i32_471 : BitVec 32 := 0#32
  let v3169 : BitVec 32 := Scalar.maxsi v3168 c0_i32_471
  v3169
def k0_off87 (i : grid0.Coords) (c0_i32_470 : BitVec 32) : Fin 2 → Nat :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let v3168 : BitVec 32 := Scalar.subi v2899 c0_i32_470
  let c0_i32_471 : BitVec 32 := 0#32
  let v3169 : BitVec 32 := Scalar.maxsi v3168 c0_i32_471
  let v3170 : BitVec 32 := v3169
  let v3171 : Index := Scalar.indexCast v3170
  let c384_472 : Index := 384#32
  ![v3171.toNat, 384]
def k0_mult132 (i : grid0.Coords) : BitVec 32 :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let c128_i32_473 : BitVec 32 := 128#32
  let v3173 : BitVec 32 := Scalar.subi v2899 c128_i32_473
  let c0_i32_474 : BitVec 32 := 0#32
  let v3174 : BitVec 32 := Scalar.maxsi v3173 c0_i32_474
  v3174
def k0_mult133 (i : grid0.Coords) : BitVec 32 :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let c0_i32_479 : BitVec 32 := 0#32
  let v3250 : BitVec 32 := Scalar.subi v2899 c0_i32_479
  let c0_i32_480 : BitVec 32 := 0#32
  let v3251 : BitVec 32 := Scalar.maxsi v3250 c0_i32_480
  v3251
def k0_off88 (i : grid0.Coords) (c0_i32_479 : BitVec 32) : Fin 2 → Nat :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let v3250 : BitVec 32 := Scalar.subi v2899 c0_i32_479
  let c0_i32_480 : BitVec 32 := 0#32
  let v3251 : BitVec 32 := Scalar.maxsi v3250 c0_i32_480
  let v3252 : BitVec 32 := v3251
  let v3253 : Index := Scalar.indexCast v3252
  let c512_481 : Index := 512#32
  ![v3253.toNat, 512]
def k0_mult134 (i : grid0.Coords) : BitVec 32 :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let c128_i32_482 : BitVec 32 := 128#32
  let v3255 : BitVec 32 := Scalar.subi v2899 c128_i32_482
  let c0_i32_483 : BitVec 32 := 0#32
  let v3256 : BitVec 32 := Scalar.maxsi v3255 c0_i32_483
  v3256
def k0_mult135 (i : grid0.Coords) : BitVec 32 :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let c0_i32_488 : BitVec 32 := 0#32
  let v3332 : BitVec 32 := Scalar.subi v2899 c0_i32_488
  let c0_i32_489 : BitVec 32 := 0#32
  let v3333 : BitVec 32 := Scalar.maxsi v3332 c0_i32_489
  v3333
def k0_off89 (i : grid0.Coords) (c0_i32_488 : BitVec 32) : Fin 2 → Nat :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let v3332 : BitVec 32 := Scalar.subi v2899 c0_i32_488
  let c0_i32_489 : BitVec 32 := 0#32
  let v3333 : BitVec 32 := Scalar.maxsi v3332 c0_i32_489
  let v3334 : BitVec 32 := v3333
  let v3335 : Index := Scalar.indexCast v3334
  let c640_490 : Index := 640#32
  ![v3335.toNat, 640]
def k0_mult136 (i : grid0.Coords) : BitVec 32 :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let c128_i32_491 : BitVec 32 := 128#32
  let v3337 : BitVec 32 := Scalar.subi v2899 c128_i32_491
  let c0_i32_492 : BitVec 32 := 0#32
  let v3338 : BitVec 32 := Scalar.maxsi v3337 c0_i32_492
  v3338
def k0_mult137 (i : grid0.Coords) : BitVec 32 :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let c0_i32_497 : BitVec 32 := 0#32
  let v3414 : BitVec 32 := Scalar.subi v2899 c0_i32_497
  let c0_i32_498 : BitVec 32 := 0#32
  let v3415 : BitVec 32 := Scalar.maxsi v3414 c0_i32_498
  v3415
def k0_off90 (i : grid0.Coords) (c0_i32_497 : BitVec 32) : Fin 2 → Nat :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let v3414 : BitVec 32 := Scalar.subi v2899 c0_i32_497
  let c0_i32_498 : BitVec 32 := 0#32
  let v3415 : BitVec 32 := Scalar.maxsi v3414 c0_i32_498
  let v3416 : BitVec 32 := v3415
  let v3417 : Index := Scalar.indexCast v3416
  let c768_499 : Index := 768#32
  ![v3417.toNat, 768]
def k0_mult138 (i : grid0.Coords) : BitVec 32 :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let c128_i32_500 : BitVec 32 := 128#32
  let v3419 : BitVec 32 := Scalar.subi v2899 c128_i32_500
  let c0_i32_501 : BitVec 32 := 0#32
  let v3420 : BitVec 32 := Scalar.maxsi v3419 c0_i32_501
  v3420
def k0_mult139 (i : grid0.Coords) : BitVec 32 :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let c0_i32_506 : BitVec 32 := 0#32
  let v3496 : BitVec 32 := Scalar.subi v2899 c0_i32_506
  let c0_i32_507 : BitVec 32 := 0#32
  let v3497 : BitVec 32 := Scalar.maxsi v3496 c0_i32_507
  v3497
def k0_off91 (i : grid0.Coords) (c0_i32_506 : BitVec 32) : Fin 2 → Nat :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let v3496 : BitVec 32 := Scalar.subi v2899 c0_i32_506
  let c0_i32_507 : BitVec 32 := 0#32
  let v3497 : BitVec 32 := Scalar.maxsi v3496 c0_i32_507
  let v3498 : BitVec 32 := v3497
  let v3499 : Index := Scalar.indexCast v3498
  let c896_508 : Index := 896#32
  ![v3499.toNat, 896]
def k0_mult140 (i : grid0.Coords) : BitVec 32 :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let c128_i32_509 : BitVec 32 := 128#32
  let v3501 : BitVec 32 := Scalar.subi v2899 c128_i32_509
  let c0_i32_510 : BitVec 32 := 0#32
  let v3502 : BitVec 32 := Scalar.maxsi v3501 c0_i32_510
  v3502
def k0_mult141 (i : grid0.Coords) : BitVec 32 :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let c0_i32_515 : BitVec 32 := 0#32
  let v3578 : BitVec 32 := Scalar.subi v2899 c0_i32_515
  let c0_i32_516 : BitVec 32 := 0#32
  let v3579 : BitVec 32 := Scalar.maxsi v3578 c0_i32_516
  v3579
def k0_off92 (i : grid0.Coords) (c0_i32_515 : BitVec 32) : Fin 2 → Nat :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let v3578 : BitVec 32 := Scalar.subi v2899 c0_i32_515
  let c0_i32_516 : BitVec 32 := 0#32
  let v3579 : BitVec 32 := Scalar.maxsi v3578 c0_i32_516
  let v3580 : BitVec 32 := v3579
  let v3581 : Index := Scalar.indexCast v3580
  let c1024_517 : Index := 1024#32
  ![v3581.toNat, 1024]
def k0_mult142 (i : grid0.Coords) : BitVec 32 :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let c128_i32_518 : BitVec 32 := 128#32
  let v3583 : BitVec 32 := Scalar.subi v2899 c128_i32_518
  let c0_i32_519 : BitVec 32 := 0#32
  let v3584 : BitVec 32 := Scalar.maxsi v3583 c0_i32_519
  v3584
def k0_mult143 (i : grid0.Coords) : BitVec 32 :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let c0_i32_524 : BitVec 32 := 0#32
  let v3660 : BitVec 32 := Scalar.subi v2899 c0_i32_524
  let c0_i32_525 : BitVec 32 := 0#32
  let v3661 : BitVec 32 := Scalar.maxsi v3660 c0_i32_525
  v3661
def k0_off93 (i : grid0.Coords) (c0_i32_524 : BitVec 32) : Fin 2 → Nat :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let v3660 : BitVec 32 := Scalar.subi v2899 c0_i32_524
  let c0_i32_525 : BitVec 32 := 0#32
  let v3661 : BitVec 32 := Scalar.maxsi v3660 c0_i32_525
  let v3662 : BitVec 32 := v3661
  let v3663 : Index := Scalar.indexCast v3662
  let c1152_526 : Index := 1152#32
  ![v3663.toNat, 1152]
def k0_mult144 (i : grid0.Coords) : BitVec 32 :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let c128_i32_527 : BitVec 32 := 128#32
  let v3665 : BitVec 32 := Scalar.subi v2899 c128_i32_527
  let c0_i32_528 : BitVec 32 := 0#32
  let v3666 : BitVec 32 := Scalar.maxsi v3665 c0_i32_528
  v3666
def k0_mult145 (i : grid0.Coords) : BitVec 32 :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let c0_i32_533 : BitVec 32 := 0#32
  let v3742 : BitVec 32 := Scalar.subi v2899 c0_i32_533
  let c0_i32_534 : BitVec 32 := 0#32
  let v3743 : BitVec 32 := Scalar.maxsi v3742 c0_i32_534
  v3743
def k0_off94 (i : grid0.Coords) (c0_i32_533 : BitVec 32) : Fin 2 → Nat :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let v3742 : BitVec 32 := Scalar.subi v2899 c0_i32_533
  let c0_i32_534 : BitVec 32 := 0#32
  let v3743 : BitVec 32 := Scalar.maxsi v3742 c0_i32_534
  let v3744 : BitVec 32 := v3743
  let v3745 : Index := Scalar.indexCast v3744
  let c1280_535 : Index := 1280#32
  ![v3745.toNat, 1280]
def k0_mult146 (i : grid0.Coords) : BitVec 32 :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let c128_i32_536 : BitVec 32 := 128#32
  let v3747 : BitVec 32 := Scalar.subi v2899 c128_i32_536
  let c0_i32_537 : BitVec 32 := 0#32
  let v3748 : BitVec 32 := Scalar.maxsi v3747 c0_i32_537
  v3748
def k0_mult147 (i : grid0.Coords) : BitVec 32 :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let c0_i32_542 : BitVec 32 := 0#32
  let v3824 : BitVec 32 := Scalar.subi v2899 c0_i32_542
  let c0_i32_543 : BitVec 32 := 0#32
  let v3825 : BitVec 32 := Scalar.maxsi v3824 c0_i32_543
  v3825
def k0_off95 (i : grid0.Coords) (c0_i32_542 : BitVec 32) : Fin 2 → Nat :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let v3824 : BitVec 32 := Scalar.subi v2899 c0_i32_542
  let c0_i32_543 : BitVec 32 := 0#32
  let v3825 : BitVec 32 := Scalar.maxsi v3824 c0_i32_543
  let v3826 : BitVec 32 := v3825
  let v3827 : Index := Scalar.indexCast v3826
  let c1408_544 : Index := 1408#32
  ![v3827.toNat, 1408]
def k0_mult148 (i : grid0.Coords) : BitVec 32 :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let c128_i32_545 : BitVec 32 := 128#32
  let v3829 : BitVec 32 := Scalar.subi v2899 c128_i32_545
  let c0_i32_546 : BitVec 32 := 0#32
  let v3830 : BitVec 32 := Scalar.maxsi v3829 c0_i32_546
  v3830
def k0_mult149 (i : grid0.Coords) : BitVec 32 :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let c0_i32_551 : BitVec 32 := 0#32
  let v3906 : BitVec 32 := Scalar.subi v2899 c0_i32_551
  let c0_i32_552 : BitVec 32 := 0#32
  let v3907 : BitVec 32 := Scalar.maxsi v3906 c0_i32_552
  v3907
def k0_off96 (i : grid0.Coords) (c0_i32_551 : BitVec 32) : Fin 2 → Nat :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let v3906 : BitVec 32 := Scalar.subi v2899 c0_i32_551
  let c0_i32_552 : BitVec 32 := 0#32
  let v3907 : BitVec 32 := Scalar.maxsi v3906 c0_i32_552
  let v3908 : BitVec 32 := v3907
  let v3909 : Index := Scalar.indexCast v3908
  let c1536_553 : Index := 1536#32
  ![v3909.toNat, 1536]
def k0_mult150 (i : grid0.Coords) : BitVec 32 :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let c128_i32_554 : BitVec 32 := 128#32
  let v3911 : BitVec 32 := Scalar.subi v2899 c128_i32_554
  let c0_i32_555 : BitVec 32 := 0#32
  let v3912 : BitVec 32 := Scalar.maxsi v3911 c0_i32_555
  v3912
def k0_mult151 (i : grid0.Coords) : BitVec 32 :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let c0_i32_560 : BitVec 32 := 0#32
  let v3988 : BitVec 32 := Scalar.subi v2899 c0_i32_560
  let c0_i32_561 : BitVec 32 := 0#32
  let v3989 : BitVec 32 := Scalar.maxsi v3988 c0_i32_561
  v3989
def k0_off97 (i : grid0.Coords) (c0_i32_560 : BitVec 32) : Fin 2 → Nat :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let v3988 : BitVec 32 := Scalar.subi v2899 c0_i32_560
  let c0_i32_561 : BitVec 32 := 0#32
  let v3989 : BitVec 32 := Scalar.maxsi v3988 c0_i32_561
  let v3990 : BitVec 32 := v3989
  let v3991 : Index := Scalar.indexCast v3990
  let c1664_562 : Index := 1664#32
  ![v3991.toNat, 1664]
def k0_mult152 (i : grid0.Coords) : BitVec 32 :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let c128_i32_563 : BitVec 32 := 128#32
  let v3993 : BitVec 32 := Scalar.subi v2899 c128_i32_563
  let c0_i32_564 : BitVec 32 := 0#32
  let v3994 : BitVec 32 := Scalar.maxsi v3993 c0_i32_564
  v3994
def k0_mult153 (i : grid0.Coords) : BitVec 32 :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let c0_i32_569 : BitVec 32 := 0#32
  let v4070 : BitVec 32 := Scalar.subi v2899 c0_i32_569
  let c0_i32_570 : BitVec 32 := 0#32
  let v4071 : BitVec 32 := Scalar.maxsi v4070 c0_i32_570
  v4071
def k0_off98 (i : grid0.Coords) (c0_i32_569 : BitVec 32) : Fin 2 → Nat :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let v4070 : BitVec 32 := Scalar.subi v2899 c0_i32_569
  let c0_i32_570 : BitVec 32 := 0#32
  let v4071 : BitVec 32 := Scalar.maxsi v4070 c0_i32_570
  let v4072 : BitVec 32 := v4071
  let v4073 : Index := Scalar.indexCast v4072
  let c1792_571 : Index := 1792#32
  ![v4073.toNat, 1792]
def k0_mult154 (i : grid0.Coords) : BitVec 32 :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let c128_i32_572 : BitVec 32 := 128#32
  let v4075 : BitVec 32 := Scalar.subi v2899 c128_i32_572
  let c0_i32_573 : BitVec 32 := 0#32
  let v4076 : BitVec 32 := Scalar.maxsi v4075 c0_i32_573
  v4076
def k0_mult155 (i : grid0.Coords) : BitVec 32 :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let c0_i32_578 : BitVec 32 := 0#32
  let v4152 : BitVec 32 := Scalar.subi v2899 c0_i32_578
  let c0_i32_579 : BitVec 32 := 0#32
  let v4153 : BitVec 32 := Scalar.maxsi v4152 c0_i32_579
  v4153
def k0_off99 (i : grid0.Coords) (c0_i32_578 : BitVec 32) : Fin 2 → Nat :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let v4152 : BitVec 32 := Scalar.subi v2899 c0_i32_578
  let c0_i32_579 : BitVec 32 := 0#32
  let v4153 : BitVec 32 := Scalar.maxsi v4152 c0_i32_579
  let v4154 : BitVec 32 := v4153
  let v4155 : Index := Scalar.indexCast v4154
  let c1920_580 : Index := 1920#32
  ![v4155.toNat, 1920]
def k0_mult156 (i : grid0.Coords) : BitVec 32 :=
  let c512_i32_433 : BitVec 32 := 512#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v2898 : BitVec 32 := Scalar.addi c512_i32_433 v2897
  let c128_i32 : BitVec 32 := 128#32
  let v358 : BitVec 32 := Scalar.subi v0 c128_i32
  let v2899 : BitVec 32 := Scalar.subi v2898 v358
  let c128_i32_581 : BitVec 32 := 128#32
  let v4157 : BitVec 32 := Scalar.subi v2899 c128_i32_581
  let c0_i32_582 : BitVec 32 := 0#32
  let v4158 : BitVec 32 := Scalar.maxsi v4157 c0_i32_582
  v4158
def k0_off100 (i : grid0.Coords) : Fin 2 → Nat :=
  let c0_591 : Index := 0#32
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c512_i32_432 : BitVec 32 := 512#32
  let v2896 : BitVec 32 := Scalar.muli v275 c512_i32_432
  let v2897 : BitVec 32 := v2896
  let v4242 : Index := Scalar.indexCast v2897
  ![0, v4242.toNat]
def k0_cond10 (i : grid0.Coords) : BitVec 1 :=
  let arg1 : BitVec 32 := BitVec.ofNat 32 (i 1).val
  let c256_i32 : BitVec 32 := 256#32
  let v0 : BitVec 32 := Scalar.muli arg1 c256_i32
  let c256_i32_120 : BitVec 32 := 256#32
  let v274 : BitVec 32 := Scalar.addi v0 c256_i32_120
  let c9_i32_121 : BitVec 32 := 9#32
  let v275 : BitVec 32 := Scalar.shrsi v274 c9_i32_121
  let c0_i32_164 : BitVec 32 := 0#32
  let v362 : BitVec 1 := Scalar.cmpi .eq v275 c0_i32_164
  let v363 : BitVec 32 := Scalar.extui v362
  let c0_i32_165 : BitVec 32 := 0#32
  let v364 : BitVec 1 := Scalar.cmpi .ne v363 c0_i32_165
  v364

def k0_mult157 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c0_i32_275 : BitVec 32 := 0#32
  let v534 : BitVec 32 := Scalar.subi v513 c0_i32_275
  let c0_i32_276 : BitVec 32 := 0#32
  let v535 : BitVec 32 := Scalar.maxsi v534 c0_i32_276
  v535
def k0_off101 (i : grid0.Coords) (c0_i32_275 : BitVec 32) : Fin 2 → Nat :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let v534 : BitVec 32 := Scalar.subi v513 c0_i32_275
  let c0_i32_276 : BitVec 32 := 0#32
  let v535 : BitVec 32 := Scalar.maxsi v534 c0_i32_276
  let v536 : BitVec 32 := v535
  let v537 : Index := Scalar.indexCast v536
  let c0_277 : Index := 0#32
  ![v537.toNat, 0]
def k0_mult158 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c128_i32_278 : BitVec 32 := 128#32
  let v539 : BitVec 32 := Scalar.subi v513 c128_i32_278
  let c0_i32_279 : BitVec 32 := 0#32
  let v540 : BitVec 32 := Scalar.maxsi v539 c0_i32_279
  v540
def k0_mult159 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c0_i32_284 : BitVec 32 := 0#32
  let v616 : BitVec 32 := Scalar.subi v513 c0_i32_284
  let c0_i32_285 : BitVec 32 := 0#32
  let v617 : BitVec 32 := Scalar.maxsi v616 c0_i32_285
  v617
def k0_off102 (i : grid0.Coords) (c0_i32_284 : BitVec 32) : Fin 2 → Nat :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let v616 : BitVec 32 := Scalar.subi v513 c0_i32_284
  let c0_i32_285 : BitVec 32 := 0#32
  let v617 : BitVec 32 := Scalar.maxsi v616 c0_i32_285
  let v618 : BitVec 32 := v617
  let v619 : Index := Scalar.indexCast v618
  let c128_286 : Index := 128#32
  ![v619.toNat, 128]
def k0_mult160 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c128_i32_287 : BitVec 32 := 128#32
  let v621 : BitVec 32 := Scalar.subi v513 c128_i32_287
  let c0_i32_288 : BitVec 32 := 0#32
  let v622 : BitVec 32 := Scalar.maxsi v621 c0_i32_288
  v622
def k0_mult161 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c0_i32_293 : BitVec 32 := 0#32
  let v698 : BitVec 32 := Scalar.subi v513 c0_i32_293
  let c0_i32_294 : BitVec 32 := 0#32
  let v699 : BitVec 32 := Scalar.maxsi v698 c0_i32_294
  v699
def k0_off103 (i : grid0.Coords) (c0_i32_293 : BitVec 32) : Fin 2 → Nat :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let v698 : BitVec 32 := Scalar.subi v513 c0_i32_293
  let c0_i32_294 : BitVec 32 := 0#32
  let v699 : BitVec 32 := Scalar.maxsi v698 c0_i32_294
  let v700 : BitVec 32 := v699
  let v701 : Index := Scalar.indexCast v700
  let c256_295 : Index := 256#32
  ![v701.toNat, 256]
def k0_mult162 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c128_i32_296 : BitVec 32 := 128#32
  let v703 : BitVec 32 := Scalar.subi v513 c128_i32_296
  let c0_i32_297 : BitVec 32 := 0#32
  let v704 : BitVec 32 := Scalar.maxsi v703 c0_i32_297
  v704
def k0_mult163 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c0_i32_302 : BitVec 32 := 0#32
  let v780 : BitVec 32 := Scalar.subi v513 c0_i32_302
  let c0_i32_303 : BitVec 32 := 0#32
  let v781 : BitVec 32 := Scalar.maxsi v780 c0_i32_303
  v781
def k0_off104 (i : grid0.Coords) (c0_i32_302 : BitVec 32) : Fin 2 → Nat :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let v780 : BitVec 32 := Scalar.subi v513 c0_i32_302
  let c0_i32_303 : BitVec 32 := 0#32
  let v781 : BitVec 32 := Scalar.maxsi v780 c0_i32_303
  let v782 : BitVec 32 := v781
  let v783 : Index := Scalar.indexCast v782
  let c384_304 : Index := 384#32
  ![v783.toNat, 384]
def k0_mult164 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c128_i32_305 : BitVec 32 := 128#32
  let v785 : BitVec 32 := Scalar.subi v513 c128_i32_305
  let c0_i32_306 : BitVec 32 := 0#32
  let v786 : BitVec 32 := Scalar.maxsi v785 c0_i32_306
  v786
def k0_mult165 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c0_i32_311 : BitVec 32 := 0#32
  let v862 : BitVec 32 := Scalar.subi v513 c0_i32_311
  let c0_i32_312 : BitVec 32 := 0#32
  let v863 : BitVec 32 := Scalar.maxsi v862 c0_i32_312
  v863
def k0_off105 (i : grid0.Coords) (c0_i32_311 : BitVec 32) : Fin 2 → Nat :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let v862 : BitVec 32 := Scalar.subi v513 c0_i32_311
  let c0_i32_312 : BitVec 32 := 0#32
  let v863 : BitVec 32 := Scalar.maxsi v862 c0_i32_312
  let v864 : BitVec 32 := v863
  let v865 : Index := Scalar.indexCast v864
  let c512_313 : Index := 512#32
  ![v865.toNat, 512]
def k0_mult166 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c128_i32_314 : BitVec 32 := 128#32
  let v867 : BitVec 32 := Scalar.subi v513 c128_i32_314
  let c0_i32_315 : BitVec 32 := 0#32
  let v868 : BitVec 32 := Scalar.maxsi v867 c0_i32_315
  v868
def k0_mult167 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c0_i32_320 : BitVec 32 := 0#32
  let v944 : BitVec 32 := Scalar.subi v513 c0_i32_320
  let c0_i32_321 : BitVec 32 := 0#32
  let v945 : BitVec 32 := Scalar.maxsi v944 c0_i32_321
  v945
def k0_off106 (i : grid0.Coords) (c0_i32_320 : BitVec 32) : Fin 2 → Nat :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let v944 : BitVec 32 := Scalar.subi v513 c0_i32_320
  let c0_i32_321 : BitVec 32 := 0#32
  let v945 : BitVec 32 := Scalar.maxsi v944 c0_i32_321
  let v946 : BitVec 32 := v945
  let v947 : Index := Scalar.indexCast v946
  let c640_322 : Index := 640#32
  ![v947.toNat, 640]
def k0_mult168 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c128_i32_323 : BitVec 32 := 128#32
  let v949 : BitVec 32 := Scalar.subi v513 c128_i32_323
  let c0_i32_324 : BitVec 32 := 0#32
  let v950 : BitVec 32 := Scalar.maxsi v949 c0_i32_324
  v950
def k0_mult169 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c0_i32_329 : BitVec 32 := 0#32
  let v1026 : BitVec 32 := Scalar.subi v513 c0_i32_329
  let c0_i32_330 : BitVec 32 := 0#32
  let v1027 : BitVec 32 := Scalar.maxsi v1026 c0_i32_330
  v1027
def k0_off107 (i : grid0.Coords) (c0_i32_329 : BitVec 32) : Fin 2 → Nat :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let v1026 : BitVec 32 := Scalar.subi v513 c0_i32_329
  let c0_i32_330 : BitVec 32 := 0#32
  let v1027 : BitVec 32 := Scalar.maxsi v1026 c0_i32_330
  let v1028 : BitVec 32 := v1027
  let v1029 : Index := Scalar.indexCast v1028
  let c768_331 : Index := 768#32
  ![v1029.toNat, 768]
def k0_mult170 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c128_i32_332 : BitVec 32 := 128#32
  let v1031 : BitVec 32 := Scalar.subi v513 c128_i32_332
  let c0_i32_333 : BitVec 32 := 0#32
  let v1032 : BitVec 32 := Scalar.maxsi v1031 c0_i32_333
  v1032
def k0_mult171 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c0_i32_338 : BitVec 32 := 0#32
  let v1108 : BitVec 32 := Scalar.subi v513 c0_i32_338
  let c0_i32_339 : BitVec 32 := 0#32
  let v1109 : BitVec 32 := Scalar.maxsi v1108 c0_i32_339
  v1109
def k0_off108 (i : grid0.Coords) (c0_i32_338 : BitVec 32) : Fin 2 → Nat :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let v1108 : BitVec 32 := Scalar.subi v513 c0_i32_338
  let c0_i32_339 : BitVec 32 := 0#32
  let v1109 : BitVec 32 := Scalar.maxsi v1108 c0_i32_339
  let v1110 : BitVec 32 := v1109
  let v1111 : Index := Scalar.indexCast v1110
  let c896_340 : Index := 896#32
  ![v1111.toNat, 896]
def k0_mult172 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c128_i32_341 : BitVec 32 := 128#32
  let v1113 : BitVec 32 := Scalar.subi v513 c128_i32_341
  let c0_i32_342 : BitVec 32 := 0#32
  let v1114 : BitVec 32 := Scalar.maxsi v1113 c0_i32_342
  v1114
def k0_mult173 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c0_i32_347 : BitVec 32 := 0#32
  let v1190 : BitVec 32 := Scalar.subi v513 c0_i32_347
  let c0_i32_348 : BitVec 32 := 0#32
  let v1191 : BitVec 32 := Scalar.maxsi v1190 c0_i32_348
  v1191
def k0_off109 (i : grid0.Coords) (c0_i32_347 : BitVec 32) : Fin 2 → Nat :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let v1190 : BitVec 32 := Scalar.subi v513 c0_i32_347
  let c0_i32_348 : BitVec 32 := 0#32
  let v1191 : BitVec 32 := Scalar.maxsi v1190 c0_i32_348
  let v1192 : BitVec 32 := v1191
  let v1193 : Index := Scalar.indexCast v1192
  let c1024_349 : Index := 1024#32
  ![v1193.toNat, 1024]
def k0_mult174 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c128_i32_350 : BitVec 32 := 128#32
  let v1195 : BitVec 32 := Scalar.subi v513 c128_i32_350
  let c0_i32_351 : BitVec 32 := 0#32
  let v1196 : BitVec 32 := Scalar.maxsi v1195 c0_i32_351
  v1196
def k0_mult175 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c0_i32_356 : BitVec 32 := 0#32
  let v1272 : BitVec 32 := Scalar.subi v513 c0_i32_356
  let c0_i32_357 : BitVec 32 := 0#32
  let v1273 : BitVec 32 := Scalar.maxsi v1272 c0_i32_357
  v1273
def k0_off110 (i : grid0.Coords) (c0_i32_356 : BitVec 32) : Fin 2 → Nat :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let v1272 : BitVec 32 := Scalar.subi v513 c0_i32_356
  let c0_i32_357 : BitVec 32 := 0#32
  let v1273 : BitVec 32 := Scalar.maxsi v1272 c0_i32_357
  let v1274 : BitVec 32 := v1273
  let v1275 : Index := Scalar.indexCast v1274
  let c1152 : Index := 1152#32
  ![v1275.toNat, 1152]
def k0_mult176 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c128_i32_358 : BitVec 32 := 128#32
  let v1277 : BitVec 32 := Scalar.subi v513 c128_i32_358
  let c0_i32_359 : BitVec 32 := 0#32
  let v1278 : BitVec 32 := Scalar.maxsi v1277 c0_i32_359
  v1278
def k0_mult177 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c0_i32_364 : BitVec 32 := 0#32
  let v1354 : BitVec 32 := Scalar.subi v513 c0_i32_364
  let c0_i32_365 : BitVec 32 := 0#32
  let v1355 : BitVec 32 := Scalar.maxsi v1354 c0_i32_365
  v1355
def k0_off111 (i : grid0.Coords) (c0_i32_364 : BitVec 32) : Fin 2 → Nat :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let v1354 : BitVec 32 := Scalar.subi v513 c0_i32_364
  let c0_i32_365 : BitVec 32 := 0#32
  let v1355 : BitVec 32 := Scalar.maxsi v1354 c0_i32_365
  let v1356 : BitVec 32 := v1355
  let v1357 : Index := Scalar.indexCast v1356
  let c1280_366 : Index := 1280#32
  ![v1357.toNat, 1280]
def k0_mult178 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c128_i32_367 : BitVec 32 := 128#32
  let v1359 : BitVec 32 := Scalar.subi v513 c128_i32_367
  let c0_i32_368 : BitVec 32 := 0#32
  let v1360 : BitVec 32 := Scalar.maxsi v1359 c0_i32_368
  v1360
def k0_mult179 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c0_i32_373 : BitVec 32 := 0#32
  let v1436 : BitVec 32 := Scalar.subi v513 c0_i32_373
  let c0_i32_374 : BitVec 32 := 0#32
  let v1437 : BitVec 32 := Scalar.maxsi v1436 c0_i32_374
  v1437
def k0_off112 (i : grid0.Coords) (c0_i32_373 : BitVec 32) : Fin 2 → Nat :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let v1436 : BitVec 32 := Scalar.subi v513 c0_i32_373
  let c0_i32_374 : BitVec 32 := 0#32
  let v1437 : BitVec 32 := Scalar.maxsi v1436 c0_i32_374
  let v1438 : BitVec 32 := v1437
  let v1439 : Index := Scalar.indexCast v1438
  let c1408 : Index := 1408#32
  ![v1439.toNat, 1408]
def k0_mult180 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c128_i32_375 : BitVec 32 := 128#32
  let v1441 : BitVec 32 := Scalar.subi v513 c128_i32_375
  let c0_i32_376 : BitVec 32 := 0#32
  let v1442 : BitVec 32 := Scalar.maxsi v1441 c0_i32_376
  v1442
def k0_mult181 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c0_i32_381 : BitVec 32 := 0#32
  let v1518 : BitVec 32 := Scalar.subi v513 c0_i32_381
  let c0_i32_382 : BitVec 32 := 0#32
  let v1519 : BitVec 32 := Scalar.maxsi v1518 c0_i32_382
  v1519
def k0_off113 (i : grid0.Coords) (c0_i32_381 : BitVec 32) : Fin 2 → Nat :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let v1518 : BitVec 32 := Scalar.subi v513 c0_i32_381
  let c0_i32_382 : BitVec 32 := 0#32
  let v1519 : BitVec 32 := Scalar.maxsi v1518 c0_i32_382
  let v1520 : BitVec 32 := v1519
  let v1521 : Index := Scalar.indexCast v1520
  let c1536_383 : Index := 1536#32
  ![v1521.toNat, 1536]
def k0_mult182 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c128_i32_384 : BitVec 32 := 128#32
  let v1523 : BitVec 32 := Scalar.subi v513 c128_i32_384
  let c0_i32_385 : BitVec 32 := 0#32
  let v1524 : BitVec 32 := Scalar.maxsi v1523 c0_i32_385
  v1524
def k0_mult183 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c0_i32_390 : BitVec 32 := 0#32
  let v1600 : BitVec 32 := Scalar.subi v513 c0_i32_390
  let c0_i32_391 : BitVec 32 := 0#32
  let v1601 : BitVec 32 := Scalar.maxsi v1600 c0_i32_391
  v1601
def k0_off114 (i : grid0.Coords) (c0_i32_390 : BitVec 32) : Fin 2 → Nat :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let v1600 : BitVec 32 := Scalar.subi v513 c0_i32_390
  let c0_i32_391 : BitVec 32 := 0#32
  let v1601 : BitVec 32 := Scalar.maxsi v1600 c0_i32_391
  let v1602 : BitVec 32 := v1601
  let v1603 : Index := Scalar.indexCast v1602
  let c1664 : Index := 1664#32
  ![v1603.toNat, 1664]
def k0_mult184 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c128_i32_392 : BitVec 32 := 128#32
  let v1605 : BitVec 32 := Scalar.subi v513 c128_i32_392
  let c0_i32_393 : BitVec 32 := 0#32
  let v1606 : BitVec 32 := Scalar.maxsi v1605 c0_i32_393
  v1606
def k0_mult185 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c0_i32_398 : BitVec 32 := 0#32
  let v1682 : BitVec 32 := Scalar.subi v513 c0_i32_398
  let c0_i32_399 : BitVec 32 := 0#32
  let v1683 : BitVec 32 := Scalar.maxsi v1682 c0_i32_399
  v1683
def k0_off115 (i : grid0.Coords) (c0_i32_398 : BitVec 32) : Fin 2 → Nat :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let v1682 : BitVec 32 := Scalar.subi v513 c0_i32_398
  let c0_i32_399 : BitVec 32 := 0#32
  let v1683 : BitVec 32 := Scalar.maxsi v1682 c0_i32_399
  let v1684 : BitVec 32 := v1683
  let v1685 : Index := Scalar.indexCast v1684
  let c1792_400 : Index := 1792#32
  ![v1685.toNat, 1792]
def k0_mult186 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c128_i32_401 : BitVec 32 := 128#32
  let v1687 : BitVec 32 := Scalar.subi v513 c128_i32_401
  let c0_i32_402 : BitVec 32 := 0#32
  let v1688 : BitVec 32 := Scalar.maxsi v1687 c0_i32_402
  v1688
def k0_mult187 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c0_i32_407 : BitVec 32 := 0#32
  let v1764 : BitVec 32 := Scalar.subi v513 c0_i32_407
  let c0_i32_408 : BitVec 32 := 0#32
  let v1765 : BitVec 32 := Scalar.maxsi v1764 c0_i32_408
  v1765
def k0_off116 (i : grid0.Coords) (c0_i32_407 : BitVec 32) : Fin 2 → Nat :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let v1764 : BitVec 32 := Scalar.subi v513 c0_i32_407
  let c0_i32_408 : BitVec 32 := 0#32
  let v1765 : BitVec 32 := Scalar.maxsi v1764 c0_i32_408
  let v1766 : BitVec 32 := v1765
  let v1767 : Index := Scalar.indexCast v1766
  let c1920 : Index := 1920#32
  ![v1767.toNat, 1920]
def k0_mult188 (i : grid0.Coords) : BitVec 32 :=
  let c512_i32 : BitVec 32 := 512#32
  let arg1 : BitVec 32 := BitVec.ofNat 32 (i 1).val
  let c256_i32 : BitVec 32 := 256#32
  let v0 : BitVec 32 := Scalar.muli arg1 c256_i32
  let c128_i32 : BitVec 32 := 128#32
  let v358 : BitVec 32 := Scalar.subi v0 c128_i32
  let v513 : BitVec 32 := Scalar.subi c512_i32 v358
  let c128_i32_409 : BitVec 32 := 128#32
  let v1769 : BitVec 32 := Scalar.subi v513 c128_i32_409
  let c0_i32_410 : BitVec 32 := 0#32
  let v1770 : BitVec 32 := Scalar.maxsi v1769 c0_i32_410
  v1770
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c14_i32 : BitVec 32 := 14#32
  let c0_i32 : BitVec 32 := 0#32
  ![v1.toNat, c14_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c46_i32 : BitVec 32 := 46#32
  let c0_i32 : BitVec 32 := 0#32
  ![v1.toNat, c46_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  ![v1.toNat, c4_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4096x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S4096x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S272x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x256x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16x64x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1280x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Kernel4.lean ====
abbrev S8192x6016 : Shape := ⟨2, ![8192, 6016]⟩
abbrev S3200 : Shape := ⟨1, ![3200]⟩
abbrev S1024 : Shape := ⟨1, ![1024]⟩
abbrev S64x1024 : Shape := ⟨2, ![64, 1024]⟩
abbrev S2x4096x6016 : Shape := ⟨3, ![2, 4096, 6016]⟩
abbrev S128 : Shape := ⟨1, ![128]⟩
abbrev S1x1024 : Shape := ⟨2, ![1, 1024]⟩
abbrev S1x128 : Shape := ⟨2, ![1, 128]⟩
abbrev S8x1x128 : Shape := ⟨3, ![8, 1, 128]⟩
abbrev S2x4096x1024 : Shape := ⟨3, ![2, 4096, 1024]⟩
abbrev S2x64x1024 : Shape := ⟨3, ![2, 64, 1024]⟩
abbrev S2x64x128 : Shape := ⟨3, ![2, 64, 128]⟩
abbrev S2x1x1024 : Shape := ⟨3, ![2, 1, 1024]⟩
abbrev S2x1x128 : Shape := ⟨3, ![2, 1, 128]⟩
abbrev S16x128x128 : Shape := ⟨3, ![16, 128, 128]⟩
abbrev S8x1 : Shape := ⟨2, ![8, 1]⟩
abbrev S128x1024 : Shape := ⟨2, ![128, 1024]⟩
abbrev S1x1x1024 : Shape := ⟨3, ![1, 1, 1024]⟩
abbrev S8x1024 : Shape := ⟨2, ![8, 1024]⟩
abbrev S56x1024 : Shape := ⟨2, ![56, 1024]⟩
abbrev S128x128 : Shape := ⟨2, ![128, 128]⟩
abbrev S1x1x128 : Shape := ⟨3, ![1, 1, 128]⟩
abbrev S8x128 : Shape := ⟨2, ![8, 128]⟩
abbrev S56x128 : Shape := ⟨2, ![56, 128]⟩
abbrev S128x64 : Shape := ⟨2, ![128, 64]⟩
abbrev S64x64 : Shape := ⟨2, ![64, 64]⟩
abbrev S64x128 : Shape := ⟨2, ![64, 128]⟩
abbrev S1x64x128 : Shape := ⟨3, ![1, 64, 128]⟩
abbrev S16x64x128 : Shape := ⟨3, ![16, 64, 128]⟩
abbrev S1024x128 : Shape := ⟨2, ![1024, 128]⟩
abbrev S16x256x128 : Shape := ⟨3, ![16, 256, 128]⟩
abbrev S16x128x256 : Shape := ⟨3, ![16, 128, 256]⟩
abbrev S64x256 : Shape := ⟨2, ![64, 256]⟩
abbrev S16x64x256 : Shape := ⟨3, ![16, 64, 256]⟩
abbrev S1x64x256 : Shape := ⟨3, ![1, 64, 256]⟩
abbrev S1x128x128 : Shape := ⟨3, ![1, 128, 128]⟩
abbrev S16x1x128 : Shape := ⟨3, ![16, 1, 128]⟩

abbrev nBuf : Space → Nat
  | .hbm => 30
  | .vmem => 30
  | .smem => 0
  | _ => 0

abbrev bufTy : (tb : Table) → Fin (tcTables nBuf tb) → BufTy
  | .hbm, ⟨0, _⟩ => ⟨S8192x6016, .f32⟩
  | .hbm, ⟨1, _⟩ => ⟨S3200, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S64x1024, .f32⟩
  | .hbm, ⟨10, _⟩ => ⟨S64x1024, .f32⟩
  | .hbm, ⟨11, _⟩ => ⟨S2x4096x6016, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S128, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x128, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S8x1x128, .f32⟩
  | .hbm, ⟨25, _⟩ => ⟨S8x1x128, .f32⟩
  | .hbm, ⟨26, _⟩ => ⟨S8x1x128, .f32⟩
  | .hbm, ⟨27, _⟩ => ⟨S64x1024, .bf16⟩
  | .hbm, ⟨28, _⟩ => ⟨S64x1024, .bf16⟩
  | .hbm, ⟨29, _⟩ => ⟨S2x4096x1024, .bf16⟩
  | .local _ .vmem, ⟨0, _⟩ => ⟨S2x64x1024, .f32⟩
  | .local _ .vmem, ⟨1, _⟩ => ⟨S2x64x1024, .f32⟩
  | .local _ .vmem, ⟨2, _⟩ => ⟨S2x64x1024, .f32⟩
  | .local _ .vmem, ⟨3, _⟩ => ⟨S2x64x1024, .f32⟩
  | .local _ .vmem, ⟨4, _⟩ => ⟨S2x64x1024, .f32⟩
  | .local _ .vmem, ⟨5, _⟩ => ⟨S2x64x1024, .f32⟩
  | .local _ .vmem, ⟨6, _⟩ => ⟨S2x64x1024, .f32⟩
  | .local _ .vmem, ⟨7, _⟩ => ⟨S2x64x1024, .f32⟩
  | .local _ .vmem, ⟨8, _⟩ => ⟨S2x64x128, .f32⟩
  | .local _ .vmem, ⟨9, _⟩ => ⟨S2x64x128, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x128, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S8x1x128, .f32⟩
  | .local _ .vmem, ⟨19, _⟩ => ⟨S8x1x128, .f32⟩
  | .local _ .vmem, ⟨20, _⟩ => ⟨S8x1x128, .f32⟩
  | .local _ .vmem, ⟨21, _⟩ => ⟨S64x1024, .bf16⟩
  | .local _ .vmem, ⟨22, _⟩ => ⟨S64x1024, .bf16⟩
  | .local _ .vmem, ⟨23, _⟩ => ⟨S2x64x1024, .bf16⟩
  | .local _ .vmem, ⟨24, _⟩ => ⟨S2x64x1024, .bf16⟩
  | .local _ .vmem, ⟨25, _⟩ => ⟨S2x1x1024, .f32⟩
  | .local _ .vmem, ⟨26, _⟩ => ⟨S2x1x1024, .f32⟩
  | .local _ .vmem, ⟨27, _⟩ => ⟨S2x1x1024, .f32⟩
  | .local _ .vmem, ⟨28, _⟩ => ⟨S2x1x128, .f32⟩
  | .local _ .vmem, ⟨29, _⟩ => ⟨S16x128x128, .f32⟩
  | _, _ => ⟨S8192x6016, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg18_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem18_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_2 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![c0_i32.toNat, arg0.toNat, c2_i32.toNat]

def cc0_transform_3 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![c0_i32.toNat, arg0.toNat, c3_i32.toNat]

def cc0_transform_4 (i : grid0.Coords) : Fin 3 → Nat :=
  let arg0 : BitVec 32 := BitVec.ofNat 32 (i 0).val
  let c0_i32 : BitVec 32 := 0#32
  let c45_i32 : BitVec 32 := 45#32
  let c0_i32_0 : BitVec 32 := 0#32
  ![c0_i32.toNat, arg0.toNat, c45_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S64x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S2x64x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Kernel5.lean ====
abbrev S32x16 : Shape := ⟨2, ![32, 16]⟩
abbrev S1280x2048 : Shape := ⟨2, ![1280, 2048]⟩
abbrev S256x128 : Shape := ⟨2, ![256, 128]⟩
abbrev S1x1 : Shape := ⟨2, ![1, 1]⟩

abbrev nBuf : Space → Nat
  | .hbm => 2
  | .vmem => 1
  | .smem => 1
  | _ => 0

abbrev bufTy : (tb : Table) → Fin (tcTables nBuf tb) → BufTy
  | .hbm, ⟨0, _⟩ => ⟨S32x16, .f32⟩
  | .hbm, ⟨1, _⟩ => ⟨S1280x2048, .f32⟩
  | .local _ .vmem, ⟨0, _⟩ => ⟨S1280x2048, .f32⟩
  | .local _ .smem, ⟨0, _⟩ => ⟨S32x16, .f32⟩
  | _, _ => ⟨S32x16, .f32⟩

abbrev bufScoped : (cs : CoreSpace) → Fin (nBuf (.core cs)) → Bool
  | .vmem, ⟨0, _⟩ => true
  | .smem, ⟨0, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg1_0 : Ref sig .tc := ⟨.vmem, 0, rfl⟩
abbrev cc0_stg0_0 : Ref sig .tc := ⟨.smem, 0, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .smem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference5Ideal.lean ====
abbrev S32x16 : Shape := ⟨2, ![32, 16]⟩
abbrev S256 : Shape := ⟨1, ![256]⟩
abbrev S256x1 : Shape := ⟨2, ![256, 1]⟩
abbrev S_ : Shape := ⟨0, ![]⟩
abbrev S128 : Shape := ⟨1, ![128]⟩
abbrev S1x128 : Shape := ⟨2, ![1, 128]⟩
abbrev S256x128 : Shape := ⟨2, ![256, 128]⟩
abbrev S256x128x1 : Shape := ⟨3, ![256, 128, 1]⟩
abbrev S256x128x16 : Shape := ⟨3, ![256, 128, 16]⟩
abbrev S1x16 : Shape := ⟨2, ![1, 16]⟩
abbrev S16 : Shape := ⟨1, ![16]⟩
abbrev S1x1x16 : Shape := ⟨3, ![1, 1, 16]⟩
abbrev S256x16x128 : Shape := ⟨3, ![256, 16, 128]⟩
abbrev S256x2048 : Shape := ⟨2, ![256, 2048]⟩
abbrev S1280x2048 : Shape := ⟨2, ![1280, 2048]⟩

abbrev nBuf : Space → Nat
  | .hbm => 69
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S256, .i32⟩
  | .hbm, ⟨2, _⟩ => ⟨S256x1, .i32⟩
  | .hbm, ⟨3, _⟩ => ⟨S_, .i32⟩
  | .hbm, ⟨4, _⟩ => ⟨S256x1, .i32⟩
  | .hbm, ⟨5, _⟩ => ⟨S256x1, .i32⟩
  | .hbm, ⟨6, _⟩ => ⟨S128, .i32⟩
  | .hbm, ⟨7, _⟩ => ⟨S1x128, .i32⟩
  | .hbm, ⟨8, _⟩ => ⟨S256x128, .i32⟩
  | .hbm, ⟨9, _⟩ => ⟨S256x128, .i32⟩
  | .hbm, ⟨10, _⟩ => ⟨S256x128, .i32⟩
  | .hbm, ⟨11, _⟩ => ⟨S_, .i32⟩
  | .hbm, ⟨12, _⟩ => ⟨S256x128, .i32⟩
  | .hbm, ⟨13, _⟩ => ⟨S256x128, .i1⟩
  | .hbm, ⟨14, _⟩ => ⟨S_, .i32⟩
  | .hbm, ⟨15, _⟩ => ⟨S_, .i32⟩
  | .hbm, ⟨16, _⟩ => ⟨S256x128, .i32⟩
  | .hbm, ⟨17, _⟩ => ⟨S256x128, .i32⟩
  | .hbm, ⟨18, _⟩ => ⟨S256x128, .i32⟩
  | .hbm, ⟨19, _⟩ => ⟨S256x128, .i32⟩
  | .hbm, ⟨20, _⟩ => ⟨S_, .i32⟩
  | .hbm, ⟨21, _⟩ => ⟨S256x128, .i32⟩
  | .hbm, ⟨22, _⟩ => ⟨S256x128, .i32⟩
  | .hbm, ⟨23, _⟩ => ⟨S256x128, .f32⟩
  | .hbm, ⟨24, _⟩ => ⟨S_, .f32⟩
  | .hbm, ⟨25, _⟩ => ⟨S256x128, .f32⟩
  | .hbm, ⟨26, _⟩ => ⟨S256x128, .f32⟩
  | .hbm, ⟨27, _⟩ => ⟨S256x128, .f32⟩
  | .hbm, ⟨28, _⟩ => ⟨S_, .f32⟩
  | .hbm, ⟨29, _⟩ => ⟨S256x128, .f32⟩
  | .hbm, ⟨30, _⟩ => ⟨S256x128, .f32⟩
  | .hbm, ⟨31, _⟩ => ⟨S_, .f32⟩
  | .hbm, ⟨32, _⟩ => ⟨S256x128, .f32⟩
  | .hbm, ⟨33, _⟩ => ⟨S256x128, .f32⟩
  | .hbm, ⟨34, _⟩ => ⟨S256x128, .i32⟩
  | .hbm, ⟨35, _⟩ => ⟨S_, .i32⟩
  | .hbm, ⟨36, _⟩ => ⟨S256x128, .i32⟩
  | .hbm, ⟨37, _⟩ => ⟨S256x128, .i32⟩
  | .hbm, ⟨38, _⟩ => ⟨S_, .i32⟩
  | .hbm, ⟨39, _⟩ => ⟨S256x128, .i32⟩
  | .hbm, ⟨40, _⟩ => ⟨S256x128, .i32⟩
  | .hbm, ⟨41, _⟩ => ⟨S_, .i32⟩
  | .hbm, ⟨42, _⟩ => ⟨S256x128, .i32⟩
  | .hbm, ⟨43, _⟩ => ⟨S256x128, .i1⟩
  | .hbm, ⟨44, _⟩ => ⟨S256x128, .i32⟩
  | .hbm, ⟨45, _⟩ => ⟨S256x128, .i32⟩
  | .hbm, ⟨46, _⟩ => ⟨S256x128, .i32⟩
  | .hbm, ⟨47, _⟩ => ⟨S_, .i32⟩
  | .hbm, ⟨48, _⟩ => ⟨S256x128, .i32⟩
  | .hbm, ⟨49, _⟩ => ⟨S256x128, .i1⟩
  | .hbm, ⟨50, _⟩ => ⟨S_, .i32⟩
  | .hbm, ⟨51, _⟩ => ⟨S256x128, .i32⟩
  | .hbm, ⟨52, _⟩ => ⟨S256x128, .i32⟩
  | .hbm, ⟨53, _⟩ => ⟨S256x128, .i32⟩
  | .hbm, ⟨54, _⟩ => ⟨S256x128x1, .i32⟩
  | .hbm, ⟨55, _⟩ => ⟨S256x128x16, .f32⟩
  | .hbm, ⟨56, _⟩ => ⟨S1x16, .f32⟩
  | .hbm, ⟨57, _⟩ => ⟨S16, .f32⟩
  | .hbm, ⟨58, _⟩ => ⟨S1x1x16, .f32⟩
  | .hbm, ⟨59, _⟩ => ⟨S256x128x16, .f32⟩
  | .hbm, ⟨60, _⟩ => ⟨S256x128x16, .f32⟩
  | .hbm, ⟨61, _⟩ => ⟨S_, .f32⟩
  | .hbm, ⟨62, _⟩ => ⟨S256x128x16, .f32⟩
  | .hbm, ⟨63, _⟩ => ⟨S256x128x16, .f32⟩
  | .hbm, ⟨64, _⟩ => ⟨S256x16x128, .f32⟩
  | .hbm, ⟨65, _⟩ => ⟨S256x2048, .f32⟩
  | .hbm, ⟨66, _⟩ => ⟨S_, .i32⟩
  | .hbm, ⟨67, _⟩ => ⟨S_, .f32⟩
  | .hbm, ⟨68, _⟩ => ⟨S1280x2048, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_c_2 : Ref sig .tc := ⟨.hbm, 15, rfl⟩
abbrev main_call0_v0 : Ref sig .tc := ⟨.hbm, 16, rfl⟩
abbrev main_call0_v1 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_v25 : Ref sig .tc := ⟨.hbm, 37, rfl⟩
abbrev main_c_7 : Ref sig .tc := ⟨.hbm, 38, rfl⟩
abbrev main_v26 : Ref sig .tc := ⟨.hbm, 39, rfl⟩
abbrev main_v27 : Ref sig .tc := ⟨.hbm, 40, rfl⟩
abbrev main_c_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_9 : Ref sig .tc := ⟨.hbm, 47, rfl⟩
abbrev main_v33 : Ref sig .tc := ⟨.hbm, 48, rfl⟩
abbrev main_v34 : Ref sig .tc := ⟨.hbm, 49, rfl⟩
abbrev main_c_10 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_12 : Ref sig .tc := ⟨.hbm, 66, rfl⟩
abbrev main_call2_v0 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel2.lean ====
abbrev S8192x2048 : Shape := ⟨2, ![8192, 2048]⟩
abbrev S8192x1024 : Shape := ⟨2, ![8192, 1024]⟩
abbrev S8192x256 : Shape := ⟨2, ![8192, 256]⟩
abbrev S2048x2048 : Shape := ⟨2, ![2048, 2048]⟩
abbrev S256x2048 : Shape := ⟨2, ![256, 2048]⟩
abbrev S2048 : Shape := ⟨1, ![2048]⟩
abbrev S1x2048 : Shape := ⟨2, ![1, 2048]⟩
abbrev S512x2048 : Shape := ⟨2, ![512, 2048]⟩
abbrev S512x1024 : Shape := ⟨2, ![512, 1024]⟩
abbrev S512x256 : Shape := ⟨2, ![512, 256]⟩
abbrev S1024x2048 : Shape := ⟨2, ![1024, 2048]⟩
abbrev S512 : Shape := ⟨1, ![512]⟩
abbrev S512x1 : Shape := ⟨2, ![512, 1]⟩

abbrev nBuf : Space → Nat
  | .hbm => 13
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S8192x256, .f32⟩
  | .hbm, ⟨4, _⟩ => ⟨S2048x2048, .f32⟩
  | .hbm, ⟨5, _⟩ => ⟨S256x2048, .f32⟩
  | .hbm, ⟨6, _⟩ => ⟨S2048x2048, .f32⟩
  | .hbm, ⟨7, _⟩ => ⟨S2048, .f32⟩
  | .hbm, ⟨8, _⟩ => ⟨S2048x2048, .bf16⟩
  | .hbm, ⟨9, _⟩ => ⟨S256x2048, .bf16⟩
  | .hbm, ⟨10, _⟩ => ⟨S2048x2048, .bf16⟩
  | .hbm, ⟨11, _⟩ => ⟨S1x2048, .f32⟩
  | .hbm, ⟨12, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x256, .f32⟩
  | .local _ .vmem, ⟨7, _⟩ => ⟨S512x256, .f32⟩
  | .local _ .vmem, ⟨8, _⟩ => ⟨S1024x2048, .bf16⟩
  | .local _ .vmem, ⟨9, _⟩ => ⟨S1024x2048, .bf16⟩
  | .local _ .vmem, ⟨10, _⟩ => ⟨S256x2048, .bf16⟩
  | .local _ .vmem, ⟨11, _⟩ => ⟨S2048x2048, .bf16⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S8192x2048 : Shape := ⟨2, ![8192, 2048]⟩
abbrev S8192x1024 : Shape := ⟨2, ![8192, 1024]⟩
abbrev S8192x256 : Shape := ⟨2, ![8192, 256]⟩
abbrev S2048x2048 : Shape := ⟨2, ![2048, 2048]⟩
abbrev S256x2048 : Shape := ⟨2, ![256, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S8192x256, .f32⟩
  | .hbm, ⟨4, _⟩ => ⟨S2048x2048, .f32⟩
  | .hbm, ⟨5, _⟩ => ⟨S256x2048, .f32⟩
  | .hbm, ⟨6, _⟩ => ⟨S2048x2048, .f32⟩
  | .hbm, ⟨7, _⟩ => ⟨S2048, .f32⟩
  | .hbm, ⟨8, _⟩ => ⟨S8192x2048, .bf16⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S1x2048, .f32⟩
  | .hbm, ⟨38, _⟩ => ⟨S8192x2048, .f32⟩
  | .hbm, ⟨39, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel3.lean ====
abbrev S8192x2048 : Shape := ⟨2, ![8192, 2048]⟩
abbrev S2048 : Shape := ⟨1, ![2048]⟩
abbrev S2048x5968 : Shape := ⟨2, ![2048, 5968]⟩
abbrev S256 : Shape := ⟨1, ![256]⟩
abbrev S64 : Shape := ⟨1, ![64]⟩
abbrev S1x2048 : Shape := ⟨2, ![1, 2048]⟩
abbrev S2048x1024 : Shape := ⟨2, ![2048, 1024]⟩
abbrev S1x256 : Shape := ⟨2, ![1, 256]⟩
abbrev S1x64 : Shape := ⟨2, ![1, 64]⟩
abbrev S8192x6016 : Shape := ⟨2, ![8192, 6016]⟩
abbrev S8192x256 : Shape := ⟨2, ![8192, 256]⟩
abbrev S8192x64 : Shape := ⟨2, ![8192, 64]⟩
abbrev S256x2048 : Shape := ⟨2, ![256, 2048]⟩
abbrev S256x6016 : Shape := ⟨2, ![256, 6016]⟩
abbrev S256x256 : Shape := ⟨2, ![256, 256]⟩
abbrev S256x64 : Shape := ⟨2, ![256, 64]⟩
abbrev S256x1 : Shape := ⟨2, ![256, 1]⟩
abbrev S2048x768 : Shape := ⟨2, ![2048, 768]⟩
abbrev S256x768 : Shape := ⟨2, ![256, 768]⟩
abbrev S2048x256 : Shape := ⟨2, ![2048, 256]⟩
abbrev S2048x384 : Shape := ⟨2, ![2048, 384]⟩
abbrev S256x384 : Shape := ⟨2, ![256, 384]⟩
abbrev S2048x128 : Shape := ⟨2, ![2048, 128]⟩
abbrev S256x128 : Shape := ⟨2, ![256, 128]⟩

abbrev nBuf : Space → Nat
  | .hbm => 13
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5968, .f32⟩
  | .hbm, ⟨3, _⟩ => ⟨S256, .f32⟩
  | .hbm, ⟨4, _⟩ => ⟨S64, .f32⟩
  | .hbm, ⟨5, _⟩ => ⟨S1x2048, .f32⟩
  | .hbm, ⟨6, _⟩ => ⟨S2048x5968, .bf16⟩
  | .hbm, ⟨7, _⟩ => ⟨S2048x1024, .bf16⟩
  | .hbm, ⟨8, _⟩ => ⟨S1x256, .f32⟩
  | .hbm, ⟨9, _⟩ => ⟨S1x64, .f32⟩
  | .hbm, ⟨10, _⟩ => ⟨S8192x6016, .f32⟩
  | .hbm, ⟨11, _⟩ => ⟨S8192x256, .bf16⟩
  | .hbm, ⟨12, _⟩ => ⟨S8192x64, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x5968, .bf16⟩
  | .local _ .vmem, ⟨4, _⟩ => ⟨S2048x1024, .bf16⟩
  | .local _ .vmem, ⟨5, _⟩ => ⟨S1x256, .f32⟩
  | .local _ .vmem, ⟨6, _⟩ => ⟨S1x64, .f32⟩
  | .local _ .vmem, ⟨7, _⟩ => ⟨S256x6016, .f32⟩
  | .local _ .vmem, ⟨8, _⟩ => ⟨S256x6016, .f32⟩
  | .local _ .vmem, ⟨9, _⟩ => ⟨S256x256, .bf16⟩
  | .local _ .vmem, ⟨10, _⟩ => ⟨S256x256, .bf16⟩
  | .local _ .vmem, ⟨11, _⟩ => ⟨S256x64, .bf16⟩
  | .local _ .vmem, ⟨12, _⟩ => ⟨S256x64, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x5968 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x6016 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S8192x2048 : Shape := ⟨2, ![8192, 2048]⟩
abbrev S2048 : Shape := ⟨1, ![2048]⟩
abbrev S2048x5968 : Shape := ⟨2, ![2048, 5968]⟩
abbrev S256 : Shape := ⟨1, ![256]⟩
abbrev S64 : Shape := ⟨1, ![64]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5968 : Shape := ⟨2, ![8192, 5968]⟩
abbrev S8192x3072 : Shape := ⟨2, ![8192, 3072]⟩
abbrev S8192x128 : Shape := ⟨2, ![8192, 128]⟩
abbrev S8192x1024 : Shape := ⟨2, ![8192, 1024]⟩
abbrev S8192x384 : Shape := ⟨2, ![8192, 384]⟩
abbrev S8192x256 : Shape := ⟨2, ![8192, 256]⟩
abbrev S8192x64 : Shape := ⟨2, ![8192, 64]⟩
abbrev S8192x6016 : Shape := ⟨2, ![8192, 6016]⟩
abbrev S1x256 : Shape := ⟨2, ![1, 256]⟩
abbrev S1x64 : Shape := ⟨2, ![1, 64]⟩

abbrev nBuf : Space → Nat
  | .hbm => 65
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5968, .f32⟩
  | .hbm, ⟨3, _⟩ => ⟨S256, .f32⟩
  | .hbm, ⟨4, _⟩ => ⟨S64, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x5968, .f32⟩
  | .hbm, ⟨22, _⟩ => ⟨S8192x3072, .f32⟩
  | .hbm, ⟨23, _⟩ => ⟨S8192x128, .f32⟩
  | .hbm, ⟨24, _⟩ => ⟨S8192x1024, .f32⟩
  | .hbm, ⟨25, _⟩ => ⟨S8192x384, .f32⟩
  | .hbm, ⟨26, _⟩ => ⟨S8192x256, .f32⟩
  | .hbm, ⟨27, _⟩ => ⟨S8192x64, .f32⟩
  | .hbm, ⟨28, _⟩ => ⟨S8192x1024, .f32⟩
  | .hbm, ⟨29, _⟩ => ⟨S8192x128, .f32⟩
  | .hbm, ⟨30, _⟩ => ⟨S8192x6016, .f32⟩
  | .hbm, ⟨31, _⟩ => ⟨S8192x256, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x256, .f32⟩
  | .hbm, ⟨43, _⟩ => ⟨S8192x256, .f32⟩
  | .hbm, ⟨44, _⟩ => ⟨S1x256, .f32⟩
  | .hbm, ⟨45, _⟩ => ⟨S8192x256, .f32⟩
  | .hbm, ⟨46, _⟩ => ⟨S8192x256, .f32⟩
  | .hbm, ⟨47, _⟩ => ⟨S8192x256, .bf16⟩
  | .hbm, ⟨48, _⟩ => ⟨S8192x64, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x1, .f32⟩
  | .hbm, ⟨59, _⟩ => ⟨S8192x64, .f32⟩
  | .hbm, ⟨60, _⟩ => ⟨S8192x64, .f32⟩
  | .hbm, ⟨61, _⟩ => ⟨S1x64, .f32⟩
  | .hbm, ⟨62, _⟩ => ⟨S8192x64, .f32⟩
  | .hbm, ⟨63, _⟩ => ⟨S8192x64, .f32⟩
  | .hbm, ⟨64, _⟩ => ⟨S8192x64, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== Proof.Keeps.lean ====
/- Programs that only load and store through memrefs held whole, and so leave what is held as it was: the notion, and its
   closure under the ways a TensorCore body is put together. What a memref holds is not named: a store changes it, and
   nothing here depends on it. -/
module

public import Idealize.ShloMosaic.Lib.Exec
public import Idealize.ShloMosaic.Lib.Tactic
public import Idealize.ShloMosaic.Lib.Scf
public import Idealize.ShloMosaic.Lib.Pipeline.Frame

@[expose] public section

noncomputable section

namespace Cert.Keeping

open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode

variable {nD : Nat} {τ : Topo} {sig : RefSig} {Val : EltTy → Type} {Λ : Labels}

local notation "𝕄" => MT nD τ sig Unit Val ℕ (UR sig nD τ) ℕ
abbrev TcProg (nD : Nat) (τ : Topo) (sig : RefSig) (Val : EltTy → Type) (Λ : Labels) := Prog (TpuEff nD τ sig Val Λ .tc)

/-- Core `d` owns the memref's elements whole, at contents not named. -/
def Held (d : Dev nD) {cs : CoreSpace} {s : Shape} {e : EltTy} (m : Memref sig .tc cs s e) : sProp 𝕄 :=
  iprop(∃ f : Buf Val (m.view.loc (d.tc : Thread nD τ)), m.view.loc (d.tc : Thread nD τ) ↦[m.view.set]{fullShare} f)

/-- Out of the resource `H` the memref `m` can be taken whole, and put back at any contents. -/
class Has (d : Dev nD) (H : sProp 𝕄) {cs : CoreSpace} {s : Shape} {e : EltTy} (m : Memref sig .tc cs s e) : Prop where
  split : H ⊢ iprop(Held d m ∗ (Held d m -∗ H))

/-- The program, started with `H`, runs without a fault and ends with `H`. -/
class Keeps (defs : Defs nD τ sig Val Λ) (𝒱 : Variants) (bd : Option 𝒱.V) (d : Dev nD) (H : sProp 𝕄) {α : Type} (p : TcProg nD τ sig Val Λ α) : Prop where
  run : H ⊢ wp frame (wpE defs 𝒱 (d.tc : Thread nD τ) bd) Set.univ p (fun _ => H)

/-- Returning a value keeps everything. -/
theorem Keeps.pure {defs : Defs nD τ sig Val Λ} {𝒱 : Variants} {bd : Option 𝒱.V} {d : Dev nD} {H : sProp 𝕄}
    {α : Type} (a : α) : Keeps defs 𝒱 bd d H (Pure.pure a : TcProg nD τ sig Val Λ α) :=
  ⟨le_wp_ret _ _ _ a fun _ => H⟩

/-- One program after another. -/
theorem Keeps.bind {defs : Defs nD τ sig Val Λ} {𝒱 : Variants} {bd : Option 𝒱.V} {d : Dev nD} {H : sProp 𝕄}
    {α β : Type} {p : TcProg nD τ sig Val Λ α} {k : α → TcProg nD τ sig Val Λ β} (hp : Keeps defs 𝒱 bd d H p) (hk : ∀ a, Keeps defs 𝒱 bd d H (k a)) : Keeps defs 𝒱 bd d H (p >>= k) :=
  ⟨by rw [wp_bind]; exact hp.run.trans (wp_mono _ _ _ fun a => (hk a).run)⟩

/-- A load through a memref that is held. -/
theorem Keeps.load {defs : Defs nD τ sig Val Λ} {𝒱 : Variants} {bd : Option 𝒱.V} {d : Dev nD} {H : sProp 𝕄}
    {cs : CoreSpace} {s : Shape} {e : EltTy} (m : Memref sig .tc cs s e) (r : LoadRect s) (hl : m.view.LoadsAt r)
    (hm : Has d H m) : Keeps defs 𝒱 bd d H (Prog.lift (.load m r hl) : TcProg nD τ sig Val Λ (r.shape.Idx → Val e)) := by
  refine ⟨hm.split.trans ?_⟩
  unfold Held
  iintro ⟨⟨%f, Hm⟩, HH⟩
  iapply (wp_load (c := (d.tc : Thread nD τ)) 𝒱 bd Set.univ (m := m) (r := r) (hl := hl) (View.setOn_subset_set _ _)) $$ Hm
  iintro Hm
  iapply le_wp_ret
  iapply HH
  iexists f
  iexact Hm

/-- A store through a memref that is held. -/
theorem Keeps.store {defs : Defs nD τ sig Val Λ} {𝒱 : Variants} {bd : Option 𝒱.V} {d : Dev nD} {H : sProp 𝕄}
    {cs : CoreSpace} {s : Shape} {e : EltTy} (m : Memref sig .tc cs s e) (r : Rect s) (w : r.shape.Idx → Val e)
    (Mk : Finset r.shape.Idx) (hx : (m.access r).Stores Mk) (hk : Mk = Finset.univ ∨ ∀ a, r.stride a = 1)
    (hm : Has d H m) : Keeps defs 𝒱 bd d H (Prog.lift (.store m r w Mk hx hk) : TcProg nD τ sig Val Λ PUnit) := by
  refine ⟨hm.split.trans ?_⟩
  unfold Held
  iintro ⟨⟨%f, Hm⟩, HH⟩
  iapply (wp_store (c := (d.tc : Thread nD τ)) 𝒱 bd Set.univ (m := m) (r := r) (w := w) (Mk := Mk) (hx := hx) (hm := hk)
    ((View.setOn_subset_set _ _).trans (View.set_slice_subset _ _))) $$ Hm
  iintro Hm
  iapply le_wp_ret
  iapply HH
  iexists _
  iexact Hm

/-- A counted loop whose every trip keeps what is held. -/
theorem Keeps.loop {defs : Defs nD τ sig Val Λ} {𝒱 : Variants} {bd : Option 𝒱.V} {d : Dev nD} {H : sProp 𝕄}
    {σ : Type} {w : Nat} (lb ub st : BitVec w) (hok : Scf.OK lb ub st) (init : σ)
    (body : Fin (Scf.trips lb ub st) → σ → TcProg nD τ sig Val Λ σ) (h : ∀ k a, Keeps defs 𝒱 bd d H (body k a)) : Keeps defs 𝒱 bd d H (Scf.for lb ub st hok init body) := by
  refine ⟨?_⟩
  iintro HH
  iapply (Scf.wp_for _ _ _ lb ub st hok init body (fun _ _ => H) fun k a => (h k a).run)
  isplitl [HH]
  · iexact HH
  · iintro %a HH; iexact HH

/-- A choice between two programs. -/
theorem Keeps.ite {defs : Defs nD τ sig Val Λ} {𝒱 : Variants} {bd : Option 𝒱.V} {d : Dev nD} {H : sProp 𝕄}
    {α : Type} (P : Prop) [Decidable P] {p q : TcProg nD τ sig Val Λ α} (hp : P → Keeps defs 𝒱 bd d H p) (hq : ¬ P → Keeps defs 𝒱 bd d H q) :
    Keeps defs 𝒱 bd d H (if P then p else q) := by
  split
  · exact hp ‹_›
  · exact hq ‹_›

/-- A choice between two programs that may use which way it went. -/
theorem Keeps.dite {defs : Defs nD τ sig Val Λ} {𝒱 : Variants} {bd : Option 𝒱.V} {d : Dev nD} {H : sProp 𝕄}
    {α : Type} (P : Prop) [Decidable P] {p : P → TcProg nD τ sig Val Λ α} {q : ¬ P → TcProg nD τ sig Val Λ α} (hp : ∀ h, Keeps defs 𝒱 bd d H (p h)) (hq : ∀ h, Keeps defs 𝒱 bd d H (q h)) :
    Keeps defs 𝒱 bd d H (if h : P then p h else q h) := by
  split
  · exact hp _
  · exact hq _

/-- A call, entered below the variant in force, of a label whose body keeps what is held. -/
theorem Keeps.call {defs : Defs nD τ sig Val Λ} {𝒱 : Variants} {bd : Option 𝒱.V} {d : Dev nD} {H : sProp 𝕄}
    {ℓ : Λ.Label} (a : Λ.Args ℓ) (v : 𝒱.V) (hv : ∀ u ∈ bd, 𝒱.lt v u) (h : Keeps defs 𝒱 (some v) d H (defs .tc ℓ a)) :
    Keeps defs 𝒱 bd d H (Prog.lift (.call ℓ a) : TcProg nD τ sig Val Λ (Λ.Result ℓ)) :=
  ⟨(h.run.trans (wp_mono _ _ _ fun x => le_wp_ret _ _ _ x fun _ => H)).trans
    (wp_call (c := (d.tc : Thread nD τ)) 𝒱 bd Set.univ v hv)⟩

/-- An assumption that holds. -/
theorem Keeps.assume {defs : Defs nD τ sig Val Λ} {𝒱 : Variants} {bd : Option 𝒱.V} {d : Dev nD} {H : sProp 𝕄}
    {P : Prop} (dec : Decidable P) (h : P) : Keeps defs 𝒱 bd d H (Prog.lift (.assume P dec) : TcProg nD τ sig Val Λ (PLift P)) :=
  ⟨(le_wp_ret _ _ _ (⟨h⟩ : PLift P) fun _ => H).trans (wp_assume (c := (d.tc : Thread nD τ)) 𝒱 bd Set.univ h)⟩

end Cert.Keeping

end
-- ==== Proof.Parts1.lean ====
module

public import proofs.«01_k».proof.Kernel
public import proofs.«01_k».proof.Proof.Keeps

/-!
Parts of the body of the sparse attention, each on its own: from a memory that holds, each runs
to its end and leaves one that holds. Each proof walks the part, one operation at a time.
-/

@[expose] public section

noncomputable section

namespace Cert.Kernel

open Idealize.ShloMosaic Idealize.ShloMosaic.TcCoe
open Idealize.SL Idealize.SL.RA Idealize.SL.BI
open scoped Idealize.SL.BI
open Idealize.SL.BI.BIBase Idealize.SL.Sem
open Cert.Keeping

variable {F : FTy → Type} [BitOps F] [Facts]

variable (i : grid0.Coords) (arg2 : Memref sig .tc .vmem S256x384 .f32) (harg2 : arg2.IsWhole) (arg3 : Memref sig .tc .vmem S256x128 .f32) (harg3 : arg3.IsWhole) (arg4 : Memref sig .tc .vmem S256x1024 .f32) (harg4 : arg4.IsWhole) (arg5 : Memref sig .tc .vmem S4096x64 .bf16) (harg5 : arg5.IsWhole) (arg6 : Memref sig .tc .vmem S4096x256 .bf16) (harg6 : arg6.IsWhole) (arg7 : Memref sig .tc .vmem S272x4096 .bf16) (harg7 : arg7.IsWhole) (arg8 : Memref sig .tc .vmem S1x384 .f32) (harg8 : arg8.IsWhole) (arg9 : Memref sig .tc .vmem S384x2048 .bf16) (harg9 : arg9.IsWhole) (arg10 : Memref sig .tc .vmem S16x256x64 .bf16) (harg10 : arg10.IsWhole) (arg11 : Memref sig .tc .vmem S16x64x256 .bf16) (harg11 : arg11.IsWhole) (arg12 : Memref sig .tc .vmem S1280x2048 .f32) (harg12 : arg12.IsWhole) (arg13 : Memref sig .tc .vmem S256x1024 .bf16) (harg13 : arg13.IsWhole) (arg14 : Memref sig .tc .vmem S4096x256 .f32) (harg14 : arg14.IsWhole) (arg15 : Memref sig .tc .vmem S4096x256 .i32) (harg15 : arg15.IsWhole) (arg16 : Memref sig .tc .vmem S128x256 .i32) (harg16 : arg16.IsWhole) (arg17 : Memref sig .tc .vmem S512x4096 .f32) (harg17 : arg17.IsWhole) (arg18 : Memref sig .tc .vmem S272x4096 .f32) (harg18 : arg18.IsWhole) (arg19 : Memref sig .tc .vmem S1x4096 .f32) (harg19 : arg19.IsWhole) (arg20 : Memref sig .tc .vmem S256x4096 .bf16) (harg20 : arg20.IsWhole) (arg21 : Memref sig .tc .vmem S8x64x512 .bf16) (harg21 : arg21.IsWhole) (arg22 : Memref sig .tc .vmem S16x256 .f32) (harg22 : arg22.IsWhole) (arg23 : Memref sig .tc .vmem S1024x256 .f32) (harg23 : arg23.IsWhole)
  (d : Dev nD) (H : sProp (MT nD τ sig Unit (Elt F) ℕ (UR sig nD τ) ℕ)) [Harg2 : Has d H arg2] [Harg3 : Has d H arg3] [Harg4 : Has d H arg4] [Harg5 : Has d H arg5] [Harg6 : Has d H arg6] [Harg7 : Has d H arg7] [Harg8 : Has d H arg8] [Harg9 : Has d H arg9] [Harg10 : Has d H arg10] [Harg11 : Has d H arg11] [Harg12 : Has d H arg12] [Harg13 : Has d H arg13] [Harg14 : Has d H arg14] [Harg15 : Has d H arg15] [Harg16 : Has d H arg16] [Harg17 : Has d H arg17] [Harg18 : Has d H arg18] [Harg19 : Has d H arg19] [Harg20 : Has d H arg20] [Harg21 : Has d H arg21] [Harg22 : Has d H arg22] [Harg23 : Has d H arg23]

set_option maxHeartbeats 4000000 in
/-- Part 1 of the body keeps what its memory holds. -/
instance keeps_part1 : ∀ a0 a1 a2, Keeps (defs₀ (F := F)) Variants.nat none d H
    (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 2 of the body keeps what its memory holds. -/
instance keeps_part2 : ∀ a0 a1 a2 a3, Keeps (defs₀ (F := F)) Variants.nat none d H
    (k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 3 of the body keeps what its memory holds. -/
instance keeps_part3 : ∀ a0 a1, Keeps (defs₀ (F := F)) Variants.nat none d H
    (k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 5 of the body keeps what its memory holds. -/
instance keeps_part5 : ∀ a0 a1 a2, Keeps (defs₀ (F := F)) Variants.nat none d H
    (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 6 of the body keeps what its memory holds. -/
instance keeps_part6 : ∀ a0 a1 a2 a3, Keeps (defs₀ (F := F)) Variants.nat none d H
    (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 7 of the body keeps what its memory holds. -/
instance keeps_part7 : ∀ a0 a1, Keeps (defs₀ (F := F)) Variants.nat none d H
    (k0_part7 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 9 of the body keeps what its memory holds. -/
instance keeps_part9 : ∀ a0 a1, Keeps (defs₀ (F := F)) Variants.nat none d H
    (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 10 of the body keeps what its memory holds. -/
instance keeps_part10 : ∀ a0 a1 a2 a3, Keeps (defs₀ (F := F)) Variants.nat none d H
    (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 11 of the body keeps what its memory holds. -/
instance keeps_part11 : ∀ a0 a1 a2, Keeps (defs₀ (F := F)) Variants.nat none d H
    (k0_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 13 of the body keeps what its memory holds. -/
instance keeps_part13 : ∀ a0 a1 a2, Keeps (defs₀ (F := F)) Variants.nat none d H
    (k0_part13 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 14 of the body keeps what its memory holds. -/
instance keeps_part14 : ∀ a0 a1 a2 a3 a4, Keeps (defs₀ (F := F)) Variants.nat none d H
    (k0_part14 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 15 of the body keeps what its memory holds. -/
instance keeps_part15 : ∀ a0 a1 a2 a3 a4, Keeps (defs₀ (F := F)) Variants.nat none d H
    (k0_part15 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 16 of the body keeps what its memory holds. -/
instance keeps_part16 : ∀ a0 a1 a2 a3 a4, Keeps (defs₀ (F := F)) Variants.nat none d H
    (k0_part16 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 17 of the body keeps what its memory holds. -/
instance keeps_part17 : ∀ a0 a1 a2 a3 a4, Keeps (defs₀ (F := F)) Variants.nat none d H
    (k0_part17 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 18 of the body keeps what its memory holds. -/
instance keeps_part18 : ∀ a0 a1 a2 a3 a4, Keeps (defs₀ (F := F)) Variants.nat none d H
    (k0_part18 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 19 of the body keeps what its memory holds. -/
instance keeps_part19 : ∀ a0 a1 a2 a3 a4, Keeps (defs₀ (F := F)) Variants.nat none d H
    (k0_part19 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 20 of the body keeps what its memory holds. -/
instance keeps_part20 : ∀ a0 a1 a2 a3 a4, Keeps (defs₀ (F := F)) Variants.nat none d H
    (k0_part20 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 21 of the body keeps what its memory holds. -/
instance keeps_part21 : ∀ a0 a1 a2 a3 a4 a5 a6 a7 a8 a9 a10 a11 a12, Keeps (defs₀ (F := F)) Variants.nat none d H
    (k0_part21 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10 a11 a12) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 22 of the body keeps what its memory holds. -/
instance keeps_part22 : ∀ a0 a1 a2 a3 a4 a5 a6 a7 a8 a9 a10 a11, Keeps (defs₀ (F := F)) Variants.nat none d H
    (k0_part22 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10 a11) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 23 of the body keeps what its memory holds. -/
instance keeps_part23 : ∀ a0 a1 a2 a3 a4 a5 a6 a7 a8 a9 a10 a11, Keeps (defs₀ (F := F)) Variants.nat none d H
    (k0_part23 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10 a11) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 24 of the body keeps what its memory holds. -/
instance keeps_part24 : ∀ a0 a1 a2 a3 a4 a5 a6 a7 a8 a9 a10 a11, Keeps (defs₀ (F := F)) Variants.nat none d H
    (k0_part24 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10 a11) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 25 of the body keeps what its memory holds. -/
instance keeps_part25 : ∀ a0 a1 a2 a3 a4 a5 a6 a7 a8 a9 a10 a11, Keeps (defs₀ (F := F)) Variants.nat none d H
    (k0_part25 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10 a11) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 26 of the body keeps what its memory holds. -/
instance keeps_part26 : ∀ a0 a1 a2 a3 a4 a5 a6 a7 a8 a9 a10 a11, Keeps (defs₀ (F := F)) Variants.nat none d H
    (k0_part26 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10 a11) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 27 of the body keeps what its memory holds. -/
instance keeps_part27 : ∀ a0 a1 a2 a3 a4 a5 a6 a7 a8 a9 a10 a11, Keeps (defs₀ (F := F)) Variants.nat none d H
    (k0_part27 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10 a11) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 28 of the body keeps what its memory holds. -/
instance keeps_part28 : ∀ a0 a1 a2 a3 a4 a5 a6 a7 a8 a9 a10 a11, Keeps (defs₀ (F := F)) Variants.nat none d H
    (k0_part28 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10 a11) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 29 of the body keeps what its memory holds. -/
instance keeps_part29 : ∀ a0 a1 a2 a3 a4 a5 a6 a7 a8 a9 a10 a11, Keeps (defs₀ (F := F)) Variants.nat none d H
    (k0_part29 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10 a11) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 30 of the body keeps what its memory holds. -/
instance keeps_part30 : ∀ a0 a1 a2 a3 a4 a5 a6 a7 a8 a9 a10 a11, Keeps (defs₀ (F := F)) Variants.nat none d H
    (k0_part30 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10 a11) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 31 of the body keeps what its memory holds. -/
instance keeps_part31 : ∀ a0 a1 a2 a3 a4 a5 a6 a7 a8 a9 a10 a11, Keeps (defs₀ (F := F)) Variants.nat none d H
    (k0_part31 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10 a11) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 32 of the body keeps what its memory holds. -/
instance keeps_part32 : ∀ a0 a1 a2 a3 a4 a5 a6 a7 a8 a9 a10 a11, Keeps (defs₀ (F := F)) Variants.nat none d H
    (k0_part32 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10 a11) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 33 of the body keeps what its memory holds. -/
instance keeps_part33 : ∀ a0 a1 a2 a3 a4 a5 a6 a7 a8 a9 a10 a11, Keeps (defs₀ (F := F)) Variants.nat none d H
    (k0_part33 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10 a11) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 34 of the body keeps what its memory holds. -/
instance keeps_part34 : ∀ a0 a1 a2 a3 a4 a5 a6 a7 a8 a9 a10 a11, Keeps (defs₀ (F := F)) Variants.nat none d H
    (k0_part34 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10 a11) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 35 of the body keeps what its memory holds. -/
instance keeps_part35 : ∀ a0 a1 a2 a3 a4 a5 a6 a7 a8 a9 a10 a11, Keeps (defs₀ (F := F)) Variants.nat none d H
    (k0_part35 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10 a11) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 36 of the body keeps what its memory holds. -/
instance keeps_part36 : ∀ a0 a1 a2 a3 a4 a5 a6 a7 a8 a9 a10 a11, Keeps (defs₀ (F := F)) Variants.nat none d H
    (k0_part36 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10 a11) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 37 of the body keeps what its memory holds. -/
instance keeps_part37 : ∀ a0 a1 a2 a3 a4 a5 a6 a7 a8 a9 a10, Keeps (defs₀ (F := F)) Variants.nat none d H
    (k0_part37 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 38 of the body keeps what its memory holds. -/
instance keeps_part38 : ∀ a0 a1 a2 a3 a4 a5 a6 a7 a8, Keeps (defs₀ (F := F)) Variants.nat none d H
    (k0_part38 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 39 of the body keeps what its memory holds. -/
instance keeps_part39 : ∀ a0 a1 a2 a3 a4 a5 a6 a7 a8 a9, Keeps (defs₀ (F := F)) Variants.nat none d H
    (k0_part39 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 40 of the body keeps what its memory holds. -/
instance keeps_part40 : ∀ a0 a1 a2 a3 a4 a5 a6 a7 a8, Keeps (defs₀ (F := F)) Variants.nat none d H
    (k0_part40 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 41 of the body keeps what its memory holds. -/
instance keeps_part41 : ∀ a0 a1 a2, Keeps (defs₀ (F := F)) Variants.nat none d H
    (k0_part41 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 42 of the body keeps what its memory holds. -/
instance keeps_part42 : ∀ a0 a1 a2 a3 a4, Keeps (defs₀ (F := F)) Variants.nat none d H
    (k0_part42 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 43 of the body keeps what its memory holds. -/
instance keeps_part43 : ∀ a0 a1 a2 a3 a4, Keeps (defs₀ (F := F)) Variants.nat none d H
    (k0_part43 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 44 of the body keeps what its memory holds. -/
instance keeps_part44 : ∀ a0 a1 a2 a3 a4, Keeps (defs₀ (F := F)) Variants.nat none d H
    (k0_part44 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 45 of the body keeps what its memory holds. -/
instance keeps_part45 : ∀ a0 a1 a2 a3 a4, Keeps (defs₀ (F := F)) Variants.nat none d H
    (k0_part45 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 46 of the body keeps what its memory holds. -/
instance keeps_part46 : ∀ a0 a1 a2 a3 a4, Keeps (defs₀ (F := F)) Variants.nat none d H
    (k0_part46 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 47 of the body keeps what its memory holds. -/
instance keeps_part47 : ∀ a0 a1 a2 a3 a4, Keeps (defs₀ (F := F)) Variants.nat none d H
    (k0_part47 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 48 of the body keeps what its memory holds. -/
instance keeps_part48 : ∀ a0 a1 a2 a3 a4, Keeps (defs₀ (F := F)) Variants.nat none d H
    (k0_part48 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 49 of the body keeps what its memory holds. -/
instance keeps_part49 : ∀ a0 a1 a2 a3 a4 a5 a6 a7 a8 a9 a10 a11 a12, Keeps (defs₀ (F := F)) Variants.nat none d H
    (k0_part49 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10 a11 a12) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 50 of the body keeps what its memory holds. -/
instance keeps_part50 : ∀ a0 a1 a2 a3 a4 a5 a6 a7 a8 a9 a10 a11, Keeps (defs₀ (F := F)) Variants.nat none d H
    (k0_part50 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10 a11) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 51 of the body keeps what its memory holds. -/
instance keeps_part51 : ∀ a0 a1 a2 a3 a4 a5 a6 a7 a8 a9 a10 a11, Keeps (defs₀ (F := F)) Variants.nat none d H
    (k0_part51 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10 a11) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 52 of the body keeps what its memory holds. -/
instance keeps_part52 : ∀ a0 a1 a2 a3 a4 a5 a6 a7 a8 a9 a10 a11, Keeps (defs₀ (F := F)) Variants.nat none d H
    (k0_part52 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10 a11) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 53 of the body keeps what its memory holds. -/
instance keeps_part53 : ∀ a0 a1 a2 a3 a4 a5 a6 a7 a8 a9 a10 a11, Keeps (defs₀ (F := F)) Variants.nat none d H
    (k0_part53 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10 a11) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 54 of the body keeps what its memory holds. -/
instance keeps_part54 : ∀ a0 a1 a2 a3 a4 a5 a6 a7 a8 a9 a10 a11, Keeps (defs₀ (F := F)) Variants.nat none d H
    (k0_part54 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10 a11) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 55 of the body keeps what its memory holds. -/
instance keeps_part55 : ∀ a0 a1 a2 a3 a4 a5 a6 a7 a8 a9 a10 a11, Keeps (defs₀ (F := F)) Variants.nat none d H
    (k0_part55 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10 a11) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 56 of the body keeps what its memory holds. -/
instance keeps_part56 : ∀ a0 a1 a2 a3 a4 a5 a6 a7 a8 a9 a10 a11, Keeps (defs₀ (F := F)) Variants.nat none d H
    (k0_part56 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10 a11) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 57 of the body keeps what its memory holds. -/
instance keeps_part57 : ∀ a0 a1 a2 a3 a4 a5 a6 a7 a8 a9 a10 a11, Keeps (defs₀ (F := F)) Variants.nat none d H
    (k0_part57 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10 a11) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 58 of the body keeps what its memory holds. -/
instance keeps_part58 : ∀ a0 a1 a2 a3 a4 a5 a6 a7 a8 a9 a10 a11, Keeps (defs₀ (F := F)) Variants.nat none d H
    (k0_part58 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10 a11) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 59 of the body keeps what its memory holds. -/
instance keeps_part59 : ∀ a0 a1 a2 a3 a4 a5 a6 a7 a8 a9 a10 a11, Keeps (defs₀ (F := F)) Variants.nat none d H
    (k0_part59 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10 a11) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 60 of the body keeps what its memory holds. -/
instance keeps_part60 : ∀ a0 a1 a2 a3 a4 a5 a6 a7 a8 a9 a10 a11, Keeps (defs₀ (F := F)) Variants.nat none d H
    (k0_part60 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10 a11) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 61 of the body keeps what its memory holds. -/
instance keeps_part61 : ∀ a0 a1 a2 a3 a4 a5 a6 a7 a8 a9 a10 a11, Keeps (defs₀ (F := F)) Variants.nat none d H
    (k0_part61 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10 a11) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 62 of the body keeps what its memory holds. -/
instance keeps_part62 : ∀ a0 a1 a2 a3 a4 a5 a6 a7 a8 a9 a10 a11, Keeps (defs₀ (F := F)) Variants.nat none d H
    (k0_part62 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10 a11) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 63 of the body keeps what its memory holds. -/
instance keeps_part63 : ∀ a0 a1 a2 a3 a4 a5 a6 a7 a8 a9 a10 a11, Keeps (defs₀ (F := F)) Variants.nat none d H
    (k0_part63 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10 a11) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 64 of the body keeps what its memory holds. -/
instance keeps_part64 : ∀ a0 a1 a2 a3 a4 a5 a6 a7 a8 a9 a10 a11, Keeps (defs₀ (F := F)) Variants.nat none d H
    (k0_part64 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10 a11) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 65 of the body keeps what its memory holds. -/
instance keeps_part65 : ∀ a0 a1 a2 a3 a4 a5 a6 a7 a8 a9 a10, Keeps (defs₀ (F := F)) Variants.nat none d H
    (k0_part65 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 66 of the body keeps what its memory holds. -/
instance keeps_part66 : ∀ a0 a1 a2 a3 a4 a5 a6 a7 a8, Keeps (defs₀ (F := F)) Variants.nat none d H
    (k0_part66 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 67 of the body keeps what its memory holds. -/
instance keeps_part67 : ∀ a0 a1 a2 a3 a4 a5 a6 a7 a8 a9, Keeps (defs₀ (F := F)) Variants.nat none d H
    (k0_part67 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 68 of the body keeps what its memory holds. -/
instance keeps_part68 : ∀ a0 a1 a2 a3 a4 a5 a6 a7 a8, Keeps (defs₀ (F := F)) Variants.nat none d H
    (k0_part68 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 69 of the body keeps what its memory holds. -/
instance keeps_part69 : ∀ a0 a1 a2 a3, Keeps (defs₀ (F := F)) Variants.nat none d H
    (k0_part69 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 70 of the body keeps what its memory holds. -/
instance keeps_part70 : ∀ a0 a1 a2 a3 a4 a5, Keeps (defs₀ (F := F)) Variants.nat none d H
    (k0_part70 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 71 of the body keeps what its memory holds. -/
instance keeps_part71 : ∀ a0 a1 a2 a3 a4, Keeps (defs₀ (F := F)) Variants.nat none d H
    (k0_part71 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 72 of the body keeps what its memory holds. -/
instance keeps_part72 : ∀ a0 a1 a2 a3 a4, Keeps (defs₀ (F := F)) Variants.nat none d H
    (k0_part72 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 73 of the body keeps what its memory holds. -/
instance keeps_part73 : ∀ a0 a1 a2 a3, Keeps (defs₀ (F := F)) Variants.nat none d H
    (k0_part73 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 74 of the body keeps what its memory holds. -/
instance keeps_part74 : ∀ a0 a1 a2 a3 a4, Keeps (defs₀ (F := F)) Variants.nat none d H
    (k0_part74 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 75 of the body keeps what its memory holds. -/
instance keeps_part75 : ∀ a0 a1 a2 a3, Keeps (defs₀ (F := F)) Variants.nat none d H
    (k0_part75 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 76 of the body keeps what its memory holds. -/
instance keeps_part76 : ∀ a0 a1 a2 a3 a4 a5, Keeps (defs₀ (F := F)) Variants.nat none d H
    (k0_part76 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 77 of the body keeps what its memory holds. -/
instance keeps_part77 : ∀ a0 a1 a2 a3 a4 a5 a6, Keeps (defs₀ (F := F)) Variants.nat none d H
    (k0_part77 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 78 of the body keeps what its memory holds. -/
instance keeps_part78 : ∀ a0 a1 a2 a3 a4, Keeps (defs₀ (F := F)) Variants.nat none d H
    (k0_part78 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 79 of the body keeps what its memory holds. -/
instance keeps_part79 : ∀ a0 a1 a2 a3, Keeps (defs₀ (F := F)) Variants.nat none d H
    (k0_part79 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 80 of the body keeps what its memory holds. -/
instance keeps_part80 : ∀ a0 a1 a2 a3, Keeps (defs₀ (F := F)) Variants.nat none d H
    (k0_part80 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 82 of the body keeps what its memory holds. -/
instance keeps_part82 : ∀ a0 a1 a2 a3, Keeps (defs₀ (F := F)) Variants.nat none d H
    (k0_part82 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 83 of the body keeps what its memory holds. -/
instance keeps_part83 : ∀ a0 a1 a2 a3, Keeps (defs₀ (F := F)) Variants.nat none d H
    (k0_part83 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 84 of the body keeps what its memory holds. -/
instance keeps_part84 : ∀ a0 a1 a2 a3, Keeps (defs₀ (F := F)) Variants.nat none d H
    (k0_part84 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 85 of the body keeps what its memory holds. -/
instance keeps_part85 : ∀ a0 a1 a2 a3, Keeps (defs₀ (F := F)) Variants.nat none d H
    (k0_part85 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 86 of the body keeps what its memory holds. -/
instance keeps_part86 : ∀ a0 a1 a2 a3, Keeps (defs₀ (F := F)) Variants.nat none d H
    (k0_part86 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 87 of the body keeps what its memory holds. -/
instance keeps_part87 : ∀ a0 a1 a2 a3, Keeps (defs₀ (F := F)) Variants.nat none d H
    (k0_part87 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 88 of the body keeps what its memory holds. -/
instance keeps_part88 : ∀ a0 a1 a2 a3, Keeps (defs₀ (F := F)) Variants.nat none d H
    (k0_part88 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 89 of the body keeps what its memory holds. -/
instance keeps_part89 : ∀ a0 a1 a2 a3, Keeps (defs₀ (F := F)) Variants.nat none d H
    (k0_part89 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 90 of the body keeps what its memory holds. -/
instance keeps_part90 : ∀ a0 a1 a2 a3 a4 a5, Keeps (defs₀ (F := F)) Variants.nat none d H
    (k0_part90 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 91 of the body keeps what its memory holds. -/
instance keeps_part91 : ∀ a0 a1 a2 a3 a4 a5, Keeps (defs₀ (F := F)) Variants.nat none d H
    (k0_part91 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 92 of the body keeps what its memory holds. -/
instance keeps_part92 : ∀ a0 a1 a2 a3 a4 a5 a6, Keeps (defs₀ (F := F)) Variants.nat none d H
    (k0_part92 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 93 of the body keeps what its memory holds. -/
instance keeps_part93 : ∀ a0 a1 a2 a3 a4 a5, Keeps (defs₀ (F := F)) Variants.nat none d H
    (k0_part93 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 94 of the body keeps what its memory holds. -/
instance keeps_part94 : ∀ a0 a1 a2 a3 a4 a5 a6 a7, Keeps (defs₀ (F := F)) Variants.nat none d H
    (k0_part94 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 95 of the body keeps what its memory holds. -/
instance keeps_part95 : ∀ a0 a1, Keeps (defs₀ (F := F)) Variants.nat none d H
    (k0_part95 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 96 of the body keeps what its memory holds. -/
instance keeps_part96 : ∀ a0 a1 a2 a3 a4 a5, Keeps (defs₀ (F := F)) Variants.nat none d H
    (k0_part96 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 97 of the body keeps what its memory holds. -/
instance keeps_part97 : ∀ a0 a1 a2 a3 a4 a5 a6 a7, Keeps (defs₀ (F := F)) Variants.nat none d H
    (k0_part97 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 98 of the body keeps what its memory holds. -/
instance keeps_part98 : ∀ a0 a1 a2 a3 a4 a5, Keeps (defs₀ (F := F)) Variants.nat none d H
    (k0_part98 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 99 of the body keeps what its memory holds. -/
instance keeps_part99 : ∀ a0 a1 a2 a3 a4 a5 a6 a7, Keeps (defs₀ (F := F)) Variants.nat none d H
    (k0_part99 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 100 of the body keeps what its memory holds. -/
instance keeps_part100 : ∀ a0 a1 a2 a3 a4 a5, Keeps (defs₀ (F := F)) Variants.nat none d H
    (k0_part100 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 101 of the body keeps what its memory holds. -/
instance keeps_part101 : ∀ a0 a1 a2 a3 a4 a5 a6 a7, Keeps (defs₀ (F := F)) Variants.nat none d H
    (k0_part101 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 102 of the body keeps what its memory holds. -/
instance keeps_part102 : ∀ a0 a1 a2 a3 a4 a5, Keeps (defs₀ (F := F)) Variants.nat none d H
    (k0_part102 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 103 of the body keeps what its memory holds. -/
instance keeps_part103 : ∀ a0 a1 a2 a3 a4 a5, Keeps (defs₀ (F := F)) Variants.nat none d H
    (k0_part103 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 104 of the body keeps what its memory holds. -/
instance keeps_part104 : ∀ a0 a1 a2, Keeps (defs₀ (F := F)) Variants.nat none d H
    (k0_part104 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 105 of the body keeps what its memory holds. -/
instance keeps_part105 : ∀ a0 a1 a2 a3 a4 a5, Keeps (defs₀ (F := F)) Variants.nat none d H
    (k0_part105 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 106 of the body keeps what its memory holds. -/
instance keeps_part106 : ∀ a0 a1 a2 a3 a4 a5 a6 a7, Keeps (defs₀ (F := F)) Variants.nat none d H
    (k0_part106 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 107 of the body keeps what its memory holds. -/
instance keeps_part107 : ∀ a0 a1 a2 a3 a4 a5, Keeps (defs₀ (F := F)) Variants.nat none d H
    (k0_part107 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 108 of the body keeps what its memory holds. -/
instance keeps_part108 : ∀ a0 a1 a2 a3 a4 a5 a6 a7, Keeps (defs₀ (F := F)) Variants.nat none d H
    (k0_part108 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 109 of the body keeps what its memory holds. -/
instance keeps_part109 : ∀ a0 a1 a2 a3 a4 a5, Keeps (defs₀ (F := F)) Variants.nat none d H
    (k0_part109 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 110 of the body keeps what its memory holds. -/
instance keeps_part110 : ∀ a0 a1 a2 a3 a4 a5 a6 a7, Keeps (defs₀ (F := F)) Variants.nat none d H
    (k0_part110 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 111 of the body keeps what its memory holds. -/
instance keeps_part111 : ∀ a0, Keeps (defs₀ (F := F)) Variants.nat none d H
    (k0_part111 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 112 of the body keeps what its memory holds. -/
instance keeps_part112 : ∀ a0 a1 a2 a3 a4 a5, Keeps (defs₀ (F := F)) Variants.nat none d H
    (k0_part112 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 113 of the body keeps what its memory holds. -/
instance keeps_part113 : ∀ a0 a1 a2 a3 a4 a5 a6 a7, Keeps (defs₀ (F := F)) Variants.nat none d H
    (k0_part113 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 114 of the body keeps what its memory holds. -/
instance keeps_part114 : ∀ a0 a1 a2 a3 a4 a5, Keeps (defs₀ (F := F)) Variants.nat none d H
    (k0_part114 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 115 of the body keeps what its memory holds. -/
instance keeps_part115 : ∀ a0 a1 a2 a3 a4 a5 a6 a7, Keeps (defs₀ (F := F)) Variants.nat none d H
    (k0_part115 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 116 of the body keeps what its memory holds. -/
instance keeps_part116 : ∀ a0 a1 a2 a3 a4 a5, Keeps (defs₀ (F := F)) Variants.nat none d H
    (k0_part116 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 117 of the body keeps what its memory holds. -/
instance keeps_part117 : ∀ a0 a1 a2 a3 a4 a5 a6 a7, Keeps (defs₀ (F := F)) Variants.nat none d H
    (k0_part117 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 118 of the body keeps what its memory holds. -/
instance keeps_part118 : ∀ a0 a1, Keeps (defs₀ (F := F)) Variants.nat none d H
    (k0_part118 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 119 of the body keeps what its memory holds. -/
instance keeps_part119 : ∀ a0 a1 a2 a3 a4 a5, Keeps (defs₀ (F := F)) Variants.nat none d H
    (k0_part119 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 120 of the body keeps what its memory holds. -/
instance keeps_part120 : ∀ a0 a1 a2 a3 a4 a5 a6 a7, Keeps (defs₀ (F := F)) Variants.nat none d H
    (k0_part120 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 121 of the body keeps what its memory holds. -/
instance keeps_part121 : ∀ a0 a1 a2 a3 a4 a5, Keeps (defs₀ (F := F)) Variants.nat none d H
    (k0_part121 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

end Cert.Kernel
-- ==== Proof.Parts2.lean ====
module

public import proofs.«01_k».proof.Kernel
public import proofs.«01_k».proof.Proof.Keeps

/-!
Parts of the body of the sparse attention, each on its own: from a memory that holds, each runs
to its end and leaves one that holds. Each proof walks the part, one operation at a time.
-/

@[expose] public section

noncomputable section

namespace Cert.Kernel

open Idealize.ShloMosaic Idealize.ShloMosaic.TcCoe
open Idealize.SL Idealize.SL.RA Idealize.SL.BI
open scoped Idealize.SL.BI
open Idealize.SL.BI.BIBase Idealize.SL.Sem
open Cert.Keeping

variable {F : FTy → Type} [BitOps F] [Facts]

variable (i : grid0.Coords) (arg2 : Memref sig .tc .vmem S256x384 .f32) (harg2 : arg2.IsWhole) (arg3 : Memref sig .tc .vmem S256x128 .f32) (harg3 : arg3.IsWhole) (arg4 : Memref sig .tc .vmem S256x1024 .f32) (harg4 : arg4.IsWhole) (arg5 : Memref sig .tc .vmem S4096x64 .bf16) (harg5 : arg5.IsWhole) (arg6 : Memref sig .tc .vmem S4096x256 .bf16) (harg6 : arg6.IsWhole) (arg7 : Memref sig .tc .vmem S272x4096 .bf16) (harg7 : arg7.IsWhole) (arg8 : Memref sig .tc .vmem S1x384 .f32) (harg8 : arg8.IsWhole) (arg9 : Memref sig .tc .vmem S384x2048 .bf16) (harg9 : arg9.IsWhole) (arg10 : Memref sig .tc .vmem S16x256x64 .bf16) (harg10 : arg10.IsWhole) (arg11 : Memref sig .tc .vmem S16x64x256 .bf16) (harg11 : arg11.IsWhole) (arg12 : Memref sig .tc .vmem S1280x2048 .f32) (harg12 : arg12.IsWhole) (arg13 : Memref sig .tc .vmem S256x1024 .bf16) (harg13 : arg13.IsWhole) (arg14 : Memref sig .tc .vmem S4096x256 .f32) (harg14 : arg14.IsWhole) (arg15 : Memref sig .tc .vmem S4096x256 .i32) (harg15 : arg15.IsWhole) (arg16 : Memref sig .tc .vmem S128x256 .i32) (harg16 : arg16.IsWhole) (arg17 : Memref sig .tc .vmem S512x4096 .f32) (harg17 : arg17.IsWhole) (arg18 : Memref sig .tc .vmem S272x4096 .f32) (harg18 : arg18.IsWhole) (arg19 : Memref sig .tc .vmem S1x4096 .f32) (harg19 : arg19.IsWhole) (arg20 : Memref sig .tc .vmem S256x4096 .bf16) (harg20 : arg20.IsWhole) (arg21 : Memref sig .tc .vmem S8x64x512 .bf16) (harg21 : arg21.IsWhole) (arg22 : Memref sig .tc .vmem S16x256 .f32) (harg22 : arg22.IsWhole) (arg23 : Memref sig .tc .vmem S1024x256 .f32) (harg23 : arg23.IsWhole)
  (d : Dev nD) (H : sProp (MT nD τ sig Unit (Elt F) ℕ (UR sig nD τ) ℕ)) [Harg2 : Has d H arg2] [Harg3 : Has d H arg3] [Harg4 : Has d H arg4] [Harg5 : Has d H arg5] [Harg6 : Has d H arg6] [Harg7 : Has d H arg7] [Harg8 : Has d H arg8] [Harg9 : Has d H arg9] [Harg10 : Has d H arg10] [Harg11 : Has d H arg11] [Harg12 : Has d H arg12] [Harg13 : Has d H arg13] [Harg14 : Has d H arg14] [Harg15 : Has d H arg15] [Harg16 : Has d H arg16] [Harg17 : Has d H arg17] [Harg18 : Has d H arg18] [Harg19 : Has d H arg19] [Harg20 : Has d H arg20] [Harg21 : Has d H arg21] [Harg22 : Has d H arg22] [Harg23 : Has d H arg23]

set_option maxHeartbeats 4000000 in
/-- Part 122 of the body keeps what its memory holds. -/
instance keeps_part122 : ∀ a0 a1 a2 a3 a4 a5 a6 a7, Keeps (defs₀ (F := F)) Variants.nat none d H
    (k0_part122 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 123 of the body keeps what its memory holds. -/
instance keeps_part123 : ∀ a0 a1 a2 a3 a4 a5, Keeps (defs₀ (F := F)) Variants.nat none d H
    (k0_part123 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 124 of the body keeps what its memory holds. -/
instance keeps_part124 : ∀ a0 a1 a2 a3 a4 a5 a6 a7, Keeps (defs₀ (F := F)) Variants.nat none d H
    (k0_part124 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 125 of the body keeps what its memory holds. -/
instance keeps_part125 : ∀ a0 a1 a2 a3 a4 a5, Keeps (defs₀ (F := F)) Variants.nat none d H
    (k0_part125 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 126 of the body keeps what its memory holds. -/
instance keeps_part126 : ∀ a0 a1 a2 a3 a4 a5, Keeps (defs₀ (F := F)) Variants.nat none d H
    (k0_part126 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 127 of the body keeps what its memory holds. -/
instance keeps_part127 : ∀ a0 a1 a2, Keeps (defs₀ (F := F)) Variants.nat none d H
    (k0_part127 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 128 of the body keeps what its memory holds. -/
instance keeps_part128 : ∀ a0 a1 a2 a3 a4 a5, Keeps (defs₀ (F := F)) Variants.nat none d H
    (k0_part128 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 130 of the body keeps what its memory holds. -/
instance keeps_part130 : ∀ a0 a1 a2 a3 a4 a5 a6, Keeps (defs₀ (F := F)) Variants.nat none d H
    (k0_part130 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 131 of the body keeps what its memory holds. -/
instance keeps_part131 : ∀ a0 a1 a2 a3 a4 a5, Keeps (defs₀ (F := F)) Variants.nat none d H
    (k0_part131 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 132 of the body keeps what its memory holds. -/
instance keeps_part132 : ∀ a0 a1 a2 a3 a4 a5 a6 a7, Keeps (defs₀ (F := F)) Variants.nat none d H
    (k0_part132 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 133 of the body keeps what its memory holds. -/
instance keeps_part133 : ∀ a0 a1, Keeps (defs₀ (F := F)) Variants.nat none d H
    (k0_part133 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 134 of the body keeps what its memory holds. -/
instance keeps_part134 : ∀ a0 a1 a2 a3 a4 a5, Keeps (defs₀ (F := F)) Variants.nat none d H
    (k0_part134 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 135 of the body keeps what its memory holds. -/
instance keeps_part135 : ∀ a0 a1 a2 a3 a4 a5 a6 a7, Keeps (defs₀ (F := F)) Variants.nat none d H
    (k0_part135 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 136 of the body keeps what its memory holds. -/
instance keeps_part136 : ∀ a0 a1 a2 a3 a4 a5, Keeps (defs₀ (F := F)) Variants.nat none d H
    (k0_part136 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 137 of the body keeps what its memory holds. -/
instance keeps_part137 : ∀ a0 a1 a2 a3 a4 a5 a6 a7, Keeps (defs₀ (F := F)) Variants.nat none d H
    (k0_part137 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 138 of the body keeps what its memory holds. -/
instance keeps_part138 : ∀ a0 a1 a2 a3 a4 a5, Keeps (defs₀ (F := F)) Variants.nat none d H
    (k0_part138 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 139 of the body keeps what its memory holds. -/
instance keeps_part139 : ∀ a0 a1 a2 a3 a4 a5 a6 a7, Keeps (defs₀ (F := F)) Variants.nat none d H
    (k0_part139 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 140 of the body keeps what its memory holds. -/
instance keeps_part140 : ∀ a0 a1 a2 a3 a4 a5, Keeps (defs₀ (F := F)) Variants.nat none d H
    (k0_part140 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 141 of the body keeps what its memory holds. -/
instance keeps_part141 : ∀ a0 a1 a2 a3 a4 a5, Keeps (defs₀ (F := F)) Variants.nat none d H
    (k0_part141 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 142 of the body keeps what its memory holds. -/
instance keeps_part142 : ∀ a0 a1 a2, Keeps (defs₀ (F := F)) Variants.nat none d H
    (k0_part142 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 143 of the body keeps what its memory holds. -/
instance keeps_part143 : ∀ a0 a1 a2 a3 a4 a5, Keeps (defs₀ (F := F)) Variants.nat none d H
    (k0_part143 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 144 of the body keeps what its memory holds. -/
instance keeps_part144 : ∀ a0 a1 a2 a3 a4 a5 a6 a7, Keeps (defs₀ (F := F)) Variants.nat none d H
    (k0_part144 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 145 of the body keeps what its memory holds. -/
instance keeps_part145 : ∀ a0 a1 a2 a3 a4 a5, Keeps (defs₀ (F := F)) Variants.nat none d H
    (k0_part145 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 146 of the body keeps what its memory holds. -/
instance keeps_part146 : ∀ a0 a1 a2 a3 a4 a5 a6 a7, Keeps (defs₀ (F := F)) Variants.nat none d H
    (k0_part146 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 147 of the body keeps what its memory holds. -/
instance keeps_part147 : ∀ a0 a1 a2 a3 a4 a5, Keeps (defs₀ (F := F)) Variants.nat none d H
    (k0_part147 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 148 of the body keeps what its memory holds. -/
instance keeps_part148 : ∀ a0 a1 a2 a3 a4 a5 a6 a7, Keeps (defs₀ (F := F)) Variants.nat none d H
    (k0_part148 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 149 of the body keeps what its memory holds. -/
instance keeps_part149 : ∀ a0, Keeps (defs₀ (F := F)) Variants.nat none d H
    (k0_part149 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 150 of the body keeps what its memory holds. -/
instance keeps_part150 : ∀ a0 a1 a2 a3 a4 a5, Keeps (defs₀ (F := F)) Variants.nat none d H
    (k0_part150 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 151 of the body keeps what its memory holds. -/
instance keeps_part151 : ∀ a0 a1 a2 a3 a4 a5 a6 a7, Keeps (defs₀ (F := F)) Variants.nat none d H
    (k0_part151 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 152 of the body keeps what its memory holds. -/
instance keeps_part152 : ∀ a0 a1 a2 a3 a4 a5, Keeps (defs₀ (F := F)) Variants.nat none d H
    (k0_part152 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 153 of the body keeps what its memory holds. -/
instance keeps_part153 : ∀ a0 a1 a2 a3 a4 a5 a6 a7, Keeps (defs₀ (F := F)) Variants.nat none d H
    (k0_part153 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 154 of the body keeps what its memory holds. -/
instance keeps_part154 : ∀ a0 a1 a2 a3 a4 a5, Keeps (defs₀ (F := F)) Variants.nat none d H
    (k0_part154 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 155 of the body keeps what its memory holds. -/
instance keeps_part155 : ∀ a0 a1 a2 a3 a4 a5 a6 a7, Keeps (defs₀ (F := F)) Variants.nat none d H
    (k0_part155 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 156 of the body keeps what its memory holds. -/
instance keeps_part156 : ∀ a0 a1, Keeps (defs₀ (F := F)) Variants.nat none d H
    (k0_part156 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 157 of the body keeps what its memory holds. -/
instance keeps_part157 : ∀ a0 a1 a2 a3 a4 a5, Keeps (defs₀ (F := F)) Variants.nat none d H
    (k0_part157 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 158 of the body keeps what its memory holds. -/
instance keeps_part158 : ∀ a0 a1 a2 a3 a4 a5 a6 a7, Keeps (defs₀ (F := F)) Variants.nat none d H
    (k0_part158 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 159 of the body keeps what its memory holds. -/
instance keeps_part159 : ∀ a0 a1 a2 a3 a4 a5, Keeps (defs₀ (F := F)) Variants.nat none d H
    (k0_part159 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 160 of the body keeps what its memory holds. -/
instance keeps_part160 : ∀ a0 a1 a2 a3 a4 a5 a6 a7, Keeps (defs₀ (F := F)) Variants.nat none d H
    (k0_part160 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 161 of the body keeps what its memory holds. -/
instance keeps_part161 : ∀ a0 a1 a2 a3 a4 a5, Keeps (defs₀ (F := F)) Variants.nat none d H
    (k0_part161 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 162 of the body keeps what its memory holds. -/
instance keeps_part162 : ∀ a0 a1 a2 a3 a4 a5 a6 a7, Keeps (defs₀ (F := F)) Variants.nat none d H
    (k0_part162 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 163 of the body keeps what its memory holds. -/
instance keeps_part163 : ∀ a0 a1 a2 a3 a4 a5, Keeps (defs₀ (F := F)) Variants.nat none d H
    (k0_part163 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 164 of the body keeps what its memory holds. -/
instance keeps_part164 : ∀ a0 a1 a2 a3 a4 a5, Keeps (defs₀ (F := F)) Variants.nat none d H
    (k0_part164 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 165 of the body keeps what its memory holds. -/
instance keeps_part165 : ∀ a0 a1 a2, Keeps (defs₀ (F := F)) Variants.nat none d H
    (k0_part165 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 166 of the body keeps what its memory holds. -/
instance keeps_part166 : ∀ a0 a1 a2 a3 a4 a5, Keeps (defs₀ (F := F)) Variants.nat none d H
    (k0_part166 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 168 of the body keeps what its memory holds. -/
instance keeps_part168 : ∀ a0 a1 a2 a3 a4 a5 a6 a7 a8, Keeps (defs₀ (F := F)) Variants.nat none d H
    (k0_part168 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 169 of the body keeps what its memory holds. -/
instance keeps_part169 : ∀ a0, Keeps (defs₀ (F := F)) Variants.nat none d H
    (k0_part169 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 170 of the body keeps what its memory holds. -/
instance keeps_part170 : ∀ a0 a1 a2 a3 a4, Keeps (defs₀ (F := F)) Variants.nat none d H
    (k0_part170 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 171 of the body keeps what its memory holds. -/
instance keeps_part171 : ∀ a0 a1 a2 a3 a4 a5 a6 a7 a8 a9 a10, Keeps (defs₀ (F := F)) Variants.nat none d H
    (k0_part171 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 172 of the body keeps what its memory holds. -/
instance keeps_part172 : ∀ a0 a1 a2 a3 a4, Keeps (defs₀ (F := F)) Variants.nat none d H
    (k0_part172 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 173 of the body keeps what its memory holds. -/
instance keeps_part173 : ∀ a0 a1 a2 a3 a4 a5 a6 a7 a8 a9 a10, Keeps (defs₀ (F := F)) Variants.nat none d H
    (k0_part173 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 174 of the body keeps what its memory holds. -/
instance keeps_part174 : ∀ a0 a1 a2 a3 a4 a5, Keeps (defs₀ (F := F)) Variants.nat none d H
    (k0_part174 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 175 of the body keeps what its memory holds. -/
instance keeps_part175 : ∀ a0 a1 a2 a3 a4, Keeps (defs₀ (F := F)) Variants.nat none d H
    (k0_part175 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 176 of the body keeps what its memory holds. -/
instance keeps_part176 : ∀ a0 a1 a2 a3 a4 a5 a6 a7 a8 a9 a10, Keeps (defs₀ (F := F)) Variants.nat none d H
    (k0_part176 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 177 of the body keeps what its memory holds. -/
instance keeps_part177 : ∀ a0 a1 a2 a3 a4, Keeps (defs₀ (F := F)) Variants.nat none d H
    (k0_part177 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 178 of the body keeps what its memory holds. -/
instance keeps_part178 : ∀ a0 a1 a2 a3 a4, Keeps (defs₀ (F := F)) Variants.nat none d H
    (k0_part178 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 179 of the body keeps what its memory holds. -/
instance keeps_part179 : ∀ a0 a1 a2 a3 a4 a5, Keeps (defs₀ (F := F)) Variants.nat none d H
    (k0_part179 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 180 of the body keeps what its memory holds. -/
instance keeps_part180 : ∀ a0 a1 a2 a3 a4, Keeps (defs₀ (F := F)) Variants.nat none d H
    (k0_part180 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 181 of the body keeps what its memory holds. -/
instance keeps_part181 : ∀ a0 a1 a2 a3 a4 a5 a6 a7 a8 a9 a10, Keeps (defs₀ (F := F)) Variants.nat none d H
    (k0_part181 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 182 of the body keeps what its memory holds. -/
instance keeps_part182 : ∀ a0, Keeps (defs₀ (F := F)) Variants.nat none d H
    (k0_part182 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 183 of the body keeps what its memory holds. -/
instance keeps_part183 : ∀ a0 a1 a2 a3 a4, Keeps (defs₀ (F := F)) Variants.nat none d H
    (k0_part183 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 184 of the body keeps what its memory holds. -/
instance keeps_part184 : ∀ a0 a1 a2 a3 a4 a5 a6 a7 a8 a9 a10, Keeps (defs₀ (F := F)) Variants.nat none d H
    (k0_part184 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 185 of the body keeps what its memory holds. -/
instance keeps_part185 : ∀ a0 a1 a2 a3 a4, Keeps (defs₀ (F := F)) Variants.nat none d H
    (k0_part185 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 186 of the body keeps what its memory holds. -/
instance keeps_part186 : ∀ a0 a1 a2 a3 a4 a5 a6 a7 a8 a9 a10, Keeps (defs₀ (F := F)) Variants.nat none d H
    (k0_part186 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 187 of the body keeps what its memory holds. -/
instance keeps_part187 : ∀ a0 a1 a2 a3 a4 a5, Keeps (defs₀ (F := F)) Variants.nat none d H
    (k0_part187 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 188 of the body keeps what its memory holds. -/
instance keeps_part188 : ∀ a0 a1 a2 a3 a4, Keeps (defs₀ (F := F)) Variants.nat none d H
    (k0_part188 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 189 of the body keeps what its memory holds. -/
instance keeps_part189 : ∀ a0 a1 a2 a3 a4 a5 a6 a7 a8 a9 a10, Keeps (defs₀ (F := F)) Variants.nat none d H
    (k0_part189 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 190 of the body keeps what its memory holds. -/
instance keeps_part190 : ∀ a0 a1 a2 a3 a4, Keeps (defs₀ (F := F)) Variants.nat none d H
    (k0_part190 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 191 of the body keeps what its memory holds. -/
instance keeps_part191 : ∀ a0 a1 a2 a3 a4, Keeps (defs₀ (F := F)) Variants.nat none d H
    (k0_part191 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 192 of the body keeps what its memory holds. -/
instance keeps_part192 : ∀ a0 a1 a2 a3 a4 a5, Keeps (defs₀ (F := F)) Variants.nat none d H
    (k0_part192 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 193 of the body keeps what its memory holds. -/
instance keeps_part193 : ∀ a0 a1 a2 a3 a4, Keeps (defs₀ (F := F)) Variants.nat none d H
    (k0_part193 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 194 of the body keeps what its memory holds. -/
instance keeps_part194 : ∀ a0 a1 a2 a3 a4 a5 a6 a7 a8 a9 a10, Keeps (defs₀ (F := F)) Variants.nat none d H
    (k0_part194 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 195 of the body keeps what its memory holds. -/
instance keeps_part195 : ∀ a0, Keeps (defs₀ (F := F)) Variants.nat none d H
    (k0_part195 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 196 of the body keeps what its memory holds. -/
instance keeps_part196 : ∀ a0 a1 a2 a3 a4, Keeps (defs₀ (F := F)) Variants.nat none d H
    (k0_part196 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 197 of the body keeps what its memory holds. -/
instance keeps_part197 : ∀ a0 a1 a2 a3 a4 a5 a6 a7 a8 a9 a10, Keeps (defs₀ (F := F)) Variants.nat none d H
    (k0_part197 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 198 of the body keeps what its memory holds. -/
instance keeps_part198 : ∀ a0 a1 a2 a3 a4, Keeps (defs₀ (F := F)) Variants.nat none d H
    (k0_part198 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 199 of the body keeps what its memory holds. -/
instance keeps_part199 : ∀ a0 a1 a2 a3 a4 a5 a6 a7 a8 a9 a10, Keeps (defs₀ (F := F)) Variants.nat none d H
    (k0_part199 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 200 of the body keeps what its memory holds. -/
instance keeps_part200 : ∀ a0 a1 a2 a3 a4 a5, Keeps (defs₀ (F := F)) Variants.nat none d H
    (k0_part200 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 201 of the body keeps what its memory holds. -/
instance keeps_part201 : ∀ a0 a1 a2 a3 a4, Keeps (defs₀ (F := F)) Variants.nat none d H
    (k0_part201 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 202 of the body keeps what its memory holds. -/
instance keeps_part202 : ∀ a0 a1 a2 a3 a4 a5 a6 a7 a8 a9 a10, Keeps (defs₀ (F := F)) Variants.nat none d H
    (k0_part202 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 203 of the body keeps what its memory holds. -/
instance keeps_part203 : ∀ a0 a1 a2 a3 a4, Keeps (defs₀ (F := F)) Variants.nat none d H
    (k0_part203 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 204 of the body keeps what its memory holds. -/
instance keeps_part204 : ∀ a0 a1 a2 a3 a4, Keeps (defs₀ (F := F)) Variants.nat none d H
    (k0_part204 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 205 of the body keeps what its memory holds. -/
instance keeps_part205 : ∀ a0 a1 a2 a3 a4 a5, Keeps (defs₀ (F := F)) Variants.nat none d H
    (k0_part205 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 206 of the body keeps what its memory holds. -/
instance keeps_part206 : ∀ a0 a1 a2 a3 a4, Keeps (defs₀ (F := F)) Variants.nat none d H
    (k0_part206 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 207 of the body keeps what its memory holds. -/
instance keeps_part207 : ∀ a0 a1 a2 a3 a4 a5 a6 a7 a8 a9 a10, Keeps (defs₀ (F := F)) Variants.nat none d H
    (k0_part207 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 208 of the body keeps what its memory holds. -/
instance keeps_part208 : ∀ a0, Keeps (defs₀ (F := F)) Variants.nat none d H
    (k0_part208 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 209 of the body keeps what its memory holds. -/
instance keeps_part209 : ∀ a0 a1 a2 a3 a4, Keeps (defs₀ (F := F)) Variants.nat none d H
    (k0_part209 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 211 of the body keeps what its memory holds. -/
instance keeps_part211 : ∀ a0 a1 a2 a3 a4 a5 a6 a7 a8, Keeps (defs₀ (F := F)) Variants.nat none d H
    (k0_part211 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 212 of the body keeps what its memory holds. -/
instance keeps_part212 : ∀ a0, Keeps (defs₀ (F := F)) Variants.nat none d H
    (k0_part212 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 213 of the body keeps what its memory holds. -/
instance keeps_part213 : ∀ a0 a1 a2 a3 a4, Keeps (defs₀ (F := F)) Variants.nat none d H
    (k0_part213 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 214 of the body keeps what its memory holds. -/
instance keeps_part214 : ∀ a0 a1 a2 a3 a4 a5 a6 a7 a8 a9 a10, Keeps (defs₀ (F := F)) Variants.nat none d H
    (k0_part214 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 215 of the body keeps what its memory holds. -/
instance keeps_part215 : ∀ a0 a1 a2 a3 a4, Keeps (defs₀ (F := F)) Variants.nat none d H
    (k0_part215 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 216 of the body keeps what its memory holds. -/
instance keeps_part216 : ∀ a0 a1 a2 a3 a4 a5 a6 a7 a8 a9 a10, Keeps (defs₀ (F := F)) Variants.nat none d H
    (k0_part216 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 217 of the body keeps what its memory holds. -/
instance keeps_part217 : ∀ a0 a1 a2 a3 a4 a5, Keeps (defs₀ (F := F)) Variants.nat none d H
    (k0_part217 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 218 of the body keeps what its memory holds. -/
instance keeps_part218 : ∀ a0 a1 a2 a3 a4, Keeps (defs₀ (F := F)) Variants.nat none d H
    (k0_part218 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 219 of the body keeps what its memory holds. -/
instance keeps_part219 : ∀ a0 a1 a2 a3 a4 a5 a6 a7 a8 a9 a10, Keeps (defs₀ (F := F)) Variants.nat none d H
    (k0_part219 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 220 of the body keeps what its memory holds. -/
instance keeps_part220 : ∀ a0 a1 a2 a3 a4, Keeps (defs₀ (F := F)) Variants.nat none d H
    (k0_part220 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 221 of the body keeps what its memory holds. -/
instance keeps_part221 : ∀ a0 a1 a2 a3 a4, Keeps (defs₀ (F := F)) Variants.nat none d H
    (k0_part221 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 222 of the body keeps what its memory holds. -/
instance keeps_part222 : ∀ a0 a1 a2 a3 a4 a5, Keeps (defs₀ (F := F)) Variants.nat none d H
    (k0_part222 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 223 of the body keeps what its memory holds. -/
instance keeps_part223 : ∀ a0 a1 a2 a3 a4, Keeps (defs₀ (F := F)) Variants.nat none d H
    (k0_part223 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 224 of the body keeps what its memory holds. -/
instance keeps_part224 : ∀ a0 a1 a2 a3 a4 a5 a6 a7 a8 a9 a10, Keeps (defs₀ (F := F)) Variants.nat none d H
    (k0_part224 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 225 of the body keeps what its memory holds. -/
instance keeps_part225 : ∀ a0, Keeps (defs₀ (F := F)) Variants.nat none d H
    (k0_part225 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 226 of the body keeps what its memory holds. -/
instance keeps_part226 : ∀ a0 a1 a2 a3 a4, Keeps (defs₀ (F := F)) Variants.nat none d H
    (k0_part226 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 227 of the body keeps what its memory holds. -/
instance keeps_part227 : ∀ a0 a1 a2 a3 a4 a5 a6 a7 a8 a9 a10, Keeps (defs₀ (F := F)) Variants.nat none d H
    (k0_part227 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 228 of the body keeps what its memory holds. -/
instance keeps_part228 : ∀ a0 a1 a2 a3 a4, Keeps (defs₀ (F := F)) Variants.nat none d H
    (k0_part228 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 229 of the body keeps what its memory holds. -/
instance keeps_part229 : ∀ a0 a1 a2 a3 a4 a5 a6 a7 a8 a9 a10, Keeps (defs₀ (F := F)) Variants.nat none d H
    (k0_part229 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 230 of the body keeps what its memory holds. -/
instance keeps_part230 : ∀ a0 a1 a2 a3 a4 a5, Keeps (defs₀ (F := F)) Variants.nat none d H
    (k0_part230 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 231 of the body keeps what its memory holds. -/
instance keeps_part231 : ∀ a0 a1 a2 a3 a4, Keeps (defs₀ (F := F)) Variants.nat none d H
    (k0_part231 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 232 of the body keeps what its memory holds. -/
instance keeps_part232 : ∀ a0 a1 a2 a3 a4 a5 a6 a7 a8 a9 a10, Keeps (defs₀ (F := F)) Variants.nat none d H
    (k0_part232 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 233 of the body keeps what its memory holds. -/
instance keeps_part233 : ∀ a0 a1 a2 a3 a4, Keeps (defs₀ (F := F)) Variants.nat none d H
    (k0_part233 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 234 of the body keeps what its memory holds. -/
instance keeps_part234 : ∀ a0 a1 a2 a3 a4, Keeps (defs₀ (F := F)) Variants.nat none d H
    (k0_part234 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 235 of the body keeps what its memory holds. -/
instance keeps_part235 : ∀ a0 a1 a2 a3 a4 a5, Keeps (defs₀ (F := F)) Variants.nat none d H
    (k0_part235 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 236 of the body keeps what its memory holds. -/
instance keeps_part236 : ∀ a0 a1 a2 a3 a4, Keeps (defs₀ (F := F)) Variants.nat none d H
    (k0_part236 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 237 of the body keeps what its memory holds. -/
instance keeps_part237 : ∀ a0 a1 a2 a3 a4 a5 a6 a7 a8 a9 a10, Keeps (defs₀ (F := F)) Variants.nat none d H
    (k0_part237 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 238 of the body keeps what its memory holds. -/
instance keeps_part238 : ∀ a0, Keeps (defs₀ (F := F)) Variants.nat none d H
    (k0_part238 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 239 of the body keeps what its memory holds. -/
instance keeps_part239 : ∀ a0 a1 a2 a3 a4, Keeps (defs₀ (F := F)) Variants.nat none d H
    (k0_part239 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 240 of the body keeps what its memory holds. -/
instance keeps_part240 : ∀ a0 a1 a2 a3 a4 a5 a6 a7 a8 a9 a10, Keeps (defs₀ (F := F)) Variants.nat none d H
    (k0_part240 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 241 of the body keeps what its memory holds. -/
instance keeps_part241 : ∀ a0 a1 a2 a3 a4, Keeps (defs₀ (F := F)) Variants.nat none d H
    (k0_part241 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

end Cert.Kernel
-- ==== Proof.Parts3.lean ====
module

public import proofs.«01_k».proof.Kernel
public import proofs.«01_k».proof.Proof.Keeps

/-!
Parts of the body of the sparse attention, each on its own: from a memory that holds, each runs
to its end and leaves one that holds. Each proof walks the part, one operation at a time.
-/

@[expose] public section

noncomputable section

namespace Cert.Kernel

open Idealize.ShloMosaic Idealize.ShloMosaic.TcCoe
open Idealize.SL Idealize.SL.RA Idealize.SL.BI
open scoped Idealize.SL.BI
open Idealize.SL.BI.BIBase Idealize.SL.Sem
open Cert.Keeping

variable {F : FTy → Type} [BitOps F] [Facts]

variable (i : grid0.Coords) (arg2 : Memref sig .tc .vmem S256x384 .f32) (harg2 : arg2.IsWhole) (arg3 : Memref sig .tc .vmem S256x128 .f32) (harg3 : arg3.IsWhole) (arg4 : Memref sig .tc .vmem S256x1024 .f32) (harg4 : arg4.IsWhole) (arg5 : Memref sig .tc .vmem S4096x64 .bf16) (harg5 : arg5.IsWhole) (arg6 : Memref sig .tc .vmem S4096x256 .bf16) (harg6 : arg6.IsWhole) (arg7 : Memref sig .tc .vmem S272x4096 .bf16) (harg7 : arg7.IsWhole) (arg8 : Memref sig .tc .vmem S1x384 .f32) (harg8 : arg8.IsWhole) (arg9 : Memref sig .tc .vmem S384x2048 .bf16) (harg9 : arg9.IsWhole) (arg10 : Memref sig .tc .vmem S16x256x64 .bf16) (harg10 : arg10.IsWhole) (arg11 : Memref sig .tc .vmem S16x64x256 .bf16) (harg11 : arg11.IsWhole) (arg12 : Memref sig .tc .vmem S1280x2048 .f32) (harg12 : arg12.IsWhole) (arg13 : Memref sig .tc .vmem S256x1024 .bf16) (harg13 : arg13.IsWhole) (arg14 : Memref sig .tc .vmem S4096x256 .f32) (harg14 : arg14.IsWhole) (arg15 : Memref sig .tc .vmem S4096x256 .i32) (harg15 : arg15.IsWhole) (arg16 : Memref sig .tc .vmem S128x256 .i32) (harg16 : arg16.IsWhole) (arg17 : Memref sig .tc .vmem S512x4096 .f32) (harg17 : arg17.IsWhole) (arg18 : Memref sig .tc .vmem S272x4096 .f32) (harg18 : arg18.IsWhole) (arg19 : Memref sig .tc .vmem S1x4096 .f32) (harg19 : arg19.IsWhole) (arg20 : Memref sig .tc .vmem S256x4096 .bf16) (harg20 : arg20.IsWhole) (arg21 : Memref sig .tc .vmem S8x64x512 .bf16) (harg21 : arg21.IsWhole) (arg22 : Memref sig .tc .vmem S16x256 .f32) (harg22 : arg22.IsWhole) (arg23 : Memref sig .tc .vmem S1024x256 .f32) (harg23 : arg23.IsWhole)
  (d : Dev nD) (H : sProp (MT nD τ sig Unit (Elt F) ℕ (UR sig nD τ) ℕ)) [Harg2 : Has d H arg2] [Harg3 : Has d H arg3] [Harg4 : Has d H arg4] [Harg5 : Has d H arg5] [Harg6 : Has d H arg6] [Harg7 : Has d H arg7] [Harg8 : Has d H arg8] [Harg9 : Has d H arg9] [Harg10 : Has d H arg10] [Harg11 : Has d H arg11] [Harg12 : Has d H arg12] [Harg13 : Has d H arg13] [Harg14 : Has d H arg14] [Harg15 : Has d H arg15] [Harg16 : Has d H arg16] [Harg17 : Has d H arg17] [Harg18 : Has d H arg18] [Harg19 : Has d H arg19] [Harg20 : Has d H arg20] [Harg21 : Has d H arg21] [Harg22 : Has d H arg22] [Harg23 : Has d H arg23]

set_option maxHeartbeats 4000000 in
/-- Part 242 of the body keeps what its memory holds. -/
instance keeps_part242 : ∀ a0 a1 a2 a3 a4 a5 a6 a7 a8 a9 a10, Keeps (defs₀ (F := F)) Variants.nat none d H
    (k0_part242 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 243 of the body keeps what its memory holds. -/
instance keeps_part243 : ∀ a0 a1 a2 a3 a4 a5, Keeps (defs₀ (F := F)) Variants.nat none d H
    (k0_part243 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 244 of the body keeps what its memory holds. -/
instance keeps_part244 : ∀ a0 a1 a2 a3 a4, Keeps (defs₀ (F := F)) Variants.nat none d H
    (k0_part244 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 245 of the body keeps what its memory holds. -/
instance keeps_part245 : ∀ a0 a1 a2 a3 a4 a5 a6 a7 a8 a9 a10, Keeps (defs₀ (F := F)) Variants.nat none d H
    (k0_part245 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 246 of the body keeps what its memory holds. -/
instance keeps_part246 : ∀ a0 a1 a2 a3 a4, Keeps (defs₀ (F := F)) Variants.nat none d H
    (k0_part246 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 247 of the body keeps what its memory holds. -/
instance keeps_part247 : ∀ a0 a1 a2 a3 a4, Keeps (defs₀ (F := F)) Variants.nat none d H
    (k0_part247 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 248 of the body keeps what its memory holds. -/
instance keeps_part248 : ∀ a0 a1 a2 a3 a4 a5, Keeps (defs₀ (F := F)) Variants.nat none d H
    (k0_part248 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 249 of the body keeps what its memory holds. -/
instance keeps_part249 : ∀ a0 a1 a2 a3 a4, Keeps (defs₀ (F := F)) Variants.nat none d H
    (k0_part249 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 250 of the body keeps what its memory holds. -/
instance keeps_part250 : ∀ a0 a1 a2 a3 a4 a5 a6 a7 a8 a9 a10, Keeps (defs₀ (F := F)) Variants.nat none d H
    (k0_part250 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 251 of the body keeps what its memory holds. -/
instance keeps_part251 : ∀ a0, Keeps (defs₀ (F := F)) Variants.nat none d H
    (k0_part251 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 252 of the body keeps what its memory holds. -/
instance keeps_part252 : ∀ a0 a1 a2 a3 a4, Keeps (defs₀ (F := F)) Variants.nat none d H
    (k0_part252 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 254 of the body keeps what its memory holds. -/
instance keeps_part254 : ∀ a0 a1 a2 a3 a4 a5 a6, Keeps (defs₀ (F := F)) Variants.nat none d H
    (k0_part254 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 255 of the body keeps what its memory holds. -/
instance keeps_part255 : ∀ a0 a1, Keeps (defs₀ (F := F)) Variants.nat none d H
    (k0_part255 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 256 of the body keeps what its memory holds. -/
instance keeps_part256 : ∀ a0 a1 a2 a3 a4 a5 a6 a7 a8 a9, Keeps (defs₀ (F := F)) Variants.nat none d H
    (k0_part256 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 257 of the body keeps what its memory holds. -/
instance keeps_part257 : ∀ a0 a1 a2 a3 a4 a5 a6 a7 a8 a9 a10, Keeps (defs₀ (F := F)) Variants.nat none d H
    (k0_part257 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 258 of the body keeps what its memory holds. -/
instance keeps_part258 : ∀ a0, Keeps (defs₀ (F := F)) Variants.nat none d H
    (k0_part258 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 259 of the body keeps what its memory holds. -/
instance keeps_part259 : ∀ a0 a1 a2 a3 a4 a5 a6 a7 a8 a9 a10, Keeps (defs₀ (F := F)) Variants.nat none d H
    (k0_part259 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 260 of the body keeps what its memory holds. -/
instance keeps_part260 : ∀ a0 a1 a2 a3 a4 a5 a6 a7 a8 a9 a10, Keeps (defs₀ (F := F)) Variants.nat none d H
    (k0_part260 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 261 of the body keeps what its memory holds. -/
instance keeps_part261 : ∀ a0 a1 a2 a3, Keeps (defs₀ (F := F)) Variants.nat none d H
    (k0_part261 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 262 of the body keeps what its memory holds. -/
instance keeps_part262 : ∀ a0 a1 a2 a3 a4 a5 a6 a7 a8 a9 a10, Keeps (defs₀ (F := F)) Variants.nat none d H
    (k0_part262 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 263 of the body keeps what its memory holds. -/
instance keeps_part263 : ∀ a0 a1 a2 a3 a4 a5 a6 a7 a8 a9 a10, Keeps (defs₀ (F := F)) Variants.nat none d H
    (k0_part263 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 264 of the body keeps what its memory holds. -/
instance keeps_part264 : ∀ a0 a1 a2 a3 a4 a5, Keeps (defs₀ (F := F)) Variants.nat none d H
    (k0_part264 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 265 of the body keeps what its memory holds. -/
instance keeps_part265 : ∀ a0 a1 a2 a3 a4 a5 a6 a7 a8 a9 a10, Keeps (defs₀ (F := F)) Variants.nat none d H
    (k0_part265 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 266 of the body keeps what its memory holds. -/
instance keeps_part266 : ∀ a0 a1 a2 a3 a4 a5 a6 a7 a8, Keeps (defs₀ (F := F)) Variants.nat none d H
    (k0_part266 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 267 of the body keeps what its memory holds. -/
instance keeps_part267 : ∀ a0 a1 a2 a3, Keeps (defs₀ (F := F)) Variants.nat none d H
    (k0_part267 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 268 of the body keeps what its memory holds. -/
instance keeps_part268 : ∀ a0 a1 a2 a3 a4 a5 a6 a7 a8 a9 a10, Keeps (defs₀ (F := F)) Variants.nat none d H
    (k0_part268 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 269 of the body keeps what its memory holds. -/
instance keeps_part269 : ∀ a0 a1 a2 a3 a4 a5 a6 a7 a8, Keeps (defs₀ (F := F)) Variants.nat none d H
    (k0_part269 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 270 of the body keeps what its memory holds. -/
instance keeps_part270 : ∀ a0 a1 a2 a3 a4 a5, Keeps (defs₀ (F := F)) Variants.nat none d H
    (k0_part270 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 271 of the body keeps what its memory holds. -/
instance keeps_part271 : ∀ a0 a1 a2 a3 a4 a5 a6 a7 a8 a9 a10, Keeps (defs₀ (F := F)) Variants.nat none d H
    (k0_part271 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 272 of the body keeps what its memory holds. -/
instance keeps_part272 : ∀ a0 a1 a2 a3 a4 a5 a6, Keeps (defs₀ (F := F)) Variants.nat none d H
    (k0_part272 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 273 of the body keeps what its memory holds. -/
instance keeps_part273 : ∀ a0 a1 a2 a3 a4, Keeps (defs₀ (F := F)) Variants.nat none d H
    (k0_part273 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 274 of the body keeps what its memory holds. -/
instance keeps_part274 : ∀ a0 a1 a2 a3 a4 a5 a6 a7 a8 a9 a10, Keeps (defs₀ (F := F)) Variants.nat none d H
    (k0_part274 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 275 of the body keeps what its memory holds. -/
instance keeps_part275 : ∀ a0 a1 a2 a3, Keeps (defs₀ (F := F)) Variants.nat none d H
    (k0_part275 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 276 of the body keeps what its memory holds. -/
instance keeps_part276 : ∀ a0 a1 a2 a3 a4 a5, Keeps (defs₀ (F := F)) Variants.nat none d H
    (k0_part276 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 277 of the body keeps what its memory holds. -/
instance keeps_part277 : ∀ a0 a1 a2 a3 a4 a5 a6 a7 a8 a9 a10, Keeps (defs₀ (F := F)) Variants.nat none d H
    (k0_part277 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9 a10) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 278 of the body keeps what its memory holds. -/
instance keeps_part278 : ∀ a0 a1, Keeps (defs₀ (F := F)) Variants.nat none d H
    (k0_part278 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 280 of the body keeps what its memory holds. -/
instance keeps_part280 : ∀ a0 a1 a2 a3 a4, Keeps (defs₀ (F := F)) Variants.nat none d H
    (k0_part280 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 281 of the body keeps what its memory holds. -/
instance keeps_part281 : ∀ a0 a1 a2 a3, Keeps (defs₀ (F := F)) Variants.nat none d H
    (k0_part281 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 282 of the body keeps what its memory holds. -/
instance keeps_part282 : ∀ a0 a1 a2 a3 a4 a5, Keeps (defs₀ (F := F)) Variants.nat none d H
    (k0_part282 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 283 of the body keeps what its memory holds. -/
instance keeps_part283 : ∀ a0 a1 a2 a3 a4 a5 a6 a7 a8, Keeps (defs₀ (F := F)) Variants.nat none d H
    (k0_part283 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 284 of the body keeps what its memory holds. -/
instance keeps_part284 : ∀ a0 a1 a2 a3 a4 a5, Keeps (defs₀ (F := F)) Variants.nat none d H
    (k0_part284 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 285 of the body keeps what its memory holds. -/
instance keeps_part285 : ∀ a0 a1 a2 a3 a4 a5 a6 a7 a8 a9, Keeps (defs₀ (F := F)) Variants.nat none d H
    (k0_part285 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 286 of the body keeps what its memory holds. -/
instance keeps_part286 : ∀ a0 a1 a2, Keeps (defs₀ (F := F)) Variants.nat none d H
    (k0_part286 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 287 of the body keeps what its memory holds. -/
instance keeps_part287 : ∀ a0 a1 a2 a3 a4 a5, Keeps (defs₀ (F := F)) Variants.nat none d H
    (k0_part287 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 288 of the body keeps what its memory holds. -/
instance keeps_part288 : ∀ a0 a1 a2 a3 a4 a5 a6 a7 a8 a9, Keeps (defs₀ (F := F)) Variants.nat none d H
    (k0_part288 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 289 of the body keeps what its memory holds. -/
instance keeps_part289 : ∀ a0 a1 a2 a3 a4 a5, Keeps (defs₀ (F := F)) Variants.nat none d H
    (k0_part289 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 290 of the body keeps what its memory holds. -/
instance keeps_part290 : ∀ a0 a1 a2 a3 a4 a5 a6 a7 a8, Keeps (defs₀ (F := F)) Variants.nat none d H
    (k0_part290 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 291 of the body keeps what its memory holds. -/
instance keeps_part291 : ∀ a0 a1 a2 a3 a4, Keeps (defs₀ (F := F)) Variants.nat none d H
    (k0_part291 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 292 of the body keeps what its memory holds. -/
instance keeps_part292 : ∀ a0 a1 a2 a3 a4 a5, Keeps (defs₀ (F := F)) Variants.nat none d H
    (k0_part292 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 293 of the body keeps what its memory holds. -/
instance keeps_part293 : ∀ a0 a1 a2 a3 a4 a5 a6 a7 a8 a9, Keeps (defs₀ (F := F)) Variants.nat none d H
    (k0_part293 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 294 of the body keeps what its memory holds. -/
instance keeps_part294 : ∀ a0 a1 a2 a3, Keeps (defs₀ (F := F)) Variants.nat none d H
    (k0_part294 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 295 of the body keeps what its memory holds. -/
instance keeps_part295 : ∀ a0 a1 a2 a3 a4 a5, Keeps (defs₀ (F := F)) Variants.nat none d H
    (k0_part295 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 296 of the body keeps what its memory holds. -/
instance keeps_part296 : ∀ a0 a1 a2 a3 a4 a5 a6 a7 a8, Keeps (defs₀ (F := F)) Variants.nat none d H
    (k0_part296 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 297 of the body keeps what its memory holds. -/
instance keeps_part297 : ∀ a0 a1 a2 a3 a4 a5, Keeps (defs₀ (F := F)) Variants.nat none d H
    (k0_part297 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 298 of the body keeps what its memory holds. -/
instance keeps_part298 : ∀ a0 a1 a2 a3 a4 a5 a6 a7 a8 a9, Keeps (defs₀ (F := F)) Variants.nat none d H
    (k0_part298 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 299 of the body keeps what its memory holds. -/
instance keeps_part299 : ∀ a0 a1 a2, Keeps (defs₀ (F := F)) Variants.nat none d H
    (k0_part299 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 300 of the body keeps what its memory holds. -/
instance keeps_part300 : ∀ a0 a1 a2 a3 a4 a5, Keeps (defs₀ (F := F)) Variants.nat none d H
    (k0_part300 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 301 of the body keeps what its memory holds. -/
instance keeps_part301 : ∀ a0 a1 a2 a3 a4 a5 a6 a7 a8 a9, Keeps (defs₀ (F := F)) Variants.nat none d H
    (k0_part301 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 302 of the body keeps what its memory holds. -/
instance keeps_part302 : ∀ a0 a1 a2 a3 a4 a5, Keeps (defs₀ (F := F)) Variants.nat none d H
    (k0_part302 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 303 of the body keeps what its memory holds. -/
instance keeps_part303 : ∀ a0 a1 a2 a3 a4 a5 a6 a7 a8, Keeps (defs₀ (F := F)) Variants.nat none d H
    (k0_part303 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 304 of the body keeps what its memory holds. -/
instance keeps_part304 : ∀ a0 a1 a2 a3 a4, Keeps (defs₀ (F := F)) Variants.nat none d H
    (k0_part304 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 305 of the body keeps what its memory holds. -/
instance keeps_part305 : ∀ a0 a1 a2 a3 a4 a5, Keeps (defs₀ (F := F)) Variants.nat none d H
    (k0_part305 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 306 of the body keeps what its memory holds. -/
instance keeps_part306 : ∀ a0 a1 a2 a3 a4 a5 a6 a7 a8 a9, Keeps (defs₀ (F := F)) Variants.nat none d H
    (k0_part306 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 307 of the body keeps what its memory holds. -/
instance keeps_part307 : ∀ a0 a1 a2 a3, Keeps (defs₀ (F := F)) Variants.nat none d H
    (k0_part307 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 308 of the body keeps what its memory holds. -/
instance keeps_part308 : ∀ a0 a1 a2 a3 a4 a5, Keeps (defs₀ (F := F)) Variants.nat none d H
    (k0_part308 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 309 of the body keeps what its memory holds. -/
instance keeps_part309 : ∀ a0 a1 a2 a3 a4 a5 a6 a7 a8, Keeps (defs₀ (F := F)) Variants.nat none d H
    (k0_part309 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 310 of the body keeps what its memory holds. -/
instance keeps_part310 : ∀ a0 a1 a2 a3 a4 a5, Keeps (defs₀ (F := F)) Variants.nat none d H
    (k0_part310 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 311 of the body keeps what its memory holds. -/
instance keeps_part311 : ∀ a0 a1 a2 a3 a4 a5 a6 a7 a8 a9, Keeps (defs₀ (F := F)) Variants.nat none d H
    (k0_part311 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 312 of the body keeps what its memory holds. -/
instance keeps_part312 : ∀ a0 a1 a2, Keeps (defs₀ (F := F)) Variants.nat none d H
    (k0_part312 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 313 of the body keeps what its memory holds. -/
instance keeps_part313 : ∀ a0 a1 a2 a3 a4 a5, Keeps (defs₀ (F := F)) Variants.nat none d H
    (k0_part313 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 314 of the body keeps what its memory holds. -/
instance keeps_part314 : ∀ a0 a1 a2 a3 a4 a5 a6 a7 a8 a9, Keeps (defs₀ (F := F)) Variants.nat none d H
    (k0_part314 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 315 of the body keeps what its memory holds. -/
instance keeps_part315 : ∀ a0 a1 a2 a3 a4 a5, Keeps (defs₀ (F := F)) Variants.nat none d H
    (k0_part315 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 316 of the body keeps what its memory holds. -/
instance keeps_part316 : ∀ a0 a1 a2 a3 a4 a5 a6 a7 a8, Keeps (defs₀ (F := F)) Variants.nat none d H
    (k0_part316 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 317 of the body keeps what its memory holds. -/
instance keeps_part317 : ∀ a0 a1 a2 a3 a4, Keeps (defs₀ (F := F)) Variants.nat none d H
    (k0_part317 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 318 of the body keeps what its memory holds. -/
instance keeps_part318 : ∀ a0 a1 a2 a3 a4 a5, Keeps (defs₀ (F := F)) Variants.nat none d H
    (k0_part318 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 319 of the body keeps what its memory holds. -/
instance keeps_part319 : ∀ a0 a1 a2 a3 a4 a5 a6 a7 a8 a9, Keeps (defs₀ (F := F)) Variants.nat none d H
    (k0_part319 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 320 of the body keeps what its memory holds. -/
instance keeps_part320 : ∀ a0 a1 a2 a3, Keeps (defs₀ (F := F)) Variants.nat none d H
    (k0_part320 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 321 of the body keeps what its memory holds. -/
instance keeps_part321 : ∀ a0 a1 a2 a3 a4 a5, Keeps (defs₀ (F := F)) Variants.nat none d H
    (k0_part321 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 323 of the body keeps what its memory holds. -/
instance keeps_part323 : ∀ a0 a1 a2 a3 a4, Keeps (defs₀ (F := F)) Variants.nat none d H
    (k0_part323 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 324 of the body keeps what its memory holds. -/
instance keeps_part324 : ∀ a0 a1 a2 a3, Keeps (defs₀ (F := F)) Variants.nat none d H
    (k0_part324 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 325 of the body keeps what its memory holds. -/
instance keeps_part325 : ∀ a0 a1 a2 a3 a4, Keeps (defs₀ (F := F)) Variants.nat none d H
    (k0_part325 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 326 of the body keeps what its memory holds. -/
instance keeps_part326 : ∀ a0 a1 a2 a3 a4 a5 a6 a7 a8 a9, Keeps (defs₀ (F := F)) Variants.nat none d H
    (k0_part326 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 327 of the body keeps what its memory holds. -/
instance keeps_part327 : ∀ a0 a1, Keeps (defs₀ (F := F)) Variants.nat none d H
    (k0_part327 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 328 of the body keeps what its memory holds. -/
instance keeps_part328 : ∀ a0 a1 a2 a3 a4 a5 a6 a7 a8, Keeps (defs₀ (F := F)) Variants.nat none d H
    (k0_part328 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 329 of the body keeps what its memory holds. -/
instance keeps_part329 : ∀ a0 a1 a2 a3 a4 a5 a6 a7 a8 a9, Keeps (defs₀ (F := F)) Variants.nat none d H
    (k0_part329 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 330 of the body keeps what its memory holds. -/
instance keeps_part330 : ∀ a0, Keeps (defs₀ (F := F)) Variants.nat none d H
    (k0_part330 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 331 of the body keeps what its memory holds. -/
instance keeps_part331 : ∀ a0 a1 a2 a3 a4 a5 a6 a7 a8 a9, Keeps (defs₀ (F := F)) Variants.nat none d H
    (k0_part331 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 332 of the body keeps what its memory holds. -/
instance keeps_part332 : ∀ a0 a1 a2 a3 a4 a5 a6 a7 a8 a9, Keeps (defs₀ (F := F)) Variants.nat none d H
    (k0_part332 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 333 of the body keeps what its memory holds. -/
instance keeps_part333 : ∀ a0 a1 a2, Keeps (defs₀ (F := F)) Variants.nat none d H
    (k0_part333 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 334 of the body keeps what its memory holds. -/
instance keeps_part334 : ∀ a0 a1 a2 a3 a4 a5 a6 a7 a8 a9, Keeps (defs₀ (F := F)) Variants.nat none d H
    (k0_part334 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 335 of the body keeps what its memory holds. -/
instance keeps_part335 : ∀ a0 a1 a2 a3 a4 a5 a6 a7 a8 a9, Keeps (defs₀ (F := F)) Variants.nat none d H
    (k0_part335 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 336 of the body keeps what its memory holds. -/
instance keeps_part336 : ∀ a0 a1 a2 a3 a4, Keeps (defs₀ (F := F)) Variants.nat none d H
    (k0_part336 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 337 of the body keeps what its memory holds. -/
instance keeps_part337 : ∀ a0 a1 a2 a3 a4 a5 a6 a7 a8 a9, Keeps (defs₀ (F := F)) Variants.nat none d H
    (k0_part337 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 338 of the body keeps what its memory holds. -/
instance keeps_part338 : ∀ a0 a1 a2 a3 a4 a5 a6 a7 a8, Keeps (defs₀ (F := F)) Variants.nat none d H
    (k0_part338 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 339 of the body keeps what its memory holds. -/
instance keeps_part339 : ∀ a0 a1 a2, Keeps (defs₀ (F := F)) Variants.nat none d H
    (k0_part339 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 340 of the body keeps what its memory holds. -/
instance keeps_part340 : ∀ a0 a1 a2 a3 a4 a5 a6 a7 a8 a9, Keeps (defs₀ (F := F)) Variants.nat none d H
    (k0_part340 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 341 of the body keeps what its memory holds. -/
instance keeps_part341 : ∀ a0 a1 a2 a3 a4 a5 a6 a7 a8, Keeps (defs₀ (F := F)) Variants.nat none d H
    (k0_part341 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 342 of the body keeps what its memory holds. -/
instance keeps_part342 : ∀ a0 a1 a2 a3 a4, Keeps (defs₀ (F := F)) Variants.nat none d H
    (k0_part342 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 343 of the body keeps what its memory holds. -/
instance keeps_part343 : ∀ a0 a1 a2 a3 a4 a5 a6 a7 a8 a9, Keeps (defs₀ (F := F)) Variants.nat none d H
    (k0_part343 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 344 of the body keeps what its memory holds. -/
instance keeps_part344 : ∀ a0 a1 a2 a3 a4 a5 a6, Keeps (defs₀ (F := F)) Variants.nat none d H
    (k0_part344 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 345 of the body keeps what its memory holds. -/
instance keeps_part345 : ∀ a0 a1 a2 a3, Keeps (defs₀ (F := F)) Variants.nat none d H
    (k0_part345 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 346 of the body keeps what its memory holds. -/
instance keeps_part346 : ∀ a0 a1 a2 a3 a4 a5 a6 a7 a8 a9, Keeps (defs₀ (F := F)) Variants.nat none d H
    (k0_part346 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8 a9) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 347 of the body keeps what its memory holds. -/
instance keeps_part347 : ∀ a0 a1 a2 a3, Keeps (defs₀ (F := F)) Variants.nat none d H
    (k0_part347 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 348 of the body keeps what its memory holds. -/
instance keeps_part348 : Keeps (defs₀ (F := F)) Variants.nat none d H
    (k0_part348 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) := by
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 349 of the body keeps what its memory holds. -/
instance keeps_part349 : ∀ a0 a1, Keeps (defs₀ (F := F)) Variants.nat none d H
    (k0_part349 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 350 of the body keeps what its memory holds. -/
instance keeps_part350 : ∀ a0 a1 a2, Keeps (defs₀ (F := F)) Variants.nat none d H
    (k0_part350 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 351 of the body keeps what its memory holds. -/
instance keeps_part351 : ∀ a0 a1, Keeps (defs₀ (F := F)) Variants.nat none d H
    (k0_part351 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 352 of the body keeps what its memory holds. -/
instance keeps_part352 : ∀ a0 a1, Keeps (defs₀ (F := F)) Variants.nat none d H
    (k0_part352 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 353 of the body keeps what its memory holds. -/
instance keeps_part353 : ∀ a0 a1, Keeps (defs₀ (F := F)) Variants.nat none d H
    (k0_part353 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 354 of the body keeps what its memory holds. -/
instance keeps_part354 : ∀ a0 a1, Keeps (defs₀ (F := F)) Variants.nat none d H
    (k0_part354 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 359 of the body keeps what its memory holds. -/
instance keeps_part359 : ∀ a0 a1 a2, Keeps (defs₀ (F := F)) Variants.nat none d H
    (k0_part359 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 360 of the body keeps what its memory holds. -/
instance keeps_part360 : ∀ a0 a1 a2, Keeps (defs₀ (F := F)) Variants.nat none d H
    (k0_part360 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

set_option maxHeartbeats 4000000 in
/-- Part 361 of the body keeps what its memory holds. -/
instance keeps_part361 : ∀ a0 a1 a2, Keeps (defs₀ (F := F)) Variants.nat none d H
    (k0_part361 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | refine Keeps.bind ?_ fun _ => ?_
    | exact Keeps.pure _

end Cert.Kernel
-- ==== Proof.Search.lean ====
module

public import proofs.«01_k».proof.Kernel
public import proofs.«01_k».proof.Proof.Keeps

/-!
The search by bits of the sparse attention: it ends, and its memory holds throughout.
-/

@[expose] public section

noncomputable section

namespace Cert.Kernel

open Idealize.ShloMosaic Idealize.ShloMosaic.TcCoe
open Idealize.SL Idealize.SL.RA Idealize.SL.BI
open scoped Idealize.SL.BI
open Idealize.SL.BI.BIBase Idealize.SL.Sem
open Cert.Keeping

variable {F : FTy → Type} [BitOps F] [Facts]

set_option maxHeartbeats 4000000 in
/-- The search by bits, `3 j` bits from its end. -/
theorem keeps_while1 (d : Dev nD) (H : sProp (MT nD τ sig Unit (Elt F) ℕ (UR sig nD τ) ℕ)) (i : grid0.Coords) (arg14 : Memref sig .tc .vmem S4096x256 .f32) (harg14 : arg14.IsWhole)
    (H14 : Has d H arg14) (v335 : BitVec 32) (v271 : IVec S1x256 32) (j : ℕ) :
    ∀ (arg24 : BitVec 32) (arg25 arg26 : IVec S1x256 32) (arg27 : BitVec 32), j ≤ 3 → arg24 = BitVec.ofNat 32 (32 - 3 * j) →
      Keeps (defs₀ (F := F)) Variants.nat (some j) d H (cc0_while1 (F := F) i v335 arg14 harg14 v271 arg24 arg25 arg26 arg27) := by
  induction j with
  | zero =>
    intro arg24 arg25 arg26 arg27 _ h
    unfold cc0_while1
    subst h
    refine Keeps.ite _ (fun h => absurd h ?_) fun _ => Keeps.pure _
    have : Scalar.cmpi .slt (BitVec.ofNat 32 (32 - 3 * 0)) 32#32 = 0#1 := by decide
    rw [this]
    intro h
    change IntOp.andi (0#1) (Scalar.cmpi .eq arg27 0#32) = 1#1 at h
    revert h
    generalize Scalar.cmpi .eq arg27 0#32 = x
    revert x
    decide
  | succ j ih =>
    intro arg24 arg25 arg26 arg27 hj h
    unfold cc0_while1
    have hc : k0_chk1 arg24 := by
      subst h
      rcases (by omega : j = 0 ∨ j = 1 ∨ j = 2) with rfl | rfl | rfl <;> decide
    refine Keeps.ite _ (fun _ => ?_) fun _ => Keeps.pure _
    refine Keeps.bind (Keeps.assume _ hc) fun _ => ?_
    repeat' first
      | with_reducible exact Keeps.pure _
      | (with_reducible refine Keeps.load _ _ _ ?_); assumption
      | (with_reducible refine Keeps.store _ _ _ _ _ _ ?_); assumption
      | with_reducible refine Keeps.loop _ _ _ _ _ _ fun _ _ => ?_
      | with_reducible refine Keeps.ite _ (fun _ => ?_) fun _ => ?_
      | with_reducible refine Keeps.dite _ (fun _ => ?_) fun _ => ?_
      | refine Keeps.bind ?_ fun _ => ?_
      | exact Keeps.pure _
    refine Keeps.call _ j (by rintro u ⟨⟩; exact Nat.lt_succ_self j) (ih _ _ _ _ (by omega) ?_)
    subst h
    rcases (by omega : j = 0 ∨ j = 1 ∨ j = 2) with rfl | rfl | rfl <;> rfl

end Cert.Kernel
-- ==== Proof.Body.lean ====
module

public import proofs.«01_k».proof.Kernel
public import proofs.«01_k».proof.Proof.Parts1
public import proofs.«01_k».proof.Proof.Parts2
public import proofs.«01_k».proof.Proof.Parts3
public import proofs.«01_k».proof.Proof.Search

/-!
The body of the sparse attention, put together from its parts: from a memory that holds, it runs
to its end and leaves one that holds.
-/

@[expose] public section

noncomputable section

namespace Cert.Kernel

open Idealize.ShloMosaic Idealize.ShloMosaic.TcCoe
open Idealize.SL Idealize.SL.RA Idealize.SL.BI
open scoped Idealize.SL.BI
open Idealize.SL.BI.BIBase Idealize.SL.Sem
open Cert.Keeping

variable {F : FTy → Type} [BitOps F] [Facts]

variable (i : grid0.Coords) (arg2 : Memref sig .tc .vmem S256x384 .f32) (harg2 : arg2.IsWhole) (arg3 : Memref sig .tc .vmem S256x128 .f32) (harg3 : arg3.IsWhole) (arg4 : Memref sig .tc .vmem S256x1024 .f32) (harg4 : arg4.IsWhole) (arg5 : Memref sig .tc .vmem S4096x64 .bf16) (harg5 : arg5.IsWhole) (arg6 : Memref sig .tc .vmem S4096x256 .bf16) (harg6 : arg6.IsWhole) (arg7 : Memref sig .tc .vmem S272x4096 .bf16) (harg7 : arg7.IsWhole) (arg8 : Memref sig .tc .vmem S1x384 .f32) (harg8 : arg8.IsWhole) (arg9 : Memref sig .tc .vmem S384x2048 .bf16) (harg9 : arg9.IsWhole) (arg10 : Memref sig .tc .vmem S16x256x64 .bf16) (harg10 : arg10.IsWhole) (arg11 : Memref sig .tc .vmem S16x64x256 .bf16) (harg11 : arg11.IsWhole) (arg12 : Memref sig .tc .vmem S1280x2048 .f32) (harg12 : arg12.IsWhole) (arg13 : Memref sig .tc .vmem S256x1024 .bf16) (harg13 : arg13.IsWhole) (arg14 : Memref sig .tc .vmem S4096x256 .f32) (harg14 : arg14.IsWhole) (arg15 : Memref sig .tc .vmem S4096x256 .i32) (harg15 : arg15.IsWhole) (arg16 : Memref sig .tc .vmem S128x256 .i32) (harg16 : arg16.IsWhole) (arg17 : Memref sig .tc .vmem S512x4096 .f32) (harg17 : arg17.IsWhole) (arg18 : Memref sig .tc .vmem S272x4096 .f32) (harg18 : arg18.IsWhole) (arg19 : Memref sig .tc .vmem S1x4096 .f32) (harg19 : arg19.IsWhole) (arg20 : Memref sig .tc .vmem S256x4096 .bf16) (harg20 : arg20.IsWhole) (arg21 : Memref sig .tc .vmem S8x64x512 .bf16) (harg21 : arg21.IsWhole) (arg22 : Memref sig .tc .vmem S16x256 .f32) (harg22 : arg22.IsWhole) (arg23 : Memref sig .tc .vmem S1024x256 .f32) (harg23 : arg23.IsWhole)
  (d : Dev nD) (H : sProp (MT nD τ sig Unit (Elt F) ℕ (UR sig nD τ) ℕ)) [Harg2 : Has d H arg2] [Harg3 : Has d H arg3] [Harg4 : Has d H arg4] [Harg5 : Has d H arg5] [Harg6 : Has d H arg6] [Harg7 : Has d H arg7] [Harg8 : Has d H arg8] [Harg9 : Has d H arg9] [Harg10 : Has d H arg10] [Harg11 : Has d H arg11] [Harg12 : Has d H arg12] [Harg13 : Has d H arg13] [Harg14 : Has d H arg14] [Harg15 : Has d H arg15] [Harg16 : Has d H arg16] [Harg17 : Has d H arg17] [Harg18 : Has d H arg18] [Harg19 : Has d H arg19] [Harg20 : Has d H arg20] [Harg21 : Has d H arg21] [Harg22 : Has d H arg22] [Harg23 : Has d H arg23]

set_option maxHeartbeats 4000000 in
/-- Part 4 of the body keeps what its memory holds. -/
instance keeps_part4 : ∀ a0 a1 a2 a3 a4, Keeps (defs₀ (F := F)) Variants.nat none d H
    (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | with_reducible exact inferInstance
    | refine Keeps.bind ?_ fun _ => ?_
    | exact Keeps.pure _

set_option maxHeartbeats 4000000 in
/-- Part 8 of the body keeps what its memory holds. -/
instance keeps_part8 : ∀ a0 a1 a2 a3 a4, Keeps (defs₀ (F := F)) Variants.nat none d H
    (k0_part8 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | with_reducible exact inferInstance
    | refine Keeps.bind ?_ fun _ => ?_
    | exact Keeps.pure _

set_option maxHeartbeats 4000000 in
/-- Part 12 of the body keeps what its memory holds. -/
instance keeps_part12 : ∀ a0 a1 a2 a3, Keeps (defs₀ (F := F)) Variants.nat none d H
    (k0_part12 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | with_reducible exact inferInstance
    | refine Keeps.bind ?_ fun _ => ?_
    | exact Keeps.pure _

set_option maxHeartbeats 4000000 in
/-- Part 81 of the body keeps what its memory holds. -/
instance keeps_part81 : ∀ a0 a1 a2 a3 a4, Keeps (defs₀ (F := F)) Variants.nat none d H
    (k0_part81 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | with_reducible exact inferInstance
    | refine Keeps.bind ?_ fun _ => ?_
    | exact Keeps.pure _

set_option maxHeartbeats 4000000 in
/-- Part 129 of the body keeps what its memory holds. -/
instance keeps_part129 : ∀ a0 a1 a2 a3 a4 a5 a6, Keeps (defs₀ (F := F)) Variants.nat none d H
    (k0_part129 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | with_reducible exact inferInstance
    | refine Keeps.bind ?_ fun _ => ?_
    | exact Keeps.pure _

set_option maxHeartbeats 4000000 in
/-- Part 167 of the body keeps what its memory holds. -/
instance keeps_part167 : ∀ a0 a1 a2 a3 a4 a5 a6, Keeps (defs₀ (F := F)) Variants.nat none d H
    (k0_part167 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | with_reducible exact inferInstance
    | refine Keeps.bind ?_ fun _ => ?_
    | exact Keeps.pure _

set_option maxHeartbeats 4000000 in
/-- Part 210 of the body keeps what its memory holds. -/
instance keeps_part210 : ∀ a0 a1 a2 a3 a4 a5 a6 a7 a8, Keeps (defs₀ (F := F)) Variants.nat none d H
    (k0_part210 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | with_reducible exact inferInstance
    | refine Keeps.bind ?_ fun _ => ?_
    | exact Keeps.pure _

set_option maxHeartbeats 4000000 in
/-- Part 253 of the body keeps what its memory holds. -/
instance keeps_part253 : ∀ a0 a1 a2 a3 a4 a5 a6 a7 a8, Keeps (defs₀ (F := F)) Variants.nat none d H
    (k0_part253 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | with_reducible exact inferInstance
    | refine Keeps.bind ?_ fun _ => ?_
    | exact Keeps.pure _

set_option maxHeartbeats 4000000 in
/-- Part 279 of the body keeps what its memory holds. -/
instance keeps_part279 : ∀ a0 a1 a2 a3 a4 a5 a6, Keeps (defs₀ (F := F)) Variants.nat none d H
    (k0_part279 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | with_reducible exact inferInstance
    | refine Keeps.bind ?_ fun _ => ?_
    | exact Keeps.pure _

set_option maxHeartbeats 4000000 in
/-- Part 322 of the body keeps what its memory holds. -/
instance keeps_part322 : ∀ a0 a1 a2 a3 a4, Keeps (defs₀ (F := F)) Variants.nat none d H
    (k0_part322 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | with_reducible exact inferInstance
    | refine Keeps.bind ?_ fun _ => ?_
    | exact Keeps.pure _

set_option maxHeartbeats 4000000 in
/-- Part 355 of the body keeps what its memory holds. -/
instance keeps_part355 : ∀ a0 a1 a2 a3, Keeps (defs₀ (F := F)) Variants.nat none d H
    (k0_part355 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | with_reducible exact inferInstance
    | refine Keeps.bind ?_ fun _ => ?_
    | exact Keeps.pure _

set_option maxHeartbeats 40000000 in
/-- Part 356 of the body keeps what its memory holds. -/
instance keeps_part356 : ∀ a0 a1 a2 a3 a4 a5 a6, Keeps (defs₀ (F := F)) Variants.nat none d H
    (k0_part356 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6) := by
  intros
  delta k0_part356
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | with_reducible exact inferInstance
    | refine Keeps.bind ?_ fun _ => ?_
    | exact Keeps.pure _

set_option maxHeartbeats 4000000 in
/-- Part 357 of the body keeps what its memory holds. -/
instance keeps_part357 : ∀ a0 a1 a2 a3 a4 a5 a6 a7 a8, Keeps (defs₀ (F := F)) Variants.nat none d H
    (k0_part357 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7 a8) := by
  intros
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | with_reducible exact inferInstance
    | (with_reducible refine Keeps.call _ 3 ?_ ?_); (intro _ h; cases h); exact keeps_while1 d H i _ _ Harg14 _ _ 3 _ _ _ _ le_rfl rfl
    | refine Keeps.bind ?_ fun _ => ?_
    | exact Keeps.pure _

set_option maxHeartbeats 40000000 in
/-- Part 358 of the body keeps what its memory holds. -/
instance keeps_part358 : ∀ a0 a1 a2 a3 a4 a5 a6 a7, Keeps (defs₀ (F := F)) Variants.nat none d H
    (k0_part358 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 a0 a1 a2 a3 a4 a5 a6 a7) := by
  intros
  delta k0_part358
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | with_reducible exact inferInstance
    | refine Keeps.bind ?_ fun _ => ?_
    | exact Keeps.pure _

set_option maxHeartbeats 4000000 in
/-- Part 362 of the body keeps what its memory holds. -/
instance keeps_part362 : Keeps (defs₀ (F := F)) Variants.nat none d H
    (k0_part362 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) := by
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | with_reducible exact inferInstance
    | refine Keeps.bind ?_ fun _ => ?_
    | exact Keeps.pure _

set_option maxHeartbeats 4000000 in
/-- The body of the sparse attention keeps what its memory holds. -/
theorem keeps_dsa : Keeps (defs₀ (F := F)) Variants.nat none d H
    (cc0_dsa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) := by
  repeat' first
    | with_reducible exact Keeps.pure _
    | with_reducible exact Keeps.load _ _ _ inferInstance
    | with_reducible exact Keeps.store _ _ _ _ _ _ inferInstance
    | with_reducible refine Keeps.loop _ _ _ _ _ _ fun _ _ => ?_
    | with_reducible refine Keeps.ite _ (fun _ => ?_) fun _ => ?_
    | with_reducible refine Keeps.dite _ (fun _ => ?_) fun _ => ?_
    | with_reducible exact inferInstance
    | refine Keeps.bind ?_ fun _ => ?_
    | exact Keeps.pure _

end Cert.Kernel
-- ==== Proof.Held.lean ====
/- What a resource holds, put together: from its left or its right part, from one of a family, from a memref owned at some
   value, from the core's scratch buffers. -/
module

public import proofs.«01_k».proof.Proof.Keeps

@[expose] public section

noncomputable section

namespace Cert.Keeping

open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode

variable {nD : Nat} {τ : Topo} {sig : RefSig} {Val : EltTy → Type}

local notation "𝕄" => MT nD τ sig Unit Val ℕ (UR sig nD τ) ℕ

/-- A memref that the left part holds is held by the whole. -/
theorem Has.left {d : Dev nD} {A B : sProp 𝕄} {cs : CoreSpace} {s : Shape} {e : EltTy} {m : Memref sig .tc cs s e}
    (h : Has d A m) : Has d iprop(A ∗ B) m := by
  refine ⟨(sep_mono h.split .rfl).trans ?_⟩
  iintro ⟨⟨Hm, HA⟩, HB⟩
  isplitl [Hm]; · iexact Hm
  iintro Hm
  isplitl [HA Hm]
  · iapply HA; iexact Hm
  · iexact HB

/-- A memref that the right part holds is held by the whole. -/
theorem Has.right {d : Dev nD} {A B : sProp 𝕄} {cs : CoreSpace} {s : Shape} {e : EltTy} {m : Memref sig .tc cs s e}
    (h : Has d B m) : Has d iprop(A ∗ B) m := by
  refine ⟨(sep_mono .rfl h.split).trans ?_⟩
  iintro ⟨HA, Hm, HB⟩
  isplitl [Hm]; · iexact Hm
  iintro Hm
  isplitl [HA]; · iexact HA
  iapply HB; iexact Hm

/-- A memref that one of the resources of a family holds is held by all of them together. -/
theorem Has.family {d : Dev nD} {I : Type} [Fintype I] [DecidableEq I] {Φ : I → sProp 𝕄} (w : I) {cs : CoreSpace} {s : Shape}
    {e : EltTy} {m : Memref sig .tc cs s e} (h : Has d (Φ w) m) : Has d (bigSep Finset.univ Φ) m := by
  rw [bigSep_erase (Finset.mem_univ w)]
  exact h.left

/-- Holding a memref at some value is holding it. -/
theorem Has.owned {d : Dev nD} {cs : CoreSpace} {s : Shape} {e : EltTy} (m : Memref sig .tc cs s e) :
    Has d (iprop(∃ X, owns (d.tc : Thread nD τ) m fullShare X) : sProp 𝕄) m := by
  constructor
  unfold Held
  iintro ⟨%X, HX⟩
  unfold owns
  icases HX with ⟨%f, -, Hf⟩
  isplitl [Hf]; · iexists f; iexact Hf
  iintro ⟨%g, Hg⟩
  iexists (m.view.read Val g)
  iexists g
  isplitr
  · ipureintro; rfl
  · iexact Hg

/-- A memref that is all of a scratch buffer is held by the core's scratch buffers, each whole at some contents. -/
theorem Has.scoped {d : Dev nD} {gr W : Nat} (win : Fin W → Pipeline.WinSpec sig gr) (b : Ref sig .tc)
    (hb : b ∈ (Finset.univ.filter fun b : Ref sig .tc => b.isScoped) \ Finset.univ.image (Pipeline.stageRef win))
    {cs : CoreSpace} {s : Shape} {e : EltTy} (m : Memref sig .tc cs s e) (hm : m.view.set = Finset.univ)
    (hl : m.view.loc (d.tc : Thread nD τ) = (d.tc : Thread nD τ).loc b) :
    Has d (Pipeline.scopedRest (Ix := Unit) (Name := ℕ) (U := UR sig nD τ) (Lvl := ℕ) (Val := Val) win d : sProp 𝕄) m := by
  unfold Pipeline.scopedRest
  rw [bigSep_erase hb]
  refine Has.left ?_
  constructor
  unfold Held
  rw [hm, ← hl]
  iintro H
  isplitl [H]; · iexact H
  iintro H
  iexact H

end Cert.Keeping

end
-- ==== Proof.FrameDsa.lean ====
/- The sparse attention call runs: the launch of its pipeline around a body that only loads and stores through memrefs it
   holds whole (Keeps.lean, Body.lean). Nothing is said of what the result array holds. -/
module

public import proofs.«01_k».proof.Proof.Gen.Kernel.Launch
public import proofs.«01_k».proof.Proof.Body
public import proofs.«01_k».proof.Proof.Held
public import Idealize.ShloMosaic.Lib.Pipeline.Frame

@[expose] public section

noncomputable section

namespace Cert.Kernel

open Idealize.ShloMosaic Idealize.ShloMosaic.TcCoe
open Idealize.SL Idealize.SL.RA Idealize.SL.BI
open scoped Idealize.SL.BI
open Idealize.SL.BI.BIBase Idealize.SL.Sem
open Cert.Keeping Cert.Kernel.Gen
open Idealize.ShloMosaic.Pipeline (Dat BodyObligationLoose)

variable {F : FTy → Type} [BitOps F]
variable (m : (ℓ : Loc nD τ sig) → Buf (Elt F) ℓ) (ρ : Dev nD → PrngReg)

local notation "𝕄" => MT nD τ sig Unit (Elt F) ℕ (UR sig nD τ) ℕ

/-- What core `c` holds in its buffers when the pipeline is entered: the launch contents after the host operations. -/
abbrev V (c : Dev nD) (b : Ref sig .tc) : Buf (Elt F) ((c : Thread nD τ).loc b) := StableHlo.after hostOps0 (fun b => m (c, b)) b

/-- Every window is forgotten: nothing is named of what the body leaves in it. -/
def forgets (_ : Fin 12) : Bool := true

/-- The pipeline's proof data: the arrays as found, nothing named of the windows, nothing owed. -/
def dats (_ : Fin 1) (c : Dev nD) : Dat τ (Elt F) Unit ℕ (UR sig nD τ) ℕ (cfg0 (F := F)) c where
  A w := V m c (Pipeline.arrRef spec0 w)
  after w t := Dat.unnamed (cfg := cfg0 (F := F)) w t
  Φ _ := Pipeline.ΦA spec0 c
  q w := Pipeline.shareOf spec0 w
  owed _ := 0

/-- What the body is handed at point `t`, and hands back: the scratch, the generator, what the core owes, the windows' buffers. -/
def held (c : Dev nD) (t : Fin 32) : sProp 𝕄 :=
  iprop(Pipeline.ΦA spec0 c ∗ (dats m 0 c).owesAt () t.castSucc
    ∗ bigSep Finset.univ fun w : Fin 12 => iprop(∃ X, owns (c : Thread nD τ) (((cfg0 (F := F)).win w).stage ((cfg0 (F := F)).slots t w)) fullShare X))

/-- Each window's current buffer is held. -/
theorem held_win (c : Dev nD) (t : Fin 32) (w : Fin 12) :
    Has c (held m c t) (((cfg0 (F := F)).win w).stage ((cfg0 (F := F)).slots t w)) :=
  ((Has.owned _).family (Φ := fun w : Fin 12 => iprop(∃ X, owns (c : Thread nD τ) (((cfg0 (F := F)).win w).stage ((cfg0 (F := F)).slots t w)) fullShare X)) w).right.right

/-- Each scratch buffer is held. -/
theorem held_scratch (c : Dev nD) (t : Fin 32) (b : Ref sig .tc)
    (hb : b ∈ (Finset.univ.filter fun b : Ref sig .tc => b.isScoped) \ Finset.univ.image (Pipeline.stageRef spec0))
    {cs : CoreSpace} {s : Shape} {e : EltTy} (r : Memref sig .tc cs s e) (hr : r.view.set = Finset.univ)
    (hl : r.view.loc (c.tc : Thread nD τ) = (c.tc : Thread nD τ).loc b) : Has c (held m c t) r :=
  (Has.scoped spec0 b hb r hr hl).left.left

set_option maxHeartbeats 4000000 in
/-- The body keeps what it is handed at every point. -/
theorem keeps_point (c : Dev nD) (t : Fin 32) :
    Keeps (defs₀ (F := F)) Variants.nat none c (held m c t) (defs₀ (F := F) .tc cfg0.body (cfg0.bodyArgs t (cfg0.slots t))) := by
  unfold defs₀; rw [Defs.onTc_tc]
  exact keeps_dsa _ _ _ _ _ _ _ _ _ _ _ _ _ _ _ _ _ _ _ _ _ _ _ _ _ _ _ _ _ _ _ _ _ _ _ _ _ _ _ _ _ _ _ _ _ c (held m c t)
    (Harg2 := held_win m c t 0) (Harg3 := held_win m c t 1) (Harg4 := held_win m c t 2) (Harg5 := held_win m c t 3)
    (Harg6 := held_win m c t 4) (Harg7 := held_win m c t 5) (Harg8 := held_win m c t 6) (Harg9 := held_win m c t 7)
    (Harg10 := held_win m c t 8) (Harg11 := held_win m c t 9) (Harg12 := held_win m c t 10) (Harg13 := held_win m c t 11)
    (Harg14 := held_scratch m c t cc0_scratch0 (by decide) _ (View.set_whole _) rfl)
    (Harg15 := held_scratch m c t cc0_scratch1 (by decide) _ (View.set_whole _) rfl)
    (Harg16 := held_scratch m c t cc0_scratch2 (by decide) _ (View.set_whole _) rfl)
    (Harg17 := held_scratch m c t cc0_scratch3 (by decide) _ (View.set_whole _) rfl)
    (Harg18 := held_scratch m c t cc0_scratch4 (by decide) _ (View.set_whole _) rfl)
    (Harg19 := held_scratch m c t cc0_scratch5 (by decide) _ (View.set_whole _) rfl)
    (Harg20 := held_scratch m c t cc0_scratch6 (by decide) _ (View.set_whole _) rfl)
    (Harg21 := held_scratch m c t cc0_scratch7 (by decide) _ (View.set_whole _) rfl)
    (Harg22 := held_scratch m c t cc0_scratch8 (by decide) _ (View.set_whole _) rfl)
    (Harg23 := held_scratch m c t cc0_scratch9 (by decide) _ (View.set_whole _) rfl)

/-- The body obligation of the pipeline. -/
theorem obligation (c : Dev nD) :
    BodyObligationLoose (dats m 0 c) (defs₀ (F := F)) Variants.nat () Set.univ forgets := fun t =>
  (keeps_point m c t).run

theorem hostOps0_fresh : (hostOps0 : List (HloOp τ sig (Elt F))).Forall fun op => op.fresh = ∅ := by
  simp only [List.Forall]; repeat' constructor

set_option maxHeartbeats 800000 in
/-- The run: every window's array that is an input is unchanged, every buffer no window stages is as the pipeline found it,
    every semaphore ends at zero. -/
theorem run_main : θ_run defs (onTc (τ := τ) (main (F := F))) ⟨m, fun _ => 0, ρ⟩ (fun r =>
    Pipeline.RDat.FramePost (cfgs 0) (fun c => (dats m 0 c).toRForget forgets) (V m) r ∧ r.2.sem = fun _ => 0) :=
  Pipeline.θ_run_frame_forget_shared (Q' := _) cfgs (dats m) 0 launch₀0 defs₀ Variants.nat forgets m ρ main
    (hbody := obligation m) (hq := fun _ _ _ => rfl) (howed := fun _ _ => rfl) (V := V m)
    (hmain := Pipeline.hmain_prefix cfgs 0 defs₀ Variants.nat m main hostOps0 hostOps0_sub hostOps0_fresh main_chain)
    (hA := fun _ _ => by dsimp only [dats]) (hΦ := fun _ _ => rfl)

/-- A buffer that no host operation writes is found as launched. -/
theorem V_of (c : Dev nD) (b : Ref sig .tc) (hb : ∀ r ∈ [main_v0, main_v1, main_v2, main_v3, main_v4, main_v5, main_v6, main_v7, main_cst, main_v8, main_v9, main_v10, main_v11], b ≠ r) :
    V m c b = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (hb _ (by simp))))

/-- Core `c`'s argument arrays end as launched: some are a window's array, some no window stages. -/
theorem frame_dsa : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  refine (θ_run defs _ _).mono (fun r h => ⟨fun c => ?_, h.2⟩) (run_main m ρ)
  have staged : ∀ w : Fin 12, (spec0 w).isOut = false → r.2.mem ((c.tc : Thread nD τ).loc (Pipeline.arrRef spec0 w)) = V m c (Pipeline.arrRef spec0 w) :=
    fun w hw => (Pipeline.RDat.FramePost.arr_in h.1 c w hw).trans (by dsimp only [Pipeline.Dat.toRForget, dats]; rfl)
  have other : ∀ b : Ref sig .tc, b ∈ Pipeline.restRefs sig spec0 → r.2.mem ((c.tc : Thread nD τ).loc b) = V m c b := (h.1 c).2
  refine ⟨(staged 0 rfl).trans (V_of m c main_arg0 (by decide)), (staged 4 rfl).trans (V_of m c main_arg1 (by decide)),
    (staged 3 rfl).trans (V_of m c main_arg2 (by decide)), ?_, ?_, ?_, ?_, ?_, (staged 10 rfl).trans (V_of m c main_arg8 (by decide))⟩
  all_goals
    exact (other _ (Pipeline.mem_restRefs_of _ (by decide) (by decide))).trans (V_of m c _ (by decide))

end Cert.Kernel

end
-- ==== Proof.Facts4.lean ====
/- The side conditions of the recurrence's program: shapes, slices, offsets and the windows' blocks, each decided. -/
module

public import proofs.«01_k».proof.Kernel4
public import Idealize.ShloMosaic.Lib.Decide

@[expose] public section

set_option synthInstance.maxSize 4096

namespace Cert.Kernel4.Side

open Idealize.ShloMosaic Idealize.SL.Sem

theorem shapeCasts_S8192x6016_S2x4096x6016 : S8192x6016.ShapeCasts S2x4096x6016 := by decide
theorem slices_S3200_S1024_0 : S3200.Slices ![0] S1024 := by decide
theorem slices_S3200_S1024_1024 : S3200.Slices ![1024] S1024 := by decide
theorem slices_S3200_S1024_2048 : S3200.Slices ![2048] S1024 := by decide
theorem slices_S3200_S128_3072 : S3200.Slices ![3072] S128 := by decide
theorem shapeCasts_S1024_S1x1024 : S1024.ShapeCasts S1x1024 := by decide
theorem shapeCasts_S128_S1x128 : S128.ShapeCasts S1x128 := by decide
theorem shapeCasts_S1024_S8x1x128 : S1024.ShapeCasts S8x1x128 := by decide
theorem bitsLt_bf16_f32 : FTy.bits .bf16 < FTy.bits .f32 := by decide
theorem inb_S2x1x1024_S2x1x1024_0_0_0 : ∀ a, (![0, 0, 0] : Fin 3 → Nat) a + S2x1x1024.size a ≤ S2x1x1024.size a := by decide
theorem h_S2x1x1024 : 0 < S2x1x1024.numel := by decide
theorem shapeCasts_S2x1x1024_S2x1x1024 : S2x1x1024.ShapeCasts S2x1x1024 := by decide
theorem inb_S2x1x128_S2x1x128_0_0_0 : ∀ a, (![0, 0, 0] : Fin 3 → Nat) a + S2x1x128.size a ≤ S2x1x128.size a := by decide
theorem h_S2x1x128 : 0 < S2x1x128.numel := by decide
theorem shapeCasts_S2x1x128_S2x1x128 : S2x1x128.ShapeCasts S2x1x128 := by decide
theorem inb_S16x128x128_S16x128x128_0_0_0 : ∀ a, (![0, 0, 0] : Fin 3 → Nat) a + S16x128x128.size a ≤ S16x128x128.size a := by decide
theorem h_S16x128x128 : 0 < S16x128x128.numel := by decide
theorem shapeCasts_S16x128x128_S16x128x128 : S16x128x128.ShapeCasts S16x128x128 := by decide
theorem iota_S8x1_d0_w32 : S8x1.Iotas .tc 32 [0] := by decide
theorem inb_S2x64x1024_S2x64x1024_0_0_0 : ∀ a, (![0, 0, 0] : Fin 3 → Nat) a + S2x64x1024.size a ≤ S2x64x1024.size a := by decide
theorem h_S2x64x1024 : 0 < S2x64x1024.numel := by decide
theorem shapeCasts_S2x64x1024_S2x64x1024 : S2x64x1024.ShapeCasts S2x64x1024 := by decide
theorem shapeCasts_S2x64x1024_S128x1024 : S2x64x1024.ShapeCasts S128x1024 := by decide
theorem rotates_S128x1024_d0 : S128x1024.Rotates 0 none := by decide
theorem inb_S2x1x1024_S1x1x1024_0_0_0 : ∀ a, (![0, 0, 0] : Fin 3 → Nat) a + S1x1x1024.size a ≤ S2x1x1024.size a := by decide
theorem h_S1x1x1024 : 0 < S1x1x1024.numel := by decide
theorem shapeCasts_S1x1x1024_S1x1024 : S1x1x1024.ShapeCasts S1x1024 := by decide
theorem slices_S128x1024_o0_0_S8x1024 : S128x1024.Slices ![0, 0] S8x1024 := by decide
theorem shapeCasts_S8x1_S8x1 : S8x1.ShapeCasts S8x1 := by decide
theorem broadcasts_S8x1_S8x1024 : S8x1.Broadcasts S8x1024 := by decide
theorem shapeCasts_S1x1024_S1x1024 : S1x1024.ShapeCasts S1x1024 := by decide
theorem broadcasts_S1x1024_S8x1024 : S1x1024.Broadcasts S8x1024 := by decide
theorem slices_S128x1024_o8_0_S56x1024 : S128x1024.Slices ![8, 0] S56x1024 := by decide
theorem slices_S128x1024_o63_0_S1x1024 : S128x1024.Slices ![63, 0] S1x1024 := by decide
theorem shapeCasts_S1x1024_S1x1x1024 : S1x1024.ShapeCasts S1x1x1024 := by decide
theorem inb_S2x1x1024_S1x1x1024_1_0_0 : ∀ a, (![1, 0, 0] : Fin 3 → Nat) a + S1x1x1024.size a ≤ S2x1x1024.size a := by decide
theorem slices_S128x1024_o64_0_S8x1024 : S128x1024.Slices ![64, 0] S8x1024 := by decide
theorem slices_S128x1024_o72_0_S56x1024 : S128x1024.Slices ![72, 0] S56x1024 := by decide
theorem slices_S128x1024_o127_0_S1x1024 : S128x1024.Slices ![127, 0] S1x1024 := by decide
theorem concatenates_S8x1024_S56x1024_S8x1024_S56x1024_S128x1024_d0 : Shape.Concatenates [S8x1024, S56x1024, S8x1024, S56x1024] S128x1024 0 := by decide
theorem inb_S1x1024_S1x1024_0_0 : ∀ a, (![0, 0] : Fin 2 → Nat) a + S1x1024.size a ≤ S1x1024.size a := by decide
theorem h_S1x1024 : 0 < S1x1024.numel := by decide
theorem broadcasts_S1x1024_S128x1024 : S1x1024.Broadcasts S128x1024 := by decide
theorem inb_S2x64x128_S2x64x128_0_0_0 : ∀ a, (![0, 0, 0] : Fin 3 → Nat) a + S2x64x128.size a ≤ S2x64x128.size a := by decide
theorem h_S2x64x128 : 0 < S2x64x128.numel := by decide
theorem shapeCasts_S2x64x128_S2x64x128 : S2x64x128.ShapeCasts S2x64x128 := by decide
theorem shapeCasts_S2x64x128_S128x128 : S2x64x128.ShapeCasts S128x128 := by decide
theorem rotates_S128x128_d0 : S128x128.Rotates 0 none := by decide
theorem inb_S2x1x128_S1x1x128_0_0_0 : ∀ a, (![0, 0, 0] : Fin 3 → Nat) a + S1x1x128.size a ≤ S2x1x128.size a := by decide
theorem h_S1x1x128 : 0 < S1x1x128.numel := by decide
theorem shapeCasts_S1x1x128_S1x128 : S1x1x128.ShapeCasts S1x128 := by decide
theorem slices_S128x128_o0_0_S8x128 : S128x128.Slices ![0, 0] S8x128 := by decide
theorem broadcasts_S8x1_S8x128 : S8x1.Broadcasts S8x128 := by decide
theorem shapeCasts_S1x128_S1x128 : S1x128.ShapeCasts S1x128 := by decide
theorem broadcasts_S1x128_S8x128 : S1x128.Broadcasts S8x128 := by decide
theorem slices_S128x128_o8_0_S56x128 : S128x128.Slices ![8, 0] S56x128 := by decide
theorem slices_S128x128_o63_0_S1x128 : S128x128.Slices ![63, 0] S1x128 := by decide
theorem shapeCasts_S1x128_S1x1x128 : S1x128.ShapeCasts S1x1x128 := by decide
theorem inb_S2x1x128_S1x1x128_1_0_0 : ∀ a, (![1, 0, 0] : Fin 3 → Nat) a + S1x1x128.size a ≤ S2x1x128.size a := by decide
theorem slices_S128x128_o64_0_S8x128 : S128x128.Slices ![64, 0] S8x128 := by decide
theorem slices_S128x128_o72_0_S56x128 : S128x128.Slices ![72, 0] S56x128 := by decide
theorem slices_S128x128_o127_0_S1x128 : S128x128.Slices ![127, 0] S1x128 := by decide
theorem concatenates_S8x128_S56x128_S8x128_S56x128_S128x128_d0 : Shape.Concatenates [S8x128, S56x128, S8x128, S56x128] S128x128 0 := by decide
theorem inb_S1x128_S1x128_0_0 : ∀ a, (![0, 0] : Fin 2 → Nat) a + S1x128.size a ≤ S1x128.size a := by decide
theorem h_S1x128 : 0 < S1x128.numel := by decide
theorem broadcasts_S1x128_S128x128 : S1x128.Broadcasts S128x128 := by decide
theorem slices_S128x128_o0_0_S128x64 : S128x128.Slices ![0, 0] S128x64 := by decide
theorem slices_S128x128_o0_64_S128x64 : S128x128.Slices ![0, 64] S128x64 := by decide
theorem inb_S64x1024_S64x1024_0_0 : ∀ a, (![0, 0] : Fin 2 → Nat) a + S64x1024.size a ≤ S64x1024.size a := by decide
theorem h_S64x1024 : 0 < S64x1024.numel := by decide
theorem shapeCasts_S64x1024_S64x1024 : S64x1024.ShapeCasts S64x1024 := by decide
theorem iota_S64x64_d0_w32 : S64x64.Iotas .tc 32 [0] := by decide
theorem iota_S64x64_d1_w32 : S64x64.Iotas .tc 32 [1] := by decide
theorem slices_S128x1024_o0_0_S64x1024 : S128x1024.Slices ![0, 0] S64x1024 := by decide
theorem slices_S128x1024_o64_0_S64x1024 : S128x1024.Slices ![64, 0] S64x1024 := by decide
theorem concatenates_S64x1024_S64x1024_S128x1024_d0 : Shape.Concatenates [S64x1024, S64x1024] S128x1024 0 := by decide
theorem iota_S1x1x128_d2_w32 : S1x1x128.Iotas .tc 32 [2] := by decide
theorem iota_S128x128_d0_w32 : S128x128.Iotas .tc 32 [0] := by decide
theorem iota_S128x128_d1_w32 : S128x128.Iotas .tc 32 [1] := by decide
theorem slices_S128x1024_o0_0_S64x128 : S128x1024.Slices ![0, 0] S64x128 := by decide
theorem slices_S128x1024_o0_128_S64x128 : S128x1024.Slices ![0, 128] S64x128 := by decide
theorem slices_S128x1024_o0_256_S64x128 : S128x1024.Slices ![0, 256] S64x128 := by decide
theorem slices_S128x1024_o0_384_S64x128 : S128x1024.Slices ![0, 384] S64x128 := by decide
theorem slices_S128x1024_o0_512_S64x128 : S128x1024.Slices ![0, 512] S64x128 := by decide
theorem slices_S128x1024_o0_640_S64x128 : S128x1024.Slices ![0, 640] S64x128 := by decide
theorem slices_S128x1024_o0_768_S64x128 : S128x1024.Slices ![0, 768] S64x128 := by decide
theorem slices_S128x1024_o0_896_S64x128 : S128x1024.Slices ![0, 896] S64x128 := by decide
theorem slices_S128x1024_o64_0_S64x128 : S128x1024.Slices ![64, 0] S64x128 := by decide
theorem slices_S128x1024_o64_128_S64x128 : S128x1024.Slices ![64, 128] S64x128 := by decide
theorem slices_S128x1024_o64_256_S64x128 : S128x1024.Slices ![64, 256] S64x128 := by decide
theorem slices_S128x1024_o64_384_S64x128 : S128x1024.Slices ![64, 384] S64x128 := by decide
theorem slices_S128x1024_o64_512_S64x128 : S128x1024.Slices ![64, 512] S64x128 := by decide
theorem slices_S128x1024_o64_640_S64x128 : S128x1024.Slices ![64, 640] S64x128 := by decide
theorem slices_S128x1024_o64_768_S64x128 : S128x1024.Slices ![64, 768] S64x128 := by decide
theorem slices_S128x1024_o64_896_S64x128 : S128x1024.Slices ![64, 896] S64x128 := by decide
theorem shapeCasts_S64x128_S1x64x128 : S64x128.ShapeCasts S1x64x128 := by decide
theorem concatenates_S1x64x128_S1x64x128_S1x64x128_S1x64x128_S1x64x128_S1x64x128_S1x64x128_S1x64x128_S1x64x128_S1x64x128_S1x64x128_S1x64x128_S1x64x128_S1x64x128_S1x64x128_S1x64x128_S16x64x128_d0 : Shape.Concatenates [S1x64x128, S1x64x128, S1x64x128, S1x64x128, S1x64x128, S1x64x128, S1x64x128, S1x64x128, S1x64x128, S1x64x128, S1x64x128, S1x64x128, S1x64x128, S1x64x128, S1x64x128, S1x64x128] S16x64x128 0 := by decide
theorem shapeCasts_S16x64x128_S1024x128 : S16x64x128.ShapeCasts S1024x128 := by decide
theorem shapeCasts_S1024x128_S16x64x128 : S1024x128.ShapeCasts S16x64x128 := by decide
theorem concatenates_S16x64x128_S16x64x128_S16x128x128_d1 : Shape.Concatenates [S16x64x128, S16x64x128] S16x128x128 1 := by decide
theorem broadcasts_S1x1x128_S16x64x128 : S1x1x128.Broadcasts S16x64x128 := by decide
theorem concatenates_S16x128x128_S16x128x128_S16x256x128_d1 : Shape.Concatenates [S16x128x128, S16x128x128] S16x256x128 1 := by decide
theorem iota_S64x128_d0_w32 : S64x128.Iotas .tc 32 [0] := by decide
theorem iota_S64x128_d1_w32 : S64x128.Iotas .tc 32 [1] := by decide
theorem iota_S64x256_d0_w32 : S64x256.Iotas .tc 32 [0] := by decide
theorem iota_S64x256_d1_w32 : S64x256.Iotas .tc 32 [1] := by decide
theorem slices_S16x128x256_o0_0_0_S16x64x128 : S16x128x256.Slices ![0, 0, 0] S16x64x128 := by decide
theorem broadcasts_S1x64x128_S16x64x128 : S1x64x128.Broadcasts S16x64x128 := by decide
theorem slices_S16x128x256_o0_0_128_S16x64x128 : S16x128x256.Slices ![0, 0, 128] S16x64x128 := by decide
theorem slices_S16x128x256_o0_64_0_S16x64x256 : S16x128x256.Slices ![0, 64, 0] S16x64x256 := by decide
theorem shapeCasts_S64x256_S1x64x256 : S64x256.ShapeCasts S1x64x256 := by decide
theorem broadcasts_S1x64x256_S16x64x256 : S1x64x256.Broadcasts S16x64x256 := by decide
theorem slices_S16x128x128_o0_0_0_S16x64x128 : S16x128x128.Slices ![0, 0, 0] S16x64x128 := by decide
theorem slices_S16x128x128_o0_64_0_S16x64x128 : S16x128x128.Slices ![0, 64, 0] S16x64x128 := by decide
theorem shapeCasts_S128x128_S1x128x128 : S128x128.ShapeCasts S1x128x128 := by decide
theorem broadcasts_S1x128x128_S16x128x128 : S1x128x128.Broadcasts S16x128x128 := by decide
theorem inb_S8x1x128_S8x1x128_0_0_0 : ∀ a, (![0, 0, 0] : Fin 3 → Nat) a + S8x1x128.size a ≤ S8x1x128.size a := by decide
theorem h_S8x1x128 : 0 < S8x1x128.numel := by decide
theorem shapeCasts_S8x1x128_S8x1x128 : S8x1x128.ShapeCasts S8x1x128 := by decide
theorem concatenates_S8x1x128_S8x1x128_S16x1x128_d0 : Shape.Concatenates [S8x1x128, S8x1x128] S16x1x128 0 := by decide
theorem broadcasts_S16x1x128_S16x64x128 : S16x1x128.Broadcasts S16x64x128 := by decide
theorem slices_S16x64x128_o0_0_0_S1x64x128 : S16x64x128.Slices ![0, 0, 0] S1x64x128 := by decide
theorem shapeCasts_S1x64x128_S64x128 : S1x64x128.ShapeCasts S64x128 := by decide
theorem inb_S2x64x1024_S1x64x128_0_0_0 : ∀ a, (![0, 0, 0] : Fin 3 → Nat) a + S1x64x128.size a ≤ S2x64x1024.size a := by decide
theorem h_S1x64x128 : 0 < S1x64x128.numel := by decide
theorem packedbf16_S2x64x1024_S1x64x128_0_0_0 : (Rect.unit (s := S2x64x1024) ![0, 0, 0] S1x64x128.size inb_S2x64x1024_S1x64x128_0_0_0).PackedRows (EltTy.packing .bf16) := by decide
theorem slices_S16x64x128_o1_0_0_S1x64x128 : S16x64x128.Slices ![1, 0, 0] S1x64x128 := by decide
theorem inb_S2x64x1024_S1x64x128_0_0_128 : ∀ a, (![0, 0, 128] : Fin 3 → Nat) a + S1x64x128.size a ≤ S2x64x1024.size a := by decide
theorem packedbf16_S2x64x1024_S1x64x128_0_0_128 : (Rect.unit (s := S2x64x1024) ![0, 0, 128] S1x64x128.size inb_S2x64x1024_S1x64x128_0_0_128).PackedRows (EltTy.packing .bf16) := by decide
theorem slices_S16x64x128_o2_0_0_S1x64x128 : S16x64x128.Slices ![2, 0, 0] S1x64x128 := by decide
theorem inb_S2x64x1024_S1x64x128_0_0_256 : ∀ a, (![0, 0, 256] : Fin 3 → Nat) a + S1x64x128.size a ≤ S2x64x1024.size a := by decide
theorem packedbf16_S2x64x1024_S1x64x128_0_0_256 : (Rect.unit (s := S2x64x1024) ![0, 0, 256] S1x64x128.size inb_S2x64x1024_S1x64x128_0_0_256).PackedRows (EltTy.packing .bf16) := by decide
theorem slices_S16x64x128_o3_0_0_S1x64x128 : S16x64x128.Slices ![3, 0, 0] S1x64x128 := by decide
theorem inb_S2x64x1024_S1x64x128_0_0_384 : ∀ a, (![0, 0, 384] : Fin 3 → Nat) a + S1x64x128.size a ≤ S2x64x1024.size a := by decide
theorem packedbf16_S2x64x1024_S1x64x128_0_0_384 : (Rect.unit (s := S2x64x1024) ![0, 0, 384] S1x64x128.size inb_S2x64x1024_S1x64x128_0_0_384).PackedRows (EltTy.packing .bf16) := by decide
theorem slices_S16x64x128_o4_0_0_S1x64x128 : S16x64x128.Slices ![4, 0, 0] S1x64x128 := by decide
theorem inb_S2x64x1024_S1x64x128_0_0_512 : ∀ a, (![0, 0, 512] : Fin 3 → Nat) a + S1x64x128.size a ≤ S2x64x1024.size a := by decide
theorem packedbf16_S2x64x1024_S1x64x128_0_0_512 : (Rect.unit (s := S2x64x1024) ![0, 0, 512] S1x64x128.size inb_S2x64x1024_S1x64x128_0_0_512).PackedRows (EltTy.packing .bf16) := by decide
theorem slices_S16x64x128_o5_0_0_S1x64x128 : S16x64x128.Slices ![5, 0, 0] S1x64x128 := by decide
theorem inb_S2x64x1024_S1x64x128_0_0_640 : ∀ a, (![0, 0, 640] : Fin 3 → Nat) a + S1x64x128.size a ≤ S2x64x1024.size a := by decide
theorem packedbf16_S2x64x1024_S1x64x128_0_0_640 : (Rect.unit (s := S2x64x1024) ![0, 0, 640] S1x64x128.size inb_S2x64x1024_S1x64x128_0_0_640).PackedRows (EltTy.packing .bf16) := by decide
theorem slices_S16x64x128_o6_0_0_S1x64x128 : S16x64x128.Slices ![6, 0, 0] S1x64x128 := by decide
theorem inb_S2x64x1024_S1x64x128_0_0_768 : ∀ a, (![0, 0, 768] : Fin 3 → Nat) a + S1x64x128.size a ≤ S2x64x1024.size a := by decide
theorem packedbf16_S2x64x1024_S1x64x128_0_0_768 : (Rect.unit (s := S2x64x1024) ![0, 0, 768] S1x64x128.size inb_S2x64x1024_S1x64x128_0_0_768).PackedRows (EltTy.packing .bf16) := by decide
theorem slices_S16x64x128_o7_0_0_S1x64x128 : S16x64x128.Slices ![7, 0, 0] S1x64x128 := by decide
theorem inb_S2x64x1024_S1x64x128_0_0_896 : ∀ a, (![0, 0, 896] : Fin 3 → Nat) a + S1x64x128.size a ≤ S2x64x1024.size a := by decide
theorem packedbf16_S2x64x1024_S1x64x128_0_0_896 : (Rect.unit (s := S2x64x1024) ![0, 0, 896] S1x64x128.size inb_S2x64x1024_S1x64x128_0_0_896).PackedRows (EltTy.packing .bf16) := by decide
theorem slices_S16x64x128_o8_0_0_S1x64x128 : S16x64x128.Slices ![8, 0, 0] S1x64x128 := by decide
theorem inb_S2x64x1024_S1x64x128_1_0_0 : ∀ a, (![1, 0, 0] : Fin 3 → Nat) a + S1x64x128.size a ≤ S2x64x1024.size a := by decide
theorem packedbf16_S2x64x1024_S1x64x128_1_0_0 : (Rect.unit (s := S2x64x1024) ![1, 0, 0] S1x64x128.size inb_S2x64x1024_S1x64x128_1_0_0).PackedRows (EltTy.packing .bf16) := by decide
theorem slices_S16x64x128_o9_0_0_S1x64x128 : S16x64x128.Slices ![9, 0, 0] S1x64x128 := by decide
theorem inb_S2x64x1024_S1x64x128_1_0_128 : ∀ a, (![1, 0, 128] : Fin 3 → Nat) a + S1x64x128.size a ≤ S2x64x1024.size a := by decide
theorem packedbf16_S2x64x1024_S1x64x128_1_0_128 : (Rect.unit (s := S2x64x1024) ![1, 0, 128] S1x64x128.size inb_S2x64x1024_S1x64x128_1_0_128).PackedRows (EltTy.packing .bf16) := by decide
theorem slices_S16x64x128_o10_0_0_S1x64x128 : S16x64x128.Slices ![10, 0, 0] S1x64x128 := by decide
theorem inb_S2x64x1024_S1x64x128_1_0_256 : ∀ a, (![1, 0, 256] : Fin 3 → Nat) a + S1x64x128.size a ≤ S2x64x1024.size a := by decide
theorem packedbf16_S2x64x1024_S1x64x128_1_0_256 : (Rect.unit (s := S2x64x1024) ![1, 0, 256] S1x64x128.size inb_S2x64x1024_S1x64x128_1_0_256).PackedRows (EltTy.packing .bf16) := by decide
theorem slices_S16x64x128_o11_0_0_S1x64x128 : S16x64x128.Slices ![11, 0, 0] S1x64x128 := by decide
theorem inb_S2x64x1024_S1x64x128_1_0_384 : ∀ a, (![1, 0, 384] : Fin 3 → Nat) a + S1x64x128.size a ≤ S2x64x1024.size a := by decide
theorem packedbf16_S2x64x1024_S1x64x128_1_0_384 : (Rect.unit (s := S2x64x1024) ![1, 0, 384] S1x64x128.size inb_S2x64x1024_S1x64x128_1_0_384).PackedRows (EltTy.packing .bf16) := by decide
theorem slices_S16x64x128_o12_0_0_S1x64x128 : S16x64x128.Slices ![12, 0, 0] S1x64x128 := by decide
theorem inb_S2x64x1024_S1x64x128_1_0_512 : ∀ a, (![1, 0, 512] : Fin 3 → Nat) a + S1x64x128.size a ≤ S2x64x1024.size a := by decide
theorem packedbf16_S2x64x1024_S1x64x128_1_0_512 : (Rect.unit (s := S2x64x1024) ![1, 0, 512] S1x64x128.size inb_S2x64x1024_S1x64x128_1_0_512).PackedRows (EltTy.packing .bf16) := by decide
theorem slices_S16x64x128_o13_0_0_S1x64x128 : S16x64x128.Slices ![13, 0, 0] S1x64x128 := by decide
theorem inb_S2x64x1024_S1x64x128_1_0_640 : ∀ a, (![1, 0, 640] : Fin 3 → Nat) a + S1x64x128.size a ≤ S2x64x1024.size a := by decide
theorem packedbf16_S2x64x1024_S1x64x128_1_0_640 : (Rect.unit (s := S2x64x1024) ![1, 0, 640] S1x64x128.size inb_S2x64x1024_S1x64x128_1_0_640).PackedRows (EltTy.packing .bf16) := by decide
theorem slices_S16x64x128_o14_0_0_S1x64x128 : S16x64x128.Slices ![14, 0, 0] S1x64x128 := by decide
theorem inb_S2x64x1024_S1x64x128_1_0_768 : ∀ a, (![1, 0, 768] : Fin 3 → Nat) a + S1x64x128.size a ≤ S2x64x1024.size a := by decide
theorem packedbf16_S2x64x1024_S1x64x128_1_0_768 : (Rect.unit (s := S2x64x1024) ![1, 0, 768] S1x64x128.size inb_S2x64x1024_S1x64x128_1_0_768).PackedRows (EltTy.packing .bf16) := by decide
theorem slices_S16x64x128_o15_0_0_S1x64x128 : S16x64x128.Slices ![15, 0, 0] S1x64x128 := by decide
theorem inb_S2x64x1024_S1x64x128_1_0_896 : ∀ a, (![1, 0, 896] : Fin 3 → Nat) a + S1x64x128.size a ≤ S2x64x1024.size a := by decide
theorem packedbf16_S2x64x1024_S1x64x128_1_0_896 : (Rect.unit (s := S2x64x1024) ![1, 0, 896] S1x64x128.size inb_S2x64x1024_S1x64x128_1_0_896).PackedRows (EltTy.packing .bf16) := by decide
theorem dot_S128x64_S64x1024_S128x1024_1_0_0_1_n_n_wf : DotDims.WF S128x64 S64x1024 S128x1024 [1] [0] [0] [1] [] [] := by decide
theorem dot_S64x64_S64x1024_S64x1024_1_0_0_1_n_n_wf : DotDims.WF S64x64 S64x1024 S64x1024 [1] [0] [0] [1] [] [] := by decide
theorem dot_S1024x128_S128x128_S1024x128_1_0_0_1_n_n_wf : DotDims.WF S1024x128 S128x128 S1024x128 [1] [0] [0] [1] [] [] := by decide
theorem dot_S16x128x128_S16x256x128_S16x128x256_2_2_1_1_0_0_wf : DotDims.WF S16x128x128 S16x256x128 S16x128x256 [2] [2] [1] [1] [0] [0] := by decide
theorem dot_S16x128x128_S16x128x128_S16x128x128_2_2_1_1_0_0_wf : DotDims.WF S16x128x128 S16x128x128 S16x128x128 [2] [2] [1] [1] [0] [0] := by decide
theorem dot_S16x64x128_S16x128x128_S16x64x128_2_1_1_2_0_0_wf : DotDims.WF S16x64x128 S16x128x128 S16x64x128 [2] [1] [1] [2] [0] [0] := by decide
theorem dot_S16x64x256_S16x256x128_S16x64x128_2_1_1_2_0_0_wf : DotDims.WF S16x64x256 S16x256x128 S16x64x128 [2] [1] [1] [2] [0] [0] := by decide
theorem dot_S16x128x128_S16x128x128_S16x128x128_1_1_2_2_0_0_wf : DotDims.WF S16x128x128 S16x128x128 S16x128x128 [1] [1] [2] [2] [0] [0] := by decide
theorem hrank0 : 0 < grid0.rank := by decide
theorem hstage0_0 : ∀ j, (stage0_0 j).IsWhole := fun | 0 => Memref.isWhole_whole _ | 1 => Memref.isWhole_whole _ | ⟨_ + 2, h⟩ => absurd h (Nat.not_lt.2 (Nat.le_add_left _ _))
theorem nbuf0_0 : grid0.bufCount reads0_0 false = 2 := by decide
theorem hreads0_0 : ∀ i i' : grid0.Coords, (∀ a, reads0_0 a = true → i a = i' a) → cc0_transform_0 i = cc0_transform_0 i' := fun i i' h => by unfold cc0_transform_0; rw [h 0 rfl]
theorem hstart0_0 : ∀ (i : grid0.Coords) a, cc0_transform_0 i a * S2x64x1024.size a < S2x4096x6016.size a := by decide +kernel
theorem hwx0_0 : ∀ i : grid0.Coords, EltTy.bits .f32 = 32 ∨ (Rect.unit (s := S2x4096x6016) (fun a => cc0_transform_0 i a * S2x64x1024.size a) (fun a => (Pipeline.Clip.of (cc0_transform_0 i a) (S2x64x1024.size a) (S2x4096x6016.size a)).extent (S2x64x1024.size a)) fun a => Pipeline.Clip.inb (Pipeline.Clip.ok_of (hstart0_0 i a))).WholeWords (EltTy.packing .f32) := by decide +kernel
theorem hwxs0_0 : ∀ i : grid0.Coords, EltTy.bits .f32 = 32 ∨ (Rect.unit (s := S2x64x1024) (fun _ => 0) (fun a => (Pipeline.Clip.of (cc0_transform_0 i a) (S2x64x1024.size a) (S2x4096x6016.size a)).extent (S2x64x1024.size a)) fun a => (Nat.zero_add _).trans_le (Pipeline.Clip.extent_le (Pipeline.Clip.ok_of (hstart0_0 i a)))).WholeWords (EltTy.packing .f32) := by decide +kernel
theorem hstage0_1 : ∀ j, (stage0_1 j).IsWhole := fun | 0 => Memref.isWhole_whole _ | 1 => Memref.isWhole_whole _ | ⟨_ + 2, h⟩ => absurd h (Nat.not_lt.2 (Nat.le_add_left _ _))
theorem nbuf0_1 : grid0.bufCount reads0_1 false = 2 := by decide
theorem hreads0_1 : ∀ i i' : grid0.Coords, (∀ a, reads0_1 a = true → i a = i' a) → cc0_transform_1 i = cc0_transform_1 i' := fun i i' h => by unfold cc0_transform_1; rw [h 0 rfl]
theorem hstart0_1 : ∀ (i : grid0.Coords) a, cc0_transform_1 i a * S2x64x1024.size a < S2x4096x6016.size a := by decide +kernel
theorem hwx0_1 : ∀ i : grid0.Coords, EltTy.bits .f32 = 32 ∨ (Rect.unit (s := S2x4096x6016) (fun a => cc0_transform_1 i a * S2x64x1024.size a) (fun a => (Pipeline.Clip.of (cc0_transform_1 i a) (S2x64x1024.size a) (S2x4096x6016.size a)).extent (S2x64x1024.size a)) fun a => Pipeline.Clip.inb (Pipeline.Clip.ok_of (hstart0_1 i a))).WholeWords (EltTy.packing .f32) := by decide +kernel
theorem hwxs0_1 : ∀ i : grid0.Coords, EltTy.bits .f32 = 32 ∨ (Rect.unit (s := S2x64x1024) (fun _ => 0) (fun a => (Pipeline.Clip.of (cc0_transform_1 i a) (S2x64x1024.size a) (S2x4096x6016.size a)).extent (S2x64x1024.size a)) fun a => (Nat.zero_add _).trans_le (Pipeline.Clip.extent_le (Pipeline.Clip.ok_of (hstart0_1 i a)))).WholeWords (EltTy.packing .f32) := by decide +kernel
theorem hstage0_2 : ∀ j, (stage0_2 j).IsWhole := fun | 0 => Memref.isWhole_whole _ | 1 => Memref.isWhole_whole _ | ⟨_ + 2, h⟩ => absurd h (Nat.not_lt.2 (Nat.le_add_left _ _))
theorem nbuf0_2 : grid0.bufCount reads0_2 false = 2 := by decide
theorem hreads0_2 : ∀ i i' : grid0.Coords, (∀ a, reads0_2 a = true → i a = i' a) → cc0_transform_2 i = cc0_transform_2 i' := fun i i' h => by unfold cc0_transform_2; rw [h 0 rfl]
theorem hstart0_2 : ∀ (i : grid0.Coords) a, cc0_transform_2 i a * S2x64x1024.size a < S2x4096x6016.size a := by decide +kernel
theorem hwx0_2 : ∀ i : grid0.Coords, EltTy.bits .f32 = 32 ∨ (Rect.unit (s := S2x4096x6016) (fun a => cc0_transform_2 i a * S2x64x1024.size a) (fun a => (Pipeline.Clip.of (cc0_transform_2 i a) (S2x64x1024.size a) (S2x4096x6016.size a)).extent (S2x64x1024.size a)) fun a => Pipeline.Clip.inb (Pipeline.Clip.ok_of (hstart0_2 i a))).WholeWords (EltTy.packing .f32) := by decide +kernel
theorem hwxs0_2 : ∀ i : grid0.Coords, EltTy.bits .f32 = 32 ∨ (Rect.unit (s := S2x64x1024) (fun _ => 0) (fun a => (Pipeline.Clip.of (cc0_transform_2 i a) (S2x64x1024.size a) (S2x4096x6016.size a)).extent (S2x64x1024.size a)) fun a => (Nat.zero_add _).trans_le (Pipeline.Clip.extent_le (Pipeline.Clip.ok_of (hstart0_2 i a)))).WholeWords (EltTy.packing .f32) := by decide +kernel
theorem hstage0_3 : ∀ j, (stage0_3 j).IsWhole := fun | 0 => Memref.isWhole_whole _ | 1 => Memref.isWhole_whole _ | ⟨_ + 2, h⟩ => absurd h (Nat.not_lt.2 (Nat.le_add_left _ _))
theorem nbuf0_3 : grid0.bufCount reads0_3 false = 2 := by decide
theorem hreads0_3 : ∀ i i' : grid0.Coords, (∀ a, reads0_3 a = true → i a = i' a) → cc0_transform_3 i = cc0_transform_3 i' := fun i i' h => by unfold cc0_transform_3; rw [h 0 rfl]
theorem hstart0_3 : ∀ (i : grid0.Coords) a, cc0_transform_3 i a * S2x64x1024.size a < S2x4096x6016.size a := by decide +kernel
theorem hwx0_3 : ∀ i : grid0.Coords, EltTy.bits .f32 = 32 ∨ (Rect.unit (s := S2x4096x6016) (fun a => cc0_transform_3 i a * S2x64x1024.size a) (fun a => (Pipeline.Clip.of (cc0_transform_3 i a) (S2x64x1024.size a) (S2x4096x6016.size a)).extent (S2x64x1024.size a)) fun a => Pipeline.Clip.inb (Pipeline.Clip.ok_of (hstart0_3 i a))).WholeWords (EltTy.packing .f32) := by decide +kernel
theorem hwxs0_3 : ∀ i : grid0.Coords, EltTy.bits .f32 = 32 ∨ (Rect.unit (s := S2x64x1024) (fun _ => 0) (fun a => (Pipeline.Clip.of (cc0_transform_3 i a) (S2x64x1024.size a) (S2x4096x6016.size a)).extent (S2x64x1024.size a)) fun a => (Nat.zero_add _).trans_le (Pipeline.Clip.extent_le (Pipeline.Clip.ok_of (hstart0_3 i a)))).WholeWords (EltTy.packing .f32) := by decide +kernel
theorem hstage0_4 : ∀ j, (stage0_4 j).IsWhole := fun | 0 => Memref.isWhole_whole _ | 1 => Memref.isWhole_whole _ | ⟨_ + 2, h⟩ => absurd h (Nat.not_lt.2 (Nat.le_add_left _ _))
theorem nbuf0_4 : grid0.bufCount reads0_4 false = 2 := by decide
theorem hreads0_4 : ∀ i i' : grid0.Coords, (∀ a, reads0_4 a = true → i a = i' a) → cc0_transform_4 i = cc0_transform_4 i' := fun i i' h => by unfold cc0_transform_4; rw [h 0 rfl]
theorem hinb0_4 : ∀ (i : grid0.Coords) a, (cc0_transform_4 i a + 1) * S2x64x128.size a ≤ S2x4096x6016.size a := by decide +kernel
theorem hwx0_4 : ∀ i : grid0.Coords, EltTy.bits .f32 = 32 ∨ (Rect.block (s := S2x4096x6016) S2x64x128.size (cc0_transform_4 i) (hinb0_4 i)).WholeWords (EltTy.packing .f32) := by decide +kernel
theorem hstage0_5 : ∀ j, (stage0_5 j).IsWhole := fun | 0 => Memref.isWhole_whole _ | ⟨_ + 1, h⟩ => absurd h (Nat.not_lt.2 (Nat.le_add_left _ _))
theorem nbuf0_5 : grid0.bufCount reads0_5 true = 1 := by decide
theorem hreads0_5 : ∀ i i' : grid0.Coords, (∀ a, reads0_5 a = true → i a = i' a) → cc0_transform_5 i = cc0_transform_5 i' := fun i i' h => by unfold cc0_transform_5; rfl
theorem hinb0_5 : ∀ (i : grid0.Coords) a, (cc0_transform_5 i a + 1) * S1x1024.size a ≤ S1x1024.size a := by decide +kernel
theorem hwx0_5 : ∀ i : grid0.Coords, EltTy.bits .f32 = 32 ∨ (Rect.block (s := S1x1024) S1x1024.size (cc0_transform_5 i) (hinb0_5 i)).WholeWords (EltTy.packing .f32) := by decide +kernel
theorem hstage0_6 : ∀ j, (stage0_6 j).IsWhole := fun | 0 => Memref.isWhole_whole _ | ⟨_ + 1, h⟩ => absurd h (Nat.not_lt.2 (Nat.le_add_left _ _))
theorem nbuf0_6 : grid0.bufCount reads0_6 true = 1 := by decide
theorem hreads0_6 : ∀ i i' : grid0.Coords, (∀ a, reads0_6 a = true → i a = i' a) → cc0_transform_6 i = cc0_transform_6 i' := fun i i' h => by unfold cc0_transform_6; rfl
theorem hinb0_6 : ∀ (i : grid0.Coords) a, (cc0_transform_6 i a + 1) * S1x1024.size a ≤ S1x1024.size a := by decide +kernel
theorem hwx0_6 : ∀ i : grid0.Coords, EltTy.bits .f32 = 32 ∨ (Rect.block (s := S1x1024) S1x1024.size (cc0_transform_6 i) (hinb0_6 i)).WholeWords (EltTy.packing .f32) := by decide +kernel
theorem hstage0_7 : ∀ j, (stage0_7 j).IsWhole := fun | 0 => Memref.isWhole_whole _ | ⟨_ + 1, h⟩ => absurd h (Nat.not_lt.2 (Nat.le_add_left _ _))
theorem nbuf0_7 : grid0.bufCount reads0_7 true = 1 := by decide
theorem hreads0_7 : ∀ i i' : grid0.Coords, (∀ a, reads0_7 a = true → i a = i' a) → cc0_transform_7 i = cc0_transform_7 i' := fun i i' h => by unfold cc0_transform_7; rfl
theorem hinb0_7 : ∀ (i : grid0.Coords) a, (cc0_transform_7 i a + 1) * S1x1024.size a ≤ S1x1024.size a := by decide +kernel
theorem hwx0_7 : ∀ i : grid0.Coords, EltTy.bits .f32 = 32 ∨ (Rect.block (s := S1x1024) S1x1024.size (cc0_transform_7 i) (hinb0_7 i)).WholeWords (EltTy.packing .f32) := by decide +kernel
theorem hstage0_8 : ∀ j, (stage0_8 j).IsWhole := fun | 0 => Memref.isWhole_whole _ | ⟨_ + 1, h⟩ => absurd h (Nat.not_lt.2 (Nat.le_add_left _ _))
theorem nbuf0_8 : grid0.bufCount reads0_8 true = 1 := by decide
theorem hreads0_8 : ∀ i i' : grid0.Coords, (∀ a, reads0_8 a = true → i a = i' a) → cc0_transform_8 i = cc0_transform_8 i' := fun i i' h => by unfold cc0_transform_8; rfl
theorem hinb0_8 : ∀ (i : grid0.Coords) a, (cc0_transform_8 i a + 1) * S1x128.size a ≤ S1x128.size a := by decide +kernel
theorem hwx0_8 : ∀ i : grid0.Coords, EltTy.bits .f32 = 32 ∨ (Rect.block (s := S1x128) S1x128.size (cc0_transform_8 i) (hinb0_8 i)).WholeWords (EltTy.packing .f32) := by decide +kernel
theorem hstage0_9 : ∀ j, (stage0_9 j).IsWhole := fun | 0 => Memref.isWhole_whole _ | ⟨_ + 1, h⟩ => absurd h (Nat.not_lt.2 (Nat.le_add_left _ _))
theorem nbuf0_9 : grid0.bufCount reads0_9 true = 1 := by decide
theorem hreads0_9 : ∀ i i' : grid0.Coords, (∀ a, reads0_9 a = true → i a = i' a) → cc0_transform_9 i = cc0_transform_9 i' := fun i i' h => by unfold cc0_transform_9; rfl
theorem hinb0_9 : ∀ (i : grid0.Coords) a, (cc0_transform_9 i a + 1) * S1x1024.size a ≤ S1x1024.size a := by decide +kernel
theorem hwx0_9 : ∀ i : grid0.Coords, EltTy.bits .f32 = 32 ∨ (Rect.block (s := S1x1024) S1x1024.size (cc0_transform_9 i) (hinb0_9 i)).WholeWords (EltTy.packing .f32) := by decide +kernel
theorem hstage0_10 : ∀ j, (stage0_10 j).IsWhole := fun | 0 => Memref.isWhole_whole _ | ⟨_ + 1, h⟩ => absurd h (Nat.not_lt.2 (Nat.le_add_left _ _))
theorem nbuf0_10 : grid0.bufCount reads0_10 true = 1 := by decide
theorem hreads0_10 : ∀ i i' : grid0.Coords, (∀ a, reads0_10 a = true → i a = i' a) → cc0_transform_10 i = cc0_transform_10 i' := fun i i' h => by unfold cc0_transform_10; rfl
theorem hinb0_10 : ∀ (i : grid0.Coords) a, (cc0_transform_10 i a + 1) * S1x1024.size a ≤ S1x1024.size a := by decide +kernel
theorem hwx0_10 : ∀ i : grid0.Coords, EltTy.bits .f32 = 32 ∨ (Rect.block (s := S1x1024) S1x1024.size (cc0_transform_10 i) (hinb0_10 i)).WholeWords (EltTy.packing .f32) := by decide +kernel
theorem hstage0_11 : ∀ j, (stage0_11 j).IsWhole := fun | 0 => Memref.isWhole_whole _ | ⟨_ + 1, h⟩ => absurd h (Nat.not_lt.2 (Nat.le_add_left _ _))
theorem nbuf0_11 : grid0.bufCount reads0_11 true = 1 := by decide
theorem hreads0_11 : ∀ i i' : grid0.Coords, (∀ a, reads0_11 a = true → i a = i' a) → cc0_transform_11 i = cc0_transform_11 i' := fun i i' h => by unfold cc0_transform_11; rfl
theorem hinb0_11 : ∀ (i : grid0.Coords) a, (cc0_transform_11 i a + 1) * S1x1024.size a ≤ S1x1024.size a := by decide +kernel
theorem hwx0_11 : ∀ i : grid0.Coords, EltTy.bits .f32 = 32 ∨ (Rect.block (s := S1x1024) S1x1024.size (cc0_transform_11 i) (hinb0_11 i)).WholeWords (EltTy.packing .f32) := by decide +kernel
theorem hstage0_12 : ∀ j, (stage0_12 j).IsWhole := fun | 0 => Memref.isWhole_whole _ | ⟨_ + 1, h⟩ => absurd h (Nat.not_lt.2 (Nat.le_add_left _ _))
theorem nbuf0_12 : grid0.bufCount reads0_12 true = 1 := by decide
theorem hreads0_12 : ∀ i i' : grid0.Coords, (∀ a, reads0_12 a = true → i a = i' a) → cc0_transform_12 i = cc0_transform_12 i' := fun i i' h => by unfold cc0_transform_12; rfl
theorem hinb0_12 : ∀ (i : grid0.Coords) a, (cc0_transform_12 i a + 1) * S1x1024.size a ≤ S1x1024.size a := by decide +kernel
theorem hwx0_12 : ∀ i : grid0.Coords, EltTy.bits .f32 = 32 ∨ (Rect.block (s := S1x1024) S1x1024.size (cc0_transform_12 i) (hinb0_12 i)).WholeWords (EltTy.packing .f32) := by decide +kernel
theorem hstage0_13 : ∀ j, (stage0_13 j).IsWhole := fun | 0 => Memref.isWhole_whole _ | ⟨_ + 1, h⟩ => absurd h (Nat.not_lt.2 (Nat.le_add_left _ _))
theorem nbuf0_13 : grid0.bufCount reads0_13 true = 1 := by decide
theorem hreads0_13 : ∀ i i' : grid0.Coords, (∀ a, reads0_13 a = true → i a = i' a) → cc0_transform_13 i = cc0_transform_13 i' := fun i i' h => by unfold cc0_transform_13; rfl
theorem hinb0_13 : ∀ (i : grid0.Coords) a, (cc0_transform_13 i a + 1) * S8x1x128.size a ≤ S8x1x128.size a := by decide +kernel
theorem hwx0_13 : ∀ i : grid0.Coords, EltTy.bits .f32 = 32 ∨ (Rect.block (s := S8x1x128) S8x1x128.size (cc0_transform_13 i) (hinb0_13 i)).WholeWords (EltTy.packing .f32) := by decide +kernel
theorem hstage0_14 : ∀ j, (stage0_14 j).IsWhole := fun | 0 => Memref.isWhole_whole _ | ⟨_ + 1, h⟩ => absurd h (Nat.not_lt.2 (Nat.le_add_left _ _))
theorem nbuf0_14 : grid0.bufCount reads0_14 true = 1 := by decide
theorem hreads0_14 : ∀ i i' : grid0.Coords, (∀ a, reads0_14 a = true → i a = i' a) → cc0_transform_14 i = cc0_transform_14 i' := fun i i' h => by unfold cc0_transform_14; rfl
theorem hinb0_14 : ∀ (i : grid0.Coords) a, (cc0_transform_14 i a + 1) * S8x1x128.size a ≤ S8x1x128.size a := by decide +kernel
theorem hwx0_14 : ∀ i : grid0.Coords, EltTy.bits .f32 = 32 ∨ (Rect.block (s := S8x1x128) S8x1x128.size (cc0_transform_14 i) (hinb0_14 i)).WholeWords (EltTy.packing .f32) := by decide +kernel
theorem hstage0_15 : ∀ j, (stage0_15 j).IsWhole := fun | 0 => Memref.isWhole_whole _ | ⟨_ + 1, h⟩ => absurd h (Nat.not_lt.2 (Nat.le_add_left _ _))
theorem nbuf0_15 : grid0.bufCount reads0_15 true = 1 := by decide
theorem hreads0_15 : ∀ i i' : grid0.Coords, (∀ a, reads0_15 a = true → i a = i' a) → cc0_transform_15 i = cc0_transform_15 i' := fun i i' h => by unfold cc0_transform_15; rfl
theorem hinb0_15 : ∀ (i : grid0.Coords) a, (cc0_transform_15 i a + 1) * S8x1x128.size a ≤ S8x1x128.size a := by decide +kernel
theorem hwx0_15 : ∀ i : grid0.Coords, EltTy.bits .f32 = 32 ∨ (Rect.block (s := S8x1x128) S8x1x128.size (cc0_transform_15 i) (hinb0_15 i)).WholeWords (EltTy.packing .f32) := by decide +kernel
theorem hstage0_16 : ∀ j, (stage0_16 j).IsWhole := fun | 0 => Memref.isWhole_whole _ | ⟨_ + 1, h⟩ => absurd h (Nat.not_lt.2 (Nat.le_add_left _ _))
theorem nbuf0_16 : grid0.bufCount reads0_16 true = 1 := by decide
theorem hreads0_16 : ∀ i i' : grid0.Coords, (∀ a, reads0_16 a = true → i a = i' a) → cc0_transform_16 i = cc0_transform_16 i' := fun i i' h => by unfold cc0_transform_16; rfl
theorem hinb0_16 : ∀ (i : grid0.Coords) a, (cc0_transform_16 i a + 1) * S64x1024.size a ≤ S64x1024.size a := by decide +kernel
theorem hwx0_16 : ∀ i : grid0.Coords, EltTy.bits .bf16 = 32 ∨ (Rect.block (s := S64x1024) S64x1024.size (cc0_transform_16 i) (hinb0_16 i)).WholeWords (EltTy.packing .bf16) := by decide +kernel
theorem hstage0_17 : ∀ j, (stage0_17 j).IsWhole := fun | 0 => Memref.isWhole_whole _ | ⟨_ + 1, h⟩ => absurd h (Nat.not_lt.2 (Nat.le_add_left _ _))
theorem nbuf0_17 : grid0.bufCount reads0_17 true = 1 := by decide
theorem hreads0_17 : ∀ i i' : grid0.Coords, (∀ a, reads0_17 a = true → i a = i' a) → cc0_transform_17 i = cc0_transform_17 i' := fun i i' h => by unfold cc0_transform_17; rfl
theorem hinb0_17 : ∀ (i : grid0.Coords) a, (cc0_transform_17 i a + 1) * S64x1024.size a ≤ S64x1024.size a := by decide +kernel
theorem hwx0_17 : ∀ i : grid0.Coords, EltTy.bits .bf16 = 32 ∨ (Rect.block (s := S64x1024) S64x1024.size (cc0_transform_17 i) (hinb0_17 i)).WholeWords (EltTy.packing .bf16) := by decide +kernel
theorem hstage0_18 : ∀ j, (stage0_18 j).IsWhole := fun | 0 => Memref.isWhole_whole _ | 1 => Memref.isWhole_whole _ | ⟨_ + 2, h⟩ => absurd h (Nat.not_lt.2 (Nat.le_add_left _ _))
theorem nbuf0_18 : grid0.bufCount reads0_18 false = 2 := by decide
theorem hreads0_18 : ∀ i i' : grid0.Coords, (∀ a, reads0_18 a = true → i a = i' a) → cc0_transform_18 i = cc0_transform_18 i' := fun i i' h => by unfold cc0_transform_18; rw [h 0 rfl]
theorem hinb0_18 : ∀ (i : grid0.Coords) a, (cc0_transform_18 i a + 1) * S2x64x1024.size a ≤ S2x4096x1024.size a := by decide +kernel
theorem hwx0_18 : ∀ i : grid0.Coords, EltTy.bits .bf16 = 32 ∨ (Rect.block (s := S2x4096x1024) S2x64x1024.size (cc0_transform_18 i) (hinb0_18 i)).WholeWords (EltTy.packing .bf16) := by decide +kernel

/-- Every side condition holds. -/
instance facts₀ : Facts₀ where
  shapeCasts_S8192x6016_S2x4096x6016 := shapeCasts_S8192x6016_S2x4096x6016
  slices_S3200_S1024_0 := slices_S3200_S1024_0
  slices_S3200_S1024_1024 := slices_S3200_S1024_1024
  slices_S3200_S1024_2048 := slices_S3200_S1024_2048
  slices_S3200_S128_3072 := slices_S3200_S128_3072
  shapeCasts_S1024_S1x1024 := shapeCasts_S1024_S1x1024
  shapeCasts_S128_S1x128 := shapeCasts_S128_S1x128
  shapeCasts_S1024_S8x1x128 := shapeCasts_S1024_S8x1x128
  bitsLt_bf16_f32 := bitsLt_bf16_f32
  inb_S2x1x1024_S2x1x1024_0_0_0 := inb_S2x1x1024_S2x1x1024_0_0_0
  h_S2x1x1024 := h_S2x1x1024
  shapeCasts_S2x1x1024_S2x1x1024 := shapeCasts_S2x1x1024_S2x1x1024
  inb_S2x1x128_S2x1x128_0_0_0 := inb_S2x1x128_S2x1x128_0_0_0
  h_S2x1x128 := h_S2x1x128
  shapeCasts_S2x1x128_S2x1x128 := shapeCasts_S2x1x128_S2x1x128
  inb_S16x128x128_S16x128x128_0_0_0 := inb_S16x128x128_S16x128x128_0_0_0
  h_S16x128x128 := h_S16x128x128
  shapeCasts_S16x128x128_S16x128x128 := shapeCasts_S16x128x128_S16x128x128
  iota_S8x1_d0_w32 := iota_S8x1_d0_w32
  inb_S2x64x1024_S2x64x1024_0_0_0 := inb_S2x64x1024_S2x64x1024_0_0_0
  h_S2x64x1024 := h_S2x64x1024
  shapeCasts_S2x64x1024_S2x64x1024 := shapeCasts_S2x64x1024_S2x64x1024
  shapeCasts_S2x64x1024_S128x1024 := shapeCasts_S2x64x1024_S128x1024
  rotates_S128x1024_d0 := rotates_S128x1024_d0
  inb_S2x1x1024_S1x1x1024_0_0_0 := inb_S2x1x1024_S1x1x1024_0_0_0
  h_S1x1x1024 := h_S1x1x1024
  shapeCasts_S1x1x1024_S1x1024 := shapeCasts_S1x1x1024_S1x1024
  slices_S128x1024_o0_0_S8x1024 := slices_S128x1024_o0_0_S8x1024
  shapeCasts_S8x1_S8x1 := shapeCasts_S8x1_S8x1
  broadcasts_S8x1_S8x1024 := broadcasts_S8x1_S8x1024
  shapeCasts_S1x1024_S1x1024 := shapeCasts_S1x1024_S1x1024
  broadcasts_S1x1024_S8x1024 := broadcasts_S1x1024_S8x1024
  slices_S128x1024_o8_0_S56x1024 := slices_S128x1024_o8_0_S56x1024
  slices_S128x1024_o63_0_S1x1024 := slices_S128x1024_o63_0_S1x1024
  shapeCasts_S1x1024_S1x1x1024 := shapeCasts_S1x1024_S1x1x1024
  inb_S2x1x1024_S1x1x1024_1_0_0 := inb_S2x1x1024_S1x1x1024_1_0_0
  slices_S128x1024_o64_0_S8x1024 := slices_S128x1024_o64_0_S8x1024
  slices_S128x1024_o72_0_S56x1024 := slices_S128x1024_o72_0_S56x1024
  slices_S128x1024_o127_0_S1x1024 := slices_S128x1024_o127_0_S1x1024
  concatenates_S8x1024_S56x1024_S8x1024_S56x1024_S128x1024_d0 := concatenates_S8x1024_S56x1024_S8x1024_S56x1024_S128x1024_d0
  inb_S1x1024_S1x1024_0_0 := inb_S1x1024_S1x1024_0_0
  h_S1x1024 := h_S1x1024
  broadcasts_S1x1024_S128x1024 := broadcasts_S1x1024_S128x1024
  inb_S2x64x128_S2x64x128_0_0_0 := inb_S2x64x128_S2x64x128_0_0_0
  h_S2x64x128 := h_S2x64x128
  shapeCasts_S2x64x128_S2x64x128 := shapeCasts_S2x64x128_S2x64x128
  shapeCasts_S2x64x128_S128x128 := shapeCasts_S2x64x128_S128x128
  rotates_S128x128_d0 := rotates_S128x128_d0
  inb_S2x1x128_S1x1x128_0_0_0 := inb_S2x1x128_S1x1x128_0_0_0
  h_S1x1x128 := h_S1x1x128
  shapeCasts_S1x1x128_S1x128 := shapeCasts_S1x1x128_S1x128
  slices_S128x128_o0_0_S8x128 := slices_S128x128_o0_0_S8x128
  broadcasts_S8x1_S8x128 := broadcasts_S8x1_S8x128
  shapeCasts_S1x128_S1x128 := shapeCasts_S1x128_S1x128
  broadcasts_S1x128_S8x128 := broadcasts_S1x128_S8x128
  slices_S128x128_o8_0_S56x128 := slices_S128x128_o8_0_S56x128
  slices_S128x128_o63_0_S1x128 := slices_S128x128_o63_0_S1x128
  shapeCasts_S1x128_S1x1x128 := shapeCasts_S1x128_S1x1x128
  inb_S2x1x128_S1x1x128_1_0_0 := inb_S2x1x128_S1x1x128_1_0_0
  slices_S128x128_o64_0_S8x128 := slices_S128x128_o64_0_S8x128
  slices_S128x128_o72_0_S56x128 := slices_S128x128_o72_0_S56x128
  slices_S128x128_o127_0_S1x128 := slices_S128x128_o127_0_S1x128
  concatenates_S8x128_S56x128_S8x128_S56x128_S128x128_d0 := concatenates_S8x128_S56x128_S8x128_S56x128_S128x128_d0
  inb_S1x128_S1x128_0_0 := inb_S1x128_S1x128_0_0
  h_S1x128 := h_S1x128
  broadcasts_S1x128_S128x128 := broadcasts_S1x128_S128x128
  slices_S128x128_o0_0_S128x64 := slices_S128x128_o0_0_S128x64
  slices_S128x128_o0_64_S128x64 := slices_S128x128_o0_64_S128x64
  inb_S64x1024_S64x1024_0_0 := inb_S64x1024_S64x1024_0_0
  h_S64x1024 := h_S64x1024
  shapeCasts_S64x1024_S64x1024 := shapeCasts_S64x1024_S64x1024
  iota_S64x64_d0_w32 := iota_S64x64_d0_w32
  iota_S64x64_d1_w32 := iota_S64x64_d1_w32
  slices_S128x1024_o0_0_S64x1024 := slices_S128x1024_o0_0_S64x1024
  slices_S128x1024_o64_0_S64x1024 := slices_S128x1024_o64_0_S64x1024
  concatenates_S64x1024_S64x1024_S128x1024_d0 := concatenates_S64x1024_S64x1024_S128x1024_d0
  iota_S1x1x128_d2_w32 := iota_S1x1x128_d2_w32
  iota_S128x128_d0_w32 := iota_S128x128_d0_w32
  iota_S128x128_d1_w32 := iota_S128x128_d1_w32
  slices_S128x1024_o0_0_S64x128 := slices_S128x1024_o0_0_S64x128
  slices_S128x1024_o0_128_S64x128 := slices_S128x1024_o0_128_S64x128
  slices_S128x1024_o0_256_S64x128 := slices_S128x1024_o0_256_S64x128
  slices_S128x1024_o0_384_S64x128 := slices_S128x1024_o0_384_S64x128
  slices_S128x1024_o0_512_S64x128 := slices_S128x1024_o0_512_S64x128
  slices_S128x1024_o0_640_S64x128 := slices_S128x1024_o0_640_S64x128
  slices_S128x1024_o0_768_S64x128 := slices_S128x1024_o0_768_S64x128
  slices_S128x1024_o0_896_S64x128 := slices_S128x1024_o0_896_S64x128
  slices_S128x1024_o64_0_S64x128 := slices_S128x1024_o64_0_S64x128
  slices_S128x1024_o64_128_S64x128 := slices_S128x1024_o64_128_S64x128
  slices_S128x1024_o64_256_S64x128 := slices_S128x1024_o64_256_S64x128
  slices_S128x1024_o64_384_S64x128 := slices_S128x1024_o64_384_S64x128
  slices_S128x1024_o64_512_S64x128 := slices_S128x1024_o64_512_S64x128
  slices_S128x1024_o64_640_S64x128 := slices_S128x1024_o64_640_S64x128
  slices_S128x1024_o64_768_S64x128 := slices_S128x1024_o64_768_S64x128
  slices_S128x1024_o64_896_S64x128 := slices_S128x1024_o64_896_S64x128
  shapeCasts_S64x128_S1x64x128 := shapeCasts_S64x128_S1x64x128
  concatenates_S1x64x128_S1x64x128_S1x64x128_S1x64x128_S1x64x128_S1x64x128_S1x64x128_S1x64x128_S1x64x128_S1x64x128_S1x64x128_S1x64x128_S1x64x128_S1x64x128_S1x64x128_S1x64x128_S16x64x128_d0 := concatenates_S1x64x128_S1x64x128_S1x64x128_S1x64x128_S1x64x128_S1x64x128_S1x64x128_S1x64x128_S1x64x128_S1x64x128_S1x64x128_S1x64x128_S1x64x128_S1x64x128_S1x64x128_S1x64x128_S16x64x128_d0
  shapeCasts_S16x64x128_S1024x128 := shapeCasts_S16x64x128_S1024x128
  shapeCasts_S1024x128_S16x64x128 := shapeCasts_S1024x128_S16x64x128
  concatenates_S16x64x128_S16x64x128_S16x128x128_d1 := concatenates_S16x64x128_S16x64x128_S16x128x128_d1
  broadcasts_S1x1x128_S16x64x128 := broadcasts_S1x1x128_S16x64x128
  concatenates_S16x128x128_S16x128x128_S16x256x128_d1 := concatenates_S16x128x128_S16x128x128_S16x256x128_d1
  iota_S64x128_d0_w32 := iota_S64x128_d0_w32
  iota_S64x128_d1_w32 := iota_S64x128_d1_w32
  iota_S64x256_d0_w32 := iota_S64x256_d0_w32
  iota_S64x256_d1_w32 := iota_S64x256_d1_w32
  slices_S16x128x256_o0_0_0_S16x64x128 := slices_S16x128x256_o0_0_0_S16x64x128
  broadcasts_S1x64x128_S16x64x128 := broadcasts_S1x64x128_S16x64x128
  slices_S16x128x256_o0_0_128_S16x64x128 := slices_S16x128x256_o0_0_128_S16x64x128
  slices_S16x128x256_o0_64_0_S16x64x256 := slices_S16x128x256_o0_64_0_S16x64x256
  shapeCasts_S64x256_S1x64x256 := shapeCasts_S64x256_S1x64x256
  broadcasts_S1x64x256_S16x64x256 := broadcasts_S1x64x256_S16x64x256
  slices_S16x128x128_o0_0_0_S16x64x128 := slices_S16x128x128_o0_0_0_S16x64x128
  slices_S16x128x128_o0_64_0_S16x64x128 := slices_S16x128x128_o0_64_0_S16x64x128
  shapeCasts_S128x128_S1x128x128 := shapeCasts_S128x128_S1x128x128
  broadcasts_S1x128x128_S16x128x128 := broadcasts_S1x128x128_S16x128x128
  inb_S8x1x128_S8x1x128_0_0_0 := inb_S8x1x128_S8x1x128_0_0_0
  h_S8x1x128 := h_S8x1x128
  shapeCasts_S8x1x128_S8x1x128 := shapeCasts_S8x1x128_S8x1x128
  concatenates_S8x1x128_S8x1x128_S16x1x128_d0 := concatenates_S8x1x128_S8x1x128_S16x1x128_d0
  broadcasts_S16x1x128_S16x64x128 := broadcasts_S16x1x128_S16x64x128
  slices_S16x64x128_o0_0_0_S1x64x128 := slices_S16x64x128_o0_0_0_S1x64x128
  shapeCasts_S1x64x128_S64x128 := shapeCasts_S1x64x128_S64x128
  inb_S2x64x1024_S1x64x128_0_0_0 := inb_S2x64x1024_S1x64x128_0_0_0
  h_S1x64x128 := h_S1x64x128
  packedbf16_S2x64x1024_S1x64x128_0_0_0 := packedbf16_S2x64x1024_S1x64x128_0_0_0
  slices_S16x64x128_o1_0_0_S1x64x128 := slices_S16x64x128_o1_0_0_S1x64x128
  inb_S2x64x1024_S1x64x128_0_0_128 := inb_S2x64x1024_S1x64x128_0_0_128
  packedbf16_S2x64x1024_S1x64x128_0_0_128 := packedbf16_S2x64x1024_S1x64x128_0_0_128
  slices_S16x64x128_o2_0_0_S1x64x128 := slices_S16x64x128_o2_0_0_S1x64x128
  inb_S2x64x1024_S1x64x128_0_0_256 := inb_S2x64x1024_S1x64x128_0_0_256
  packedbf16_S2x64x1024_S1x64x128_0_0_256 := packedbf16_S2x64x1024_S1x64x128_0_0_256
  slices_S16x64x128_o3_0_0_S1x64x128 := slices_S16x64x128_o3_0_0_S1x64x128
  inb_S2x64x1024_S1x64x128_0_0_384 := inb_S2x64x1024_S1x64x128_0_0_384
  packedbf16_S2x64x1024_S1x64x128_0_0_384 := packedbf16_S2x64x1024_S1x64x128_0_0_384
  slices_S16x64x128_o4_0_0_S1x64x128 := slices_S16x64x128_o4_0_0_S1x64x128
  inb_S2x64x1024_S1x64x128_0_0_512 := inb_S2x64x1024_S1x64x128_0_0_512
  packedbf16_S2x64x1024_S1x64x128_0_0_512 := packedbf16_S2x64x1024_S1x64x128_0_0_512
  slices_S16x64x128_o5_0_0_S1x64x128 := slices_S16x64x128_o5_0_0_S1x64x128
  inb_S2x64x1024_S1x64x128_0_0_640 := inb_S2x64x1024_S1x64x128_0_0_640
  packedbf16_S2x64x1024_S1x64x128_0_0_640 := packedbf16_S2x64x1024_S1x64x128_0_0_640
  slices_S16x64x128_o6_0_0_S1x64x128 := slices_S16x64x128_o6_0_0_S1x64x128
  inb_S2x64x1024_S1x64x128_0_0_768 := inb_S2x64x1024_S1x64x128_0_0_768
  packedbf16_S2x64x1024_S1x64x128_0_0_768 := packedbf16_S2x64x1024_S1x64x128_0_0_768
  slices_S16x64x128_o7_0_0_S1x64x128 := slices_S16x64x128_o7_0_0_S1x64x128
  inb_S2x64x1024_S1x64x128_0_0_896 := inb_S2x64x1024_S1x64x128_0_0_896
  packedbf16_S2x64x1024_S1x64x128_0_0_896 := packedbf16_S2x64x1024_S1x64x128_0_0_896
  slices_S16x64x128_o8_0_0_S1x64x128 := slices_S16x64x128_o8_0_0_S1x64x128
  inb_S2x64x1024_S1x64x128_1_0_0 := inb_S2x64x1024_S1x64x128_1_0_0
  packedbf16_S2x64x1024_S1x64x128_1_0_0 := packedbf16_S2x64x1024_S1x64x128_1_0_0
  slices_S16x64x128_o9_0_0_S1x64x128 := slices_S16x64x128_o9_0_0_S1x64x128
  inb_S2x64x1024_S1x64x128_1_0_128 := inb_S2x64x1024_S1x64x128_1_0_128
  packedbf16_S2x64x1024_S1x64x128_1_0_128 := packedbf16_S2x64x1024_S1x64x128_1_0_128
  slices_S16x64x128_o10_0_0_S1x64x128 := slices_S16x64x128_o10_0_0_S1x64x128
  inb_S2x64x1024_S1x64x128_1_0_256 := inb_S2x64x1024_S1x64x128_1_0_256
  packedbf16_S2x64x1024_S1x64x128_1_0_256 := packedbf16_S2x64x1024_S1x64x128_1_0_256
  slices_S16x64x128_o11_0_0_S1x64x128 := slices_S16x64x128_o11_0_0_S1x64x128
  inb_S2x64x1024_S1x64x128_1_0_384 := inb_S2x64x1024_S1x64x128_1_0_384
  packedbf16_S2x64x1024_S1x64x128_1_0_384 := packedbf16_S2x64x1024_S1x64x128_1_0_384
  slices_S16x64x128_o12_0_0_S1x64x128 := slices_S16x64x128_o12_0_0_S1x64x128
  inb_S2x64x1024_S1x64x128_1_0_512 := inb_S2x64x1024_S1x64x128_1_0_512
  packedbf16_S2x64x1024_S1x64x128_1_0_512 := packedbf16_S2x64x1024_S1x64x128_1_0_512
  slices_S16x64x128_o13_0_0_S1x64x128 := slices_S16x64x128_o13_0_0_S1x64x128
  inb_S2x64x1024_S1x64x128_1_0_640 := inb_S2x64x1024_S1x64x128_1_0_640
  packedbf16_S2x64x1024_S1x64x128_1_0_640 := packedbf16_S2x64x1024_S1x64x128_1_0_640
  slices_S16x64x128_o14_0_0_S1x64x128 := slices_S16x64x128_o14_0_0_S1x64x128
  inb_S2x64x1024_S1x64x128_1_0_768 := inb_S2x64x1024_S1x64x128_1_0_768
  packedbf16_S2x64x1024_S1x64x128_1_0_768 := packedbf16_S2x64x1024_S1x64x128_1_0_768
  slices_S16x64x128_o15_0_0_S1x64x128 := slices_S16x64x128_o15_0_0_S1x64x128
  inb_S2x64x1024_S1x64x128_1_0_896 := inb_S2x64x1024_S1x64x128_1_0_896
  packedbf16_S2x64x1024_S1x64x128_1_0_896 := packedbf16_S2x64x1024_S1x64x128_1_0_896
  dot_S128x64_S64x1024_S128x1024_1_0_0_1_n_n_wf := dot_S128x64_S64x1024_S128x1024_1_0_0_1_n_n_wf
  dot_S64x64_S64x1024_S64x1024_1_0_0_1_n_n_wf := dot_S64x64_S64x1024_S64x1024_1_0_0_1_n_n_wf
  dot_S1024x128_S128x128_S1024x128_1_0_0_1_n_n_wf := dot_S1024x128_S128x128_S1024x128_1_0_0_1_n_n_wf
  dot_S16x128x128_S16x256x128_S16x128x256_2_2_1_1_0_0_wf := dot_S16x128x128_S16x256x128_S16x128x256_2_2_1_1_0_0_wf
  dot_S16x128x128_S16x128x128_S16x128x128_2_2_1_1_0_0_wf := dot_S16x128x128_S16x128x128_S16x128x128_2_2_1_1_0_0_wf
  dot_S16x64x128_S16x128x128_S16x64x128_2_1_1_2_0_0_wf := dot_S16x64x128_S16x128x128_S16x64x128_2_1_1_2_0_0_wf
  dot_S16x64x256_S16x256x128_S16x64x128_2_1_1_2_0_0_wf := dot_S16x64x256_S16x256x128_S16x64x128_2_1_1_2_0_0_wf
  dot_S16x128x128_S16x128x128_S16x128x128_1_1_2_2_0_0_wf := dot_S16x128x128_S16x128x128_S16x128x128_1_1_2_2_0_0_wf
  hrank0 := hrank0
  hstage0_0 := hstage0_0
  nbuf0_0 := nbuf0_0
  hreads0_0 := hreads0_0
  hstart0_0 := hstart0_0
  hwx0_0 := hwx0_0
  hwxs0_0 := hwxs0_0
  hstage0_1 := hstage0_1
  nbuf0_1 := nbuf0_1
  hreads0_1 := hreads0_1
  hstart0_1 := hstart0_1
  hwx0_1 := hwx0_1
  hwxs0_1 := hwxs0_1
  hstage0_2 := hstage0_2
  nbuf0_2 := nbuf0_2
  hreads0_2 := hreads0_2
  hstart0_2 := hstart0_2
  hwx0_2 := hwx0_2
  hwxs0_2 := hwxs0_2
  hstage0_3 := hstage0_3
  nbuf0_3 := nbuf0_3
  hreads0_3 := hreads0_3
  hstart0_3 := hstart0_3
  hwx0_3 := hwx0_3
  hwxs0_3 := hwxs0_3
  hstage0_4 := hstage0_4
  nbuf0_4 := nbuf0_4
  hreads0_4 := hreads0_4
  hinb0_4 := hinb0_4
  hwx0_4 := hwx0_4
  hstage0_5 := hstage0_5
  nbuf0_5 := nbuf0_5
  hreads0_5 := hreads0_5
  hinb0_5 := hinb0_5
  hwx0_5 := hwx0_5
  hstage0_6 := hstage0_6
  nbuf0_6 := nbuf0_6
  hreads0_6 := hreads0_6
  hinb0_6 := hinb0_6
  hwx0_6 := hwx0_6
  hstage0_7 := hstage0_7
  nbuf0_7 := nbuf0_7
  hreads0_7 := hreads0_7
  hinb0_7 := hinb0_7
  hwx0_7 := hwx0_7
  hstage0_8 := hstage0_8
  nbuf0_8 := nbuf0_8
  hreads0_8 := hreads0_8
  hinb0_8 := hinb0_8
  hwx0_8 := hwx0_8
  hstage0_9 := hstage0_9
  nbuf0_9 := nbuf0_9
  hreads0_9 := hreads0_9
  hinb0_9 := hinb0_9
  hwx0_9 := hwx0_9
  hstage0_10 := hstage0_10
  nbuf0_10 := nbuf0_10
  hreads0_10 := hreads0_10
  hinb0_10 := hinb0_10
  hwx0_10 := hwx0_10
  hstage0_11 := hstage0_11
  nbuf0_11 := nbuf0_11
  hreads0_11 := hreads0_11
  hinb0_11 := hinb0_11
  hwx0_11 := hwx0_11
  hstage0_12 := hstage0_12
  nbuf0_12 := nbuf0_12
  hreads0_12 := hreads0_12
  hinb0_12 := hinb0_12
  hwx0_12 := hwx0_12
  hstage0_13 := hstage0_13
  nbuf0_13 := nbuf0_13
  hreads0_13 := hreads0_13
  hinb0_13 := hinb0_13
  hwx0_13 := hwx0_13
  hstage0_14 := hstage0_14
  nbuf0_14 := nbuf0_14
  hreads0_14 := hreads0_14
  hinb0_14 := hinb0_14
  hwx0_14 := hwx0_14
  hstage0_15 := hstage0_15
  nbuf0_15 := nbuf0_15
  hreads0_15 := hreads0_15
  hinb0_15 := hinb0_15
  hwx0_15 := hwx0_15
  hstage0_16 := hstage0_16
  nbuf0_16 := nbuf0_16
  hreads0_16 := hreads0_16
  hinb0_16 := hinb0_16
  hwx0_16 := hwx0_16
  hstage0_17 := hstage0_17
  nbuf0_17 := nbuf0_17
  hreads0_17 := hreads0_17
  hinb0_17 := hinb0_17
  hwx0_17 := hwx0_17
  hstage0_18 := hstage0_18
  nbuf0_18 := nbuf0_18
  hreads0_18 := hreads0_18
  hinb0_18 := hinb0_18
  hwx0_18 := hwx0_18

/-- The same, as the program takes them. -/
instance facts : Facts where

end Cert.Kernel4.Side
-- ==== Proof.Body4.lean ====
/- The body of the recurrence, part by part and then whole: started with the memrefs it is given, it loads and stores through
   them only, runs to its end and hands them back. Nothing is said of what they then hold. -/
module

public import proofs.«01_k».proof.Kernel4
public import proofs.«01_k».proof.Proof.Keeps

@[expose] public section

noncomputable section

namespace Cert.Kernel4

open Idealize.ShloMosaic Idealize.ShloMosaic.TcCoe
open Idealize.SL Idealize.SL.RA Idealize.SL.BI
open scoped Idealize.SL.BI
open Idealize.SL.BI.BIBase Idealize.SL.Sem
open Cert.Keeping

variable {F : FTy → Type} [BitOps F] [Facts]

variable (i : grid0.Coords) (arg1 : Memref sig .tc .vmem S2x64x1024 .f32) (harg1 : arg1.IsWhole) (arg2 : Memref sig .tc .vmem S2x64x1024 .f32) (harg2 : arg2.IsWhole) (arg3 : Memref sig .tc .vmem S2x64x1024 .f32) (harg3 : arg3.IsWhole) (arg4 : Memref sig .tc .vmem S2x64x1024 .f32) (harg4 : arg4.IsWhole) (arg5 : Memref sig .tc .vmem S2x64x128 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x128 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S8x1x128 .f32) (harg14 : arg14.IsWhole) (arg15 : Memref sig .tc .vmem S8x1x128 .f32) (harg15 : arg15.IsWhole) (arg16 : Memref sig .tc .vmem S8x1x128 .f32) (harg16 : arg16.IsWhole) (arg17 : Memref sig .tc .vmem S64x1024 .bf16) (harg17 : arg17.IsWhole) (arg18 : Memref sig .tc .vmem S64x1024 .bf16) (harg18 : arg18.IsWhole) (arg19 : Memref sig .tc .vmem S2x64x1024 .bf16) (harg19 : arg19.IsWhole) (arg20 : Memref sig .tc .vmem S2x1x1024 .f32) (harg20 : arg20.IsWhole) (arg21 : Memref sig .tc .vmem S2x1x1024 .f32) (harg21 : arg21.IsWhole) (arg22 : Memref sig .tc .vmem S2x1x1024 .f32) (harg22 : arg22.IsWhole) (arg23 : Memref sig .tc .vmem S2x1x128 .f32) (harg23 : arg23.IsWhole) (arg24 : Memref sig .tc .vmem S16x128x128 .f32) (harg24 : arg24.IsWhole)
  (d : Dev nD) (H : sProp (MT nD τ sig Unit (Elt F) ℕ (UR sig nD τ) ℕ)) [Harg1 : Has d H arg1] [Harg2 : Has d H arg2] [Harg3 : Has d H arg3] [Harg4 : Has d H arg4] [Harg5 : Has d H arg5] [Harg6 : Has d H arg6] [Harg7 : Has d H arg7] [Harg8 : Has d H arg8] [Harg9 : Has d H arg9] [Harg10 : Has d H arg10] [Harg11 : Has d H arg11] [Harg12 : Has d H arg12] [Harg13 : Has d H arg13] [Harg14 : Has d H arg14] [Harg15 : Has d H arg15] [Harg16 : Has d H arg16] [Harg17 : Has d H arg17] [Harg18 : Has d H arg18] [Harg19 : Has d H arg19] [Harg20 : Has d H arg20] [Harg21 : Has d H arg21] [Harg22 : Has d H arg22] [Harg23 : Has d H arg23] [Harg24 : Has d H arg24]

set_option maxHeartbeats 4000000 in
/-- Part 1 of the body keeps what its memory holds. -/
instance keeps_part1 : Keeps (defs₀ (F := F)) Variants.nat none d H
    (k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) := by
  delta k0_part1
  repeat' first
    | with_reducible exact Keeps.pure _
    | with_reducible exact Keeps.load _ _ _ inferInstance
    | with_reducible exact Keeps.store _ _ _ _ _ _ inferInstance
    | with_reducible refine Keeps.ite _ (fun _ => ?_) fun _ => ?_
    | with_reducible refine Keeps.dite _ (fun _ => ?_) fun _ => ?_
    | with_reducible exact inferInstance
    | refine Keeps.bind ?_ fun _ => ?_
    | exact Keeps.pure _

set_option maxHeartbeats 4000000 in
/-- Part 2 of the body keeps what its memory holds. -/
instance keeps_part2 : ∀ a0 a1 a2 a3 a4 a5 a6, Keeps (defs₀ (F := F)) Variants.nat none d H
    (k0_part2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 a0 a1 a2 a3 a4 a5 a6) := by
  intros
  repeat' first
    | with_reducible exact Keeps.pure _
    | with_reducible exact Keeps.load _ _ _ inferInstance
    | with_reducible exact Keeps.store _ _ _ _ _ _ inferInstance
    | with_reducible refine Keeps.ite _ (fun _ => ?_) fun _ => ?_
    | with_reducible refine Keeps.dite _ (fun _ => ?_) fun _ => ?_
    | with_reducible exact inferInstance
    | refine Keeps.bind ?_ fun _ => ?_
    | exact Keeps.pure _

set_option maxHeartbeats 4000000 in
/-- Part 3 of the body keeps what its memory holds. -/
instance keeps_part3 : ∀ a0 a1 a2 a3 a4 a5 a6, Keeps (defs₀ (F := F)) Variants.nat none d H
    (k0_part3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 a0 a1 a2 a3 a4 a5 a6) := by
  intros
  repeat' first
    | with_reducible exact Keeps.pure _
    | with_reducible exact Keeps.load _ _ _ inferInstance
    | with_reducible exact Keeps.store _ _ _ _ _ _ inferInstance
    | with_reducible refine Keeps.ite _ (fun _ => ?_) fun _ => ?_
    | with_reducible refine Keeps.dite _ (fun _ => ?_) fun _ => ?_
    | with_reducible exact inferInstance
    | refine Keeps.bind ?_ fun _ => ?_
    | exact Keeps.pure _

set_option maxHeartbeats 4000000 in
/-- Part 4 of the body keeps what its memory holds. -/
instance keeps_part4 : ∀ a0 a1 a2 a3 a4 a5, Keeps (defs₀ (F := F)) Variants.nat none d H
    (k0_part4 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.ite _ (fun _ => ?_) fun _ => ?_
    | with_reducible refine Keeps.dite _ (fun _ => ?_) fun _ => ?_
    | with_reducible exact inferInstance
    | refine Keeps.bind ?_ fun _ => ?_
    | exact Keeps.pure _

set_option maxHeartbeats 4000000 in
/-- Part 5 of the body keeps what its memory holds. -/
instance keeps_part5 : ∀ a0 a1 a2 a3 a4 a5 a6, Keeps (defs₀ (F := F)) Variants.nat none d H
    (k0_part5 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 a0 a1 a2 a3 a4 a5 a6) := by
  intros
  repeat' first
    | with_reducible exact Keeps.pure _
    | with_reducible exact Keeps.load _ _ _ inferInstance
    | with_reducible exact Keeps.store _ _ _ _ _ _ inferInstance
    | with_reducible refine Keeps.ite _ (fun _ => ?_) fun _ => ?_
    | with_reducible refine Keeps.dite _ (fun _ => ?_) fun _ => ?_
    | with_reducible exact inferInstance
    | refine Keeps.bind ?_ fun _ => ?_
    | exact Keeps.pure _

set_option maxHeartbeats 4000000 in
/-- Part 6 of the body keeps what its memory holds. -/
instance keeps_part6 : ∀ a0 a1 a2 a3, Keeps (defs₀ (F := F)) Variants.nat none d H
    (k0_part6 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 a0 a1 a2 a3) := by
  intros
  repeat' first
    | with_reducible exact Keeps.pure _
    | with_reducible exact Keeps.load _ _ _ inferInstance
    | with_reducible exact Keeps.store _ _ _ _ _ _ inferInstance
    | with_reducible refine Keeps.ite _ (fun _ => ?_) fun _ => ?_
    | with_reducible refine Keeps.dite _ (fun _ => ?_) fun _ => ?_
    | with_reducible exact inferInstance
    | refine Keeps.bind ?_ fun _ => ?_
    | exact Keeps.pure _

set_option maxHeartbeats 4000000 in
/-- Part 7 of the body keeps what its memory holds. -/
instance keeps_part7 : ∀ a0 a1 a2 a3 a4 a5 a6, Keeps (defs₀ (F := F)) Variants.nat none d H
    (k0_part7 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 a0 a1 a2 a3 a4 a5 a6) := by
  intros
  repeat' first
    | with_reducible exact Keeps.pure _
    | with_reducible exact Keeps.load _ _ _ inferInstance
    | with_reducible exact Keeps.store _ _ _ _ _ _ inferInstance
    | with_reducible refine Keeps.ite _ (fun _ => ?_) fun _ => ?_
    | with_reducible refine Keeps.dite _ (fun _ => ?_) fun _ => ?_
    | with_reducible exact inferInstance
    | refine Keeps.bind ?_ fun _ => ?_
    | exact Keeps.pure _

set_option maxHeartbeats 4000000 in
/-- Part 8 of the body keeps what its memory holds. -/
instance keeps_part8 : ∀ a0 a1 a2, Keeps (defs₀ (F := F)) Variants.nat none d H
    (k0_part8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 a0 a1 a2) := by
  intros
  repeat' first
    | with_reducible exact Keeps.pure _
    | with_reducible exact Keeps.load _ _ _ inferInstance
    | with_reducible exact Keeps.store _ _ _ _ _ _ inferInstance
    | with_reducible refine Keeps.ite _ (fun _ => ?_) fun _ => ?_
    | with_reducible refine Keeps.dite _ (fun _ => ?_) fun _ => ?_
    | with_reducible exact inferInstance
    | refine Keeps.bind ?_ fun _ => ?_
    | exact Keeps.pure _

set_option maxHeartbeats 4000000 in
/-- Part 9 of the body keeps what its memory holds. -/
instance keeps_part9 : ∀ a0 a1 a2 a3 a4 a5 a6 a7 a8 a9 a10 a11 a12 a13 a14 a15 a16 a17, Keeps (defs₀ (F := F)) Variants.nat none d H
    (k0_part9 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 a0 a1 a2 a3 a4 a5 a6 a7 a8 a9 a10 a11 a12 a13 a14 a15 a16 a17) := by
  intros
  repeat' first
    | with_reducible exact Keeps.pure _
    | with_reducible exact Keeps.load _ _ _ inferInstance
    | with_reducible exact Keeps.store _ _ _ _ _ _ inferInstance
    | with_reducible refine Keeps.ite _ (fun _ => ?_) fun _ => ?_
    | with_reducible refine Keeps.dite _ (fun _ => ?_) fun _ => ?_
    | with_reducible exact inferInstance
    | refine Keeps.bind ?_ fun _ => ?_
    | exact Keeps.pure _

set_option maxHeartbeats 4000000 in
/-- Part 10 of the body keeps what its memory holds. -/
instance keeps_part10 : ∀ a0 a1 a2 a3 a4 a5 a6 a7 a8 a9 a10 a11 a12, Keeps (defs₀ (F := F)) Variants.nat none d H
    (k0_part10 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 a0 a1 a2 a3 a4 a5 a6 a7 a8 a9 a10 a11 a12) := by
  intros
  repeat' first
    | with_reducible exact Keeps.pure _
    | with_reducible exact Keeps.load _ _ _ inferInstance
    | with_reducible exact Keeps.store _ _ _ _ _ _ inferInstance
    | with_reducible refine Keeps.ite _ (fun _ => ?_) fun _ => ?_
    | with_reducible refine Keeps.dite _ (fun _ => ?_) fun _ => ?_
    | with_reducible exact inferInstance
    | refine Keeps.bind ?_ fun _ => ?_
    | exact Keeps.pure _

set_option maxHeartbeats 4000000 in
/-- Part 11 of the body keeps what its memory holds. -/
instance keeps_part11 : ∀ a0 a1 a2 a3 a4 a5, Keeps (defs₀ (F := F)) Variants.nat none d H
    (k0_part11 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.ite _ (fun _ => ?_) fun _ => ?_
    | with_reducible refine Keeps.dite _ (fun _ => ?_) fun _ => ?_
    | with_reducible exact inferInstance
    | refine Keeps.bind ?_ fun _ => ?_
    | exact Keeps.pure _

set_option maxHeartbeats 4000000 in
/-- Part 12 of the body keeps what its memory holds. -/
instance keeps_part12 : ∀ a0 a1 a2 a3 a4 a5 a6 a7 a8 a9 a10 a11 a12 a13 a14 a15 a16 a17, Keeps (defs₀ (F := F)) Variants.nat none d H
    (k0_part12 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 a0 a1 a2 a3 a4 a5 a6 a7 a8 a9 a10 a11 a12 a13 a14 a15 a16 a17) := by
  intros
  repeat' first
    | with_reducible exact Keeps.pure _
    | with_reducible exact Keeps.load _ _ _ inferInstance
    | with_reducible exact Keeps.store _ _ _ _ _ _ inferInstance
    | with_reducible refine Keeps.ite _ (fun _ => ?_) fun _ => ?_
    | with_reducible refine Keeps.dite _ (fun _ => ?_) fun _ => ?_
    | with_reducible exact inferInstance
    | refine Keeps.bind ?_ fun _ => ?_
    | exact Keeps.pure _

set_option maxHeartbeats 4000000 in
/-- Part 13 of the body keeps what its memory holds. -/
instance keeps_part13 : ∀ a0 a1 a2 a3 a4 a5 a6 a7 a8 a9 a10 a11 a12 a13 a14 a15 a16 a17 a18 a19 a20 a21 a22 a23, Keeps (defs₀ (F := F)) Variants.nat none d H
    (k0_part13 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 a0 a1 a2 a3 a4 a5 a6 a7 a8 a9 a10 a11 a12 a13 a14 a15 a16 a17 a18 a19 a20 a21 a22 a23) := by
  intros
  repeat' first
    | with_reducible exact Keeps.pure _
    | with_reducible exact Keeps.load _ _ _ inferInstance
    | with_reducible exact Keeps.store _ _ _ _ _ _ inferInstance
    | with_reducible refine Keeps.ite _ (fun _ => ?_) fun _ => ?_
    | with_reducible refine Keeps.dite _ (fun _ => ?_) fun _ => ?_
    | with_reducible exact inferInstance
    | refine Keeps.bind ?_ fun _ => ?_
    | exact Keeps.pure _

set_option maxHeartbeats 4000000 in
/-- Part 14 of the body keeps what its memory holds. -/
instance keeps_part14 : ∀ a0 a1 a2 a3 a4 a5 a6 a7, Keeps (defs₀ (F := F)) Variants.nat none d H
    (k0_part14 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 a0 a1 a2 a3 a4 a5 a6 a7) := by
  intros
  repeat' first
    | with_reducible exact Keeps.pure _
    | with_reducible exact Keeps.load _ _ _ inferInstance
    | with_reducible exact Keeps.store _ _ _ _ _ _ inferInstance
    | with_reducible refine Keeps.ite _ (fun _ => ?_) fun _ => ?_
    | with_reducible refine Keeps.dite _ (fun _ => ?_) fun _ => ?_
    | with_reducible exact inferInstance
    | refine Keeps.bind ?_ fun _ => ?_
    | exact Keeps.pure _

set_option maxHeartbeats 4000000 in
/-- Part 15 of the body keeps what its memory holds. -/
instance keeps_part15 : ∀ a0 a1 a2 a3 a4 a5 a6, Keeps (defs₀ (F := F)) Variants.nat none d H
    (k0_part15 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 a0 a1 a2 a3 a4 a5 a6) := by
  intros
  repeat' first
    | with_reducible exact Keeps.pure _
    | with_reducible exact Keeps.load _ _ _ inferInstance
    | with_reducible exact Keeps.store _ _ _ _ _ _ inferInstance
    | with_reducible refine Keeps.ite _ (fun _ => ?_) fun _ => ?_
    | with_reducible refine Keeps.dite _ (fun _ => ?_) fun _ => ?_
    | with_reducible exact inferInstance
    | refine Keeps.bind ?_ fun _ => ?_
    | exact Keeps.pure _

set_option maxHeartbeats 4000000 in
/-- Part 16 of the body keeps what its memory holds. -/
instance keeps_part16 : ∀ a0 a1 a2 a3 a4 a5 a6 a7 a8 a9 a10 a11 a12, Keeps (defs₀ (F := F)) Variants.nat none d H
    (k0_part16 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 a0 a1 a2 a3 a4 a5 a6 a7 a8 a9 a10 a11 a12) := by
  intros
  repeat' first
    | with_reducible exact Keeps.pure _
    | with_reducible exact Keeps.load _ _ _ inferInstance
    | with_reducible exact Keeps.store _ _ _ _ _ _ inferInstance
    | with_reducible refine Keeps.ite _ (fun _ => ?_) fun _ => ?_
    | with_reducible refine Keeps.dite _ (fun _ => ?_) fun _ => ?_
    | with_reducible exact inferInstance
    | refine Keeps.bind ?_ fun _ => ?_
    | exact Keeps.pure _

set_option maxHeartbeats 4000000 in
/-- Part 17 of the body keeps what its memory holds. -/
instance keeps_part17 : ∀ a0 a1 a2 a3 a4 a5 a6 a7, Keeps (defs₀ (F := F)) Variants.nat none d H
    (k0_part17 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 a0 a1 a2 a3 a4 a5 a6 a7) := by
  intros
  repeat' first
    | with_reducible exact Keeps.pure _
    | with_reducible exact Keeps.load _ _ _ inferInstance
    | with_reducible exact Keeps.store _ _ _ _ _ _ inferInstance
    | with_reducible refine Keeps.ite _ (fun _ => ?_) fun _ => ?_
    | with_reducible refine Keeps.dite _ (fun _ => ?_) fun _ => ?_
    | with_reducible exact inferInstance
    | refine Keeps.bind ?_ fun _ => ?_
    | exact Keeps.pure _

set_option maxHeartbeats 4000000 in
/-- Part 18 of the body keeps what its memory holds. -/
instance keeps_part18 : ∀ a0 a1 a2 a3 a4 a5, Keeps (defs₀ (F := F)) Variants.nat none d H
    (k0_part18 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 a0 a1 a2 a3 a4 a5) := by
  intros
  repeat' first
    | with_reducible exact Keeps.pure _
    | with_reducible exact Keeps.load _ _ _ inferInstance
    | with_reducible exact Keeps.store _ _ _ _ _ _ inferInstance
    | with_reducible refine Keeps.ite _ (fun _ => ?_) fun _ => ?_
    | with_reducible refine Keeps.dite _ (fun _ => ?_) fun _ => ?_
    | with_reducible exact inferInstance
    | refine Keeps.bind ?_ fun _ => ?_
    | exact Keeps.pure _

set_option maxHeartbeats 4000000 in
/-- Part 19 of the body keeps what its memory holds. -/
instance keeps_part19 : ∀ a0 a1 a2, Keeps (defs₀ (F := F)) Variants.nat none d H
    (k0_part19 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 a0 a1 a2) := by
  intros
  repeat' first
    | with_reducible exact Keeps.pure _
    | with_reducible exact Keeps.load _ _ _ inferInstance
    | with_reducible exact Keeps.store _ _ _ _ _ _ inferInstance
    | with_reducible refine Keeps.ite _ (fun _ => ?_) fun _ => ?_
    | with_reducible refine Keeps.dite _ (fun _ => ?_) fun _ => ?_
    | with_reducible exact inferInstance
    | refine Keeps.bind ?_ fun _ => ?_
    | exact Keeps.pure _

set_option maxHeartbeats 4000000 in
/-- Part 20 of the body keeps what its memory holds. -/
instance keeps_part20 : ∀ a0 a1 a2, Keeps (defs₀ (F := F)) Variants.nat none d H
    (k0_part20 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 a0 a1 a2) := by
  intros
  repeat' first
    | with_reducible exact Keeps.pure _
    | with_reducible exact Keeps.load _ _ _ inferInstance
    | with_reducible exact Keeps.store _ _ _ _ _ _ inferInstance
    | with_reducible refine Keeps.ite _ (fun _ => ?_) fun _ => ?_
    | with_reducible refine Keeps.dite _ (fun _ => ?_) fun _ => ?_
    | with_reducible exact inferInstance
    | refine Keeps.bind ?_ fun _ => ?_
    | exact Keeps.pure _

set_option maxHeartbeats 4000000 in
/-- The body of the recurrence keeps what its memory holds. -/
theorem keeps_rwkv : Keeps (defs₀ (F := F)) Variants.nat none d H
    (cc0_rwkv (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) := by
  repeat' first
    | with_reducible exact Keeps.pure _
    | with_reducible exact Keeps.load _ _ _ inferInstance
    | with_reducible exact Keeps.store _ _ _ _ _ _ inferInstance
    | with_reducible refine Keeps.ite _ (fun _ => ?_) fun _ => ?_
    | with_reducible refine Keeps.dite _ (fun _ => ?_) fun _ => ?_
    | with_reducible exact inferInstance
    | refine Keeps.bind ?_ fun _ => ?_
    | exact Keeps.pure _

end Cert.Kernel4

end
-- ==== Proof.Frame4.lean ====
/- The recurrence's call runs: the launch of its pipeline around a body that only loads and stores through memrefs it holds
   whole (Body4.lean). Nothing is said of what the result array holds. -/
module

public import proofs.«01_k».proof.Proof.Facts4
public import proofs.«01_k».proof.Proof.Body4
public import proofs.«01_k».proof.Proof.Held
public import Idealize.ShloMosaic.Lib.Pipeline.Frame
public import Idealize.ShloMosaic.Lib.Pipeline.Kit
public import Idealize.ShloMosaic.Lib.Pipeline.Regions

@[expose] public section

noncomputable section

namespace Cert.Kernel4

open Idealize.ShloMosaic Idealize.ShloMosaic.TcCoe
open Idealize.SL Idealize.SL.RA Idealize.SL.BI
open scoped Idealize.SL.BI
open Idealize.SL.BI.BIBase Idealize.SL.Sem
open Cert.Keeping Cert.Kernel4.Side
open Idealize.ShloMosaic.Pipeline (Dat BodyObligationLoose)

variable {F : FTy → Type} [BitOps F]

/-! ## The launch's layout -/

/-- The staging semaphores of the call. -/
abbrev sems : Fin 1 → List (DmaSem sig) :=
  fun | 0 => Pipeline.specSems spec0 | ⟨_ + 1, h⟩ => absurd h (Nat.not_lt.2 (Nat.le_add_left _ _))

/-- No staging cell is another's. -/
theorem cells_inj : Function.Injective (Pipeline.cellOf (nD := nD) (τ := τ) cfgs) :=
  Pipeline.cellOf_injective_of_table cfgs sems (fun | 0 => rfl | ⟨_ + 1, h⟩ => absurd h (Nat.not_lt.2 (Nat.le_add_left _ _)))
    (by decide) (by decide)

/-- Each window's array is a whole buffer. -/
theorem arr_whole : ∀ w : Fin 19, (spec0 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | 9 => Memref.isWhole_whole _ | 10 => Memref.isWhole_whole _ | 11 => Memref.isWhole_whole _ | 12 => Memref.isWhole_whole _ | 13 => Memref.isWhole_whole _ | 14 => Memref.isWhole_whole _ | 15 => Memref.isWhole_whole _ | 16 => Memref.isWhole_whole _ | 17 => Memref.isWhole_whole _ | 18 => Memref.isWhole_whole _ | ⟨_ + 19, h⟩ => absurd h (Nat.not_lt.2 (Nat.le_add_left _ _))

/-- Each window's staging buffers are whole buffers. -/
theorem stage_whole : ∀ (w : Fin 19) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | 3 => fun s => hstage0_3 (s.cast nbuf0_3) | 4 => fun s => hstage0_4 (s.cast nbuf0_4) | 5 => fun s => hstage0_5 (s.cast nbuf0_5) | 6 => fun s => hstage0_6 (s.cast nbuf0_6) | 7 => fun s => hstage0_7 (s.cast nbuf0_7) | 8 => fun s => hstage0_8 (s.cast nbuf0_8) | 9 => fun s => hstage0_9 (s.cast nbuf0_9) | 10 => fun s => hstage0_10 (s.cast nbuf0_10) | 11 => fun s => hstage0_11 (s.cast nbuf0_11) | 12 => fun s => hstage0_12 (s.cast nbuf0_12) | 13 => fun s => hstage0_13 (s.cast nbuf0_13) | 14 => fun s => hstage0_14 (s.cast nbuf0_14) | 15 => fun s => hstage0_15 (s.cast nbuf0_15) | 16 => fun s => hstage0_16 (s.cast nbuf0_16) | 17 => fun s => hstage0_17 (s.cast nbuf0_17) | 18 => fun s => hstage0_18 (s.cast nbuf0_18) | ⟨_ + 19, h⟩ => absurd h (Nat.not_lt.2 (Nat.le_add_left _ _))

/-- The windows' arrays and their staging buffers are laid out apart. -/
theorem layout : Pipeline.WinFacts₀ spec0 := by decide

/-- Every window on an array another window is on is an input window. -/
theorem shared : Pipeline.SharedIn spec0 := by decide

/-- No window's block is empty. -/
theorem blocks : ∀ w : Fin 19, 0 < (spec0 w).block.numel := by decide

/-- The layout as the launch takes it: windows on one array only read it. -/
theorem launch : Pipeline.LaunchFacts₀ (nD := nD) (τ := τ) cfgs 0 :=
  ⟨cells_inj, layout, shared, blocks, arr_whole, stage_whole⟩

/-- The host's operations before the call: reshapes, slices and casts. -/
abbrev hostOps0 : List (HloOp τ sig (Elt F)) :=
  [ StableHlo.reshape main_arg0 main_v0 (rfl : (.f32 : EltTy) = .f32) shapeCasts_S8192x6016_S2x4096x6016,
    StableHlo.unary main_arg1 main_v1 ((extractStridedSlice S1024 ![0] · slices_S3200_S1024_0) : (⟨S3200, .f32⟩ : BufTy).Contents (Elt F) → (⟨S1024, .f32⟩ : BufTy).Contents (Elt F)),
    StableHlo.unary main_arg1 main_v2 ((extractStridedSlice S1024 ![1024] · slices_S3200_S1024_1024) : (⟨S3200, .f32⟩ : BufTy).Contents (Elt F) → (⟨S1024, .f32⟩ : BufTy).Contents (Elt F)),
    StableHlo.unary main_arg1 main_v3 ((extractStridedSlice S1024 ![2048] · slices_S3200_S1024_2048) : (⟨S3200, .f32⟩ : BufTy).Contents (Elt F) → (⟨S1024, .f32⟩ : BufTy).Contents (Elt F)),
    StableHlo.unary main_arg1 main_v4 ((extractStridedSlice S128 ![3072] · slices_S3200_S128_3072) : (⟨S3200, .f32⟩ : BufTy).Contents (Elt F) → (⟨S128, .f32⟩ : BufTy).Contents (Elt F)),
    StableHlo.reshape main_v1 main_v5 (rfl : (.f32 : EltTy) = .f32) shapeCasts_S1024_S1x1024,
    StableHlo.reshape main_v2 main_v6 (rfl : (.f32 : EltTy) = .f32) shapeCasts_S1024_S1x1024,
    StableHlo.reshape main_v3 main_v7 (rfl : (.f32 : EltTy) = .f32) shapeCasts_S1024_S1x1024,
    StableHlo.reshape main_v4 main_v8 (rfl : (.f32 : EltTy) = .f32) shapeCasts_S128_S1x128,
    StableHlo.reshape main_arg2 main_v9 (rfl : (.f32 : EltTy) = .f32) shapeCasts_S1024_S1x1024,
    StableHlo.reshape main_arg3 main_v10 (rfl : (.f32 : EltTy) = .f32) shapeCasts_S1024_S1x1024,
    StableHlo.reshape main_arg4 main_v11 (rfl : (.f32 : EltTy) = .f32) shapeCasts_S1024_S1x1024,
    StableHlo.reshape main_arg5 main_v12 (rfl : (.f32 : EltTy) = .f32) shapeCasts_S1024_S1x1024,
    StableHlo.reshape main_arg6 main_v13 (rfl : (.f32 : EltTy) = .f32) shapeCasts_S1024_S8x1x128,
    StableHlo.reshape main_arg7 main_v14 (rfl : (.f32 : EltTy) = .f32) shapeCasts_S1024_S8x1x128,
    StableHlo.reshape main_arg8 main_v15 (rfl : (.f32 : EltTy) = .f32) shapeCasts_S1024_S8x1x128,
    StableHlo.unary main_arg9 main_v16 ((truncf .bf16 · bitsLt_bf16_f32) : (⟨S64x1024, .f32⟩ : BufTy).Contents (Elt F) → (⟨S64x1024, .bf16⟩ : BufTy).Contents (Elt F)),
    StableHlo.unary main_arg10 main_v17 ((truncf .bf16 · bitsLt_bf16_f32) : (⟨S64x1024, .f32⟩ : BufTy).Contents (Elt F) → (⟨S64x1024, .bf16⟩ : BufTy).Contents (Elt F)) ]

/-- They touch the core's arrays only. -/
theorem hostOps0_sub : (hostOps0 : List (HloOp τ sig (Elt F))).Forall fun op => op.bufs ⊆ StableHlo.tcRefs τ sig :=
  ⟨StableHlo.reshape_bufs_sub .., StableHlo.unary_bufs_sub .., StableHlo.unary_bufs_sub .., StableHlo.unary_bufs_sub .., StableHlo.unary_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.unary_bufs_sub .., StableHlo.unary_bufs_sub ..⟩

/-- The program is these operations and then the call. -/
theorem main_chain (c : Dev nD) : main (F := F) c = (Pipeline.chain
  [ StableHlo.seq hostOps0,
    Prog.lift (.customCall (Pipeline.entry 0) ()) ] : Prog (TpuEff nD τ sig (Elt F) (Pipeline.Sig Λ₀ (Fin 1) fun p => (pcfgs (F := F) p).Adm) .tc) PUnit) := by
  rewrite [StableHlo.chain_seq_cons, Pipeline.chain_cons]
  chain_rfl

/-! ## The run -/

variable (m : (ℓ : Loc nD τ sig) → Buf (Elt F) ℓ) (ρ : Dev nD → PrngReg)

local notation "𝕄" => MT nD τ sig Unit (Elt F) ℕ (UR sig nD τ) ℕ

/-- What core `c` holds in its buffers when the pipeline is entered: the launch contents after the host operations. -/
abbrev V (c : Dev nD) (b : Ref sig .tc) : Buf (Elt F) ((c : Thread nD τ).loc b) := StableHlo.after hostOps0 (fun b => m (c, b)) b

/-- Every window is forgotten: nothing is named of what the body leaves in it. -/
def forgets (_ : Fin 19) : Bool := true

/-- The pipeline's proof data: the arrays as found, nothing named of the windows, nothing owed. -/
def dats (_ : Fin 1) (c : Dev nD) : Dat τ (Elt F) Unit ℕ (UR sig nD τ) ℕ cfg0 c where
  A w := V m c (Pipeline.arrRef spec0 w)
  after w t := Dat.unnamed (cfg := cfg0) w t
  Φ _ := Pipeline.ΦA spec0 c
  q w := Pipeline.shareOf spec0 w
  owed _ := 0

/-- What the body is handed at point `t`, and hands back: the scratch, the generator, what the core owes, the windows' buffers. -/
def held (c : Dev nD) (t : Fin 64) : sProp 𝕄 :=
  iprop(Pipeline.ΦA spec0 c ∗ (dats m 0 c).owesAt () t.castSucc
    ∗ bigSep Finset.univ fun w : Fin 19 => iprop(∃ X, owns (c : Thread nD τ) ((cfg0.win w).stage (cfg0.slots t w)) fullShare X))

/-- Each window's current buffer is held. -/
theorem held_win (c : Dev nD) (t : Fin 64) (w : Fin 19) :
    Has c (held m c t) ((cfg0.win w).stage (cfg0.slots t w)) :=
  ((Has.owned _).family (Φ := fun w : Fin 19 => iprop(∃ X, owns (c : Thread nD τ) ((cfg0.win w).stage (cfg0.slots t w)) fullShare X)) w).right.right

/-- Each scratch buffer is held. -/
theorem held_scratch (c : Dev nD) (t : Fin 64) (b : Ref sig .tc)
    (hb : b ∈ (Finset.univ.filter fun b : Ref sig .tc => b.isScoped) \ Finset.univ.image (Pipeline.stageRef spec0))
    {cs : CoreSpace} {s : Shape} {e : EltTy} (r : Memref sig .tc cs s e) (hr : r.view.set = Finset.univ)
    (hl : r.view.loc (c.tc : Thread nD τ) = (c.tc : Thread nD τ).loc b) : Has c (held m c t) r :=
  (Has.scoped spec0 b hb r hr hl).left.left

set_option maxHeartbeats 4000000 in
/-- The body keeps what it is handed at every point. -/
theorem keeps_point (c : Dev nD) (t : Fin 64) :
    Keeps (defs₀ (F := F)) Variants.nat none c (held m c t) (defs₀ (F := F) .tc cfg0.body (cfg0.bodyArgs t (cfg0.slots t))) := by
  unfold defs₀; rw [Defs.onTc_tc]
  exact keeps_rwkv _ _ _ _ _ _ _ _ _ _ _ _ _ _ _ _ _ _ _ _ _ _ _ _ _ _ _ _ _ _ _ _ _ _ _ _ _ _ _ _ _ _ _ _ _ _ _ _ _ c (held m c t)
    (Harg1 := held_win m c t 0)
    (Harg2 := held_win m c t 1)
    (Harg3 := held_win m c t 2)
    (Harg4 := held_win m c t 3)
    (Harg5 := held_win m c t 4)
    (Harg6 := held_win m c t 5)
    (Harg7 := held_win m c t 6)
    (Harg8 := held_win m c t 7)
    (Harg9 := held_win m c t 8)
    (Harg10 := held_win m c t 9)
    (Harg11 := held_win m c t 10)
    (Harg12 := held_win m c t 11)
    (Harg13 := held_win m c t 12)
    (Harg14 := held_win m c t 13)
    (Harg15 := held_win m c t 14)
    (Harg16 := held_win m c t 15)
    (Harg17 := held_win m c t 16)
    (Harg18 := held_win m c t 17)
    (Harg19 := held_win m c t 18)
    (Harg20 := held_scratch m c t cc0_scratch0 (by decide) _ (View.set_whole _) rfl)
    (Harg21 := held_scratch m c t cc0_scratch1 (by decide) _ (View.set_whole _) rfl)
    (Harg22 := held_scratch m c t cc0_scratch2 (by decide) _ (View.set_whole _) rfl)
    (Harg23 := held_scratch m c t cc0_scratch3 (by decide) _ (View.set_whole _) rfl)
    (Harg24 := held_scratch m c t cc0_scratch4 (by decide) _ (View.set_whole _) rfl)

/-- The body obligation of the pipeline. -/
theorem obligation (c : Dev nD) :
    BodyObligationLoose (dats m 0 c) (defs₀ (F := F)) Variants.nat () Set.univ forgets := fun t =>
  (keeps_point m c t).run

theorem hostOps0_fresh : (hostOps0 : List (HloOp τ sig (Elt F))).Forall fun op => op.fresh = ∅ := by
  simp only [List.Forall]; repeat' constructor

set_option maxHeartbeats 800000 in
/-- The run: every window's array that is an input is unchanged, every buffer no window stages is as the pipeline found it,
    every semaphore ends at zero. -/
theorem run_main : θ_run defs (onTc (τ := τ) (main (F := F))) ⟨m, fun _ => 0, ρ⟩ (fun r =>
    Pipeline.RDat.FramePost (cfgs 0) (fun c => (dats m 0 c).toRForget forgets) (V m) r ∧ r.2.sem = fun _ => 0) :=
  Pipeline.θ_run_frame_forget_shared (Q' := _) cfgs (dats m) 0 launch defs₀ Variants.nat forgets m ρ main
    (hbody := obligation m) (hq := fun _ _ _ => rfl) (howed := fun _ _ => rfl) (V := V m)
    (hmain := Pipeline.hmain_prefix cfgs 0 defs₀ Variants.nat m main hostOps0 hostOps0_sub hostOps0_fresh main_chain)
    (hA := fun _ _ => by dsimp only [dats]) (hΦ := fun _ _ => rfl)

/-- A buffer that no host operation writes is found as launched. -/
theorem V_of (c : Dev nD) (b : Ref sig .tc) (hb : ∀ r ∈ [main_v0, main_v1, main_v2, main_v3, main_v4, main_v5, main_v6, main_v7, main_v8, main_v9, main_v10, main_v11, main_v12, main_v13, main_v14, main_v15, main_v16, main_v17], b ≠ r) :
    V m c b = m ((c : Thread nD τ).loc b) :=
  StableHlo.after_of_forall_not_mem (b := Proc.devRef .tc b) _ _ (List.forall_iff_forall_mem.mp (by
    simp only [hostOps0, List.Forall, StableHlo.reshape_writes, StableHlo.unary_writes, Finset.mem_singleton]
    repeat' apply And.intro
    all_goals exact StableHlo.devRef_ne_of_ne (hb _ (by simp))))

/-- Core `c`'s argument arrays end as launched: no window stages one. -/
theorem frame_rwkv : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) := by
  refine (θ_run defs _ _).mono (fun r h => ⟨fun c => ?_, h.2⟩) (run_main m ρ)
  have other : ∀ b : Ref sig .tc, b ∈ Pipeline.restRefs sig spec0 → r.2.mem ((c.tc : Thread nD τ).loc b) = V m c b := (h.1 c).2
  refine ⟨?_, ?_, ?_, ?_, ?_, ?_, ?_, ?_, ?_, ?_, ?_⟩
  all_goals
    exact (other _ (Pipeline.mem_restRefs_of _ (by decide) (by decide))).trans (V_of m c _ (by decide))

end Cert.Kernel4

end
-- ==== Proof.BiasTable.lean ====
/- The table of the relative biases: the kernel's result and the reference's are one function of the biases over the
   extended reals. On the middle 256 rows an element is, for its head, the bias of its distance's bucket less that of bucket
   15, times the factor to units of log 2; elsewhere zero. The kernel stores each head's columns over zeros, and fills them by
   one selection for each bucket (`stores_eq`, `picked_apply`, `final`); the reference gathers the bucket's row of the biases
   and pads (`refTable_apply`). Each asks that the bucket lie below 32: the kernel so that one of its selections applies, the
   reference so that the gather reads that row (`pay3_apply`). `kernel_eq_reference` is the equality. -/
module

public import proofs.«01_k».proof.Proof.Gen.Kernel5Ideal.Value
public import proofs.«01_k».proof.Proof.Gen.Reference5Ideal.Run
public import proofs.«01_k».proof.Defs
public import Idealize.ShloMosaic.Lib.Pointwise
public import Idealize.ShloMosaic.Lib.WholeRead

@[expose] public section

noncomputable section

namespace Cert.BiasTable

open Idealize.ShloMosaic Idealize.ShloMosaic.TcCoe Idealize.SL.Sem

/-! ## The bucket of a distance -/

/-- The distance of row `p` of the table's middle from column `q`. -/
def rel (p : Fin 256) (q : Fin 128) : BitVec 32 := IntOp.subi (IntOp.subi (BitVec.ofNat 32 p.val) 128#32) (BitVec.ofNat 32 q.val)

/-- The half of the buckets a distance falls in. -/
def side (d : BitVec 32) : BitVec 32 := Scalar.select (IntOp.cmpi .sgt d 0#32) 16#32 0#32

/-- Eight times the logarithm of an eighth of `n`, to the base sixteen. -/
def logStep (n : EReal) : EReal :=
  Ideal.div (Ideal.log (Ideal.div n (Ideal.ofBits .f32 0x41000000#32))) (Ideal.ofBits .f32 0x40317218#32)
    * Ideal.ofBits .f32 0x41000000#32

/-- The bucket of a long distance `n` within its half. -/
def large (n : BitVec 32) : BitVec 32 :=
  IntOp.minsi (IntOp.addi 8#32 (Ideal.fptosi 32 (logStep (((IntOp.maxsi n 1#32).toInt : ℝ) : EReal)))) 15#32

/-- The bucket of a distance. -/
def bucket (d : BitVec 32) : BitVec 32 :=
  IntOp.addi (side d) (Scalar.select (IntOp.cmpi .slt (IntOp.absi d) 8#32) (IntOp.absi d) (large (IntOp.absi d)))

/-- A selection by an equality is the conditional on it. -/
theorem select_eq {α : Type} (x y : BitVec 32) (a b : α) :
    Scalar.select (IntOp.cmpi .eq x y) a b = if x = y then a else b := by
  by_cases h : x = y
  · simp [h, Scalar.select, IntOp.cmpi]
  · rw [if_neg h, IntOp.cmpi, beq_false_of_ne h]; rfl

/-- The word of 8. -/
theorem eight : Ideal.ofBits .f32 0x41000000#32 = ((8 : ℝ) : EReal) := by
  simp [Ideal.ofBits, Ideal.ieee, -EReal.coe_mul]; norm_num

/-- The word of the logarithm of 16. -/
theorem logSixteen : Ideal.ofBits .f32 0x40317218#32 = ((11629080 / 4194304 : ℝ) : EReal) := by
  simp [Ideal.ofBits, Ideal.ieee, -EReal.coe_mul]; norm_num

/-- The distances lie below 256. -/
theorem abs_rel (p : Fin 256) (q : Fin 128) : ∃ n : Fin 256, IntOp.absi (rel p q) = BitVec.ofNat 32 n.val := by
  have hp := p.isLt
  have hq := q.isLt
  have h0 : (rel p q).toNat = (4294967296 + p.val - 128 - q.val) % 4294967296 := by
    simp only [rel, IntOp.subi, BitVec.toNat_sub, BitVec.toNat_ofNat]; omega
  by_cases h : 128 + q.val ≤ p.val
  · refine ⟨⟨p.val - 128 - q.val, by omega⟩, BitVec.eq_of_toNat_eq ?_⟩
    have hm : (rel p q).msb = false := by rw [BitVec.msb_eq_decide, h0]; simp; omega
    rw [IntOp.absi, hm, if_neg Bool.false_ne_true, h0, BitVec.toNat_ofNat]; simp only []; omega
  · refine ⟨⟨128 + q.val - p.val, by omega⟩, BitVec.eq_of_toNat_eq ?_⟩
    have hm : (rel p q).msb = true := by rw [BitVec.msb_eq_decide, h0]; simp; omega
    rw [IntOp.absi, hm, if_pos rfl, BitVec.toNat_neg, h0, BitVec.toNat_ofNat]; simp only []; omega

/-- A number below 8 compares as less than 8. -/
theorem lt8 : ∀ n : Fin 256, n.val < 8 → IntOp.cmpi .slt (BitVec.ofNat 32 n.val) 8#32 = 1#1 := by decide +kernel
/-- A number from 8 on does not. -/
theorem ge8 : ∀ n : Fin 256, 8 ≤ n.val → IntOp.cmpi .slt (BitVec.ofNat 32 n.val) 8#32 = 0#1 := by decide +kernel
/-- From 8 on the maximum with 1 is the number itself. -/
theorem max1 : ∀ n : Fin 256, 8 ≤ n.val → (IntOp.maxsi (BitVec.ofNat 32 n.val) 1#32).toInt = n.val := by decide +kernel
/-- A step added to 8 and cut at 15 lies below 16. -/
theorem min15 : ∀ l : Fin 256, ∃ k : Fin 16,
    IntOp.minsi (IntOp.addi 8#32 (BitVec.ofNat 32 l.val)) 15#32 = BitVec.ofNat 32 k.val := by decide +kernel
/-- Masking a number below 16 by 31 leaves it. -/
theorem and31 : ∀ k : Fin 16, IntOp.andi (BitVec.ofNat 32 k.val) 31#32 = BitVec.ofNat 32 k.val := by decide +kernel

/-- A bucket is not negative: nothing is added to it. -/
theorem wrap : ∀ b : Fin 32, Scalar.select (IntOp.cmpi .slt (BitVec.ofNat 32 b.val) 0#32)
    (IntOp.addi (BitVec.ofNat 32 b.val) 32#32) (BitVec.ofNat 32 b.val) = BitVec.ofNat 32 b.val := by decide +kernel
/-- A bucket is within the rows of the biases. -/
theorem nat : ∀ b : Fin 32, min (BitVec.ofNat 32 b.val).toInt.toNat 31 = b.val := by decide +kernel

/-- A half and a number below 16 make a bucket below 32. -/
theorem side_add (d : BitVec 32) (k : Fin 16) : ∃ b : Fin 32,
    IntOp.addi (side d) (BitVec.ofNat 32 k.val) = BitVec.ofNat 32 b.val := by
  have h : side d = 16#32 ∨ side d = 0#32 := by
    unfold side Scalar.select; split <;> simp
  rcases h with h | h <;> rw [h] <;> revert k <;> decide +kernel

/-- A long distance's step is a natural number below 256. -/
theorem step_eq (n : Fin 256) (hn : 8 ≤ n.val) : ∃ l : Fin 256,
    Ideal.fptosi 32 (logStep (((n.val : ℤ) : ℝ) : EReal)) = BitVec.ofNat 32 l.val := by
  have h8 : (8 : ℝ) ≤ n.val := by exact_mod_cast hn
  have h9 : (n.val : ℝ) ≤ 255 := by exact_mod_cast (by omega : n.val ≤ 255)
  obtain ⟨y, hy⟩ : ∃ y : ℝ, y = (n.val : ℝ) * (1 / 8) := ⟨_, rfl⟩
  have y1 : 1 ≤ y := by rw [hy]; linarith
  have l0 : 0 ≤ Real.log y := Real.log_nonneg y1
  have l1 : Real.log y ≤ y - 1 := Real.log_le_sub_one_of_pos (by linarith)
  obtain ⟨x, hx⟩ : ∃ x : ℝ, x = Real.log y * (1 / (11629080 / 4194304)) * 8 := ⟨_, rfl⟩
  have e : logStep (((n.val : ℤ) : ℝ) : EReal) = (x : EReal) := by
    rw [logStep, eight, logSixteen, Ideal.div_coe (by norm_num), Ideal.div_coe (by norm_num), Int.cast_natCast,
      ← EReal.coe_mul, ← hy, Ideal.log_coe, if_neg (by linarith), ← EReal.coe_mul, ← EReal.coe_mul, ← hx]
  have x0 : 0 ≤ x := by rw [hx]; positivity
  have x1 : x < 256 := by
    rw [hx]
    norm_num
    linarith
  have f0 : 0 ≤ ⌊x⌋ := Int.floor_nonneg.mpr x0
  have f1 : ⌊x⌋ < 256 := Int.floor_lt.mpr (by exact_mod_cast x1)
  refine ⟨⟨⌊x⌋.toNat, by omega⟩, ?_⟩
  rw [e, Ideal.fptosi, Ideal.toIntClamped_coe, if_pos x0]
  have : max (-((2 ^ (32 - 1) : ℕ) : ℤ)) (min (((2 ^ (32 - 1) : ℕ) : ℤ) - 1) ⌊x⌋) = (⌊x⌋.toNat : ℤ) := by
    norm_num
    omega
  rw [this, BitVec.ofInt_natCast]

/-- A long distance's bucket within its half. -/
theorem large_eq (n : Fin 256) (hn : 8 ≤ n.val) : ∃ k : Fin 16, large (BitVec.ofNat 32 n.val) = BitVec.ofNat 32 k.val := by
  obtain ⟨l, hl⟩ := step_eq n hn
  rw [large, max1 n hn, hl]
  exact min15 l

section Kernel
open Cert.Kernel5Ideal Cert.Kernel5Ideal.Gen Cert.Kernel5Ideal.Value

/-! ## What the body leaves -/

/-- Head `h`'s columns lie in the block. -/
theorem inCols (h : Fin 16) : ∀ a, ![512, h.val * 128] a + S256x128.size a ≤ S1280x2048.size a := by
  decide +revert

/-- Entry (b, h) lies in the table. -/
theorem inTable (b : Fin 32) (h : Fin 16) : ∀ a, ![b.val, h.val] a + S1x1.size a ≤ S32x16.size a := by
  decide +revert

/-- Entry (b, h) as the body loads it. -/
def word (r : Memref sig .tc .smem S32x16 .f32) (hr : r.IsWhole) (x : Vec Ideal S32x16 .f32) (b : Fin 32) (h : Fin 16) :
    Elt Ideal .f32 :=
  View.readAt (Elt Ideal) r.view (Rect.unit (s := S32x16) ![b.val, h.val] S1x1.size (inTable b h)).toLoadRect (hr.unread x)
    (Shape.Idx.first (Nat.lt_of_lt_of_eq Nat.one_pos numel1_S1x1.symm))

/-- It is the table's entry. -/
theorem word_eq (r : Memref sig .tc .smem S32x16 .f32) (hr : r.IsWhole) (x : Vec Ideal S32x16 .f32) (b : Fin 32)
    (h : Fin 16) : word r hr x b h = x (ix2 b h) := by
  unfold word
  rw [hr.readAt_unread]
  refine congrArg x (funext fun a => Fin.ext ?_)
  match a with
  | ⟨0, _⟩ => rfl
  | ⟨1, _⟩ => rfl

/-- Head `h`'s columns after the first `n` selections: an element whose bucket is `b < n` holds entry (b, h) less
    entry (15, h). -/
def picked (w : Fin 32 → Fin 16 → Elt Ideal .f32) (h : Fin 16) : (n : ℕ) → n ≤ 32 → FVec Ideal S256x128 .f32
  | 0, _ => broadcast S256x128 (Scalar.ofBits .f32 0x00000000#32)
  | n + 1, hn => select (cmpi .eq (k0_pay3 (F := Ideal)) (broadcast S256x128 (BitVec.ofNat 32 n)))
      (broadcast S256x128 (Scalar.subf (w ⟨n, hn⟩ h) (w 15 h))) (picked w h n (Nat.le_of_succ_le hn))

/-- Head `h`'s columns as stored. -/
def cols (w : Fin 32 → Fin 16 → Elt Ideal .f32) (h : Fin 16) : FVec Ideal S256x128 .f32 :=
  mulf (picked w h 32 le_rfl) (broadcast S256x128 (Scalar.ofBits .f32 0x3FB8AA3B#32))

/-- The store of head `h`'s columns. -/
def piece (w : Fin 32 → Fin 16 → Elt Ideal .f32) (h : Fin 16) : View.Piece (Elt Ideal) S1280x2048 .f32 :=
  Sigma.mk (Rect.unit ![512, h.val * 128] S256x128.size (inCols h)) (cols w h)

/-- The first store: zeros everywhere. -/
def zeros : View.Piece (Elt Ideal) S1280x2048 .f32 :=
  Sigma.mk (Rect.unit ![0, 0] S1280x2048.size inb_S1280x2048_S1280x2048_0_0) (k0_pay2 (F := Ideal))

/-- The body's stores, the last one first: the sixteen heads' columns over zeros. -/
theorem stores_eq (c : Dev nD) (a0 : Memref sig .tc .smem S32x16 .f32) (h0 : a0.IsWhole)
    (a1 : Memref sig .tc .vmem S1280x2048 .f32) (h1 : a1.IsWhole) (x : Vec Ideal S32x16 .f32) :
    (kernelRun0_A c a0 h0 a1 h1 x).1 = (List.finRange 16).reverse.map (piece (word a0 h0 x)) ++ [zeros] := rfl

/-- One element of the result from entry rows: zero off the middle 256 rows. -/
def entry (w : Fin 32 → Fin 16 → Elt Ideal .f32) (r : Fin 1280) (k : Fin 2048) : EReal :=
  if h : 512 ≤ r.val ∧ r.val < 768 then
    cols w ⟨k.val / 128, by omega⟩ (ix2 (⟨r.val - 512, by omega⟩ : Fin 256) (⟨k.val % 128, by omega⟩ : Fin 128))
  else 0

/-- Where element (p, q) of head `h`'s columns lies. -/
theorem piece_emb (w : Fin 32 → Fin 16 → Elt Ideal .f32) (h : Fin 16) (p : Fin 256) (q : Fin 128) :
    (piece w h).1.emb (ix2 p q : S256x128.Idx)
      = ix2 (⟨512 + p.val, by omega⟩ : Fin 1280) (⟨h.val * 128 + q.val, by omega⟩ : Fin 2048) := by
  refine funext fun a => Fin.ext ?_
  match a with
  | ⟨0, _⟩ => show 512 + 1 * p.val = _; simp
  | ⟨1, _⟩ => show h.val * 128 + 1 * q.val = _; simp

/-- The element of a list of heads' stores over zeros. -/
theorem canon_eq (w : Fin 32 → Fin 16 → Elt Ideal .f32) (r : Fin 1280) (k : Fin 2048) : ∀ hs : List (Fin 16),
    ((⟨k.val / 128, by omega⟩ : Fin 16) ∈ hs ∨ ¬(512 ≤ r.val ∧ r.val < 768)) →
    View.canon (hs.map (piece w) ++ [zeros]) (ix2 r k) = entry w r k
  | [], hh => by
    have hr : ¬(512 ≤ r.val ∧ r.val < 768) := hh.resolve_left List.not_mem_nil
    have hz : (zeros.1.emb (ix2 r k : S1280x2048.Idx)) = (ix2 r k : S1280x2048.Idx) := by
      refine funext fun a => Fin.ext ?_
      match a with
      | ⟨0, _⟩ => show 0 + 1 * r.val = _; simp
      | ⟨1, _⟩ => show 0 + 1 * k.val = _; simp
    have := View.canon_cons_emb zeros.1 zeros.2 [] (ix2 r k : S1280x2048.Idx)
    rw [hz] at this
    refine this.trans ?_
    rw [entry, dif_neg hr]
    show k0_pay2 (F := Ideal) (ix2 r k : S1280x2048.Idx) = _
    pointwise [k0_pay2]
  | h :: hs, hh => by
    by_cases hy : (ix2 r k : S1280x2048.Idx) ∈ (piece w h).1.set
    · obtain ⟨x, hx⟩ := (piece w h).1.exists_idx_of_mem hy
      obtain ⟨p, q, rfl⟩ : ∃ (p : Fin 256) (q : Fin 128), x = ix2 p q := ⟨_, _, eq_ix2 (x : S256x128.Idx)⟩
      have e := (piece_emb w h p q).symm.trans hx
      have e0 : 512 + p.val = r.val := congrArg (fun i : S1280x2048.Idx => (i 0).val) e
      have e1 : h.val * 128 + q.val = k.val := congrArg (fun i : S1280x2048.Idx => (i 1).val) e
      have := View.canon_cons_emb (piece w h).1 (piece w h).2 (hs.map (piece w) ++ [zeros]) (ix2 p q : S256x128.Idx)
      rw [← hx]
      refine this.trans ?_
      rw [entry, dif_pos (by omega)]
      have a0 : (⟨k.val / 128, by omega⟩ : Fin 16) = h := Fin.ext (by show k.val / 128 = _; omega)
      have a1 : (⟨r.val - 512, by omega⟩ : Fin 256) = p := Fin.ext (by show r.val - 512 = _; omega)
      have a2 : (⟨k.val % 128, by omega⟩ : Fin 128) = q := Fin.ext (by show k.val % 128 = _; omega)
      rw [a0, a1, a2]
      rfl
    · refine (View.canon_cons_of_not_mem (piece w h) _ hy).trans (canon_eq w r k hs ?_)
      refine hh.elim (fun hm => ?_) Or.inr
      by_cases hr : 512 ≤ r.val ∧ r.val < 768
      · refine Or.inl ((List.mem_cons.mp hm).resolve_left fun he => hy ?_)
        have e : (piece w h).1.emb (ix2 (⟨r.val - 512, by omega⟩ : Fin 256) (⟨k.val % 128, by omega⟩ : Fin 128) : S256x128.Idx)
            = (ix2 r k : S1280x2048.Idx) := by
          have hk : k.val / 128 = h.val := congrArg Fin.val he
          rw [piece_emb]
          exact congrArg₂ ix2 (Fin.ext (by show 512 + (r.val - 512) = _; omega))
            (Fin.ext (by show h.val * 128 + k.val % 128 = _; omega))
        rw [← e, ← Rect.map_emb_univ]
        exact Finset.mem_map_of_mem _ (Finset.mem_univ _)
      · exact Or.inr hr

/-! ## The bucket -/

/-- The kernel's bucket of element (p, q) is the bucket of its distance, its mask by 31 changing nothing (`and31`); it lies
    below 32. -/
theorem pay3_apply (p : Fin 256) (q : Fin 128) : ∃ b : Fin 32,
    k0_pay3 (F := Ideal) (ix2 p q) = BitVec.ofNat 32 b.val ∧ bucket (rel p q) = BitVec.ofNat 32 b.val := by
  obtain ⟨n, hn⟩ := abs_rel p q
  have e : k0_pay3 (F := Ideal) (ix2 p q) = IntOp.addi (side (rel p q))
      (Scalar.select (IntOp.cmpi .slt (IntOp.absi (rel p q)) 8#32) (IntOp.absi (rel p q))
        (IntOp.andi (large (IntOp.absi (rel p q))) 31#32)) := by
    pointwise [k0_pay3, rel, side, large]
    rfl
  rw [e, bucket, hn]
  by_cases h : n.val < 8
  · rw [show IntOp.cmpi .slt (BitVec.ofNat 32 n.val) 8#32 = 1#1 from lt8 n h]
    obtain ⟨b, hb⟩ := side_add (rel p q) ⟨n.val, by omega⟩
    exact ⟨b, hb, hb⟩
  · obtain ⟨k, hk⟩ := large_eq n (by omega)
    rw [show IntOp.cmpi .slt (BitVec.ofNat 32 n.val) 8#32 = 0#1 from ge8 n (by omega), hk, and31 k]
    obtain ⟨b, hb⟩ := side_add (rel p q) k
    exact ⟨b, hb, hb⟩

/-- An element of bucket `b` is selected once, at step `b`. -/
theorem picked_apply (w : Fin 32 → Fin 16 → Elt Ideal .f32) (h : Fin 16) (b : Fin 32) (y : S256x128.Idx)
    (hb : k0_pay3 (F := Ideal) y = BitVec.ofNat 32 b.val) : ∀ (n : ℕ) (hn : n ≤ 32),
    picked w h n hn y = if b.val < n then w b h - w 15 h else 0
  | 0, _ => by
    rw [if_neg (Nat.not_lt_zero _)]
    pointwise [picked]
  | n + 1, hn => by
    have ih := picked_apply w h b y hb n (Nat.le_of_succ_le hn)
    have hs : picked w h (n + 1) hn y
        = if BitVec.ofNat 32 b.val = BitVec.ofNat 32 n then w ⟨n, hn⟩ h - w 15 h else picked w h n (Nat.le_of_succ_le hn) y := by
      rw [← hb]
      show Scalar.select (IntOp.cmpi .eq (k0_pay3 (F := Ideal) y) (BitVec.ofNat 32 n)) (w ⟨n, hn⟩ h - w 15 h) _ = _
      rw [select_eq]
    have hbn : (BitVec.ofNat 32 b.val = BitVec.ofNat 32 n) ↔ b.val = n := by
      have := b.isLt
      rw [← BitVec.toNat_inj, BitVec.toNat_ofNat, BitVec.toNat_ofNat, Nat.mod_eq_of_lt (by omega), Nat.mod_eq_of_lt (by omega)]
    rw [hs, ih]
    by_cases e : b.val = n
    · rw [if_pos (hbn.mpr e), if_pos (by omega), show (⟨n, hn⟩ : Fin 32) = b from Fin.ext e.symm]
    · rw [if_neg (mt hbn.mp e)]
      by_cases l : b.val < n
      · rw [if_pos l, if_pos (by omega)]
      · rw [if_neg l, if_neg (by omega)]

/-! ## The result array -/

/-- A stored element: its bucket's entry less entry (15, h), times the logarithm's factor. -/
theorem cols_apply (w : Fin 32 → Fin 16 → Elt Ideal .f32) (h : Fin 16) (y : S256x128.Idx) (b : Fin 32)
    (hb : k0_pay3 (F := Ideal) y = BitVec.ofNat 32 b.val) :
    cols w h y = (w b h - w 15 h) * Ideal.ofBits .f32 0x3FB8AA3B#32 := by
  have e := picked_apply w h b y hb 32 le_rfl
  rw [if_pos b.isLt] at e
  rw [← e]
  pointwise [cols]

variable (m : (ℓ : Loc nD τ sig) → Buf (Elt Ideal) ℓ)

/-- The result array as one function of the table. -/
def G (m : (ℓ : Loc nD τ sig) → Buf (Elt Ideal) ℓ) (c : Dev nD) : Vec Ideal S1280x2048 .f32 :=
  fun i => entry (fun b h => m ((c : Thread nD τ).loc main_arg0) (ix2 b h)) (i 0) (i 1)

/-- The windows' block index is zero. -/
theorem idx : ∀ t : Fin cfg0.N, (win0_0.index t 0 = 0 ∧ win0_0.index t 1 = 0) ∧ (win0_1.index t 0 = 0 ∧ win0_1.index t 1 = 0) :=
  (by decide +kernel : ∀ t : Fin grid0.N, _)

/-- The table's block is the whole table. -/
theorem iblk0 (c : Dev nD) (t : Fin cfg0.N) (b : Fin 32) (h : Fin 16) :
    iblk m c 0 t (ix2 b h) = m ((c : Thread nD τ).loc main_arg0) (ix2 b h) := by
  have e := idx t
  rw [← V_main_arg0 m c]
  refine congrArg (V m c main_arg0) (funext fun a => Fin.ext ?_)
  match a with
  | ⟨0, _⟩ => show win0_0.index t 0 * 32 + 1 * b.val = b.val; omega
  | ⟨1, _⟩ => show win0_0.index t 1 * 16 + 1 * h.val = h.val; omega

/-- The result's block is the whole array. -/
theorem emb1 (t : Fin cfg0.N) (r : Fin 1280) (k : Fin 2048) :
    ((cfg0.win 1).blk t).view.emb (ix2 r k : S1280x2048.Idx) = ix2 r k := by
  have e := idx t
  refine funext fun a => Fin.ext ?_
  match a with
  | ⟨0, _⟩ => show win0_1.index t 0 * 1280 + 1 * r.val = r.val; omega
  | ⟨1, _⟩ => show win0_1.index t 1 * 2048 + 1 * k.val = k.val; omega

/-- What the body leaves in the result's block, at one element. -/
theorem outs_apply (c : Dev nD) (t : Fin cfg0.N) (r : Fin 1280) (k : Fin 2048) :
    outsAt0 m c t (ix2 r k) = G m c (ix2 r k) := by
  unfold outsAt0 out0_A_1
  rw [View.read_writes_junk_eq_canon, stores_eq]
  refine (canon_eq _ r k _ (Or.inl (by simp))).trans ?_
  refine congrArg (fun w => entry w r k) (funext fun b => funext fun h => ?_)
  rw [word_eq, iblk0]

/-- What the one point writes back is `G`. -/
theorem flushed_eq (c : Dev nD) (t : Fin cfg0.N) :
    (dats m 0 c).flushed 1 t = ((cfg0.win 1).blk t).view.read (Elt Ideal) (G m c) := by
  rw [flushed1]
  refine funext fun (y : S1280x2048.Idx) => ?_
  have hy : ((cfg0.win 1).blk t).view.emb y = ix2 (y 0) (y 1) := (congrArg _ (eq_ix2 y)).trans (emb1 t (y 0) (y 1))
  exact (congrArg _ (eq_ix2 y)).trans ((outs_apply m c t (y 0) (y 1)).trans (congrArg (G m c) hy.symm))

/-- Every element is in that block. -/
theorem covered (i : S1280x2048.Idx) :
    ∃ t : Fin cfg0.N, (cfg0.win 1).flush t = true ∧ i ∈ ((cfg0.win 1).blk t).view.set := by
  obtain ⟨t⟩ : Nonempty (Fin cfg0.N) := ⟨⟨0, by have : cfg0.N = 1 := rfl; omega⟩⟩
  refine ⟨t, flush0_1 _, ?_⟩
  have h := ((cfg0.win 1).blk t).view.emb_mem_set (ix2 (i 0) (i 1) : S1280x2048.Idx)
  exact (congrArg (fun q => q ∈ ((cfg0.win 1).blk t).view.set) ((eq_ix2 i).trans (emb1 t _ _).symm)).mpr h

/-- The result array after the run. -/
theorem final (c : Dev nD) : (dats m 0 c).arrAt 1 cfg0.N = G m c :=
  (dats m 0 c).arrAt_eq_of_cover 1 (G m c) (fun t _ => flushed_eq m c t) covered

end Kernel

section Reference
open Cert.Reference5Ideal Cert.Reference5Ideal.Gen Cert.Reference5Ideal.Value

/-- The reference's distances. -/
def refDist : IVec S256x128 32 :=
    subi (broadcastInDim S256x128 ![0, 1] bcast_S256x1_S256x128_0_1 (subi (broadcastInDim S256x1 ![0]
    bcast_S256_S256x1_0 (iotaInDim S256 32 0)) (broadcastInDim S256x1 ![] bcast_S_S256x1 (constantI S_ 32
    128#32)))) (broadcastInDim S256x128 ![0, 1] bcast_S1x128_S256x128_0_1 (broadcastInDim S1x128 ![1]
    bcast_S128_S1x128_1 (iotaInDim S128 32 0)))

/-- Its buckets of the distances `d`. -/
def refBucket (d : IVec S256x128 32) : IVec S256x128 32 :=
    addi (id (select (cmpi .sgt d (broadcastInDim S256x128 ![] bcast_S_S256x128 (constantI S_ 32 0#32)))
    (broadcastInDim S256x128 ![] bcast_S_S256x128 (constantI S_ 32 16#32)) (broadcastInDim S256x128 ![]
    bcast_S_S256x128 (constantI S_ 32 0#32)))) (select (cmpi .slt (absi d) (broadcastInDim S256x128 ![]
    bcast_S_S256x128 (constantI S_ 32 8#32))) (absi d) (minsi (addi (broadcastInDim S256x128 ![] bcast_S_S256x128
    (constantI S_ 32 8#32)) (fptosi 32 ((mulf (Host.divf (Host.log (Host.divf (sitofp .f32 (maxsi (absi d)
    (broadcastInDim S256x128 ![] bcast_S_S256x128 (constantI S_ 32 1#32)))) (broadcastInDim S256x128 ![]
    bcast_S_S256x128 (constant S_ .f32 0x41000000#32)))) (broadcastInDim S256x128 ![] bcast_S_S256x128 (constant S_
    .f32 0x40317218#32))) (broadcastInDim S256x128 ![] bcast_S_S256x128 (constant S_ .f32 0x41000000#32))) : FVec
    Ideal S256x128 .f32))) (broadcastInDim S256x128 ![] bcast_S_S256x128 (constantI S_ 32 15#32))))

/-- Its result from the table `a` and the buckets `B`. -/
def refTable (a : FVec Ideal S32x16 .f32) (B : IVec S256x128 32) : FVec Ideal S1280x2048 .f32 :=
    pad S1280x2048 ![512, 0] ![512, 0] ![0, 0] (shapeCast _ (transpose S256x16x128 [0, 2, 1] (mulf (subf
    (Host.gather gather_S32x16_S256x128x1_S256x128x16_2_0_n_n_0_2_116 a (broadcastInDim S256x128x1 ![0, 1]
    bcast_S256x128_S256x128x1_0_1 (select (cmpi .slt B (broadcastInDim S256x128 ![] bcast_S_S256x128 (constantI S_
    32 0#32))) (addi B (broadcastInDim S256x128 ![] bcast_S_S256x128 (constantI S_ 32 32#32))) B))) (broadcastInDim
    S256x128x16 ![0, 1, 2] bcast_S1x1x16_S256x128x16_0_1_2 (broadcastInDim S1x1x16 ![2] bcast_S16_S1x1x16_2
    (shapeCast _ (extractStridedSlice S1x16 ![15, 0] a slices_S32x16_S1x16_15_0) shapeCasts_S1x16_S16))))
    (broadcastInDim S256x128x16 ![] bcast_S_S256x128x16 (constant S_ .f32 0x3FB8AA3B#32)))
    transposes_S256x128x16_S256x16x128_0_2_1) shapeCasts_S256x16x128_S256x2048) (sitofp .f32 (constantI S_ 32
    0#32)) pads_S256x2048_S1280x2048_5125120_000 h_S_

/-- The reference's result is these one after the other. -/
theorem res_eq (m : (ℓ : Loc nD τ sig) → Buf (Elt Ideal) ℓ) (c : Dev nD) :
    res_out0 m c = refTable (m ((c.tc : Thread nD τ).loc main_arg0)) (refBucket refDist) := rfl

/-- Its distance at element (p, q). -/
theorem refDist_apply (p : Fin 256) (q : Fin 128) : refDist (ix2 p q) = rel p q := by
  pointwise [refDist, rel]

/-- Its bucket there. -/
theorem refBucket_apply (d : IVec S256x128 32) (p : Fin 256) (q : Fin 128) :
    refBucket d (ix2 p q) = bucket (d (ix2 p q)) := by
  generalize hb : bucket (d (ix2 p q)) = b
  pointwise [refBucket, id]
  rw [← hb]
  rfl

/-- An element of the gather: the row its index gives, cut to the 32 rows. -/
theorem gather_apply (a : FVec Ideal S32x16 .f32) (i : IVec S256x128x1 32) (p : Fin 256) (q : Fin 128) (h : Fin 16) :
    Host.gather gather_S32x16_S256x128x1_S256x128x16_2_0_n_n_0_2_116 a i (ix3 p q h)
      = a (ix2 (⟨min (i (ix3 p q 0)).toInt.toNat 31, by omega⟩ : Fin 32) h) := by
  unfold Host.gather
  refine congrArg a (funext fun x => Fin.ext ?_)
  match x with
  | ⟨0, _⟩ =>
    show gather_S32x16_S256x128x1_S256x128x16_2_0_n_n_0_2_116.start (ix3 p q h) i 0 + gather_S32x16_S256x128x1_S256x128x16_2_0_n_n_0_2_116.batchCoord (ix3 p q h) 0
      + gather_S32x16_S256x128x1_S256x128x16_2_0_n_n_0_2_116.offCoord (ix3 p q h) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x16_S256x128x1_S256x128x16_2_0_n_n_0_2_116.startIndexMap from List.mem_singleton.mpr rfl)]
    have hsi : gather_S32x16_S256x128x1_S256x128x16_2_0_n_n_0_2_116.siIdx (ix3 p q h)
        ⟨List.idxOf (0 : Fin 2) gather_S32x16_S256x128x1_S256x128x16_2_0_n_n_0_2_116.startIndexMap,
        List.idxOf_lt_length_iff.2 (List.mem_singleton.mpr rfl)⟩ = ix3 p q 0 := by
      funext b; refine Fin.ext ?_
      match b with
      | ⟨0, _⟩ => rfl
      | ⟨1, _⟩ => rfl
      | ⟨2, _⟩ => rfl
    rw [hsi]
    rfl
  | ⟨1, _⟩ =>
    show gather_S32x16_S256x128x1_S256x128x16_2_0_n_n_0_2_116.start (ix3 p q h) i 1 + gather_S32x16_S256x128x1_S256x128x16_2_0_n_n_0_2_116.batchCoord (ix3 p q h) 1
      + gather_S32x16_S256x128x1_S256x128x16_2_0_n_n_0_2_116.offCoord (ix3 p q h) 1 = h.val
    rw [GatherDims.batchCoord_eq_zero _ _ _ List.not_mem_nil]
    unfold GatherDims.start
    rw [dif_neg (by decide)]
    unfold GatherDims.offCoord
    rw [dif_pos (by decide)]
    simp only [Nat.zero_add]
    rfl

/-- The rows the gather reads: a bucket below 32 is its own row. -/
theorem row_apply (B : IVec S256x128 32) (p : Fin 256) (q : Fin 128) (b : Fin 32) (hb : B (ix2 p q) = BitVec.ofNat 32 b.val) :
    (broadcastInDim S256x128x1 ![0, 1] bcast_S256x128_S256x128x1_0_1
      (select (cmpi .slt B (broadcastInDim S256x128 ![] bcast_S_S256x128 (constantI S_ 32 0#32)))
        (addi B (broadcastInDim S256x128 ![] bcast_S_S256x128 (constantI S_ 32 32#32))) B)) (ix3 p q 0)
      = BitVec.ofNat 32 b.val := by
  pointwise
  rw [hb]
  exact wrap b

/-- Its result at an element, from the bucket there. -/
theorem refTable_apply (a : FVec Ideal S32x16 .f32) (B : IVec S256x128 32) (r : Fin 1280) (k : Fin 2048) (b : Fin 32)
    (hb : ∀ h : 512 ≤ r.val ∧ r.val < 768,
      B (ix2 (⟨r.val - 512, by omega⟩ : Fin 256) (⟨k.val % 128, by omega⟩ : Fin 128)) = BitVec.ofNat 32 b.val) :
    refTable a B (ix2 r k) = if 512 ≤ r.val ∧ r.val < 768 then
      (a (ix2 b (⟨k.val / 128, by omega⟩ : Fin 16)) - a (ix2 15 (⟨k.val / 128, by omega⟩ : Fin 16)))
        * Ideal.ofBits .f32 0x3FB8AA3B#32 else 0 := by
  unfold refTable
  pointwise
  by_cases h : 512 ≤ r.val ∧ r.val < 768
  · rw [dif_pos (by omega), if_pos h, gather_apply]
    refine congrArg (fun z => (a (ix2 z _) - _) * _) (Fin.ext ?_)
    exact (congrArg (fun z : BitVec 32 => min z.toInt.toNat 31) (row_apply B _ _ b (hb h))).trans (nat b)
  · rw [dif_neg (by omega), if_neg h]
    show (((0#32 : BitVec 32).toInt : ℝ) : EReal) = 0
    simp

end Reference

/-- The kernel's result array is the reference's on tables that agree. -/
theorem kernel_eq_reference
    (m : (ℓ : Loc Kernel5Ideal.nD Kernel5Ideal.τ Kernel5Ideal.sig) → Buf (Elt Ideal) ℓ)
    (m' : (ℓ : Loc Reference5Ideal.nD Reference5Ideal.τ Reference5Ideal.sig) → Buf (Elt Ideal) ℓ) (c : Dev Kernel5Ideal.nD)
    (h0 : m' ((c.tc : Thread Reference5Ideal.nD Reference5Ideal.τ).loc Reference5Ideal.main_arg0)
      = m ((c.tc : Thread Kernel5Ideal.nD Kernel5Ideal.τ).loc Kernel5Ideal.main_arg0)) :
    Reference5Ideal.Value.res_out0 m' c = (Kernel5Ideal.Gen.dats m 0 c).arrAt 1 Kernel5Ideal.cfg0.N := by
  have key : ∀ (r : Fin 1280) (k : Fin 2048), Reference5Ideal.Value.res_out0 m' c (ix2 r k) = G m c (ix2 r k) := by
    intro r k
    rw [res_eq, h0]
    show _ = entry _ r k
    unfold entry
    by_cases h : 512 ≤ r.val ∧ r.val < 768
    · obtain ⟨b, hk, hr⟩ := pay3_apply (⟨r.val - 512, by omega⟩ : Fin 256) (⟨k.val % 128, by omega⟩ : Fin 128)
      rw [refTable_apply _ _ r k b fun _ => by rw [refBucket_apply, refDist_apply, hr], if_pos h, dif_pos h,
        cols_apply _ _ _ b hk]
    · rw [refTable_apply _ _ r k 0 fun h' => absurd h' h, if_neg h, dif_neg h]
  rw [final]
  refine funext fun (i : Kernel5Ideal.S1280x2048.Idx) => ?_
  exact (congrArg (Reference5Ideal.Value.res_out0 m' c) (eq_ix2 i)).trans (key (i 0) (i 1))

/-- The claim: on tables that agree both programs end with the same result. -/
theorem algebraic : algebraic_Kernel5Ideal_Reference5Ideal := by
  intro m g m' g' _ hargs
  refine ⟨fun c => (Kernel5Ideal.Gen.dats m 0 c).arrAt 1 Kernel5Ideal.cfg0.N, Kernel5Ideal.Value.run_blocks m g, ?_⟩
  refine (θ_run Reference5Ideal.defs _ _).mono (fun r h c => ?_) (Reference5Ideal.Value.run m' g')
  exact ⟨(h c).1.trans (kernel_eq_reference m m' c (hargs c)), (h c).2⟩

end Cert.BiasTable

end
-- ==== Proof.Post.lean ====
/- The mixers' output projection, the gated addition and the last normalisation: the kernel's result and the reference's
   are one function of the argument arrays over the extended reals. Both are read at an index (r, k) as
   `normRow (gateRow (mixRow …))`, a function of row r of the activations and of the weights: the kernel block by block, its
   product with `w_out` in two halves (`out`, `final`), the reference from its composed term, its product one sum over both
   mixers' outputs (`res_apply`). `kernel_eq_reference` is the equality. -/
module

public import proofs.«01_k».proof.Proof.Gen.Kernel2Ideal.Value
public import proofs.«01_k».proof.Proof.Gen.Reference2Ideal.Run
public import proofs.«01_k».proof.Defs
public import Idealize.ShloMosaic.Lib.Pointwise

@[expose] public section

noncomputable section

namespace Cert.Post

open Idealize.ShloMosaic Idealize.ShloMosaic.TcCoe Idealize.SL.Sem

/-! ## One row of the result -/

/-- The residual row plus the two mixers' rows through their halves `u`, `v` of the output projection. -/
def mixRow (x : Fin 2048 → EReal) (a b : Fin 1024 → EReal) (u v : Fin 1024 → Fin 2048 → EReal) (k : Fin 2048) : EReal :=
  x k + ((∑ j, a j * u j k) + ∑ j, b j * v j k)

/-- A row `h` plus the projected per-layer embedding, each entry times the logistic function of `h` through `gw`. -/
def gateRow (h : Fin 2048 → EReal) (p : Fin 256 → EReal) (pw : Fin 256 → Fin 2048 → EReal)
    (gw : Fin 2048 → Fin 2048 → EReal) (k : Fin 2048) : EReal :=
  h k + (∑ j, p j * pw j k) * Ideal.div 1 (1 + Ideal.exp (-(∑ j, h j * gw j k)))

/-- A row over the root of its mean square plus a millionth, times the gains `g`. -/
def normRow (y : Fin 2048 → EReal) (g : Fin 2048 → EReal) (k : Fin 2048) : EReal :=
  y k * Ideal.rsqrt (Ideal.div (∑ j, y j * y j) (Ideal.ofBits .f32 0x45000000#32) + Ideal.ofBits .f32 0x358637BD#32) * g k

section Kernel
open Cert.Kernel2Ideal Cert.Kernel2Ideal.Gen Cert.Kernel2Ideal.Value

/-- The stream before the last norm at one element, from the blocks' rows. -/
theorem pay2_apply (P0 : Vec Ideal S512x2048 .f32) (P1 : Vec Ideal S512x1024 .bf16) (P2 : Vec Ideal S1024x2048 .bf16)
    (P3 : Vec Ideal S512x1024 .bf16) (P4 : Vec Ideal S1024x2048 .bf16) (P5 : Vec Ideal S512x256 .f32)
    (P6 : Vec Ideal S256x2048 .bf16) (P7 : Vec Ideal S2048x2048 .bf16) (r : Fin 512) (k : Fin 2048) :
    k0_pay2 P0 P1 P2 P3 P4 P5 P6 P7 (ix2 r k)
      = gateRow (mixRow (fun k => P0 (ix2 r k)) (fun j => P1 (ix2 r j)) (fun j => P3 (ix2 r j)) (fun j k => P2 (ix2 j k))
          fun j k => P4 (ix2 j k)) (fun j => P5 (ix2 r j)) (fun j k => P6 (ix2 j k)) (fun j k => P7 (ix2 j k)) k := by
  pointwise [k0_pay2, gateRow, mixRow]
  simp only [sub_eq_add_neg, zero_add, add_assoc]

/-- The stored payload at one element: the normalised row. -/
theorem pay1_apply (P0 : Vec Ideal S512x2048 .f32) (P1 : Vec Ideal S512x1024 .bf16) (P2 : Vec Ideal S1024x2048 .bf16)
    (P3 : Vec Ideal S512x1024 .bf16) (P4 : Vec Ideal S1024x2048 .bf16) (P5 : Vec Ideal S512x256 .f32)
    (P6 : Vec Ideal S256x2048 .bf16) (P7 : Vec Ideal S2048x2048 .bf16) (g : Vec Ideal S1x2048 .f32)
    (r : Fin 512) (k : Fin 2048) :
    k0_pay1 (k0_pay2 P0 P1 P2 P3 P4 P5 P6 P7) (k0_pay3 P0 P1 P2 P3 P4 P5 P6 P7) g (ix2 r k)
      = normRow (fun j => k0_pay2 P0 P1 P2 P3 P4 P5 P6 P7 (ix2 r j)) (fun j => g (ix2 0 j)) k := by
  unfold k0_pay3
  generalize k0_pay2 P0 P1 P2 P3 P4 P5 P6 P7 = y
  pointwise [k0_pay1, normRow]

/-- A pair of zeros is the constant function zero. -/
theorem hz : (![0, 0] : Fin 2 → Nat) = fun _ => 0 := funext fun a => by fin_cases a <;> rfl

/-- What the body leaves in the output's block, at one element: the row of the result from the blocks' rows. -/
theorem out_apply (x0 : Vec Ideal S512x2048 .f32) (x1 x2 : Vec Ideal S512x1024 .bf16) (x3 : Vec Ideal S512x256 .f32)
    (x4 x5 : Vec Ideal S1024x2048 .bf16) (x6 : Vec Ideal S256x2048 .bf16) (x7 : Vec Ideal S2048x2048 .bf16)
    (x8 : Vec Ideal S1x2048 .f32) (r : Fin 512) (k : Fin 2048) :
    out0_9 x0 x1 x2 x3 x4 x5 x6 x7 x8 (ix2 r k)
      = normRow (gateRow (mixRow (fun k => x0 (ix2 r k)) (fun j => x1 (ix2 r j)) (fun j => x2 (ix2 r j))
          (fun j k => x4 (ix2 j k)) fun j k => x5 (ix2 j k)) (fun j => x3 (ix2 r j)) (fun j k => x6 (ix2 j k))
          fun j k => x7 (ix2 j k)) (fun j => x8 (ix2 0 j)) k := by
  unfold out0_9
  rw [View.canon_unit_zero hz]
  rw [View.ld_unit_zero hz, View.ld_unit_zero hz, View.ld_unit_zero hz, View.ld_unit_zero hz, View.ld_unit_zero hz,
    View.ld_unit_zero hz, View.ld_unit_zero hz, View.ld_unit_zero hz, View.ld_unit_zero hz]
  rw [pay1_apply]
  simp only [pay2_apply]

variable (m : (ℓ : Loc nD τ sig) → Buf (Elt Ideal) ℓ)

/-- The gains' reshape to one row keeps their order. -/
theorem cast_apply (a : Vec Ideal S2048 .f32) (j : Fin 2048) :
    shapeCast S1x2048 a shapeCasts_S2048_S1x2048 (ix2 0 j) = a (ix1 j) := by
  pointwise

/-- The weights the region reads are the launched ones: the host's rounding is the identity over the extended reals. -/
theorem V_main_v0 (c : Dev nD) : V m c main_v0 = m ((c : Thread nD τ).loc main_arg4) := by
  unfold V hostOps0; after_results_simp <;> rfl
/-- The same of the embedding's weights. -/
theorem V_main_v1 (c : Dev nD) : V m c main_v1 = m ((c : Thread nD τ).loc main_arg5) := by
  unfold V hostOps0; after_results_simp <;> rfl
/-- The same of the gate's weights. -/
theorem V_main_v2 (c : Dev nD) : V m c main_v2 = m ((c : Thread nD τ).loc main_arg6) := by
  unfold V hostOps0; after_results_simp <;> rfl
/-- The last norm's gains as the region reads them: one row. -/
theorem V_main_v3 (c : Dev nD) (j : Fin 2048) :
    V m c main_v3 (ix2 0 j) = m ((c : Thread nD τ).loc main_arg7) (ix1 j) := by
  have h : V m c main_v3 = shapeCast S1x2048 (m ((c : Thread nD τ).loc main_arg7)) shapeCasts_S2048_S1x2048 := by
    unfold V hostOps0; after_results_simp <;> rfl
  rw [h, cast_apply]

/-- Each window's block index at point `t`: the row windows and the result move with `t`, the weights stay. -/
theorem idx : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = 1 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = t.val ∧ win0_9.index t 1 = 0) :=
  (by decide +kernel : ∀ t : Fin grid0.N, _)

/-- The result array at row `r`, column `k`, from the argument arrays. -/
def out (m : (ℓ : Loc nD τ sig) → Buf (Elt Ideal) ℓ) (c : Dev nD) (r : Fin 8192) (k : Fin 2048) : EReal :=
  normRow (gateRow (mixRow (fun k => V m c main_arg0 (ix2 r k)) (fun j => V m c main_arg1 (ix2 r j))
      (fun j => V m c main_arg2 (ix2 r j))
      (fun j k => V m c main_v0 (ix2 (⟨j.val, by omega⟩ : Fin 2048) k))
      (fun j k => V m c main_v0 (ix2 (⟨1024 + j.val, by omega⟩ : Fin 2048) k)))
    (fun j => V m c main_arg3 (ix2 r j)) (fun j k => V m c main_v1 (ix2 j k)) fun j k => V m c main_v2 (ix2 j k))
    (fun j => V m c main_v3 (ix2 0 j)) k

/-- The result array as one function of the argument arrays. -/
def G (m : (ℓ : Loc nD τ sig) → Buf (Elt Ideal) ℓ) (c : Dev nD) : Vec Ideal S8192x2048 .f32 := fun i => out m c (i 0) (i 1)

/-- Row `r` of point `t`'s blocks is row `512 t + r` of the arrays. -/
def row (t : Fin cfg0.N) (r : Fin 512) : Fin 8192 := ⟨t.val * 512 + r.val, by have := t.isLt; have : cfg0.N = 16 := rfl; omega⟩

/-- The residual stream's block. -/
theorem iblk0 (c : Dev nD) (t : Fin cfg0.N) (r : Fin 512) (k : Fin 2048) :
    iblk m c 0 t (ix2 r k) = V m c main_arg0 (ix2 (row t r) k) := by
  have e := idx t
  refine congrArg (V m c main_arg0) (funext fun a => Fin.ext ?_)
  match a with
  | ⟨0, _⟩ => show win0_0.index t 0 * 512 + 1 * r.val = t.val * 512 + r.val; omega
  | ⟨1, _⟩ => show win0_0.index t 1 * 2048 + 1 * k.val = k.val; omega

/-- The first mixer's block. -/
theorem iblk1 (c : Dev nD) (t : Fin cfg0.N) (r : Fin 512) (k : Fin 1024) :
    iblk m c 1 t (ix2 r k) = V m c main_arg1 (ix2 (row t r) k) := by
  have e := idx t
  refine congrArg (V m c main_arg1) (funext fun a => Fin.ext ?_)
  match a with
  | ⟨0, _⟩ => show win0_1.index t 0 * 512 + 1 * r.val = t.val * 512 + r.val; omega
  | ⟨1, _⟩ => show win0_1.index t 1 * 1024 + 1 * k.val = k.val; omega

/-- The second mixer's block. -/
theorem iblk2 (c : Dev nD) (t : Fin cfg0.N) (r : Fin 512) (k : Fin 1024) :
    iblk m c 2 t (ix2 r k) = V m c main_arg2 (ix2 (row t r) k) := by
  have e := idx t
  refine congrArg (V m c main_arg2) (funext fun a => Fin.ext ?_)
  match a with
  | ⟨0, _⟩ => show win0_2.index t 0 * 512 + 1 * r.val = t.val * 512 + r.val; omega
  | ⟨1, _⟩ => show win0_2.index t 1 * 1024 + 1 * k.val = k.val; omega

/-- The embedding's block. -/
theorem iblk3 (c : Dev nD) (t : Fin cfg0.N) (r : Fin 512) (k : Fin 256) :
    iblk m c 3 t (ix2 r k) = V m c main_arg3 (ix2 (row t r) k) := by
  have e := idx t
  refine congrArg (V m c main_arg3) (funext fun a => Fin.ext ?_)
  match a with
  | ⟨0, _⟩ => show win0_3.index t 0 * 512 + 1 * r.val = t.val * 512 + r.val; omega
  | ⟨1, _⟩ => show win0_3.index t 1 * 256 + 1 * k.val = k.val; omega

/-- The upper half of the output projection. -/
theorem iblk4 (c : Dev nD) (t : Fin cfg0.N) (r : Fin 1024) (k : Fin 2048) :
    iblk m c 4 t (ix2 r k) = V m c main_v0 (ix2 (⟨r.val, by omega⟩ : Fin 2048) k) := by
  have e := idx t
  refine congrArg (V m c main_v0) (funext fun a => Fin.ext ?_)
  match a with
  | ⟨0, _⟩ => show win0_4.index t 0 * 1024 + 1 * r.val = r.val; omega
  | ⟨1, _⟩ => show win0_4.index t 1 * 2048 + 1 * k.val = k.val; omega

/-- Its lower half. -/
theorem iblk5 (c : Dev nD) (t : Fin cfg0.N) (r : Fin 1024) (k : Fin 2048) :
    iblk m c 5 t (ix2 r k) = V m c main_v0 (ix2 (⟨1024 + r.val, by omega⟩ : Fin 2048) k) := by
  have e := idx t
  refine congrArg (V m c main_v0) (funext fun a => Fin.ext ?_)
  match a with
  | ⟨0, _⟩ => show win0_5.index t 0 * 1024 + 1 * r.val = 1024 + r.val; omega
  | ⟨1, _⟩ => show win0_5.index t 1 * 2048 + 1 * k.val = k.val; omega

/-- The embedding's weights, whole. -/
theorem iblk6 (c : Dev nD) (t : Fin cfg0.N) (r : Fin 256) (k : Fin 2048) :
    iblk m c 6 t (ix2 r k) = V m c main_v1 (ix2 r k) := by
  have e := idx t
  refine congrArg (V m c main_v1) (funext fun a => Fin.ext ?_)
  match a with
  | ⟨0, _⟩ => show win0_6.index t 0 * 256 + 1 * r.val = r.val; omega
  | ⟨1, _⟩ => show win0_6.index t 1 * 2048 + 1 * k.val = k.val; omega

/-- The gate's weights, whole. -/
theorem iblk7 (c : Dev nD) (t : Fin cfg0.N) (r : Fin 2048) (k : Fin 2048) :
    iblk m c 7 t (ix2 r k) = V m c main_v2 (ix2 r k) := by
  have e := idx t
  refine congrArg (V m c main_v2) (funext fun a => Fin.ext ?_)
  match a with
  | ⟨0, _⟩ => show win0_7.index t 0 * 2048 + 1 * r.val = r.val; omega
  | ⟨1, _⟩ => show win0_7.index t 1 * 2048 + 1 * k.val = k.val; omega

/-- The gains, whole. -/
theorem iblk8 (c : Dev nD) (t : Fin cfg0.N) (r : Fin 1) (k : Fin 2048) :
    iblk m c 8 t (ix2 r k) = V m c main_v3 (ix2 r k) := by
  have e := idx t
  refine congrArg (V m c main_v3) (funext fun a => Fin.ext ?_)
  match a with
  | ⟨0, _⟩ => show win0_8.index t 0 * 1 + 1 * r.val = r.val; omega
  | ⟨1, _⟩ => show win0_8.index t 1 * 2048 + 1 * k.val = k.val; omega

/-- Where the result's block at point `t` lies in the array. -/
theorem emb9 (t : Fin cfg0.N) (r : Fin 512) (k : Fin 2048) :
    ((cfg0.win 9).blk t).view.emb (ix2 r k : S512x2048.Idx) = ix2 (row t r) k := by
  have e := idx t
  refine funext fun a => Fin.ext ?_
  match a with
  | ⟨0, _⟩ => show win0_9.index t 0 * 512 + 1 * r.val = t.val * 512 + r.val; omega
  | ⟨1, _⟩ => show win0_9.index t 1 * 2048 + 1 * k.val = k.val; omega

/-- What point `t` writes back is its block of `G`. -/
theorem flushed_eq (c : Dev nD) (t : Fin cfg0.N) :
    (dats m 0 c).flushed 9 t = ((cfg0.win 9).blk t).view.read (Elt Ideal) (G m c) := by
  have key : ∀ (r : Fin 512) (k : Fin 2048), out0_9 (iblk m c 0 t) (iblk m c 1 t) (iblk m c 2 t) (iblk m c 3 t)
      (iblk m c 4 t) (iblk m c 5 t) (iblk m c 6 t) (iblk m c 7 t) (iblk m c 8 t) (ix2 r k) = G m c (ix2 (row t r) k) := by
    intro r k
    rw [out_apply]
    simp only [iblk0, iblk1, iblk2, iblk3, iblk4, iblk5, iblk6, iblk7, iblk8]
    rfl
  rw [flushed9]
  refine funext fun (y : S512x2048.Idx) => ?_
  have hy : ((cfg0.win 9).blk t).view.emb y = ix2 (row t (y 0)) (y 1) :=
    (congrArg _ (eq_ix2 y)).trans (emb9 t (y 0) (y 1))
  exact (congrArg _ (eq_ix2 y)).trans ((key (y 0) (y 1)).trans (congrArg (G m c) hy.symm))

/-- Every element of the result is in the block of the point of its row. -/
theorem covered (i : S8192x2048.Idx) :
    ∃ t : Fin cfg0.N, (cfg0.win 9).flush t = true ∧ i ∈ ((cfg0.win 9).blk t).view.set := by
  have hi : (i 0).val < 8192 := (i 0).isLt
  obtain ⟨t, ht⟩ : ∃ t : Fin cfg0.N, t.val = (i 0).val / 512 :=
    ⟨⟨(i 0).val / 512, by have : cfg0.N = 16 := rfl; omega⟩, rfl⟩
  refine ⟨t, flush0_9 _, ?_⟩
  have h := ((cfg0.win 9).blk t).view.emb_mem_set (ix2 (⟨(i 0).val % 512, by omega⟩ : Fin 512) (i 1) : S512x2048.Idx)
  have he : i = ix2 (row t ⟨(i 0).val % 512, by omega⟩) (i 1) :=
    (eq_ix2 i).trans (congrArg (fun q : Fin 8192 => (ix2 q (i 1) : S8192x2048.Idx)) (Fin.ext (by
      show (i 0).val = t.val * 512 + (i 0).val % 512; omega)))
  exact (congrArg (fun q => q ∈ ((cfg0.win 9).blk t).view.set) (he.trans (emb9 t _ _).symm)).mpr h

/-- The result array after the run. -/
theorem final (c : Dev nD) : (dats m 0 c).arrAt 9 cfg0.N = G m c :=
  (dats m 0 c).arrAt_eq_of_cover 9 (G m c) (fun t _ => flushed_eq m c t) covered

end Kernel

section Reference
open Cert.Reference2Ideal Cert.Reference2Ideal.Gen Cert.Reference2Ideal.Value

/-- The reference's residual stream after the output projection. -/
def refMix (a0 : FVec Ideal S8192x2048 .f32) (a1 a2 : FVec Ideal S8192x1024 .bf16) (a4 : FVec Ideal S2048x2048 .f32) :
    FVec Ideal S8192x2048 .f32 :=
  addf a0 (Host.dotGeneral dot_S8192x2048_S2048x2048_S8192x2048_1_0_0_1_n_n none (extf .f32 (concatenate S8192x2048 1 [⟨S8192x1024, a1⟩, ⟨S8192x1024, a2⟩] concatenates_S8192x1024_S8192x1024_S8192x2048_d1) bitsLt_bf16_f32) a4)

/-- The reference's stream after the gated addition, from the stream `h` before it. -/
def refGate (h : FVec Ideal S8192x2048 .f32) (a3 : FVec Ideal S8192x256 .f32) (a5 : FVec Ideal S256x2048 .f32)
    (a6 : FVec Ideal S2048x2048 .f32) : FVec Ideal S8192x2048 .f32 :=
  addf h (mulf (Host.dotGeneral dot_S8192x256_S256x2048_S8192x2048_1_0_0_1_n_n none a3 a5) (Host.divf (broadcastInDim S8192x2048 ![] bcast_S_S8192x2048 (constant S_ .f32 0x3F800000#32)) (addf (broadcastInDim S8192x2048 ![] bcast_S_S8192x2048 (constant S_ .f32 0x3F800000#32)) (Host.exp (Host.negf (Host.dotGeneral dot_S8192x2048_S2048x2048_S8192x2048_1_0_0_1_n_n none h a6))))))

/-- The reference's first stream at an element. -/
theorem refMix_apply (a0 : FVec Ideal S8192x2048 .f32) (a1 a2 : FVec Ideal S8192x1024 .bf16)
    (a4 : FVec Ideal S2048x2048 .f32) (r : Fin 8192) (k : Fin 2048) :
    refMix a0 a1 a2 a4 (ix2 r k) = mixRow (fun k => a0 (ix2 r k)) (fun j => a1 (ix2 r j)) (fun j => a2 (ix2 r j))
      (fun j k => a4 (ix2 (⟨j.val, by omega⟩ : Fin 2048) k)) (fun j k => a4 (ix2 (⟨1024 + j.val, by omega⟩ : Fin 2048) k)) k := by
  pointwise [refMix, mixRow]

/-- Its second stream at an element. -/
theorem refGate_apply (h : FVec Ideal S8192x2048 .f32) (a3 : FVec Ideal S8192x256 .f32) (a5 : FVec Ideal S256x2048 .f32)
    (a6 : FVec Ideal S2048x2048 .f32) (r : Fin 8192) (k : Fin 2048) :
    refGate h a3 a5 a6 (ix2 r k) = gateRow (fun k => h (ix2 r k)) (fun j => a3 (ix2 r j)) (fun j k => a5 (ix2 j k))
      (fun j k => a6 (ix2 j k)) k := by
  pointwise [refGate, gateRow]

/-- The reference's result from the stream `y` before the last normalisation. -/
def refNorm (y : FVec Ideal S8192x2048 .f32) (a7 : FVec Ideal S2048 .f32) : FVec Ideal S8192x2048 .f32 :=
  mulf (mulf y (broadcastInDim S8192x2048 ![0, 1] bcast_S8192x1_S8192x2048_0_1 (Host.rsqrt (addf (Host.divf (broadcastInDim S8192x1 ![0] bcast_S8192_S8192x1_0 (Host.reduceAdd (mulf y y) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 a7))

/-- Its result at an element. -/
theorem refNorm_apply (y : FVec Ideal S8192x2048 .f32) (a7 : FVec Ideal S2048 .f32) (r : Fin 8192) (k : Fin 2048) :
    refNorm y a7 (ix2 r k) = normRow (fun j => y (ix2 r j)) (fun j => a7 (ix1 j)) k := by
  pointwise [refNorm, normRow]

/-- The reference's result is the three steps one after the other. -/
theorem res_eq (m : (ℓ : Loc nD τ sig) → Buf (Elt Ideal) ℓ) (c : Dev nD) : res_out0 m c
    = refNorm (refGate (refMix (m ((c.tc : Thread nD τ).loc main_arg0)) (m ((c.tc : Thread nD τ).loc main_arg1))
        (m ((c.tc : Thread nD τ).loc main_arg2)) (m ((c.tc : Thread nD τ).loc main_arg4)))
        (m ((c.tc : Thread nD τ).loc main_arg3)) (m ((c.tc : Thread nD τ).loc main_arg5))
        (m ((c.tc : Thread nD τ).loc main_arg6))) (m ((c.tc : Thread nD τ).loc main_arg7)) := rfl

/-- The reference's result at an element, from the argument arrays. -/
theorem res_apply (m : (ℓ : Loc nD τ sig) → Buf (Elt Ideal) ℓ) (c : Dev nD) (r : Fin 8192) (k : Fin 2048) :
    res_out0 m c (ix2 r k) = normRow (gateRow (mixRow
        (fun k => m ((c.tc : Thread nD τ).loc main_arg0) (ix2 r k)) (fun j => m ((c.tc : Thread nD τ).loc main_arg1) (ix2 r j))
        (fun j => m ((c.tc : Thread nD τ).loc main_arg2) (ix2 r j))
        (fun j k => m ((c.tc : Thread nD τ).loc main_arg4) (ix2 (⟨j.val, by omega⟩ : Fin 2048) k))
        (fun j k => m ((c.tc : Thread nD τ).loc main_arg4) (ix2 (⟨1024 + j.val, by omega⟩ : Fin 2048) k)))
      (fun j => m ((c.tc : Thread nD τ).loc main_arg3) (ix2 r j)) (fun j k => m ((c.tc : Thread nD τ).loc main_arg5) (ix2 j k))
      fun j k => m ((c.tc : Thread nD τ).loc main_arg6) (ix2 j k)) (fun j => m ((c.tc : Thread nD τ).loc main_arg7) (ix1 j)) k := by
  rw [res_eq, refNorm_apply]
  simp only [refGate_apply, refMix_apply]

end Reference

/-- The kernel's result array is the reference's on arguments that agree. -/
theorem kernel_eq_reference
    (m : (ℓ : Loc Kernel2Ideal.nD Kernel2Ideal.τ Kernel2Ideal.sig) → Buf (Elt Ideal) ℓ)
    (m' : (ℓ : Loc Reference2Ideal.nD Reference2Ideal.τ Reference2Ideal.sig) → Buf (Elt Ideal) ℓ) (c : Dev Kernel2Ideal.nD)
    (h0 : m' ((c.tc : Thread Reference2Ideal.nD Reference2Ideal.τ).loc Reference2Ideal.main_arg0) = m ((c.tc : Thread Kernel2Ideal.nD Kernel2Ideal.τ).loc Kernel2Ideal.main_arg0))
    (h1 : m' ((c.tc : Thread Reference2Ideal.nD Reference2Ideal.τ).loc Reference2Ideal.main_arg1) = m ((c.tc : Thread Kernel2Ideal.nD Kernel2Ideal.τ).loc Kernel2Ideal.main_arg1))
    (h2 : m' ((c.tc : Thread Reference2Ideal.nD Reference2Ideal.τ).loc Reference2Ideal.main_arg2) = m ((c.tc : Thread Kernel2Ideal.nD Kernel2Ideal.τ).loc Kernel2Ideal.main_arg2))
    (h3 : m' ((c.tc : Thread Reference2Ideal.nD Reference2Ideal.τ).loc Reference2Ideal.main_arg3) = m ((c.tc : Thread Kernel2Ideal.nD Kernel2Ideal.τ).loc Kernel2Ideal.main_arg3))
    (h4 : m' ((c.tc : Thread Reference2Ideal.nD Reference2Ideal.τ).loc Reference2Ideal.main_arg4) = m ((c.tc : Thread Kernel2Ideal.nD Kernel2Ideal.τ).loc Kernel2Ideal.main_arg4))
    (h5 : m' ((c.tc : Thread Reference2Ideal.nD Reference2Ideal.τ).loc Reference2Ideal.main_arg5) = m ((c.tc : Thread Kernel2Ideal.nD Kernel2Ideal.τ).loc Kernel2Ideal.main_arg5))
    (h6 : m' ((c.tc : Thread Reference2Ideal.nD Reference2Ideal.τ).loc Reference2Ideal.main_arg6) = m ((c.tc : Thread Kernel2Ideal.nD Kernel2Ideal.τ).loc Kernel2Ideal.main_arg6))
    (h7 : m' ((c.tc : Thread Reference2Ideal.nD Reference2Ideal.τ).loc Reference2Ideal.main_arg7) = m ((c.tc : Thread Kernel2Ideal.nD Kernel2Ideal.τ).loc Kernel2Ideal.main_arg7)) :
    Reference2Ideal.Value.res_out0 m' c = (Kernel2Ideal.Gen.dats m 0 c).arrAt 9 Kernel2Ideal.cfg0.N := by
  have key : ∀ (r : Fin 8192) (k : Fin 2048), Reference2Ideal.Value.res_out0 m' c (ix2 r k) = out m c r k := by
    intro r k
    rw [res_apply, h0, h1, h2, h3, h4, h5, h6, h7]
    unfold out
    rw [Kernel2Ideal.Gen.V_main_arg0 m c, Kernel2Ideal.Gen.V_main_arg1 m c, Kernel2Ideal.Gen.V_main_arg2 m c,
      Kernel2Ideal.Gen.V_main_arg3 m c, V_main_v0 m c, V_main_v1 m c, V_main_v2 m c, funext (V_main_v3 m c)]
  rw [final]
  refine funext fun (i : Kernel2Ideal.S8192x2048.Idx) => ?_
  exact (congrArg (Reference2Ideal.Value.res_out0 m' c) (eq_ix2 i)).trans (key (i 0) (i 1))

/-- The claim: on arguments that agree both programs end with the same result. -/
theorem algebraic : algebraic_Kernel2Ideal_Reference2Ideal := by
  intro m g m' g' _ hargs
  refine ⟨fun c => (Kernel2Ideal.Gen.dats m 0 c).arrAt 9 Kernel2Ideal.cfg0.N, Kernel2Ideal.Value.run_blocks m g, ?_⟩
  refine (θ_run Reference2Ideal.defs _ _).mono (fun r h c => ?_) (Reference2Ideal.Value.run m' g')
  obtain ⟨h0, h1, h2, h3, h4, h5, h6, h7⟩ := hargs c
  exact ⟨(h c).1.trans (kernel_eq_reference m m' c h0 h1 h2 h3 h4 h5 h6 h7), (h c).2⟩

end Cert.Post

end
-- ==== Proof.Inproj.lean ====
/- The mixers' input projection: the kernel's three results and the reference's are the same functions of the argument
   arrays over the extended reals. The kernel's body stores the projection of its rows in twelve groups of columns, in an
   order of its own (`src`), and reads two of them back to normalise them (`out6_apply`, `out7_apply`, `out8_apply`); the
   reference takes slices of one product and glues them (`refCat_apply`, `refCkv_apply`, `refKid_apply`). Both are read at an
   index through `proj`, one entry of a normalised row times a column of the weights. -/
module

public import proofs.«01_k».proof.Proof.Gen.Kernel3Ideal.Value
public import proofs.«01_k».proof.Proof.Gen.Reference3Ideal.Run
public import proofs.«01_k».proof.Defs
public import Idealize.ShloMosaic.Lib.Pipeline.ValueKit
public import Idealize.ShloMosaic.Lib.Pipeline.ValueKit.Tiles
public import Idealize.ShloMosaic.Lib.Pointwise

@[expose] public section

noncomputable section

namespace Cert.Inproj

open Idealize.ShloMosaic Idealize.ShloMosaic.TcCoe Idealize.SL.Sem

/-- A row over the root of its mean square plus a millionth, times the gains `g`. The mean divides by `n`. -/
def normRow {w : ℕ} (n : BitVec 32) (y g : Fin w → EReal) (k : Fin w) : EReal :=
  y k * Ideal.rsqrt (Ideal.div (∑ j, y j * y j) (Ideal.ofBits .f32 n) + Ideal.ofBits .f32 0x358637BD#32) * g k

/-- The column of the projection's weights which gives column `k` of the result. -/
def src (k : Fin 6016) : Fin 5968 :=
  if h : k.val < 3072 then ⟨k.val, by omega⟩
  else if h : k.val < 4096 then ⟨k.val + 128, by omega⟩
  else if h : k.val < 5120 then ⟨k.val + 848, by omega⟩
  else if h : k.val < 5376 then ⟨k.val - 512, by omega⟩
  else if h : k.val < 5760 then ⟨k.val - 1152, by omega⟩
  else if h : k.val < 5888 then ⟨k.val - 2688, by omega⟩
  else ⟨k.val - 1024, by omega⟩

/-- One entry of the projection of the normalised row `x`. -/
def proj (x g : Fin 2048 → EReal) (w : Fin 2048 → Fin 5968 → EReal) (k : Fin 5968) : EReal :=
  ∑ j, normRow 0x45000000#32 x g j * w j k

section Kernel
open Cert.Kernel3Ideal Cert.Kernel3Ideal.Gen Cert.Kernel3Ideal.Value

/-- The normalised row, which every product of the body takes. -/
theorem pay2_apply (x : Vec Ideal S256x2048 .f32) (g : Vec Ideal S1x2048 .f32) (r : Fin 256) (k : Fin 2048) :
    k0_pay2 x g (ix2 r k) = normRow 0x45000000#32 (fun j => x (ix2 r j)) (fun j => g (ix2 0 j)) k := by
  pointwise [k0_pay2, normRow]

/-- The payload of one group of columns at one element. -/
theorem pay3_apply (x : Vec Ideal S256x2048 .f32) (g : Vec Ideal S1x2048 .f32) (w : Vec Ideal S2048x768 .bf16)
    (r : Fin 256) (k : Fin 768) :
    k0_pay3 x g w (ix2 r k) = ∑ j, normRow 0x45000000#32 (fun j => x (ix2 r j)) (fun j => g (ix2 0 j)) j * w (ix2 j k) := by
  pointwise [k0_pay3, pay2_apply]

/-- The payload of one group of columns at one element. -/
theorem pay4_apply (x : Vec Ideal S256x2048 .f32) (g : Vec Ideal S1x2048 .f32) (w : Vec Ideal S2048x768 .bf16)
    (r : Fin 256) (k : Fin 768) :
    k0_pay4 x g w (ix2 r k) = ∑ j, normRow 0x45000000#32 (fun j => x (ix2 r j)) (fun j => g (ix2 0 j)) j * w (ix2 j k) := by
  pointwise [k0_pay4, pay2_apply]

/-- The payload of one group of columns at one element. -/
theorem pay5_apply (x : Vec Ideal S256x2048 .f32) (g : Vec Ideal S1x2048 .f32) (w : Vec Ideal S2048x768 .bf16)
    (r : Fin 256) (k : Fin 768) :
    k0_pay5 x g w (ix2 r k) = ∑ j, normRow 0x45000000#32 (fun j => x (ix2 r j)) (fun j => g (ix2 0 j)) j * w (ix2 j k) := by
  pointwise [k0_pay5, pay2_apply]

/-- The payload of one group of columns at one element. -/
theorem pay6_apply (x : Vec Ideal S256x2048 .f32) (g : Vec Ideal S1x2048 .f32) (w : Vec Ideal S2048x768 .bf16)
    (r : Fin 256) (k : Fin 768) :
    k0_pay6 x g w (ix2 r k) = ∑ j, normRow 0x45000000#32 (fun j => x (ix2 r j)) (fun j => g (ix2 0 j)) j * w (ix2 j k) := by
  pointwise [k0_pay6, pay2_apply]

/-- The payload of one group of columns at one element. -/
theorem pay7_apply (x : Vec Ideal S256x2048 .f32) (g : Vec Ideal S1x2048 .f32) (w : Vec Ideal S2048x768 .bf16)
    (r : Fin 256) (k : Fin 768) :
    k0_pay7 (k0_pay2 x g) w (ix2 r k)
      = ∑ j, normRow 0x45000000#32 (fun j => x (ix2 r j)) (fun j => g (ix2 0 j)) j * w (ix2 j k) := by
  pointwise [k0_pay7, pay2_apply]

/-- The payload of one group of columns at one element. -/
theorem pay8_apply (x : Vec Ideal S256x2048 .f32) (g : Vec Ideal S1x2048 .f32) (w : Vec Ideal S2048x256 .bf16)
    (r : Fin 256) (k : Fin 256) :
    k0_pay8 (k0_pay2 x g) w (ix2 r k)
      = ∑ j, normRow 0x45000000#32 (fun j => x (ix2 r j)) (fun j => g (ix2 0 j)) j * w (ix2 j k) := by
  pointwise [k0_pay8, pay2_apply]

/-- The payload of one group of columns at one element. -/
theorem pay9_apply (x : Vec Ideal S256x2048 .f32) (g : Vec Ideal S1x2048 .f32) (w : Vec Ideal S2048x768 .bf16)
    (r : Fin 256) (k : Fin 768) :
    k0_pay9 (k0_pay2 x g) w (ix2 r k)
      = ∑ j, normRow 0x45000000#32 (fun j => x (ix2 r j)) (fun j => g (ix2 0 j)) j * w (ix2 j k) := by
  pointwise [k0_pay9, pay2_apply]

/-- The payload of one group of columns at one element. -/
theorem pay10_apply (x : Vec Ideal S256x2048 .f32) (g : Vec Ideal S1x2048 .f32) (w : Vec Ideal S2048x256 .bf16)
    (r : Fin 256) (k : Fin 256) :
    k0_pay10 (k0_pay2 x g) w (ix2 r k)
      = ∑ j, normRow 0x45000000#32 (fun j => x (ix2 r j)) (fun j => g (ix2 0 j)) j * w (ix2 j k) := by
  pointwise [k0_pay10, pay2_apply]

/-- The payload of one group of columns at one element. -/
theorem pay11_apply (x : Vec Ideal S256x2048 .f32) (g : Vec Ideal S1x2048 .f32) (w : Vec Ideal S2048x256 .bf16)
    (r : Fin 256) (k : Fin 256) :
    k0_pay11 (k0_pay2 x g) w (ix2 r k)
      = ∑ j, normRow 0x45000000#32 (fun j => x (ix2 r j)) (fun j => g (ix2 0 j)) j * w (ix2 j k) := by
  pointwise [k0_pay11, pay2_apply]

/-- The payload of one group of columns at one element. -/
theorem pay12_apply (x : Vec Ideal S256x2048 .f32) (g : Vec Ideal S1x2048 .f32) (w : Vec Ideal S2048x384 .bf16)
    (r : Fin 256) (k : Fin 384) :
    k0_pay12 (k0_pay2 x g) w (ix2 r k)
      = ∑ j, normRow 0x45000000#32 (fun j => x (ix2 r j)) (fun j => g (ix2 0 j)) j * w (ix2 j k) := by
  pointwise [k0_pay12, pay2_apply]

/-- The payload of one group of columns at one element. -/
theorem pay13_apply (x : Vec Ideal S256x2048 .f32) (g : Vec Ideal S1x2048 .f32) (w : Vec Ideal S2048x128 .bf16)
    (r : Fin 256) (k : Fin 128) :
    k0_pay13 (k0_pay2 x g) w (ix2 r k)
      = ∑ j, normRow 0x45000000#32 (fun j => x (ix2 r j)) (fun j => g (ix2 0 j)) j * w (ix2 j k) := by
  pointwise [k0_pay13, pay2_apply]

/-- The payload of one group of columns at one element. -/
theorem pay14_apply (x : Vec Ideal S256x2048 .f32) (g : Vec Ideal S1x2048 .f32) (w : Vec Ideal S2048x128 .bf16)
    (r : Fin 256) (k : Fin 128) :
    k0_pay14 (k0_pay2 x g) w (ix2 r k)
      = ∑ j, normRow 0x45000000#32 (fun j => x (ix2 r j)) (fun j => g (ix2 0 j)) j * w (ix2 j k) := by
  pointwise [k0_pay14, pay2_apply]

/-- The normalised latent keys at one element. -/
theorem pay15_apply (x : Vec Ideal S256x256 .f32) (g : Vec Ideal S1x256 .f32) (r : Fin 256) (k : Fin 256) :
    k0_pay15 x g (ix2 r k) = normRow 0x43800000#32 (fun j => x (ix2 r j)) (fun j => g (ix2 0 j)) k := by
  pointwise [k0_pay15, normRow]

/-- The normalised index keys at one element. -/
theorem pay1_apply (x : Vec Ideal S256x64 .f32) (g : Vec Ideal S1x64 .f32) (r : Fin 256) (k : Fin 64) :
    k0_pay1 (k0_pay16 x) (k0_pay17 x) g (ix2 r k) = normRow 0x42800000#32 (fun j => x (ix2 r j)) (fun j => g (ix2 0 j)) k := by
  pointwise [k0_pay1, k0_pay16, k0_pay17, normRow]

/-- The columns of an array from `o` on, read at an entry. -/
theorem cols_apply {R n N : ℕ} {e : EltTy} (X : Vec Ideal (⟨2, ![R, N]⟩ : Shape) e) (o : ℕ) (inb) (j : Fin R) (q : Fin n)
    (k : Fin N) (hk : k.val = o + q.val) :
    View.ld X (Rect.unit ![0, o] ![R, n] inb) (ix2 j q) = X (ix2 j k) :=
  View.ld_unit_apply_of X _ _ _ _ _ fun a => match a with
    | ⟨0, _⟩ => (Nat.zero_add _).symm
    | ⟨1, _⟩ => hk

set_option maxHeartbeats 4000000 in
/-- What the body leaves in the block of the arranged projection, at one element. -/
theorem out6_apply (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x5968 .bf16) (harg3 : arg3.IsWhole) (arg4 : Memref sig .tc .vmem S2048x1024 .bf16) (harg4 : arg4.IsWhole) (arg5 : Memref sig .tc .vmem S1x256 .f32) (harg5 : arg5.IsWhole) (arg6 : Memref sig .tc .vmem S1x64 .f32) (harg6 : arg6.IsWhole) (arg7 : Memref sig .tc .vmem S256x6016 .f32) (harg7 : arg7.IsWhole) (arg8 : Memref sig .tc .vmem S256x256 .bf16) (harg8 : arg8.IsWhole) (arg9 : Memref sig .tc .vmem S256x64 .bf16) (harg9 : arg9.IsWhole)
    (x0 : Vec Ideal S256x2048 .f32) (x1 : Vec Ideal S1x2048 .f32) (x2 : Vec Ideal S2048x5968 .bf16)
    (x3 : Vec Ideal S2048x1024 .bf16) (x4 : Vec Ideal S1x256 .f32) (x5 : Vec Ideal S1x64 .f32)
    (h3 : ∀ (j : Fin 2048) (q : Fin 1024), x3 (ix2 j q) = x2 (ix2 j (⟨4944 + q.val, by omega⟩ : Fin 5968)))
    (r : Fin 256) (k : Fin 6016) :
    out0_A_6 c i arg1 harg1 arg2 harg2 arg3 harg3 arg4 harg4 arg5 harg5 arg6 harg6 arg7 harg7 arg8 harg8 arg9 harg9
        x0 x1 x2 x3 x4 x5 (ix2 r k)
      = proj (fun j => x0 (ix2 r j)) (fun j => x1 (ix2 0 j)) (fun j q => x2 (ix2 j q)) (src k) := by
  frame_out
  canon_tiles x h using (View.cover_of_tiledBy _ ![256, 128] (by sl_kernel_rfl) _)
  all_goals
    obtain ⟨r', k', hx, e1⟩ : ∃ r' k', x = ix2 r' k' ∧ (x 1).val = k'.val := ⟨x 0, x 1, eq_ix2 x, rfl⟩
    rw [e1] at h1 x1_lt
    subst hx
    obtain rfl : r = r' := Fin.ext h0
    clear h0 x0_lt e1
    change k.val = _ at h1
    first
      | rw [pay3_apply] | rw [pay4_apply] | rw [pay5_apply] | rw [pay6_apply] | rw [pay7_apply] | rw [pay8_apply]
      | rw [pay9_apply] | rw [pay10_apply] | rw [pay11_apply] | rw [pay12_apply] | rw [pay13_apply] | rw [pay14_apply]
    unfold proj
    refine Finset.sum_congr rfl fun j _ => congrArg (normRow _ _ _ j * ·) ?_
    first
      | exact cols_apply x2 _ _ j k' (src k) (by unfold src; split_ifs <;> dsimp only <;> omega)
      | exact (cols_apply x3 _ _ j k' ⟨k.val - 4096, by omega⟩ (by dsimp only; omega)).trans ((h3 j _).trans
          (congrArg (fun q => x2 (ix2 j q)) (Fin.ext (by unfold src; split_ifs <;> dsimp only <;> omega))))

set_option maxHeartbeats 4000000 in
/-- What it leaves in the block of the latent keys. -/
theorem out7_apply (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x5968 .bf16) (harg3 : arg3.IsWhole) (arg4 : Memref sig .tc .vmem S2048x1024 .bf16) (harg4 : arg4.IsWhole) (arg5 : Memref sig .tc .vmem S1x256 .f32) (harg5 : arg5.IsWhole) (arg6 : Memref sig .tc .vmem S1x64 .f32) (harg6 : arg6.IsWhole) (arg7 : Memref sig .tc .vmem S256x6016 .f32) (harg7 : arg7.IsWhole) (arg8 : Memref sig .tc .vmem S256x256 .bf16) (harg8 : arg8.IsWhole) (arg9 : Memref sig .tc .vmem S256x64 .bf16) (harg9 : arg9.IsWhole)
    (x0 : Vec Ideal S256x2048 .f32) (x1 : Vec Ideal S1x2048 .f32) (x2 : Vec Ideal S2048x5968 .bf16)
    (x3 : Vec Ideal S2048x1024 .bf16) (x4 : Vec Ideal S1x256 .f32) (x5 : Vec Ideal S1x64 .f32)
    (h3 : ∀ (j : Fin 2048) (q : Fin 1024), x3 (ix2 j q) = x2 (ix2 j (⟨4944 + q.val, by omega⟩ : Fin 5968)))
    (r : Fin 256) (k : Fin 256) :
    out0_A_7 c i arg1 harg1 arg2 harg2 arg3 harg3 arg4 harg4 arg5 harg5 arg6 harg6 arg7 harg7 arg8 harg8 arg9 harg9
        x0 x1 x2 x3 x4 x5 (ix2 r k)
      = normRow 0x43800000#32 (fun q : Fin 256 => proj (fun j => x0 (ix2 r j)) (fun j => x1 (ix2 0 j)) (fun j q => x2 (ix2 j q))
          ⟨4608 + q.val, by omega⟩) (fun q => x4 (ix2 0 q)) k := by
  frame_out
  rw [pay15_apply]
  refine congrArg (fun y => normRow _ y _ k) (funext fun q => ?_)
  rw [View.readCov_eq_canon_ld _ _ _ (View.cover_of_tiledBy _ ![256, 128] (by sl_kernel_rfl))]
  refine (cols_apply _ _ _ r q (⟨5120 + q.val, by omega⟩ : Fin 6016) rfl).trans ?_
  have e := out6_apply c i arg1 harg1 arg2 harg2 arg3 harg3 arg4 harg4 arg5 harg5 arg6 harg6 arg7 harg7 arg8 harg8 arg9 harg9
    x0 x1 x2 x3 x4 x5 h3 r ⟨5120 + q.val, by omega⟩
  frame_out at e
  refine e.trans (congrArg (proj _ _ _) (Fin.ext ?_))
  unfold src; split_ifs <;> dsimp only <;> dsimp only at * <;> omega

set_option maxHeartbeats 4000000 in
/-- What it leaves in the block of the index keys. -/
theorem out8_apply (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x5968 .bf16) (harg3 : arg3.IsWhole) (arg4 : Memref sig .tc .vmem S2048x1024 .bf16) (harg4 : arg4.IsWhole) (arg5 : Memref sig .tc .vmem S1x256 .f32) (harg5 : arg5.IsWhole) (arg6 : Memref sig .tc .vmem S1x64 .f32) (harg6 : arg6.IsWhole) (arg7 : Memref sig .tc .vmem S256x6016 .f32) (harg7 : arg7.IsWhole) (arg8 : Memref sig .tc .vmem S256x256 .bf16) (harg8 : arg8.IsWhole) (arg9 : Memref sig .tc .vmem S256x64 .bf16) (harg9 : arg9.IsWhole)
    (x0 : Vec Ideal S256x2048 .f32) (x1 : Vec Ideal S1x2048 .f32) (x2 : Vec Ideal S2048x5968 .bf16)
    (x3 : Vec Ideal S2048x1024 .bf16) (x4 : Vec Ideal S1x256 .f32) (x5 : Vec Ideal S1x64 .f32)
    (h3 : ∀ (j : Fin 2048) (q : Fin 1024), x3 (ix2 j q) = x2 (ix2 j (⟨4944 + q.val, by omega⟩ : Fin 5968)))
    (r : Fin 256) (k : Fin 64) :
    out0_A_8 c i arg1 harg1 arg2 harg2 arg3 harg3 arg4 harg4 arg5 harg5 arg6 harg6 arg7 harg7 arg8 harg8 arg9 harg9
        x0 x1 x2 x3 x4 x5 (ix2 r k)
      = normRow 0x42800000#32 (fun q : Fin 64 => proj (fun j => x0 (ix2 r j)) (fun j => x1 (ix2 0 j)) (fun j q => x2 (ix2 j q))
          ⟨4864 + q.val, by omega⟩) (fun q => x5 (ix2 0 q)) k := by
  frame_out
  rw [pay1_apply]
  refine congrArg (fun y => normRow _ y _ k) (funext fun q => ?_)
  rw [View.readCov_eq_canon_ld _ _ _ (View.cover_of_tiledBy _ ![256, 128] (by sl_kernel_rfl))]
  refine (cols_apply _ _ _ r q (⟨5888 + q.val, by omega⟩ : Fin 6016) rfl).trans ?_
  have e := out6_apply c i arg1 harg1 arg2 harg2 arg3 harg3 arg4 harg4 arg5 harg5 arg6 harg6 arg7 harg7 arg8 harg8 arg9 harg9
    x0 x1 x2 x3 x4 x5 h3 r ⟨5888 + q.val, by omega⟩
  frame_out at e
  refine e.trans (congrArg (proj _ _ _) (Fin.ext ?_))
  unfold src; split_ifs <;> dsimp only <;> dsimp only at * <;> omega

variable (m : (ℓ : Loc nD τ sig) → Buf (Elt Ideal) ℓ)

/-- The reshape of the norm's gains to one row keeps their order. -/
theorem cast1_apply (a : Vec Ideal S2048 .f32) (j : Fin 2048) :
    shapeCast S1x2048 a shapeCasts_S2048_S1x2048 (ix2 0 j) = a (ix1 j) := by
  pointwise

/-- The same of the latent keys' gains. -/
theorem cast3_apply (a : Vec Ideal S256 .f32) (j : Fin 256) :
    shapeCast S1x256 a shapeCasts_S256_S1x256 (ix2 0 j) = a (ix1 j) := by
  pointwise

/-- The same of the index keys' gains. -/
theorem cast4_apply (a : Vec Ideal S64 .f32) (j : Fin 64) :
    shapeCast S1x64 a shapeCasts_S64_S1x64 (ix2 0 j) = a (ix1 j) := by
  pointwise

/-- The arrays the region reads, from the launched ones: the host's rounding is the identity over the extended reals. -/
theorem V_main_v0 (c : Dev nD) (j : Fin 2048) :
    V m c main_v0 (ix2 0 j) = m ((c : Thread nD τ).loc main_arg1) (ix1 j) := by
  have h : V m c main_v0 = shapeCast S1x2048 (m ((c : Thread nD τ).loc main_arg1)) shapeCasts_S2048_S1x2048 := by
    unfold V hostOps0; after_results_simp <;> rfl
  rw [h, cast1_apply]

/-- The rounded weights are the launched ones over the extended reals. -/
theorem V_main_v1 (c : Dev nD) : V m c main_v1 = m ((c : Thread nD τ).loc main_arg2) := by
  unfold V hostOps0; after_results_simp <;> rfl

/-- The second window of the weights: their columns from 4944 on. -/
theorem V_main_v2 (c : Dev nD) (j : Fin 2048) (q : Fin 1024) :
    V m c main_v2 (ix2 j q) = V m c main_v1 (ix2 j (⟨4944 + q.val, by omega⟩ : Fin 5968)) := by
  have h : V m c main_v2 = extractStridedSlice S2048x1024 ![0, 4944] (m ((c : Thread nD τ).loc main_arg2))
      slices_S2048x5968_S2048x1024_0_4944 := by
    unfold V hostOps0; after_results_simp <;> rfl
  rw [h, V_main_v1]
  pointwise

/-- The latent keys' gains as the region reads them. -/
theorem V_main_v3 (c : Dev nD) (j : Fin 256) :
    V m c main_v3 (ix2 0 j) = m ((c : Thread nD τ).loc main_arg3) (ix1 j) := by
  have h : V m c main_v3 = shapeCast S1x256 (m ((c : Thread nD τ).loc main_arg3)) shapeCasts_S256_S1x256 := by
    unfold V hostOps0; after_results_simp <;> rfl
  rw [h, cast3_apply]

/-- The index keys' gains as the region reads them. -/
theorem V_main_v4 (c : Dev nD) (j : Fin 64) :
    V m c main_v4 (ix2 0 j) = m ((c : Thread nD τ).loc main_arg4) (ix1 j) := by
  have h : V m c main_v4 = shapeCast S1x64 (m ((c : Thread nD τ).loc main_arg4)) shapeCasts_S64_S1x64 := by
    unfold V hostOps0; after_results_simp <;> rfl
  rw [h, cast4_apply]

/-- Each window's block index at point `t`: the activations and the results move with `t`, the weights stay. -/
theorem idx : ∀ t : Fin cfg0.N,
    (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0) :=
  (by decide +kernel : ∀ t : Fin grid0.N, _)

/-- Row `r` of point `t`'s blocks is row `256 t + r` of the arrays. -/
def row (t : Fin cfg0.N) (r : Fin 256) : Fin 8192 := ⟨t.val * 256 + r.val, by have := t.isLt; have : cfg0.N = 32 := rfl; omega⟩

/-- The block of the activations: rows of the point. -/
theorem iblk0 (c : Dev nD) (t : Fin cfg0.N) (r : Fin 256) (k : Fin 2048) :
    iblk m c 0 t (ix2 r k) = V m c main_arg0 (ix2 (row t r) k) := by
  have e := idx t
  refine congrArg (V m c main_arg0) (funext fun a => Fin.ext ?_)
  match a with
  | ⟨0, _⟩ => show win0_0.index t 0 * 256 + 1 * r.val = t.val * 256 + r.val; omega
  | ⟨1, _⟩ => show win0_0.index t 1 * 2048 + 1 * k.val = k.val; omega

/-- The norm's gains, whole. -/
theorem iblk1 (c : Dev nD) (t : Fin cfg0.N) (r : Fin 1) (k : Fin 2048) :
    iblk m c 1 t (ix2 r k) = V m c main_v0 (ix2 r k) := by
  have e := idx t
  refine congrArg (V m c main_v0) (funext fun a => Fin.ext ?_)
  match a with
  | ⟨0, _⟩ => show win0_1.index t 0 * 1 + 1 * r.val = r.val; omega
  | ⟨1, _⟩ => show win0_1.index t 1 * 2048 + 1 * k.val = k.val; omega

/-- The weights, whole. -/
theorem iblk2 (c : Dev nD) (t : Fin cfg0.N) (r : Fin 2048) (k : Fin 5968) :
    iblk m c 2 t (ix2 r k) = V m c main_v1 (ix2 r k) := by
  have e := idx t
  refine congrArg (V m c main_v1) (funext fun a => Fin.ext ?_)
  match a with
  | ⟨0, _⟩ => show win0_2.index t 0 * 2048 + 1 * r.val = r.val; omega
  | ⟨1, _⟩ => show win0_2.index t 1 * 5968 + 1 * k.val = k.val; omega

/-- The weights' last columns, cut off on the host. -/
theorem iblk3 (c : Dev nD) (t : Fin cfg0.N) (r : Fin 2048) (k : Fin 1024) :
    iblk m c 3 t (ix2 r k) = V m c main_v2 (ix2 r k) := by
  have e := idx t
  refine congrArg (V m c main_v2) (funext fun a => Fin.ext ?_)
  match a with
  | ⟨0, _⟩ => show win0_3.index t 0 * 2048 + 1 * r.val = r.val; omega
  | ⟨1, _⟩ => show win0_3.index t 1 * 1024 + 1 * k.val = k.val; omega

/-- The latent keys' gains, whole. -/
theorem iblk4 (c : Dev nD) (t : Fin cfg0.N) (r : Fin 1) (k : Fin 256) :
    iblk m c 4 t (ix2 r k) = V m c main_v3 (ix2 r k) := by
  have e := idx t
  refine congrArg (V m c main_v3) (funext fun a => Fin.ext ?_)
  match a with
  | ⟨0, _⟩ => show win0_4.index t 0 * 1 + 1 * r.val = r.val; omega
  | ⟨1, _⟩ => show win0_4.index t 1 * 256 + 1 * k.val = k.val; omega

/-- The index keys' gains, whole. -/
theorem iblk5 (c : Dev nD) (t : Fin cfg0.N) (r : Fin 1) (k : Fin 64) :
    iblk m c 5 t (ix2 r k) = V m c main_v4 (ix2 r k) := by
  have e := idx t
  refine congrArg (V m c main_v4) (funext fun a => Fin.ext ?_)
  match a with
  | ⟨0, _⟩ => show win0_5.index t 0 * 1 + 1 * r.val = r.val; omega
  | ⟨1, _⟩ => show win0_5.index t 1 * 64 + 1 * k.val = k.val; omega

/-- The projection's entry of row `r` for column `k` of the weights, from the argument arrays. -/
def pr (m : (ℓ : Loc nD τ sig) → Buf (Elt Ideal) ℓ) (c : Dev nD) (r : Fin 8192) (k : Fin 5968) : EReal :=
  proj (fun j => V m c main_arg0 (ix2 r j)) (fun j => V m c main_v0 (ix2 0 j)) (fun j q => V m c main_v1 (ix2 j q)) k

/-- The first result array: the projection, its columns reordered. -/
def G6 (m : (ℓ : Loc nD τ sig) → Buf (Elt Ideal) ℓ) (c : Dev nD) : Vec Ideal S8192x6016 .f32 :=
  fun i => pr m c (i 0) (src (i 1))

/-- The second result array: the compressed keys and values, normalised. -/
def G7 (m : (ℓ : Loc nD τ sig) → Buf (Elt Ideal) ℓ) (c : Dev nD) : Vec Ideal S8192x256 .bf16 :=
  fun i => normRow 0x43800000#32 (fun q : Fin 256 => pr m c (i 0) ⟨4608 + q.val, by omega⟩)
    (fun q => V m c main_v3 (ix2 0 q)) (i 1)

/-- The third result array: the index keys, normalised. -/
def G8 (m : (ℓ : Loc nD τ sig) → Buf (Elt Ideal) ℓ) (c : Dev nD) : Vec Ideal S8192x64 .bf16 :=
  fun i => normRow 0x42800000#32 (fun q : Fin 64 => pr m c (i 0) ⟨4864 + q.val, by omega⟩)
    (fun q => V m c main_v4 (ix2 0 q)) (i 1)

/-- Where the arranged projection's block lies in its array. -/
theorem emb6 (t : Fin cfg0.N) (r : Fin 256) (k : Fin 6016) :
    ((cfg0.win 6).blk t).view.emb (ix2 r k : S256x6016.Idx) = ix2 (row t r) k := by
  have e := idx t
  refine funext fun a => Fin.ext ?_
  match a with
  | ⟨0, _⟩ => show win0_6.index t 0 * 256 + 1 * r.val = t.val * 256 + r.val; omega
  | ⟨1, _⟩ => show win0_6.index t 1 * 6016 + 1 * k.val = k.val; omega

/-- What point `t` writes back of result 1 is its block of `G6`. -/
theorem flushed6_eq (c : Dev nD) (t : Fin cfg0.N) :
    (dats m 0 c).flushed 6 t = ((cfg0.win 6).blk t).view.read (Elt Ideal) (G6 m c) := by
  have key : ∀ (r : Fin 256) (k : Fin 6016), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      (iblk m c 0 t) (iblk m c 1 t) (iblk m c 2 t) (iblk m c 3 t) (iblk m c 4 t) (iblk m c 5 t) (ix2 r k) = G6 m c (ix2 (row t r) k) := by
    intro r k
    rw [out6_apply (h3 := fun j q => by rw [iblk3, iblk2, V_main_v2])]
    simp only [iblk0, iblk1, iblk2, iblk4, iblk5]
    rfl
  rw [flushed6_A]
  refine funext fun (y : S256x6016.Idx) => ?_
  have hy : ((cfg0.win 6).blk t).view.emb y = ix2 (row t (y 0)) (y 1) :=
    (congrArg _ (eq_ix2 y)).trans (emb6 t (y 0) (y 1))
  exact (congrArg _ (eq_ix2 y)).trans ((key (y 0) (y 1)).trans (congrArg (G6 m c) hy.symm))

/-- Every element of result 1 is in the block of the point of its row. -/
theorem covered6 (i : S8192x6016.Idx) :
    ∃ t : Fin cfg0.N, (cfg0.win 6).flush t = true ∧ i ∈ ((cfg0.win 6).blk t).view.set := by
  have hi : (i 0).val < 8192 := (i 0).isLt
  obtain ⟨t, ht⟩ : ∃ t : Fin cfg0.N, t.val = (i 0).val / 256 :=
    ⟨⟨(i 0).val / 256, by have : cfg0.N = 32 := rfl; omega⟩, rfl⟩
  refine ⟨t, flush0_6 _, ?_⟩
  have h := ((cfg0.win 6).blk t).view.emb_mem_set (ix2 (⟨(i 0).val % 256, by omega⟩ : Fin 256) (i 1) : S256x6016.Idx)
  have he : i = ix2 (row t ⟨(i 0).val % 256, by omega⟩) (i 1) :=
    (eq_ix2 i).trans (congrArg (fun q : Fin 8192 => (ix2 q (i 1) : S8192x6016.Idx)) (Fin.ext (by
      show (i 0).val = t.val * 256 + (i 0).val % 256; omega)))
  exact (congrArg (fun q => q ∈ ((cfg0.win 6).blk t).view.set) (he.trans (emb6 t _ _).symm)).mpr h

/-- Result 1's array after the run. -/
theorem final6 (c : Dev nD) : (dats m 0 c).arrAt 6 cfg0.N = G6 m c :=
  (dats m 0 c).arrAt_eq_of_cover 6 (G6 m c) (fun t _ => flushed6_eq m c t) covered6

/-- Where the latent keys' block lies. -/
theorem emb7 (t : Fin cfg0.N) (r : Fin 256) (k : Fin 256) :
    ((cfg0.win 7).blk t).view.emb (ix2 r k : S256x256.Idx) = ix2 (row t r) k := by
  have e := idx t
  refine funext fun a => Fin.ext ?_
  match a with
  | ⟨0, _⟩ => show win0_7.index t 0 * 256 + 1 * r.val = t.val * 256 + r.val; omega
  | ⟨1, _⟩ => show win0_7.index t 1 * 256 + 1 * k.val = k.val; omega

/-- What point `t` writes back of result 2 is its block of `G7`. -/
theorem flushed7_eq (c : Dev nD) (t : Fin cfg0.N) :
    (dats m 0 c).flushed 7 t = ((cfg0.win 7).blk t).view.read (Elt Ideal) (G7 m c) := by
  have key : ∀ (r : Fin 256) (k : Fin 256), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      (iblk m c 0 t) (iblk m c 1 t) (iblk m c 2 t) (iblk m c 3 t) (iblk m c 4 t) (iblk m c 5 t) (ix2 r k) = G7 m c (ix2 (row t r) k) := by
    intro r k
    rw [out7_apply (h3 := fun j q => by rw [iblk3, iblk2, V_main_v2])]
    simp only [iblk0, iblk1, iblk2, iblk4, iblk5]
    rfl
  rw [flushed7_A]
  refine funext fun (y : S256x256.Idx) => ?_
  have hy : ((cfg0.win 7).blk t).view.emb y = ix2 (row t (y 0)) (y 1) :=
    (congrArg _ (eq_ix2 y)).trans (emb7 t (y 0) (y 1))
  exact (congrArg _ (eq_ix2 y)).trans ((key (y 0) (y 1)).trans (congrArg (G7 m c) hy.symm))

/-- Every element of result 2 is in the block of the point of its row. -/
theorem covered7 (i : S8192x256.Idx) :
    ∃ t : Fin cfg0.N, (cfg0.win 7).flush t = true ∧ i ∈ ((cfg0.win 7).blk t).view.set := by
  have hi : (i 0).val < 8192 := (i 0).isLt
  obtain ⟨t, ht⟩ : ∃ t : Fin cfg0.N, t.val = (i 0).val / 256 :=
    ⟨⟨(i 0).val / 256, by have : cfg0.N = 32 := rfl; omega⟩, rfl⟩
  refine ⟨t, flush0_7 _, ?_⟩
  have h := ((cfg0.win 7).blk t).view.emb_mem_set (ix2 (⟨(i 0).val % 256, by omega⟩ : Fin 256) (i 1) : S256x256.Idx)
  have he : i = ix2 (row t ⟨(i 0).val % 256, by omega⟩) (i 1) :=
    (eq_ix2 i).trans (congrArg (fun q : Fin 8192 => (ix2 q (i 1) : S8192x256.Idx)) (Fin.ext (by
      show (i 0).val = t.val * 256 + (i 0).val % 256; omega)))
  exact (congrArg (fun q => q ∈ ((cfg0.win 7).blk t).view.set) (he.trans (emb7 t _ _).symm)).mpr h

/-- Result 2's array after the run. -/
theorem final7 (c : Dev nD) : (dats m 0 c).arrAt 7 cfg0.N = G7 m c :=
  (dats m 0 c).arrAt_eq_of_cover 7 (G7 m c) (fun t _ => flushed7_eq m c t) covered7

/-- Where the index keys' block lies. -/
theorem emb8 (t : Fin cfg0.N) (r : Fin 256) (k : Fin 64) :
    ((cfg0.win 8).blk t).view.emb (ix2 r k : S256x64.Idx) = ix2 (row t r) k := by
  have e := idx t
  refine funext fun a => Fin.ext ?_
  match a with
  | ⟨0, _⟩ => show win0_8.index t 0 * 256 + 1 * r.val = t.val * 256 + r.val; omega
  | ⟨1, _⟩ => show win0_8.index t 1 * 64 + 1 * k.val = k.val; omega

/-- What point `t` writes back of result 3 is its block of `G8`. -/
theorem flushed8_eq (c : Dev nD) (t : Fin cfg0.N) :
    (dats m 0 c).flushed 8 t = ((cfg0.win 8).blk t).view.read (Elt Ideal) (G8 m c) := by
  have key : ∀ (r : Fin 256) (k : Fin 64), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      (iblk m c 0 t) (iblk m c 1 t) (iblk m c 2 t) (iblk m c 3 t) (iblk m c 4 t) (iblk m c 5 t) (ix2 r k) = G8 m c (ix2 (row t r) k) := by
    intro r k
    rw [out8_apply (h3 := fun j q => by rw [iblk3, iblk2, V_main_v2])]
    simp only [iblk0, iblk1, iblk2, iblk4, iblk5]
    rfl
  rw [flushed8_A]
  refine funext fun (y : S256x64.Idx) => ?_
  have hy : ((cfg0.win 8).blk t).view.emb y = ix2 (row t (y 0)) (y 1) :=
    (congrArg _ (eq_ix2 y)).trans (emb8 t (y 0) (y 1))
  exact (congrArg _ (eq_ix2 y)).trans ((key (y 0) (y 1)).trans (congrArg (G8 m c) hy.symm))

/-- Every element of result 3 is in the block of the point of its row. -/
theorem covered8 (i : S8192x64.Idx) :
    ∃ t : Fin cfg0.N, (cfg0.win 8).flush t = true ∧ i ∈ ((cfg0.win 8).blk t).view.set := by
  have hi : (i 0).val < 8192 := (i 0).isLt
  obtain ⟨t, ht⟩ : ∃ t : Fin cfg0.N, t.val = (i 0).val / 256 :=
    ⟨⟨(i 0).val / 256, by have : cfg0.N = 32 := rfl; omega⟩, rfl⟩
  refine ⟨t, flush0_8 _, ?_⟩
  have h := ((cfg0.win 8).blk t).view.emb_mem_set (ix2 (⟨(i 0).val % 256, by omega⟩ : Fin 256) (i 1) : S256x64.Idx)
  have he : i = ix2 (row t ⟨(i 0).val % 256, by omega⟩) (i 1) :=
    (eq_ix2 i).trans (congrArg (fun q : Fin 8192 => (ix2 q (i 1) : S8192x64.Idx)) (Fin.ext (by
      show (i 0).val = t.val * 256 + (i 0).val % 256; omega)))
  exact (congrArg (fun q => q ∈ ((cfg0.win 8).blk t).view.set) (he.trans (emb8 t _ _).symm)).mpr h

/-- Result 3's array after the run. -/
theorem final8 (c : Dev nD) : (dats m 0 c).arrAt 8 cfg0.N = G8 m c :=
  (dats m 0 c).arrAt_eq_of_cover 8 (G8 m c) (fun t _ => flushed8_eq m c t) covered8

end Kernel

section Reference
open Cert.Reference3Ideal Cert.Reference3Ideal.Gen Cert.Reference3Ideal.Value

/-- The reference's projection of the normalised activations. -/
def refProj (a0 : FVec Ideal S8192x2048 .f32) (a1 : FVec Ideal S2048 .f32) (a2 : FVec Ideal S2048x5968 .f32) :
    FVec Ideal S8192x5968 .f32 :=
  (Host.dotGeneral dot_S8192x2048_S2048x5968_S8192x5968_1_0_0_1_n_n none (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 a1))) a2)

/-- The reference's first result from the projection `p`. -/
def refCat (p : FVec Ideal S8192x5968 .f32) : FVec Ideal S8192x6016 .f32 :=
  (concatenate S8192x6016 1 [⟨S8192x3072, ((extractStridedSlice S8192x3072 ![0, 0] p slices_S8192x5968_S8192x3072_0_0))⟩, ⟨S8192x1024, ((extractStridedSlice S8192x1024 ![0, 3200] p slices_S8192x5968_S8192x1024_0_3200))⟩, ⟨S8192x1024, ((extractStridedSlice S8192x1024 ![0, 4944] p slices_S8192x5968_S8192x1024_0_4944))⟩, ⟨S8192x256, ((extractStridedSlice S8192x256 ![0, 4608] p slices_S8192x5968_S8192x256_0_4608))⟩, ⟨S8192x384, ((extractStridedSlice S8192x384 ![0, 4224] p slices_S8192x5968_S8192x384_0_4224))⟩, ⟨S8192x128, ((extractStridedSlice S8192x128 ![0, 3072] p slices_S8192x5968_S8192x128_0_3072))⟩, ⟨S8192x128, ((extractStridedSlice S8192x128 ![0, 4864] p slices_S8192x5968_S8192x128_0_4864))⟩] concatenates_S8192x3072_S8192x1024_S8192x1024_S8192x256_S8192x384_S8192x128_S8192x128_S8192x6016_d1)

/-- The reference's second result from the projection `p`. -/
def refCkv (p : FVec Ideal S8192x5968 .f32) (a3 : FVec Ideal S256 .f32) : FVec Ideal S8192x256 .bf16 :=
  truncf .bf16 (mulf (mulf (extractStridedSlice S8192x256 ![0, 4608] p slices_S8192x5968_S8192x256_0_4608) (broadcastInDim S8192x256 ![0, 1] bcast_S8192x1_S8192x256_0_1 (Host.rsqrt (addf (Host.divf (broadcastInDim S8192x1 ![0] bcast_S8192_S8192x1_0 (Host.reduceAdd (mulf (extractStridedSlice S8192x256 ![0, 4608] p slices_S8192x5968_S8192x256_0_4608) (extractStridedSlice S8192x256 ![0, 4608] p slices_S8192x5968_S8192x256_0_4608)) (constant S_ .f32 0x00000000#32) reducesTo_S8192x256_S8192_d1 h_S_)) (broadcastInDim S8192x1 ![] bcast_S_S8192x1 (constant S_ .f32 0x43800000#32))) (broadcastInDim S8192x1 ![] bcast_S_S8192x1 (constant S_ .f32 0x358637BD#32)))))) (broadcastInDim S8192x256 ![0, 1] bcast_S1x256_S8192x256_0_1 (broadcastInDim S1x256 ![1] bcast_S256_S1x256_1 a3))) bitsLt_bf16_f32

/-- The reference's third result from the projection `p`. -/
def refKid (p : FVec Ideal S8192x5968 .f32) (a4 : FVec Ideal S64 .f32) : FVec Ideal S8192x64 .bf16 :=
  truncf .bf16 (mulf (mulf (extractStridedSlice S8192x64 ![0, 4864] p slices_S8192x5968_S8192x64_0_4864) (broadcastInDim S8192x64 ![0, 1] bcast_S8192x1_S8192x64_0_1 (Host.rsqrt (addf (Host.divf (broadcastInDim S8192x1 ![0] bcast_S8192_S8192x1_0 (Host.reduceAdd (mulf (extractStridedSlice S8192x64 ![0, 4864] p slices_S8192x5968_S8192x64_0_4864) (extractStridedSlice S8192x64 ![0, 4864] p slices_S8192x5968_S8192x64_0_4864)) (constant S_ .f32 0x00000000#32) reducesTo_S8192x64_S8192_d1 h_S_)) (broadcastInDim S8192x1 ![] bcast_S_S8192x1 (constant S_ .f32 0x42800000#32))) (broadcastInDim S8192x1 ![] bcast_S_S8192x1 (constant S_ .f32 0x358637BD#32)))))) (broadcastInDim S8192x64 ![0, 1] bcast_S1x64_S8192x64_0_1 (broadcastInDim S1x64 ![1] bcast_S64_S1x64_1 a4))) bitsLt_bf16_f32

/-- The reference's projection at an element. -/
theorem refProj_apply (a0 : FVec Ideal S8192x2048 .f32) (a1 : FVec Ideal S2048 .f32) (a2 : FVec Ideal S2048x5968 .f32)
    (r : Fin 8192) (k : Fin 5968) :
    refProj a0 a1 a2 (ix2 r k) = proj (fun j => a0 (ix2 r j)) (fun j => a1 (ix1 j)) (fun j q => a2 (ix2 j q)) k := by
  pointwise [refProj, proj, normRow]

/-- The number of the projection's column that stands in column `k` of the result. -/
theorem src_val (k : Fin 6016) : (src k).val = if k.val < 3072 then k.val else if k.val < 4096 then k.val + 128
    else if k.val < 5120 then k.val + 848 else if k.val < 5376 then k.val - 512 else if k.val < 5760 then k.val - 1152
    else if k.val < 5888 then k.val - 2688 else k.val - 1024 := by
  unfold src
  split_ifs <;> rfl

/-- The glued slices at an element: the projection at the column that `src` names. -/
theorem refCat_apply (p : FVec Ideal S8192x5968 .f32) (r : Fin 8192) (k : Fin 6016) :
    refCat p (ix2 r k) = p (ix2 r (src k)) := by
  pointwise [refCat]
  have hs := src_val k
  split_ifs <;> refine congrArg (fun q => p (ix2 r q)) (Fin.ext ?_) <;> rw [hs] <;> dsimp only <;> split_ifs <;> omega

/-- The reference's latent keys at an element. -/
theorem refCkv_apply (p : FVec Ideal S8192x5968 .f32) (a3 : FVec Ideal S256 .f32) (r : Fin 8192) (k : Fin 256) :
    refCkv p a3 (ix2 r k) = normRow 0x43800000#32 (fun q : Fin 256 => p (ix2 r (⟨4608 + q.val, by omega⟩ : Fin 5968)))
      (fun q => a3 (ix1 q)) k := by
  pointwise [refCkv, normRow]

/-- The reference's index keys at an element. -/
theorem refKid_apply (p : FVec Ideal S8192x5968 .f32) (a4 : FVec Ideal S64 .f32) (r : Fin 8192) (k : Fin 64) :
    refKid p a4 (ix2 r k) = normRow 0x42800000#32 (fun q : Fin 64 => p (ix2 r (⟨4864 + q.val, by omega⟩ : Fin 5968)))
      (fun q => a4 (ix1 q)) k := by
  pointwise [refKid, normRow]

/-- The reference's first result is the glued slices of its projection. -/
theorem res_eq (m : (ℓ : Loc nD τ sig) → Buf (Elt Ideal) ℓ) (c : Dev nD) :
    res_out0 m c = refCat (refProj (m ((c.tc : Thread nD τ).loc main_arg0)) (m ((c.tc : Thread nD τ).loc main_arg1)) (m ((c.tc : Thread nD τ).loc main_arg2))) := rfl

end Reference

/-- The reference's projection is the kernel's, entry by entry. -/
theorem refProj_eq (m : (ℓ : Loc Kernel3Ideal.nD Kernel3Ideal.τ Kernel3Ideal.sig) → Buf (Elt Ideal) ℓ)
    (m' : (ℓ : Loc Reference3Ideal.nD Reference3Ideal.τ Reference3Ideal.sig) → Buf (Elt Ideal) ℓ) (c : Dev Kernel3Ideal.nD)
    (h0 : m' ((c.tc : Thread Reference3Ideal.nD Reference3Ideal.τ).loc Reference3Ideal.main_arg0) = m ((c.tc : Thread Kernel3Ideal.nD Kernel3Ideal.τ).loc Kernel3Ideal.main_arg0))
    (h1 : m' ((c.tc : Thread Reference3Ideal.nD Reference3Ideal.τ).loc Reference3Ideal.main_arg1) = m ((c.tc : Thread Kernel3Ideal.nD Kernel3Ideal.τ).loc Kernel3Ideal.main_arg1))
    (h2 : m' ((c.tc : Thread Reference3Ideal.nD Reference3Ideal.τ).loc Reference3Ideal.main_arg2) = m ((c.tc : Thread Kernel3Ideal.nD Kernel3Ideal.τ).loc Kernel3Ideal.main_arg2))
    (r : Fin 8192) (k : Fin 5968) :
    refProj (m' ((c.tc : Thread Reference3Ideal.nD Reference3Ideal.τ).loc Reference3Ideal.main_arg0)) (m' ((c.tc : Thread Reference3Ideal.nD Reference3Ideal.τ).loc Reference3Ideal.main_arg1)) (m' ((c.tc : Thread Reference3Ideal.nD Reference3Ideal.τ).loc Reference3Ideal.main_arg2)) (ix2 r k) = pr m c r k := by
  rw [refProj_apply, h0, h1, h2]
  unfold pr
  rw [Kernel3Ideal.Gen.V_main_arg0 m c, funext (V_main_v0 m c), V_main_v1 m c]

/-- The claim: on arguments that agree both programs end with the same three results. -/
theorem algebraic : algebraic_Kernel3Ideal_Reference3Ideal := by
  intro m g m' g' _ hargs
  refine ⟨fun c => (Kernel3Ideal.Gen.dats m 0 c).arrAt 6 Kernel3Ideal.cfg0.N,
    fun c => (Kernel3Ideal.Gen.dats m 0 c).arrAt 7 Kernel3Ideal.cfg0.N,
    fun c => (Kernel3Ideal.Gen.dats m 0 c).arrAt 8 Kernel3Ideal.cfg0.N, Kernel3Ideal.Value.run_blocks m g, ?_⟩
  refine (θ_run Reference3Ideal.defs _ _).mono (fun r h c => ?_) (Reference3Ideal.Value.run m' g')
  obtain ⟨h0, h1, h2, h3, h4⟩ := hargs c
  have hp := refProj_eq m m' c h0 h1 h2
  refine ⟨(h c).1.trans ?_, (h c).2.1.trans ?_, (h c).2.2.1.trans ?_, (h c).2.2.2⟩
  · refine Eq.trans ?_ (final6 m c).symm
    refine (res_eq m' c).trans (funext fun (i : Kernel3Ideal.S8192x6016.Idx) => ?_)
    exact (congrArg (refCat _) (eq_ix2 i)).trans ((refCat_apply _ (i 0) (i 1)).trans (hp (i 0) (src (i 1))))
  · refine Eq.trans ?_ (final7 m c).symm
    show refCkv (refProj (m' ((c.tc : Thread Reference3Ideal.nD Reference3Ideal.τ).loc Reference3Ideal.main_arg0)) (m' ((c.tc : Thread Reference3Ideal.nD Reference3Ideal.τ).loc Reference3Ideal.main_arg1)) (m' ((c.tc : Thread Reference3Ideal.nD Reference3Ideal.τ).loc Reference3Ideal.main_arg2))) (m' ((c.tc : Thread Reference3Ideal.nD Reference3Ideal.τ).loc Reference3Ideal.main_arg3)) = _
    refine funext fun (i : Kernel3Ideal.S8192x256.Idx) => ?_
    refine (congrArg (refCkv _ _) (eq_ix2 i)).trans ((refCkv_apply _ _ (i 0) (i 1)).trans ?_)
    rw [h3, funext fun q : Fin 256 => hp (i 0) ⟨4608 + q.val, by omega⟩]
    unfold G7
    rw [funext (V_main_v3 m c)]
  · refine Eq.trans ?_ (final8 m c).symm
    show refKid (refProj (m' ((c.tc : Thread Reference3Ideal.nD Reference3Ideal.τ).loc Reference3Ideal.main_arg0)) (m' ((c.tc : Thread Reference3Ideal.nD Reference3Ideal.τ).loc Reference3Ideal.main_arg1)) (m' ((c.tc : Thread Reference3Ideal.nD Reference3Ideal.τ).loc Reference3Ideal.main_arg2))) (m' ((c.tc : Thread Reference3Ideal.nD Reference3Ideal.τ).loc Reference3Ideal.main_arg4)) = _
    refine funext fun (i : Kernel3Ideal.S8192x64.Idx) => ?_
    refine (congrArg (refKid _ _) (eq_ix2 i)).trans ((refKid_apply _ _ (i 0) (i 1)).trans ?_)
    rw [h4, funext fun q : Fin 64 => hp (i 0) ⟨4864 + q.val, by omega⟩]
    unfold G8
    rw [funext (V_main_v4 m c)]

end Cert.Inproj

end
-- ==== Proof.lean ====
/- The certificate put together. The frames: of the sparse attention `Cert.Kernel.frame_dsa`, of the recurrence
   `Cert.Kernel4.frame_rwkv`, of the other launches the generated runs, of the three references their straight-line runs,
   which write no argument and have no counter. The three equalities of values are `Cert.Post.algebraic`,
   `Cert.Inproj.algebraic` and `Cert.BiasTable.algebraic`. -/
module

public import proofs.«01_k».proof.Defs
public import proofs.«01_k».proof.Proof.FrameDsa
public import proofs.«01_k».proof.Proof.Frame4
public import proofs.«01_k».proof.Proof.Gen.Kernel5.Frame
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel5Ideal.Frame
public import proofs.«01_k».proof.Proof.Gen.Reference5Ideal.Run
public import proofs.«01_k».proof.Proof.BiasTable
public import proofs.«01_k».proof.Proof.Post
public import proofs.«01_k».proof.Proof.Inproj

@[expose] public section

namespace Cert.Proof

open Idealize.ShloMosaic Idealize.ShloMosaic.TcCoe Idealize.SL.Sem

/-- The bias table's reference ends, its argument as it was. -/
theorem frame_reference5 : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

/-- The output projection's reference ends, its arguments as they were. -/
theorem frame_reference2 : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- The input projection's reference ends, its arguments as they were. -/
theorem frame_reference3 : Cert.quiescent_Reference3Ideal := fun m ρ _ =>
  (θ_run Cert.Reference3Ideal.defs _ _).mono
    (fun r h => ⟨fun c => (h c).2.2.2, sem_eq_zero_of_no_sems (by decide) r.2⟩)
    (Cert.Reference3Ideal.Value.run (F := Ideal) m ρ)

/-- Everything the certificate claims. -/
theorem claim : Cert.Claim :=
  ⟨Cert.Kernel.Gen.facts, Cert.Kernel4.Side.facts, Cert.Kernel5.Gen.facts, Cert.Kernel5Ideal.Gen.facts,
    Cert.Reference5Ideal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    fun m ρ _ => Cert.Kernel.frame_dsa m ρ,
    fun m ρ _ => Cert.Kernel4.frame_rwkv m ρ,
    fun m ρ _ => Cert.Kernel5.Gen.frame m ρ,
    fun m ρ _ => Cert.Kernel5Ideal.Gen.frame m ρ,
    frame_reference5,
    fun m ρ _ => Cert.Kernel2.Gen.frame m ρ,
    fun m ρ _ => Cert.Kernel2Ideal.Gen.frame m ρ,
    frame_reference2,
    fun m ρ _ => Cert.Kernel3.Gen.frame m ρ,
    fun m ρ _ => Cert.Kernel3Ideal.Gen.frame m ρ,
    frame_reference3,
    trivial, Cert.BiasTable.algebraic, trivial, Cert.Post.algebraic, trivial, Cert.Inproj.algebraic⟩

end Cert.Proof
